-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v29_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v106) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x8x4096x64 : Shape := ⟨4, ![8, 8, 4096, 64]⟩
abbrev S8x8x4096 : Shape := ⟨3, ![8, 8, 4096]⟩
abbrev S_ : Shape := ⟨0, ![]⟩

class Facts : Prop where
  bcast_S_S8x8x4096x64 : S_.BroadcastsInDim S8x8x4096x64 (![] : Fin 0 → Fin S8x8x4096x64.rank)
  reducesTo_S8x8x4096x64_S_d0_1_2_3 : S8x8x4096x64.ReducesTo [0, 1, 2, 3] S_
  h_S_ : 0 < S_.numel
  bcast_S_S8x8x4096 : S_.BroadcastsInDim S8x8x4096 (![] : Fin 0 → Fin S8x8x4096.rank)
  reducesTo_S8x8x4096_S_d0_1_2 : S8x8x4096.ReducesTo [0, 1, 2] S_

variable [Facts]

def fn {F : FTy → Type} [FloatOps F] (main_arg0 : FVec F S8x8x4096x64 .f32) (main_arg1 : FVec F S8x8x4096x64 .f32) (main_arg2 : FVec F S8x8x4096x64 .f32) (main_arg3 : FVec F S8x8x4096 .f32) : IVec S_ 1 :=
  let main_v0 : FVec F S8x8x4096x64 .f32 := Host.absf main_arg0
  let main_cst : FVec F S_ .f32 := constant S_ .f32 0x7F800000#32
  let main_v1 : FVec F S8x8x4096x64 .f32 := broadcastInDim S8x8x4096x64 ![] bcast_S_S8x8x4096x64 main_cst
  let main_v2 : IVec S8x8x4096x64 1 := cmpf .olt main_v0 main_v1
  let main_c : IVec S_ 1 := constantI S_ 1 1#1
  let main_v3 : IVec S_ 1 := (fun x v => Host.reduce IntOp.andi x v reducesTo_S8x8x4096x64_S_d0_1_2_3 h_S_) main_v2 main_c
  let main_v4 : FVec F S8x8x4096x64 .f32 := Host.absf main_arg1
  let main_cst_0 : FVec F S_ .f32 := constant S_ .f32 0x7F800000#32
  let main_v5 : FVec F S8x8x4096x64 .f32 := broadcastInDim S8x8x4096x64 ![] bcast_S_S8x8x4096x64 main_cst_0
  let main_v6 : IVec S8x8x4096x64 1 := cmpf .olt main_v4 main_v5
  let main_c_1 : IVec S_ 1 := constantI S_ 1 1#1
  let main_v7 : IVec S_ 1 := (fun x v => Host.reduce IntOp.andi x v reducesTo_S8x8x4096x64_S_d0_1_2_3 h_S_) main_v6 main_c_1
  let main_v8 : IVec S_ 1 := andi main_v3 main_v7
  let main_v9 : FVec F S8x8x4096 .f32 := Host.absf main_arg3
  let main_cst_2 : FVec F S_ .f32 := constant S_ .f32 0x7F800000#32
  let main_v10 : FVec F S8x8x4096 .f32 := broadcastInDim S8x8x4096 ![] bcast_S_S8x8x4096 main_cst_2
  let main_v11 : IVec S8x8x4096 1 := cmpf .olt main_v9 main_v10
  let main_c_3 : IVec S_ 1 := constantI S_ 1 1#1
  let main_v12 : IVec S_ 1 := (fun x v => Host.reduce IntOp.andi x v reducesTo_S8x8x4096_S_d0_1_2 h_S_) main_v11 main_c_3
  let main_v13 : IVec S_ 1 := andi main_v8 main_v12
  main_v13
-- ==== Kernel.lean ====
abbrev S8x8x4096x64 : Shape := ⟨4, ![8, 8, 4096, 64]⟩
abbrev S8x8x4096 : Shape := ⟨3, ![8, 8, 4096]⟩
abbrev S_ : Shape := ⟨0, ![]⟩
abbrev S8x8x4096x1 : Shape := ⟨4, ![8, 8, 4096, 1]⟩
abbrev S8x8x4096x3 : Shape := ⟨4, ![8, 8, 4096, 3]⟩
abbrev S8x8x4096x70 : Shape := ⟨4, ![8, 8, 4096, 70]⟩
abbrev S8x8x4096x128 : Shape := ⟨4, ![8, 8, 4096, 128]⟩
abbrev S8x8x8x512x128 : Shape := ⟨5, ![8, 8, 8, 512, 128]⟩
abbrev S8x8x8x128x512 : Shape := ⟨5, ![8, 8, 8, 128, 512]⟩
abbrev S8x4096x8x128 : Shape := ⟨4, ![8, 4096, 8, 128]⟩
abbrev S8x4096x1024 : Shape := ⟨3, ![8, 4096, 1024]⟩
abbrev S8x8x4096x65 : Shape := ⟨4, ![8, 8, 4096, 65]⟩
abbrev S8x8x4096x80 : Shape := ⟨4, ![8, 8, 4096, 80]⟩
abbrev S8x8x8x512x80 : Shape := ⟨5, ![8, 8, 8, 512, 80]⟩
abbrev S8x8x8x80x512 : Shape := ⟨5, ![8, 8, 8, 80, 512]⟩
abbrev S8x8x512x512 : Shape := ⟨4, ![8, 8, 512, 512]⟩
abbrev S1x1x8x128x512 : Shape := ⟨5, ![1, 1, 8, 128, 512]⟩
abbrev S1x4096x128 : Shape := ⟨3, ![1, 4096, 128]⟩
abbrev S1x1x8x80x512 : Shape := ⟨5, ![1, 1, 8, 80, 512]⟩
abbrev S1x8x128x512 : Shape := ⟨4, ![1, 8, 128, 512]⟩
abbrev S2x512x512 : Shape := ⟨3, ![2, 512, 512]⟩
abbrev S2x1x512 : Shape := ⟨3, ![2, 1, 512]⟩
abbrev S2x80x512 : Shape := ⟨3, ![2, 80, 512]⟩
abbrev S1x512x128 : Shape := ⟨3, ![1, 512, 128]⟩
abbrev S512x128 : Shape := ⟨2, ![512, 128]⟩
abbrev S1x1x1x128x256 : Shape := ⟨5, ![1, 1, 1, 128, 256]⟩
abbrev S128x256 : Shape := ⟨2, ![128, 256]⟩
abbrev S512x256 : Shape := ⟨2, ![512, 256]⟩
abbrev S1x512x256 : Shape := ⟨3, ![1, 512, 256]⟩
abbrev S256 : Shape := ⟨1, ![256]⟩
abbrev S1x256 : Shape := ⟨2, ![1, 256]⟩
abbrev S1x1x256 : Shape := ⟨3, ![1, 1, 256]⟩
abbrev S1x80x256 : Shape := ⟨3, ![1, 80, 256]⟩
abbrev S80x256 : Shape := ⟨2, ![80, 256]⟩
abbrev S1x1x1x80x512 : Shape := ⟨5, ![1, 1, 1, 80, 512]⟩
abbrev S80x512 : Shape := ⟨2, ![80, 512]⟩
abbrev S1x80x512 : Shape := ⟨3, ![1, 80, 512]⟩
abbrev S64x512 : Shape := ⟨2, ![64, 512]⟩
abbrev S1x512 : Shape := ⟨2, ![1, 512]⟩
abbrev S1x1x64x512 : Shape := ⟨4, ![1, 1, 64, 512]⟩

abbrev nBuf : Space → Nat
  | .hbm => 53
  | .vmem => 20
  | .smem => 0
  | _ => 0

abbrev bufTy : (tb : Table) → Fin (tcTables nBuf tb) → BufTy
  | .hbm, ⟨0, _⟩ => ⟨S8x8x4096x64, .f32⟩
  | .hbm, ⟨1, _⟩ => ⟨S8x8x4096x64, .f32⟩
  | .hbm, ⟨2, _⟩ => ⟨S8x8x4096x64, .f32⟩
  | .hbm, ⟨3, _⟩ => ⟨S8x8x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x8x4096, .f32⟩
  | .hbm, ⟨11, _⟩ => ⟨S8x8x4096, .f32⟩
  | .hbm, ⟨12, _⟩ => ⟨S8x8x4096, .f32⟩
  | .hbm, ⟨13, _⟩ => ⟨S8x8x4096, .bf16⟩
  | .hbm, ⟨14, _⟩ => ⟨S8x8x4096, .f32⟩
  | .hbm, ⟨15, _⟩ => ⟨S8x8x4096, .f32⟩
  | .hbm, ⟨16, _⟩ => ⟨S8x8x4096, .bf16⟩
  | .hbm, ⟨17, _⟩ => ⟨S8x8x4096, .f32⟩
  | .hbm, ⟨18, _⟩ => ⟨S8x8x4096, .f32⟩
  | .hbm, ⟨19, _⟩ => ⟨S_, .f32⟩
  | .hbm, ⟨20, _⟩ => ⟨S_, .f32⟩
  | .hbm, ⟨21, _⟩ => ⟨S8x8x4096x64, .f32⟩
  | .hbm, ⟨22, _⟩ => ⟨S8x8x4096x64, .f32⟩
  | .hbm, ⟨23, _⟩ => ⟨S_, .f32⟩
  | .hbm, ⟨24, _⟩ => ⟨S8x8x4096x1, .f32⟩
  | .hbm, ⟨25, _⟩ => ⟨S8x8x4096x1, .f32⟩
  | .hbm, ⟨26, _⟩ => ⟨S8x8x4096x1, .f32⟩
  | .hbm, ⟨27, _⟩ => ⟨S8x8x4096x1, .f32⟩
  | .hbm, ⟨28, _⟩ => ⟨S8x8x4096x3, .f32⟩
  | .hbm, ⟨29, _⟩ => ⟨S8x8x4096x3, .f32⟩
  | .hbm, ⟨30, _⟩ => ⟨S8x8x4096x70, .f32⟩
  | .hbm, ⟨31, _⟩ => ⟨S_, .i32⟩
  | .hbm, ⟨32, _⟩ => ⟨S_, .f32⟩
  | .hbm, ⟨33, _⟩ => ⟨S8x8x4096x128, .f32⟩
  | .hbm, ⟨34, _⟩ => ⟨S8x8x8x512x128, .f32⟩
  | .hbm, ⟨35, _⟩ => ⟨S8x8x8x128x512, .f32⟩
  | .hbm, ⟨36, _⟩ => ⟨S8x8x8x128x512, .bf16⟩
  | .hbm, ⟨37, _⟩ => ⟨S8x8x4096x3, .f32⟩
  | .hbm, ⟨38, _⟩ => ⟨S8x8x4096x70, .f32⟩
  | .hbm, ⟨39, _⟩ => ⟨S_, .i32⟩
  | .hbm, ⟨40, _⟩ => ⟨S_, .f32⟩
  | .hbm, ⟨41, _⟩ => ⟨S8x8x4096x128, .f32⟩
  | .hbm, ⟨42, _⟩ => ⟨S8x4096x8x128, .f32⟩
  | .hbm, ⟨43, _⟩ => ⟨S8x4096x1024, .f32⟩
  | .hbm, ⟨44, _⟩ => ⟨S8x4096x1024, .bf16⟩
  | .hbm, ⟨45, _⟩ => ⟨S8x8x4096x65, .f32⟩
  | .hbm, ⟨46, _⟩ => ⟨S_, .i32⟩
  | .hbm, ⟨47, _⟩ => ⟨S_, .f32⟩
  | .hbm, ⟨48, _⟩ => ⟨S8x8x4096x80, .f32⟩
  | .hbm, ⟨49, _⟩ => ⟨S8x8x8x512x80, .f32⟩
  | .hbm, ⟨50, _⟩ => ⟨S8x8x8x80x512, .f32⟩
  | .hbm, ⟨51, _⟩ => ⟨S8x8x8x80x512, .bf16⟩
  | .hbm, ⟨52, _⟩ => ⟨S8x8x512x512, .bf16⟩
  | .local _ .vmem, ⟨0, _⟩ => ⟨S1x1x8x128x512, .bf16⟩
  | .local _ .vmem, ⟨1, _⟩ => ⟨S1x1x8x128x512, .bf16⟩
  | .local _ .vmem, ⟨2, _⟩ => ⟨S1x1x8x128x512, .bf16⟩
  | .local _ .vmem, ⟨3, _⟩ => ⟨S1x1x8x128x512, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x1x8x80x512, .bf16⟩
  | .local _ .vmem, ⟨9, _⟩ => ⟨S1x1x8x80x512, .bf16⟩
  | .local _ .vmem, ⟨10, _⟩ => ⟨S1x1x8x80x512, .bf16⟩
  | .local _ .vmem, ⟨11, _⟩ => ⟨S1x1x8x80x512, .bf16⟩
  | .local _ .vmem, ⟨12, _⟩ => ⟨S1x8x128x512, .bf16⟩
  | .local _ .vmem, ⟨13, _⟩ => ⟨S1x8x128x512, .bf16⟩
  | .local _ .vmem, ⟨14, _⟩ => ⟨S2x512x512, .f32⟩
  | .local _ .vmem, ⟨15, _⟩ => ⟨S2x512x512, .f32⟩
  | .local _ .vmem, ⟨16, _⟩ => ⟨S2x1x512, .f32⟩
  | .local _ .vmem, ⟨17, _⟩ => ⟨S2x1x512, .f32⟩
  | .local _ .vmem, ⟨18, _⟩ => ⟨S2x1x512, .f32⟩
  | .local _ .vmem, ⟨19, _⟩ => ⟨S2x80x512, .f32⟩
  | _, _ => ⟨S8x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_call2_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_call3_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  let c0_i32_3 : BitVec 32 := 0#32
  ![arg0.toNat, v1.toNat, c0_i32_0.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![arg0.toNat, v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  ![arg0.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_4 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  let c0_i32_3 : BitVec 32 := 0#32
  ![arg0.toNat, v1.toNat, c0_i32_0.toNat, c0_i32_1.toNat, c0_i32_2.toNat]

def cc0_transform_5 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![arg0.toNat, v1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x80x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x80x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x8x4096x64 : Shape := ⟨4, ![8, 8, 4096, 64]⟩
abbrev S8x8x4096 : Shape := ⟨3, ![8, 8, 4096]⟩
abbrev S_ : Shape := ⟨0, ![]⟩
abbrev S8x8x4096x4096 : Shape := ⟨4, ![8, 8, 4096, 4096]⟩
abbrev S8x8x4096x1 : Shape := ⟨4, ![8, 8, 4096, 1]⟩
abbrev S8x8x1x4096 : Shape := ⟨4, ![8, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x64x4096 : Shape := ⟨4, ![8, 8, 64, 4096]⟩
abbrev S8x512x8x512 : Shape := ⟨4, ![8, 512, 8, 512]⟩
abbrev S8x8x512x512 : Shape := ⟨4, ![8, 8, 512, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x8x4096x64, .f32⟩
  | .hbm, ⟨1, _⟩ => ⟨S8x8x4096x64, .f32⟩
  | .hbm, ⟨2, _⟩ => ⟨S8x8x4096x64, .f32⟩
  | .hbm, ⟨3, _⟩ => ⟨S8x8x4096, .f32⟩
  | .hbm, ⟨4, _⟩ => ⟨S_, .f32⟩
  | .hbm, ⟨5, _⟩ => ⟨S_, .f32⟩
  | .hbm, ⟨6, _⟩ => ⟨S8x8x4096, .f32⟩
  | .hbm, ⟨7, _⟩ => ⟨S8x8x4096x4096, .f32⟩
  | .hbm, ⟨8, _⟩ => ⟨S_, .f32⟩
  | .hbm, ⟨9, _⟩ => ⟨S8x8x4096x4096, .f32⟩
  | .hbm, ⟨10, _⟩ => ⟨S8x8x4096x4096, .f32⟩
  | .hbm, ⟨11, _⟩ => ⟨S8x8x4096x1, .f32⟩
  | .hbm, ⟨12, _⟩ => ⟨S8x8x4096x4096, .f32⟩
  | .hbm, ⟨13, _⟩ => ⟨S8x8x4096x4096, .f32⟩
  | .hbm, ⟨14, _⟩ => ⟨S8x8x1x4096, .f32⟩
  | .hbm, ⟨15, _⟩ => ⟨S8x8x4096x4096, .f32⟩
  | .hbm, ⟨16, _⟩ => ⟨S8x8x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x8x4096x4096, .i1⟩
  | .hbm, ⟨26, _⟩ => ⟨S8x8x4096x4096, .f32⟩
  | .hbm, ⟨27, _⟩ => ⟨S8x8x4096x4096, .f32⟩
  | .hbm, ⟨28, _⟩ => ⟨S_, .f32⟩
  | .hbm, ⟨29, _⟩ => ⟨S8x8x4096, .f32⟩
  | .hbm, ⟨30, _⟩ => ⟨S_, .f32⟩
  | .hbm, ⟨31, _⟩ => ⟨S8x8x4096, .f32⟩
  | .hbm, ⟨32, _⟩ => ⟨S8x8x4096, .f32⟩
  | .hbm, ⟨33, _⟩ => ⟨S8x8x4096x1, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S8x8x4096, .f32⟩
  | .hbm, ⟨39, _⟩ => ⟨S8x8x4096x1, .f32⟩
  | .hbm, ⟨40, _⟩ => ⟨S8x8x4096x4096, .f32⟩
  | .hbm, ⟨41, _⟩ => ⟨S8x8x4096x4096, .f32⟩
  | .hbm, ⟨42, _⟩ => ⟨S8x8x4096x64, .f32⟩
  | .hbm, ⟨43, _⟩ => ⟨S8x8x64x4096, .f32⟩
  | .hbm, ⟨44, _⟩ => ⟨S8x512x8x512, .f32⟩
  | .hbm, ⟨45, _⟩ => ⟨S8x8x512x512, .f32⟩
  | .hbm, ⟨46, _⟩ => ⟨S8x8x512x512, .bf16⟩
  | _, _ => ⟨S8x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S8x3x3x1024 : Shape := ⟨4, ![8, 3, 3, 1024]⟩
abbrev S512 : Shape := ⟨1, ![512]⟩
abbrev S1024 : Shape := ⟨1, ![1024]⟩
abbrev S1024x1024 : Shape := ⟨2, ![1024, 1024]⟩
abbrev S1x2x1024x2816 : Shape := ⟨4, ![1, 2, 1024, 2816]⟩
abbrev S1x2x2816x1024 : Shape := ⟨4, ![1, 2, 2816, 1024]⟩
abbrev S8x8x512x512 : Shape := ⟨4, ![8, 8, 512, 512]⟩
abbrev S512x1 : Shape := ⟨2, ![512, 1]⟩
abbrev S512x128 : Shape := ⟨2, ![512, 128]⟩
abbrev S1x1024 : Shape := ⟨2, ![1, 1024]⟩
abbrev S1x1024x1024 : Shape := ⟨3, ![1, 1024, 1024]⟩
abbrev S1x1024x512 : Shape := ⟨3, ![1, 1024, 512]⟩
abbrev S1x2x512x512 : Shape := ⟨4, ![1, 2, 512, 512]⟩
abbrev S1x1x3x1024 : Shape := ⟨4, ![1, 1, 3, 1024]⟩
abbrev S1x1x1024x2816 : Shape := ⟨4, ![1, 1, 1024, 2816]⟩
abbrev S1x1x2816x1024 : Shape := ⟨4, ![1, 1, 2816, 1024]⟩
abbrev S2x512x1024 : Shape := ⟨3, ![2, 512, 1024]⟩
abbrev S1x1x512x512 : Shape := ⟨4, ![1, 1, 512, 512]⟩
abbrev S512x512 : Shape := ⟨2, ![512, 512]⟩
abbrev S1x512 : Shape := ⟨2, ![1, 512]⟩
abbrev S1x512x512 : Shape := ⟨3, ![1, 512, 512]⟩
abbrev S512x1024 : Shape := ⟨2, ![512, 1024]⟩
abbrev S1x1x1x1024 : Shape := ⟨4, ![1, 1, 1, 1024]⟩
abbrev S1x512x1024 : Shape := ⟨3, ![1, 512, 1024]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 26
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x3x3x1024, .f32⟩
  | .hbm, ⟨4, _⟩ => ⟨S512, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1x2x1024x2816, .f32⟩
  | .hbm, ⟨10, _⟩ => ⟨S1x2x1024x2816, .f32⟩
  | .hbm, ⟨11, _⟩ => ⟨S1x2x2816x1024, .f32⟩
  | .hbm, ⟨12, _⟩ => ⟨S1x2x1024x2816, .bf16⟩
  | .hbm, ⟨13, _⟩ => ⟨S1x2x1024x2816, .bf16⟩
  | .hbm, ⟨14, _⟩ => ⟨S1x2x2816x1024, .bf16⟩
  | .hbm, ⟨15, _⟩ => ⟨S8x8x512x512, .f32⟩
  | .hbm, ⟨16, _⟩ => ⟨S8x8x512x512, .f32⟩
  | .hbm, ⟨17, _⟩ => ⟨S8x8x512x512, .bf16⟩
  | .hbm, ⟨18, _⟩ => ⟨S512x1, .f32⟩
  | .hbm, ⟨19, _⟩ => ⟨S512x128, .f32⟩
  | .hbm, ⟨20, _⟩ => ⟨S8x4096x512, .bf16⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x2x512x512, .bf16⟩
  | .local _ .vmem, ⟨5, _⟩ => ⟨S1x2x512x512, .bf16⟩
  | .local _ .vmem, ⟨6, _⟩ => ⟨S1x1x3x1024, .f32⟩
  | .local _ .vmem, ⟨7, _⟩ => ⟨S1x1x3x1024, .f32⟩
  | .local _ .vmem, ⟨8, _⟩ => ⟨S512x128, .f32⟩
  | .local _ .vmem, ⟨9, _⟩ => ⟨S1x1024, .f32⟩
  | .local _ .vmem, ⟨10, _⟩ => ⟨S1024x1024, .bf16⟩
  | .local _ .vmem, ⟨11, _⟩ => ⟨S1x1x3x1024, .f32⟩
  | .local _ .vmem, ⟨12, _⟩ => ⟨S1x1x3x1024, .f32⟩
  | .local _ .vmem, ⟨13, _⟩ => ⟨S1x1024, .f32⟩
  | .local _ .vmem, ⟨14, _⟩ => ⟨S1x1024, .f32⟩
  | .local _ .vmem, ⟨15, _⟩ => ⟨S1x1x1024x2816, .bf16⟩
  | .local _ .vmem, ⟨16, _⟩ => ⟨S1x1x1024x2816, .bf16⟩
  | .local _ .vmem, ⟨17, _⟩ => ⟨S1x1x2816x1024, .bf16⟩
  | .local _ .vmem, ⟨18, _⟩ => ⟨S1x1024x1024, .f32⟩
  | .local _ .vmem, ⟨19, _⟩ => ⟨S1x1024x1024, .f32⟩
  | .local _ .vmem, ⟨20, _⟩ => ⟨S2x512x1024, .f32⟩
  | .local _ .vmem, ⟨21, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x4096x1024 : Shape := ⟨3, ![8, 4096, 1024]⟩
abbrev S8x4096x512 : Shape := ⟨3, ![8, 4096, 512]⟩
abbrev S8x3x3x1024 : Shape := ⟨4, ![8, 3, 3, 1024]⟩
abbrev S512 : Shape := ⟨1, ![512]⟩
abbrev S1024 : Shape := ⟨1, ![1024]⟩
abbrev S1024x1024 : Shape := ⟨2, ![1024, 1024]⟩
abbrev S1x2x1024x2816 : Shape := ⟨4, ![1, 2, 1024, 2816]⟩
abbrev S1x2x2816x1024 : Shape := ⟨4, ![1, 2, 2816, 1024]⟩
abbrev S8x3x1x1024 : Shape := ⟨4, ![8, 3, 1, 1024]⟩
abbrev S8x3x1024 : Shape := ⟨3, ![8, 3, 1024]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S8x1x1024 : Shape := ⟨3, ![8, 1, 1024]⟩
abbrev S8x1024 : Shape := ⟨2, ![8, 1024]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S8x4096x2816 : Shape := ⟨3, ![8, 4096, 2816]⟩
abbrev S1x1x2816x1024 : Shape := ⟨4, ![1, 1, 2816, 1024]⟩
abbrev S2816x1024 : Shape := ⟨2, ![2816, 1024]⟩

abbrev nBuf : Space → Nat
  | .hbm => 137
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x512, .f32⟩
  | 3 => ⟨S8x3x3x1024, .f32⟩
  | 4 => ⟨S512, .f32⟩
  | 5 => ⟨S1024, .f32⟩
  | 6 => ⟨S1024x1024, .f32⟩
  | 7 => ⟨S1024, .f32⟩
  | 8 => ⟨S1024, .f32⟩
  | 9 => ⟨S1x2x1024x2816, .f32⟩
  | 10 => ⟨S1x2x1024x2816, .f32⟩
  | 11 => ⟨S1x2x2816x1024, .f32⟩
  | 12 => ⟨S8x3x1x1024, .f32⟩
  | 13 => ⟨S8x3x1024, .f32⟩
  | 14 => ⟨S8x3x1x1024, .f32⟩
  | 15 => ⟨S8x3x1024, .f32⟩
  | 16 => ⟨S8x3x1x1024, .f32⟩
  | 17 => ⟨S8x3x1024, .f32⟩
  | 18 => ⟨S8x4096x512, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x512, .f32⟩
  | 30 => ⟨S8x4096x512, .f32⟩
  | 31 => ⟨S1x1x512, .f32⟩
  | 32 => ⟨S8x4096x512, .f32⟩
  | 33 => ⟨S8x4096x512, .f32⟩
  | 34 => ⟨S8x4096x1024, .f32⟩
  | 35 => ⟨S8x4096x1024, .f32⟩
  | 36 => ⟨S8x1x1024, .f32⟩
  | 37 => ⟨S8x1024, .f32⟩
  | 38 => ⟨S8x1x1024, .f32⟩
  | 39 => ⟨S_, .f32⟩
  | 40 => ⟨S8x1x1024, .f32⟩
  | 41 => ⟨S8x1x1024, .f32⟩
  | 42 => ⟨S8x4096x1024, .f32⟩
  | 43 => ⟨S_, .f32⟩
  | 44 => ⟨S8x4096, .f32⟩
  | 45 => ⟨S8x4096x1, .f32⟩
  | 46 => ⟨S_, .f32⟩
  | 47 => ⟨S8x4096x1, .f32⟩
  | 48 => ⟨S8x4096x1, .f32⟩
  | 49 => ⟨S_, .f32⟩
  | 50 => ⟨S8x4096x1, .f32⟩
  | 51 => ⟨S8x4096x1, .f32⟩
  | 52 => ⟨S8x4096x1, .f32⟩
  | 53 => ⟨S8x4096x1024, .f32⟩
  | 54 => ⟨S8x4096x1024, .f32⟩
  | 55 => ⟨S1x1x1024, .f32⟩
  | 56 => ⟨S8x4096x1024, .f32⟩
  | 57 => ⟨S8x4096x1024, .f32⟩
  | 58 => ⟨S8x4096x1024, .f32⟩
  | 59 => ⟨S8x4096x1024, .f32⟩
  | 60 => ⟨S8x4096x1024, .f32⟩
  | 61 => ⟨S8x4096x1024, .f32⟩
  | 62 => ⟨S_, .f32⟩
  | 63 => ⟨S8x4096, .f32⟩
  | 64 => ⟨S8x4096x1, .f32⟩
  | 65 => ⟨S_, .f32⟩
  | 66 => ⟨S8x4096x1, .f32⟩
  | 67 => ⟨S8x4096x1, .f32⟩
  | 68 => ⟨S_, .f32⟩
  | 69 => ⟨S8x4096x1, .f32⟩
  | 70 => ⟨S8x4096x1, .f32⟩
  | 71 => ⟨S8x4096x1, .f32⟩
  | 72 => ⟨S8x4096x1024, .f32⟩
  | 73 => ⟨S8x4096x1024, .f32⟩
  | 74 => ⟨S1x1x1024, .f32⟩
  | 75 => ⟨S8x4096x1024, .f32⟩
  | 76 => ⟨S8x4096x1024, .f32⟩
  | 77 => ⟨S8x1x1024, .f32⟩
  | 78 => ⟨S8x1024, .f32⟩
  | 79 => ⟨S8x1x1024, .f32⟩
  | 80 => ⟨S_, .f32⟩
  | 81 => ⟨S8x1x1024, .f32⟩
  | 82 => ⟨S8x1x1024, .f32⟩
  | 83 => ⟨S8x4096x1024, .f32⟩
  | 84 => ⟨S8x4096x1024, .f32⟩
  | 85 => ⟨S8x1x1024, .f32⟩
  | 86 => ⟨S8x1024, .f32⟩
  | 87 => ⟨S8x1x1024, .f32⟩
  | 88 => ⟨S8x4096x1024, .f32⟩
  | 89 => ⟨S8x4096x1024, .f32⟩
  | 90 => ⟨S1x1x1024x2816, .f32⟩
  | 91 => ⟨S1024x2816, .f32⟩
  | 92 => ⟨S8x4096x2816, .f32⟩
  | 93 => ⟨S8x4096x2816, .f32⟩
  | 94 => ⟨S8x4096x2816, .f32⟩
  | 95 => ⟨S_, .f32⟩
  | 96 => ⟨S8x4096x2816, .f32⟩
  | 97 => ⟨S8x4096x2816, .f32⟩
  | 98 => ⟨S_, .f32⟩
  | 99 => ⟨S8x4096x2816, .f32⟩
  | 100 => ⟨S8x4096x2816, .f32⟩
  | 101 => ⟨S8x4096x2816, .f32⟩
  | 102 => ⟨S1x1x1024x2816, .f32⟩
  | 103 => ⟨S1024x2816, .f32⟩
  | 104 => ⟨S8x4096x2816, .f32⟩
  | 105 => ⟨S8x4096x2816, .f32⟩
  | 106 => ⟨S1x1x2816x1024, .f32⟩
  | 107 => ⟨S2816x1024, .f32⟩
  | 108 => ⟨S8x4096x1024, .f32⟩
  | 109 => ⟨S8x1x1024, .f32⟩
  | 110 => ⟨S8x1024, .f32⟩
  | 111 => ⟨S8x1x1024, .f32⟩
  | 112 => ⟨S_, .f32⟩
  | 113 => ⟨S8x1x1024, .f32⟩
  | 114 => ⟨S8x1x1024, .f32⟩
  | 115 => ⟨S_, .f32⟩
  | 116 => ⟨S8x1x1024, .f32⟩
  | 117 => ⟨S8x1x1024, .f32⟩
  | 118 => ⟨S8x4096x1024, .f32⟩
  | 119 => ⟨S_, .f32⟩
  | 120 => ⟨S8x4096, .f32⟩
  | 121 => ⟨S8x4096x1, .f32⟩
  | 122 => ⟨S_, .f32⟩
  | 123 => ⟨S8x4096x1, .f32⟩
  | 124 => ⟨S8x4096x1, .f32⟩
  | 125 => ⟨S_, .f32⟩
  | 126 => ⟨S8x4096x1, .f32⟩
  | 127 => ⟨S8x4096x1, .f32⟩
  | _ => ⟨S8x4096x1024, .f32⟩

abbrev hbmTy0_1 (i : Nat) : BufTy := match i % 128 with
  | 0 => ⟨S8x4096x1, .f32⟩
  | 1 => ⟨S8x4096x1024, .f32⟩
  | 2 => ⟨S8x4096x1024, .f32⟩
  | 3 => ⟨S1x1x1024, .f32⟩
  | 4 => ⟨S8x4096x1024, .f32⟩
  | 5 => ⟨S8x4096x1024, .f32⟩
  | 6 => ⟨S8x4096x1024, .f32⟩
  | 7 => ⟨S8x4096x1024, .f32⟩
  | 8 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call0_v0 : Ref sig .tc := ⟨.hbm, 93, rfl⟩
abbrev main_call0_v1 : Ref sig .tc := ⟨.hbm, 94, rfl⟩
abbrev main_call0_cst : Ref sig .tc := ⟨.hbm, 95, rfl⟩
abbrev main_call0_v2 : Ref sig .tc := ⟨.hbm, 96, rfl⟩
abbrev main_call0_v3 : Ref sig .tc := ⟨.hbm, 97, rfl⟩
abbrev main_call0_cst_0 : Ref sig .tc := ⟨.hbm, 98, rfl⟩
abbrev main_call0_v4 : Ref sig .tc := ⟨.hbm, 99, rfl⟩
abbrev main_call0_v5 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_10 : Ref sig .tc := ⟨.hbm, 112, rfl⟩
abbrev main_v81 : Ref sig .tc := ⟨.hbm, 113, rfl⟩
abbrev main_v82 : Ref sig .tc := ⟨.hbm, 114, rfl⟩
abbrev main_cst_11 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_12 : Ref sig .tc := ⟨.hbm, 119, rfl⟩
abbrev main_v86 : Ref sig .tc := ⟨.hbm, 120, rfl⟩
abbrev main_v87 : Ref sig .tc := ⟨.hbm, 121, rfl⟩
abbrev main_cst_13 : Ref sig .tc := ⟨.hbm, 122, rfl⟩
abbrev main_v88 : Ref sig .tc := ⟨.hbm, 123, rfl⟩
abbrev main_v89 : Ref sig .tc := ⟨.hbm, 124, rfl⟩
abbrev main_cst_14 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x3x3x1024 : Shape := ⟨4, ![8, 3, 3, 1024]⟩
abbrev S1024 : Shape := ⟨1, ![1024]⟩
abbrev S1x2x1024x2816 : Shape := ⟨4, ![1, 2, 1024, 2816]⟩
abbrev S1x2x2816x1024 : Shape := ⟨4, ![1, 2, 2816, 1024]⟩
abbrev S1x1024 : Shape := ⟨2, ![1, 1024]⟩
abbrev S1x1024x1024 : Shape := ⟨3, ![1, 1024, 1024]⟩
abbrev S1x512x1024 : Shape := ⟨3, ![1, 512, 1024]⟩
abbrev S1x1x3x1024 : Shape := ⟨4, ![1, 1, 3, 1024]⟩
abbrev S1x1x1024x2816 : Shape := ⟨4, ![1, 1, 1024, 2816]⟩
abbrev S1x1x2816x1024 : Shape := ⟨4, ![1, 1, 2816, 1024]⟩
abbrev S2x512x1024 : Shape := ⟨3, ![2, 512, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 13
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x3x3x1024, .f32⟩
  | .hbm, ⟨2, _⟩ => ⟨S1024, .f32⟩
  | .hbm, ⟨3, _⟩ => ⟨S1024, .f32⟩
  | .hbm, ⟨4, _⟩ => ⟨S1x2x1024x2816, .f32⟩
  | .hbm, ⟨5, _⟩ => ⟨S1x2x1024x2816, .f32⟩
  | .hbm, ⟨6, _⟩ => ⟨S1x2x2816x1024, .f32⟩
  | .hbm, ⟨7, _⟩ => ⟨S1x2x1024x2816, .bf16⟩
  | .hbm, ⟨8, _⟩ => ⟨S1x2x1024x2816, .bf16⟩
  | .hbm, ⟨9, _⟩ => ⟨S1x2x2816x1024, .bf16⟩
  | .hbm, ⟨10, _⟩ => ⟨S1x1024, .f32⟩
  | .hbm, ⟨11, _⟩ => ⟨S1x1024, .f32⟩
  | .hbm, ⟨12, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x3x1024, .f32⟩
  | .local _ .vmem, ⟨5, _⟩ => ⟨S1x1x3x1024, .f32⟩
  | .local _ .vmem, ⟨6, _⟩ => ⟨S1x1x3x1024, .f32⟩
  | .local _ .vmem, ⟨7, _⟩ => ⟨S1x1x3x1024, .f32⟩
  | .local _ .vmem, ⟨8, _⟩ => ⟨S1x1024, .f32⟩
  | .local _ .vmem, ⟨9, _⟩ => ⟨S1x1024, .f32⟩
  | .local _ .vmem, ⟨10, _⟩ => ⟨S1x1x1024x2816, .bf16⟩
  | .local _ .vmem, ⟨11, _⟩ => ⟨S1x1x1024x2816, .bf16⟩
  | .local _ .vmem, ⟨12, _⟩ => ⟨S1x1x2816x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S2x512x1024, .f32⟩
  | .local _ .vmem, ⟨16, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c31_i32 : BitVec 32 := 31#32
  let v3 : BitVec 32 := Scalar.minsi v2 c31_i32
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.muli v30 c2_i32
  let c0_i32_12 : BitVec 32 := 0#32
  let c0_i32_13 : BitVec 32 := 0#32
  ![v20.toNat, v31.toNat, c0_i32_12.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c31_i32 : BitVec 32 := 31#32
  let v3 : BitVec 32 := Scalar.minsi v2 c31_i32
  let c4_i32_0 : BitVec 32 := 4#32
  let v4 : BitVec 32 := Scalar.divsi v3 c4_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v3 c4_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  let c0_i32_15 : BitVec 32 := 0#32
  ![v20.toNat, c0_i32_12.toNat, c0_i32_13.toNat, c0_i32_14.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x4096x1024 : Shape := ⟨3, ![8, 4096, 1024]⟩
abbrev S8x3x3x1024 : Shape := ⟨4, ![8, 3, 3, 1024]⟩
abbrev S1024 : Shape := ⟨1, ![1024]⟩
abbrev S1x2x1024x2816 : Shape := ⟨4, ![1, 2, 1024, 2816]⟩
abbrev S1x2x2816x1024 : Shape := ⟨4, ![1, 2, 2816, 1024]⟩
abbrev S8x3x1x1024 : Shape := ⟨4, ![8, 3, 1, 1024]⟩
abbrev S8x3x1024 : Shape := ⟨3, ![8, 3, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S1x1x1024x2816 : Shape := ⟨4, ![1, 1, 1024, 2816]⟩
abbrev S1024x2816 : Shape := ⟨2, ![1024, 2816]⟩
abbrev S8x4096x2816 : Shape := ⟨3, ![8, 4096, 2816]⟩
abbrev S1x1x2816x1024 : Shape := ⟨4, ![1, 1, 2816, 1024]⟩
abbrev S2816x1024 : Shape := ⟨2, ![2816, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x3x1024, .f32⟩
  | .hbm, ⟨2, _⟩ => ⟨S1024, .f32⟩
  | .hbm, ⟨3, _⟩ => ⟨S1024, .f32⟩
  | .hbm, ⟨4, _⟩ => ⟨S1x2x1024x2816, .f32⟩
  | .hbm, ⟨5, _⟩ => ⟨S1x2x1024x2816, .f32⟩
  | .hbm, ⟨6, _⟩ => ⟨S1x2x2816x1024, .f32⟩
  | .hbm, ⟨7, _⟩ => ⟨S8x3x1x1024, .f32⟩
  | .hbm, ⟨8, _⟩ => ⟨S8x3x1024, .f32⟩
  | .hbm, ⟨9, _⟩ => ⟨S8x3x1x1024, .f32⟩
  | .hbm, ⟨10, _⟩ => ⟨S8x3x1024, .f32⟩
  | .hbm, ⟨11, _⟩ => ⟨S8x3x1x1024, .f32⟩
  | .hbm, ⟨12, _⟩ => ⟨S8x3x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x1024, .f32⟩
  | .hbm, ⟨31, _⟩ => ⟨S8x1x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x1x1024, .f32⟩
  | .hbm, ⟨38, _⟩ => ⟨S8x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S1x1x1024x2816, .f32⟩
  | .hbm, ⟨43, _⟩ => ⟨S1024x2816, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S_, .f32⟩
  | .hbm, ⟨48, _⟩ => ⟨S8x4096x2816, .f32⟩
  | .hbm, ⟨49, _⟩ => ⟨S8x4096x2816, .f32⟩
  | .hbm, ⟨50, _⟩ => ⟨S_, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S1x1x1024x2816, .f32⟩
  | .hbm, ⟨55, _⟩ => ⟨S1024x2816, .f32⟩
  | .hbm, ⟨56, _⟩ => ⟨S8x4096x2816, .f32⟩
  | .hbm, ⟨57, _⟩ => ⟨S8x4096x2816, .f32⟩
  | .hbm, ⟨58, _⟩ => ⟨S1x1x2816x1024, .f32⟩
  | .hbm, ⟨59, _⟩ => ⟨S2816x1024, .f32⟩
  | .hbm, ⟨60, _⟩ => ⟨S8x4096x1024, .f32⟩
  | .hbm, ⟨61, _⟩ => ⟨S8x1x1024, .f32⟩
  | .hbm, ⟨62, _⟩ => ⟨S8x1024, .f32⟩
  | .hbm, ⟨63, _⟩ => ⟨S8x1x1024, .f32⟩
  | .hbm, ⟨64, _⟩ => ⟨S_, .f32⟩
  | .hbm, ⟨65, _⟩ => ⟨S8x1x1024, .f32⟩
  | .hbm, ⟨66, _⟩ => ⟨S8x1x1024, .f32⟩
  | .hbm, ⟨67, _⟩ => ⟨S_, .f32⟩
  | .hbm, ⟨68, _⟩ => ⟨S8x1x1024, .f32⟩
  | .hbm, ⟨69, _⟩ => ⟨S8x1x1024, .f32⟩
  | .hbm, ⟨70, _⟩ => ⟨S8x4096x1024, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S8x4096x1, .f32⟩
  | .hbm, ⟨81, _⟩ => ⟨S8x4096x1024, .f32⟩
  | .hbm, ⟨82, _⟩ => ⟨S8x4096x1024, .f32⟩
  | .hbm, ⟨83, _⟩ => ⟨S1x1x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Kernel4.lean ====
abbrev S8x1024 : Shape := ⟨2, ![8, 1024]⟩
abbrev S1x1024x9216 : Shape := ⟨3, ![1, 1024, 9216]⟩
abbrev S1x9216 : Shape := ⟨2, ![1, 9216]⟩
abbrev S1024x9216 : Shape := ⟨2, ![1024, 9216]⟩
abbrev S9216 : Shape := ⟨1, ![9216]⟩
abbrev S8x9216 : Shape := ⟨2, ![8, 9216]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x9216, .f32⟩
  | .hbm, ⟨2, _⟩ => ⟨S1x9216, .f32⟩
  | .hbm, ⟨3, _⟩ => ⟨S1024x9216, .f32⟩
  | .hbm, ⟨4, _⟩ => ⟨S9216, .f32⟩
  | .hbm, ⟨5, _⟩ => ⟨S1x9216, .f32⟩
  | .hbm, ⟨6, _⟩ => ⟨S8x9216, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1x1024x9216 : Shape := ⟨3, ![1, 1024, 9216]⟩
abbrev S1x9216 : Shape := ⟨2, ![1, 9216]⟩
abbrev S_ : Shape := ⟨0, ![]⟩
abbrev S1024x9216 : Shape := ⟨2, ![1024, 9216]⟩
abbrev S8x9216 : Shape := ⟨2, ![8, 9216]⟩
abbrev S9216 : Shape := ⟨1, ![9216]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x9216, .f32⟩
  | .hbm, ⟨2, _⟩ => ⟨S1x9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x9216, .f32⟩
  | .hbm, ⟨13, _⟩ => ⟨S8x9216, .f32⟩
  | .hbm, ⟨14, _⟩ => ⟨S9216, .f32⟩
  | .hbm, ⟨15, _⟩ => ⟨S1x9216, .f32⟩
  | .hbm, ⟨16, _⟩ => ⟨S8x9216, .f32⟩
  | .hbm, ⟨17, _⟩ => ⟨S8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x3x3x1024 : Shape := ⟨4, ![8, 3, 3, 1024]⟩
abbrev S1024 : Shape := ⟨1, ![1024]⟩
abbrev S1x1024x2568 : Shape := ⟨3, ![1, 1024, 2568]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S128x1024 : Shape := ⟨2, ![128, 1024]⟩
abbrev S1x1024 : Shape := ⟨2, ![1, 1024]⟩
abbrev S1024x2568 : Shape := ⟨2, ![1024, 2568]⟩
abbrev S1024x1024 : Shape := ⟨2, ![1024, 1024]⟩
abbrev S1024x512 : Shape := ⟨2, ![1024, 512]⟩
abbrev S512x1024 : Shape := ⟨2, ![512, 1024]⟩
abbrev S1024x8 : Shape := ⟨2, ![1024, 8]⟩
abbrev S8x1024 : Shape := ⟨2, ![8, 1024]⟩
abbrev S_ : Shape := ⟨0, ![]⟩
abbrev S16x1024 : Shape := ⟨2, ![16, 1024]⟩
abbrev S1040x1024 : Shape := ⟨2, ![1040, 1024]⟩
abbrev S8 : Shape := ⟨1, ![8]⟩
abbrev S8x1 : Shape := ⟨2, ![8, 1]⟩
abbrev S8x512 : Shape := ⟨2, ![8, 512]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S512 : Shape := ⟨1, ![512]⟩
abbrev S8x128x128 : Shape := ⟨3, ![8, 128, 128]⟩
abbrev S8x4096x512 : Shape := ⟨3, ![8, 4096, 512]⟩
abbrev S8x8x8x128x512 : Shape := ⟨5, ![8, 8, 8, 128, 512]⟩
abbrev S8x8x8x80x512 : Shape := ⟨5, ![8, 8, 8, 80, 512]⟩
abbrev S1x512x1024 : Shape := ⟨3, ![1, 512, 1024]⟩
abbrev S1x1x3x1024 : Shape := ⟨4, ![1, 1, 3, 1024]⟩
abbrev S1x512x512 : Shape := ⟨3, ![1, 512, 512]⟩
abbrev S1x8x1x128x512 : Shape := ⟨5, ![1, 8, 1, 128, 512]⟩
abbrev S1x8x1x80x512 : Shape := ⟨5, ![1, 8, 1, 80, 512]⟩
abbrev S512x512 : Shape := ⟨2, ![512, 512]⟩
abbrev S1x1x1x1024 : Shape := ⟨4, ![1, 1, 1, 1024]⟩
abbrev S512x1 : Shape := ⟨2, ![512, 1]⟩
abbrev S1040x512 : Shape := ⟨2, ![1040, 512]⟩
abbrev S1024x256 : Shape := ⟨2, ![1024, 256]⟩
abbrev S512x256 : Shape := ⟨2, ![512, 256]⟩
abbrev S16x512 : Shape := ⟨2, ![16, 512]⟩
abbrev S64x512 : Shape := ⟨2, ![64, 512]⟩
abbrev S1x1x1x64x512 : Shape := ⟨5, ![1, 1, 1, 64, 512]⟩
abbrev S48x512 : Shape := ⟨2, ![48, 512]⟩
abbrev S1x1x1x48x512 : Shape := ⟨5, ![1, 1, 1, 48, 512]⟩
abbrev S1x1x1x16x512 : Shape := ⟨5, ![1, 1, 1, 16, 512]⟩
abbrev S104x512 : Shape := ⟨2, ![104, 512]⟩
abbrev S512x128 : Shape := ⟨2, ![512, 128]⟩
abbrev S1x512x128 : Shape := ⟨3, ![1, 512, 128]⟩
abbrev S128x128 : Shape := ⟨2, ![128, 128]⟩
abbrev S1x128x128 : Shape := ⟨3, ![1, 128, 128]⟩
abbrev S128x256 : Shape := ⟨2, ![128, 256]⟩
abbrev S256x128 : Shape := ⟨2, ![256, 128]⟩
abbrev S256x256 : Shape := ⟨2, ![256, 256]⟩

abbrev nBuf : Space → Nat
  | .hbm => 47
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x3x3x1024, .f32⟩
  | .hbm, ⟨2, _⟩ => ⟨S1024, .f32⟩
  | .hbm, ⟨3, _⟩ => ⟨S1x1024x2568, .f32⟩
  | .hbm, ⟨4, _⟩ => ⟨S1x512, .f32⟩
  | .hbm, ⟨5, _⟩ => ⟨S1x512, .f32⟩
  | .hbm, ⟨6, _⟩ => ⟨S1x8x128x128, .f32⟩
  | .hbm, ⟨7, _⟩ => ⟨S1x8x128, .f32⟩
  | .hbm, ⟨8, _⟩ => ⟨S1x8, .f32⟩
  | .hbm, ⟨9, _⟩ => ⟨S1x512, .f32⟩
  | .hbm, ⟨10, _⟩ => ⟨S128x1024, .bf16⟩
  | .hbm, ⟨11, _⟩ => ⟨S1x1024, .f32⟩
  | .hbm, ⟨12, _⟩ => ⟨S1024x2568, .f32⟩
  | .hbm, ⟨13, _⟩ => ⟨S1024x1024, .f32⟩
  | .hbm, ⟨14, _⟩ => ⟨S1024x1024, .bf16⟩
  | .hbm, ⟨15, _⟩ => ⟨S1024x512, .f32⟩
  | .hbm, ⟨16, _⟩ => ⟨S512x1024, .f32⟩
  | .hbm, ⟨17, _⟩ => ⟨S1024x512, .f32⟩
  | .hbm, ⟨18, _⟩ => ⟨S512x1024, .f32⟩
  | .hbm, ⟨19, _⟩ => ⟨S1024x8, .f32⟩
  | .hbm, ⟨20, _⟩ => ⟨S8x1024, .f32⟩
  | .hbm, ⟨21, _⟩ => ⟨S_, .i32⟩
  | .hbm, ⟨22, _⟩ => ⟨S_, .f32⟩
  | .hbm, ⟨23, _⟩ => ⟨S16x1024, .f32⟩
  | .hbm, ⟨24, _⟩ => ⟨S1040x1024, .f32⟩
  | .hbm, ⟨25, _⟩ => ⟨S1040x1024, .bf16⟩
  | .hbm, ⟨26, _⟩ => ⟨S1024x512, .f32⟩
  | .hbm, ⟨27, _⟩ => ⟨S1024x512, .bf16⟩
  | .hbm, ⟨28, _⟩ => ⟨S8, .f32⟩
  | .hbm, ⟨29, _⟩ => ⟨S8x1, .f32⟩
  | .hbm, ⟨30, _⟩ => ⟨S8x512, .f32⟩
  | .hbm, ⟨31, _⟩ => ⟨S8x128, .f32⟩
  | .hbm, ⟨32, _⟩ => ⟨S128x8, .f32⟩
  | .hbm, ⟨33, _⟩ => ⟨S128x8x64, .f32⟩
  | .hbm, ⟨34, _⟩ => ⟨S128x512, .f32⟩
  | .hbm, ⟨35, _⟩ => ⟨S512, .f32⟩
  | .hbm, ⟨36, _⟩ => ⟨S512, .f32⟩
  | .hbm, ⟨37, _⟩ => ⟨S8x128x128, .f32⟩
  | .hbm, ⟨38, _⟩ => ⟨S512, .f32⟩
  | .hbm, ⟨39, _⟩ => ⟨S1x1024, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S8x4096x512, .bf16⟩
  | .hbm, ⟨44, _⟩ => ⟨S8x8x8x128x512, .bf16⟩
  | .hbm, ⟨45, _⟩ => ⟨S8x4096x1024, .bf16⟩
  | .hbm, ⟨46, _⟩ => ⟨S8x8x8x80x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x3x1024, .f32⟩
  | .local _ .vmem, ⟨3, _⟩ => ⟨S1x1x3x1024, .f32⟩
  | .local _ .vmem, ⟨4, _⟩ => ⟨S1x1024, .f32⟩
  | .local _ .vmem, ⟨5, _⟩ => ⟨S1024x1024, .bf16⟩
  | .local _ .vmem, ⟨6, _⟩ => ⟨S1040x1024, .bf16⟩
  | .local _ .vmem, ⟨7, _⟩ => ⟨S1024x512, .bf16⟩
  | .local _ .vmem, ⟨8, _⟩ => ⟨S8x512, .f32⟩
  | .local _ .vmem, ⟨9, _⟩ => ⟨S128x1024, .bf16⟩
  | .local _ .vmem, ⟨10, _⟩ => ⟨S1x1024, .f32⟩
  | .local _ .vmem, ⟨11, _⟩ => ⟨S1x512, .f32⟩
  | .local _ .vmem, ⟨12, _⟩ => ⟨S1x512, .f32⟩
  | .local _ .vmem, ⟨13, _⟩ => ⟨S8x128x128, .f32⟩
  | .local _ .vmem, ⟨14, _⟩ => ⟨S128x512, .f32⟩
  | .local _ .vmem, ⟨15, _⟩ => ⟨S1x512, .f32⟩
  | .local _ .vmem, ⟨16, _⟩ => ⟨S1x512x512, .bf16⟩
  | .local _ .vmem, ⟨17, _⟩ => ⟨S1x512x512, .bf16⟩
  | .local _ .vmem, ⟨18, _⟩ => ⟨S1x8x1x128x512, .bf16⟩
  | .local _ .vmem, ⟨19, _⟩ => ⟨S1x8x1x128x512, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x8x1x80x512, .bf16⟩
  | .local _ .vmem, ⟨23, _⟩ => ⟨S1x8x1x80x512, .bf16⟩
  | .local _ .vmem, ⟨24, _⟩ => ⟨S512x512, .f32⟩
  | .local _ .vmem, ⟨25, _⟩ => ⟨S8x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call0_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev main_v29_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1040x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x1x80x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference5Ideal.lean ====
abbrev S8x4096x1024 : Shape := ⟨3, ![8, 4096, 1024]⟩
abbrev S8x3x3x1024 : Shape := ⟨4, ![8, 3, 3, 1024]⟩
abbrev S1024 : Shape := ⟨1, ![1024]⟩
abbrev S1x1024x2568 : Shape := ⟨3, ![1, 1024, 2568]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S8x3x1x1024 : Shape := ⟨4, ![8, 3, 1, 1024]⟩
abbrev S8x3x1024 : Shape := ⟨3, ![8, 3, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S1024x2568 : Shape := ⟨2, ![1024, 2568]⟩
abbrev S8x4096x2568 : Shape := ⟨3, ![8, 4096, 2568]⟩
abbrev S8x4096x512 : Shape := ⟨3, ![8, 4096, 512]⟩
abbrev S512 : Shape := ⟨1, ![512]⟩
abbrev S1x1x512 : Shape := ⟨3, ![1, 1, 512]⟩
abbrev S8x32x128x8x64 : Shape := ⟨5, ![8, 32, 128, 8, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S8x8x32x64x128 : Shape := ⟨5, ![8, 8, 32, 64, 128]⟩
abbrev S8x128 : Shape := ⟨2, ![8, 128]⟩
abbrev S128x8 : Shape := ⟨2, ![128, 8]⟩
abbrev S1x1x128x8x1 : Shape := ⟨5, ![1, 1, 128, 8, 1]⟩

abbrev nBuf : Space → Nat
  | .hbm => 171
  | .vmem => 0
  | .smem => 0
  | _ => 0

abbrev hbmTy0_0 (i : Nat) : BufTy := match i % 128 with
  | 0 => ⟨S8x4096x1024, .f32⟩
  | 1 => ⟨S8x3x3x1024, .f32⟩
  | 2 => ⟨S1024, .f32⟩
  | 3 => ⟨S1x1024x2568, .f32⟩
  | 4 => ⟨S1x512, .f32⟩
  | 5 => ⟨S1x512, .f32⟩
  | 6 => ⟨S1x8x128x128, .f32⟩
  | 7 => ⟨S1x8x128, .f32⟩
  | 8 => ⟨S1x8, .f32⟩
  | 9 => ⟨S1x512, .f32⟩
  | 10 => ⟨S8x3x1x1024, .f32⟩
  | 11 => ⟨S8x3x1024, .f32⟩
  | 12 => ⟨S8x3x1x1024, .f32⟩
  | 13 => ⟨S8x3x1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x1x1024, .f32⟩
  | 31 => ⟨S8x1024, .f32⟩
  | 32 => ⟨S8x1x1024, .f32⟩
  | 33 => ⟨S_, .f32⟩
  | 34 => ⟨S8x1x1024, .f32⟩
  | 35 => ⟨S8x1x1024, .f32⟩
  | 36 => ⟨S8x4096x1024, .f32⟩
  | 37 => ⟨S8x4096x1024, .f32⟩
  | 38 => ⟨S8x1x1024, .f32⟩
  | 39 => ⟨S8x1024, .f32⟩
  | 40 => ⟨S8x1x1024, .f32⟩
  | 41 => ⟨S8x4096x1024, .f32⟩
  | 42 => ⟨S8x4096x1024, .f32⟩
  | 43 => ⟨S1024x2568, .f32⟩
  | 44 => ⟨S8x4096x2568, .f32⟩
  | 45 => ⟨S8x4096x1024, .f32⟩
  | 46 => ⟨S8x4096x1024, .f32⟩
  | 47 => ⟨S8x4096x1024, .f32⟩
  | 48 => ⟨S_, .f32⟩
  | 49 => ⟨S8x4096x1024, .f32⟩
  | 50 => ⟨S8x4096x1024, .f32⟩
  | 51 => ⟨S8x4096x1024, .f32⟩
  | 52 => ⟨S_, .f32⟩
  | 53 => ⟨S8x4096x1024, .f32⟩
  | 54 => ⟨S8x4096x1024, .f32⟩
  | 55 => ⟨S8x4096x1024, .f32⟩
  | 56 => ⟨S_, .f32⟩
  | 57 => ⟨S8x4096x1024, .f32⟩
  | 58 => ⟨S8x4096x1024, .f32⟩
  | 59 => ⟨S_, .f32⟩
  | 60 => ⟨S8x4096x1024, .f32⟩
  | 61 => ⟨S8x4096x1024, .f32⟩
  | 62 => ⟨S8x4096x1024, .f32⟩
  | 63 => ⟨S8x4096x512, .f32⟩
  | 64 => ⟨S8x4096x512, .f32⟩
  | 65 => ⟨S_, .f32⟩
  | 66 => ⟨S8x4096, .f32⟩
  | 67 => ⟨S8x4096x1, .f32⟩
  | 68 => ⟨S_, .f32⟩
  | 69 => ⟨S8x4096x1, .f32⟩
  | 70 => ⟨S8x4096x1, .f32⟩
  | 71 => ⟨S8x4096x512, .f32⟩
  | 72 => ⟨S8x4096x512, .f32⟩
  | 73 => ⟨S8x4096x512, .f32⟩
  | 74 => ⟨S_, .f32⟩
  | 75 => ⟨S8x4096, .f32⟩
  | 76 => ⟨S8x4096x1, .f32⟩
  | 77 => ⟨S_, .f32⟩
  | 78 => ⟨S8x4096x1, .f32⟩
  | 79 => ⟨S8x4096x1, .f32⟩
  | 80 => ⟨S_, .f32⟩
  | 81 => ⟨S8x4096x1, .f32⟩
  | 82 => ⟨S8x4096x1, .f32⟩
  | 83 => ⟨S8x4096x1, .f32⟩
  | 84 => ⟨S8x4096x512, .f32⟩
  | 85 => ⟨S8x4096x512, .f32⟩
  | 86 => ⟨S512, .f32⟩
  | 87 => ⟨S1x1x512, .f32⟩
  | 88 => ⟨S8x4096x512, .f32⟩
  | 89 => ⟨S8x4096x512, .f32⟩
  | 90 => ⟨S512, .f32⟩
  | 91 => ⟨S1x1x512, .f32⟩
  | 92 => ⟨S8x4096x512, .f32⟩
  | 93 => ⟨S8x4096x512, .f32⟩
  | 94 => ⟨S8x32x128x8x64, .f32⟩
  | 95 => ⟨S128, .i32⟩
  | 96 => ⟨S1x128, .i32⟩
  | 97 => ⟨S_, .i32⟩
  | 98 => ⟨S_, .i32⟩
  | 99 => ⟨S1x128, .i32⟩
  | 100 => ⟨S1x128, .i32⟩
  | 101 => ⟨S1x128, .i32⟩
  | 102 => ⟨S_, .i32⟩
  | 103 => ⟨S1x128, .i32⟩
  | 104 => ⟨S1x128, .i1⟩
  | 105 => ⟨S1x128, .i32⟩
  | 106 => ⟨S1x128, .i32⟩
  | 107 => ⟨S_, .i32⟩
  | 108 => ⟨S1x128, .i32⟩
  | 109 => ⟨S1x128, .i1⟩
  | 110 => ⟨S1x128, .i1⟩
  | 111 => ⟨S_, .i32⟩
  | 112 => ⟨S1x128, .i32⟩
  | 113 => ⟨S1x128, .i32⟩
  | 114 => ⟨S1x128, .i32⟩
  | 115 => ⟨S128x1, .i32⟩
  | 116 => ⟨S_, .i32⟩
  | 117 => ⟨S_, .i32⟩
  | 118 => ⟨S128x1, .i32⟩
  | 119 => ⟨S128x1, .i32⟩
  | 120 => ⟨S128x1, .i32⟩
  | 121 => ⟨S_, .i32⟩
  | 122 => ⟨S128x1, .i32⟩
  | 123 => ⟨S128x1, .i1⟩
  | 124 => ⟨S128x1, .i32⟩
  | 125 => ⟨S128x1, .i32⟩
  | 126 => ⟨S_, .i32⟩
  | 127 => ⟨S128x1, .i32⟩
  | _ => ⟨S8x4096x1024, .f32⟩

abbrev hbmTy0_1 (i : Nat) : BufTy := match i % 128 with
  | 0 => ⟨S128x1, .i1⟩
  | 1 => ⟨S128x1, .i1⟩
  | 2 => ⟨S_, .i32⟩
  | 3 => ⟨S128x1, .i32⟩
  | 4 => ⟨S128x1, .i32⟩
  | 5 => ⟨S128x1, .i32⟩
  | 6 => ⟨S128x128, .i32⟩
  | 7 => ⟨S128x128, .i32⟩
  | 8 => ⟨S128x128, .i1⟩
  | 9 => ⟨S1x128x128, .i1⟩
  | 10 => ⟨S8x128x128, .f32⟩
  | 11 => ⟨S_, .f32⟩
  | 12 => ⟨S_, .f32⟩
  | 13 => ⟨S8x128x128, .i1⟩
  | 14 => ⟨S8x128x128, .f32⟩
  | 15 => ⟨S8x128x128, .f32⟩
  | 16 => ⟨S8x8x32x64x128, .f32⟩
  | 17 => ⟨S8x32x128x8x64, .f32⟩
  | 18 => ⟨S8x128, .f32⟩
  | 19 => ⟨S128x8, .f32⟩
  | 20 => ⟨S1x1x128x8x1, .f32⟩
  | 21 => ⟨S8x32x128x8x64, .f32⟩
  | 22 => ⟨S8x32x128x8x64, .f32⟩
  | 23 => ⟨S8x4096x512, .f32⟩
  | 24 => ⟨S8x4096x512, .f32⟩
  | 25 => ⟨S512, .f32⟩
  | 26 => ⟨S8x4096x512, .f32⟩
  | 27 => ⟨S_, .f32⟩
  | 28 => ⟨S8x4096, .f32⟩
  | 29 => ⟨S8x4096x1, .f32⟩
  | 30 => ⟨S_, .f32⟩
  | 31 => ⟨S8x4096x1, .f32⟩
  | 32 => ⟨S8x4096x1, .f32⟩
  | 33 => ⟨S_, .f32⟩
  | 34 => ⟨S8x4096x1, .f32⟩
  | 35 => ⟨S8x4096x1, .f32⟩
  | 36 => ⟨S8x4096x1, .f32⟩
  | 37 => ⟨S8x4096x512, .f32⟩
  | 38 => ⟨S8x4096x512, .f32⟩
  | 39 => ⟨S1x1x512, .f32⟩
  | 40 => ⟨S8x4096x512, .f32⟩
  | 41 => ⟨S8x4096x512, .f32⟩
  | 42 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_call0_c : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_call0_c_0 : Ref sig .tc := ⟨.hbm, 111, rfl⟩
abbrev main_call0_v12 : Ref sig .tc := ⟨.hbm, 112, rfl⟩
abbrev main_call0_v13 : Ref sig .tc := ⟨.hbm, 113, rfl⟩
abbrev main_v74 : Ref sig .tc := ⟨.hbm, 114, rfl⟩
abbrev main_v75 : Ref sig .tc := ⟨.hbm, 115, rfl⟩
abbrev main_c_12 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_v8 : Ref sig .tc := ⟨.hbm, 125, rfl⟩
abbrev main_call1_c : Ref sig .tc := ⟨.hbm, 126, rfl⟩
abbrev main_call1_v9 : Ref sig .tc := ⟨.hbm, 127, rfl⟩
abbrev main_call1_v10 : Ref sig .tc := ⟨.hbm, 128, rfl⟩
abbrev main_call1_v11 : Ref sig .tc := ⟨.hbm, 129, rfl⟩
abbrev main_call1_c_0 : Ref sig .tc := ⟨.hbm, 130, rfl⟩
abbrev main_call1_v12 : Ref sig .tc := ⟨.hbm, 131, rfl⟩
abbrev main_call1_v13 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_13 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_cst_14 : Ref sig .tc := ⟨.hbm, 155, rfl⟩
abbrev main_v94 : Ref sig .tc := ⟨.hbm, 156, rfl⟩
abbrev main_v95 : Ref sig .tc := ⟨.hbm, 157, rfl⟩
abbrev main_cst_15 : Ref sig .tc := ⟨.hbm, 158, rfl⟩
abbrev main_v96 : Ref sig .tc := ⟨.hbm, 159, rfl⟩
abbrev main_v97 : Ref sig .tc := ⟨.hbm, 160, rfl⟩
abbrev main_cst_16 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩

abbrev nD : Nat := 1
abbrev τ : Topo := Topo.v7x

variable {F : FTy → Type} [FloatOps F]
-- ==== Proof.Steps.lean ====
/- The body of the attention kernel as a list of steps. One grid point handles two heads; each head's block of 512
   queries is handled in two halves of 256 columns. A step either produces a tile of logits, consumes one into the
   running maximum and accumulator, clears these two, or emits a finished block of the output. The printed body is
   the run of `schedule`, step by step. -/
module

public import proofs.«01_k».proof.Proof.Gen.KernelIdeal.Frame.Runs

@[expose] public section

set_option maxRecDepth 16384

noncomputable section

namespace Cert.Proof

open Cert.KernelIdeal Cert.KernelIdeal.Gen Idealize.ShloMosaic Idealize.SL.Sem

variable {F : FTy → Type} [FloatOps F] [Named F]

/-! ## The payloads -/

/-- A tile of logits: 512 keys against 256 queries. -/
def logits (kb : Vec F S1x512x128 .bf16) (qb : Vec F S1x1x1x128x256 .bf16) : FVec F S512x256 .f32 :=
  matmul dot_S512x128_S128x256_S512x256_1_0_0_1_n_n none
    (shapeCast S512x128 kb shapeCasts_S1x512x128_S512x128 : FVec F S512x128 .bf16)
    (shapeCast S128x256 qb shapeCasts_S1x1x1x128x256_S128x256 : FVec F S128x256 .bf16)
    (constant S512x256 .f32 0x00000000#32)

/-- A tile on the diagonal: keys after the query are masked. -/
def masked (c : Fin 2) (s : FVec F S512x256 .f32) : FVec F S512x256 .f32 :=
  select (cmpi .sle (iota .tc S512x256 32 [0] iota_S512x256_d0_w32)
      (addi (iota .tc S512x256 32 [1] iota_S512x256_d1_w32) (broadcast S512x256 (BitVec.ofNat 32 (c.val * 256)))))
    s (broadcast S512x256 (Named.named κ "mask" 0xF149F2CA#32 : F .f32))

/-- The tile as it is stored: masked on the diagonal, as computed elsewhere. -/
def tile (diag : Bool) (c : Fin 2) (kb : Vec F S1x512x128 .bf16) (qb : Vec F S1x1x1x128x256 .bf16) : FVec F S512x256 .f32 :=
  match diag with
  | true => masked c (logits kb qb)
  | false => logits kb qb

/-- The column maxima of a tile. -/
def tileMax (s : FVec F S512x256 .f32) : FVec F S1x1x256 .f32 :=
  shapeCast S1x1x256 (shapeCast S1x256
    (multiReduction .maximumf [0] S256 s 0xFF800000#32 reduces_S512x256_S256 (.inl rfl) rfl) shapeCasts_S256_S1x256)
    shapeCasts_S1x256_S1x1x256

/-- The new running maximum. -/
def newMax (m x : Vec F S1x1x256 .f32) : FVec F S1x256 .f32 :=
  maximumf (shapeCast S1x256 m shapeCasts_S1x1x256_S1x256 : FVec F S1x256 .f32) (shapeCast S1x256 x shapeCasts_S1x1x256_S1x256)

/-- The new accumulator. -/
def newAcc (m x : Vec F S1x1x256 .f32) (s : Vec F S1x512x256 .f32) (a : Vec F S1x80x256 .f32) (vb : Vec F S1x1x1x80x512 .bf16) :
    FVec F S1x80x256 .f32 :=
  shapeCast S1x80x256 (addf
    (mulf (broadcastTo S80x256 (exp2 (subf (shapeCast S1x256 m shapeCasts_S1x1x256_S1x256 : FVec F S1x256 .f32) (newMax m x))) broadcasts_S1x256_S80x256)
      (shapeCast S80x256 a shapeCasts_S1x80x256_S80x256 : FVec F S80x256 .f32))
    (matmul dot_S80x512_S512x256_S80x256_1_0_0_1_n_n none
      (shapeCast S80x512 vb shapeCasts_S1x1x1x80x512_S80x512 : FVec F S80x512 .bf16)
      (truncf .bf16 (exp2 (subf (shapeCast S512x256 s shapeCasts_S1x512x256_S512x256 : FVec F S512x256 .f32)
        (broadcastTo S512x256 (newMax m x) broadcasts_S1x256_S512x256))) bitsLt_bf16_f32)
      (constant S80x256 .f32 0x00000000#32))) shapeCasts_S80x256_S1x80x256

/-- The finished block: the accumulator's first 64 rows over its row 64. -/
def quotient (a : Vec F S1x80x512 .f32) : FVec F S1x1x64x512 .bf16 :=
  shapeCast S1x1x64x512 (truncf .bf16 (divf
    (extractStridedSlice S64x512 ![0, 0] (shapeCast S80x512 a shapeCasts_S1x80x512_S80x512 : FVec F S80x512 .f32) slices_S80x512_o0_0_S64x512)
    (broadcastTo S64x512 (extractStridedSlice S1x512 ![64, 0]
      (shapeCast S80x512 a shapeCasts_S1x80x512_S80x512 : FVec F S80x512 .f32) slices_S80x512_o64_0_S1x512) broadcasts_S1x512_S64x512))
    bitsLt_bf16_f32) shapeCasts_S64x512_S1x1x64x512

/-- The running maxima at the start of a block of queries. -/
def clearMax : FVec F S2x1x512 .f32 :=
  shapeCast S2x1x512 (broadcast S2x1x512 (Named.named κ "mask" 0xF149F2CA#32 : F .f32) : FVec F S2x1x512 .f32) shapeCasts_S2x1x512_S2x1x512

/-- The accumulators at the start of a block of queries. -/
def clearAcc : FVec F S2x80x512 .f32 :=
  shapeCast S2x80x512 (broadcast S2x80x512 (Scalar.ofBits .f32 0x00000000#32 : F .f32) : FVec F S2x80x512 .f32) shapeCasts_S2x80x512_S2x80x512

/-! ## The rectangles are inside their buffers -/

theorem inbK (j : Fin 8) (a : Fin 3) : ![0, j.val * 512, 0] a + S1x512x128.size a ≤ S1x4096x128.size a := by
  revert j a; decide
theorem inbQ (qi : Fin 8) (c : Fin 2) (a : Fin 5) : ![0, 0, qi.val, 0, c.val * 256] a + S1x1x1x128x256.size a ≤ S1x1x8x128x512.size a := by
  revert qi c a; decide
theorem inbV (j : Fin 8) (a : Fin 5) : ![0, 0, j.val, 0, 0] a + S1x1x1x80x512.size a ≤ S1x1x8x80x512.size a := by
  revert j a; decide
theorem inbS (i c : Fin 2) (a : Fin 3) : ![i.val, 0, c.val * 256] a + S1x512x256.size a ≤ S2x512x512.size a := by
  revert i c a; decide
theorem inbX (i c : Fin 2) (a : Fin 3) : ![i.val, 0, c.val * 256] a + S1x1x256.size a ≤ S2x1x512.size a := by
  revert i c a; decide
theorem inbA (i c : Fin 2) (a : Fin 3) : ![i.val, 0, c.val * 256] a + S1x80x256.size a ≤ S2x80x512.size a := by
  revert i c a; decide
theorem inbA' (i : Fin 2) (a : Fin 3) : ![i.val, 0, 0] a + S1x80x512.size a ≤ S2x80x512.size a := by
  revert i a; decide
theorem inbO (qi : Fin 8) (i : Fin 2) (a : Fin 4) : ![0, qi.val, i.val * 64, 0] a + S1x1x64x512.size a ≤ S1x8x128x512.size a := by
  revert qi i a; decide

theorem packedO (qi : Fin 8) (i : Fin 2) :
    (Rect.unit (s := S1x8x128x512) ![0, qi.val, i.val * 64, 0] S1x1x64x512.size (inbO qi i)).PackedRows (EltTy.packing .bf16) := by
  revert qi i; decide

/-! ## The steps -/

/-- One step of the body. -/
inductive Step
  /-- Produce the logits of query block `qi` against key block `j` into a slot. -/
  | produce (qi j : Fin 8) (slot diag : Bool) (i c : Fin 2)
  /-- Consume the tile in a slot, with value block `j`. -/
  | consume (j : Fin 8) (slot : Bool) (i c : Fin 2)
  /-- Clear the running maxima and the accumulators. -/
  | clear
  /-- Emit query block `qi` of head `i`. -/
  | emit (qi : Fin 8) (i : Fin 2)

/-- The four parts of a block: two heads, two halves of the queries. -/
def parts : List (Fin 2 × Fin 2) := [(0, 0), (0, 1), (1, 0), (1, 1)]

/-- One part of an iteration: consume key block `j`, produce the upcoming tile before or after. -/
def partSteps (j : Fin 8) (slot : Bool) (up : Option (Fin 8 × Fin 8 × Bool × Bool)) (i c : Fin 2) : List Step :=
  match up with
  | none => [.consume j slot i c]
  | some (qi', j', slot', diag') =>
    match slot == slot' with
    | true => [.consume j slot i c, .produce qi' j' slot' diag' i c]
    | false => [.produce qi' j' slot' diag' i c, .consume j slot i c]

/-- What is produced while key block `j` of query block `qi` is consumed. -/
def upcoming (qi j : ℕ) : Option (Fin 8 × Fin 8 × Bool × Bool) :=
  bif Nat.blt j qi then some (Fin.ofNat 8 qi, Fin.ofNat 8 (j + 1), Nat.beq ((j + 1) % 2) 1, Nat.beq (j + 1) qi)
  else bif Nat.blt (qi + 1) 8 then some (Fin.ofNat 8 (qi + 1), 0, false, false)
  else none

/-- The iteration for key block `j` of query block `qi`. -/
def iterSteps (qi j : ℕ) : List Step :=
  parts.flatMap fun p => partSteps (Fin.ofNat 8 j) (Nat.beq (j % 2) 1) (upcoming qi j) p.1 p.2

/-- Query block `qi`. -/
def rowSteps (qi : ℕ) : List Step :=
  [.clear] ++ (List.range (qi + 1)).flatMap (iterSteps qi) ++ [.emit (Fin.ofNat 8 qi) 0, .emit (Fin.ofNat 8 qi) 1]

/-- The whole body. -/
def schedule : List Step :=
  (parts.map fun p => .produce 0 0 false true p.1 p.2) ++ (List.range 8).flatMap rowSteps

/-- The buffers of a grid point: six inputs, the output, six scratch buffers. -/
structure Args where
  q : Fin 2 → Memref sig .tc .vmem S1x1x8x128x512 .bf16
  k : Fin 2 → Memref sig .tc .vmem S1x4096x128 .bf16
  v : Fin 2 → Memref sig .tc .vmem S1x1x8x80x512 .bf16
  o : Memref sig .tc .vmem S1x8x128x512 .bf16
  ho : o.IsWhole
  s : Bool → Memref sig .tc .vmem S2x512x512 .f32
  x : Bool → Memref sig .tc .vmem S2x1x512 .f32
  m : Memref sig .tc .vmem S2x1x512 .f32
  a : Memref sig .tc .vmem S2x80x512 .f32

/-- A program of the kernel body. -/
abbrev BodyProg (F : FTy → Type) [FloatOps F] := Prog (TpuEff nD τ sig (Elt F) Λ₀ .tc) PUnit

/-- The output's blocks are whole words. -/
theorem storesO (A : Args) (qi : Fin 8) (i : Fin 2) :
    (A.o.access (Rect.unit (s := S1x8x128x512) ![0, qi.val, i.val * 64, 0] S1x1x64x512.size (inbO qi i))).Stores Finset.univ :=
  View.stores_vmem h_S1x1x64x512 (A.ho.storeExact_slice rfl _ (packedO qi i)) (fun _ => rfl)

/-- A step as a program. -/
def Step.prog (A : Args) : Step → BodyProg F
  | .produce qi j slot diag i c => do
    let kb : Vec F S1x512x128 .bf16 ← Prog.lift (.load (A.k i) (Rect.unit (s := S1x4096x128) ![0, j.val * 512, 0] S1x512x128.size (inbK j)).toLoadRect (View.loadsAt_vmem h_S1x512x128))
    let qb : Vec F S1x1x1x128x256 .bf16 ← Prog.lift (.load (A.q i) (Rect.unit (s := S1x1x8x128x512) ![0, 0, qi.val, 0, c.val * 256] S1x1x1x128x256.size (inbQ qi c)).toLoadRect (View.loadsAt_vmem h_S1x1x1x128x256))
    let _ : Vec F S1x512x256 .f32 ← Prog.lift (.load (A.s slot) (Rect.unit (s := S2x512x512) ![i.val, 0, c.val * 256] S1x512x256.size (inbS i c)).toLoadRect (View.loadsAt_vmem h_S1x512x256))
    Prog.lift (.store (A.s slot) (Rect.unit (s := S2x512x512) ![i.val, 0, c.val * 256] S1x512x256.size (inbS i c))
      (shapeCast S1x512x256 (tile diag c kb qb) shapeCasts_S512x256_S1x512x256 : FVec F S1x512x256 .f32) Finset.univ (View.stores_vmem_bits_univ h_S1x512x256 rfl) (.inl rfl))
    let _ : Vec F S1x1x256 .f32 ← Prog.lift (.load (A.x slot) (Rect.unit (s := S2x1x512) ![i.val, 0, c.val * 256] S1x1x256.size (inbX i c)).toLoadRect (View.loadsAt_vmem h_S1x1x256))
    Prog.lift (.store (A.x slot) (Rect.unit (s := S2x1x512) ![i.val, 0, c.val * 256] S1x1x256.size (inbX i c))
      (tileMax (tile diag c kb qb)) Finset.univ (View.stores_vmem_bits_univ h_S1x1x256 rfl) (.inl rfl))
  | .consume j slot i c => do
    let m : Vec F S1x1x256 .f32 ← Prog.lift (.load A.m (Rect.unit (s := S2x1x512) ![i.val, 0, c.val * 256] S1x1x256.size (inbX i c)).toLoadRect (View.loadsAt_vmem h_S1x1x256))
    let x : Vec F S1x1x256 .f32 ← Prog.lift (.load (A.x slot) (Rect.unit (s := S2x1x512) ![i.val, 0, c.val * 256] S1x1x256.size (inbX i c)).toLoadRect (View.loadsAt_vmem h_S1x1x256))
    let s : Vec F S1x512x256 .f32 ← Prog.lift (.load (A.s slot) (Rect.unit (s := S2x512x512) ![i.val, 0, c.val * 256] S1x512x256.size (inbS i c)).toLoadRect (View.loadsAt_vmem h_S1x512x256))
    let _ : Vec F S1x1x256 .f32 ← Prog.lift (.load A.m (Rect.unit (s := S2x1x512) ![i.val, 0, c.val * 256] S1x1x256.size (inbX i c)).toLoadRect (View.loadsAt_vmem h_S1x1x256))
    Prog.lift (.store A.m (Rect.unit (s := S2x1x512) ![i.val, 0, c.val * 256] S1x1x256.size (inbX i c))
      (shapeCast S1x1x256 (newMax m x) shapeCasts_S1x256_S1x1x256 : FVec F S1x1x256 .f32) Finset.univ (View.stores_vmem_bits_univ h_S1x1x256 rfl) (.inl rfl))
    let a : Vec F S1x80x256 .f32 ← Prog.lift (.load A.a (Rect.unit (s := S2x80x512) ![i.val, 0, c.val * 256] S1x80x256.size (inbA i c)).toLoadRect (View.loadsAt_vmem h_S1x80x256))
    let vb : Vec F S1x1x1x80x512 .bf16 ← Prog.lift (.load (A.v i) (Rect.unit (s := S1x1x8x80x512) ![0, 0, j.val, 0, 0] S1x1x1x80x512.size (inbV j)).toLoadRect (View.loadsAt_vmem h_S1x1x1x80x512))
    let _ : Vec F S1x80x256 .f32 ← Prog.lift (.load A.a (Rect.unit (s := S2x80x512) ![i.val, 0, c.val * 256] S1x80x256.size (inbA i c)).toLoadRect (View.loadsAt_vmem h_S1x80x256))
    Prog.lift (.store A.a (Rect.unit (s := S2x80x512) ![i.val, 0, c.val * 256] S1x80x256.size (inbA i c))
      (newAcc m x s a vb) Finset.univ (View.stores_vmem_bits_univ h_S1x80x256 rfl) (.inl rfl))
  | .clear => do
    let _ : Vec F S2x1x512 .f32 ← Prog.lift (.load A.m (Rect.unit (s := S2x1x512) ![0, 0, 0] S2x1x512.size inb_S2x1x512_S2x1x512_0_0_0).toLoadRect (View.loadsAt_vmem h_S2x1x512))
    Prog.lift (.store A.m (Rect.unit (s := S2x1x512) ![0, 0, 0] S2x1x512.size inb_S2x1x512_S2x1x512_0_0_0) (clearMax (F := F)) Finset.univ (View.stores_vmem_bits_univ h_S2x1x512 rfl) (.inl rfl))
    let _ : Vec F S2x80x512 .f32 ← Prog.lift (.load A.a (Rect.unit (s := S2x80x512) ![0, 0, 0] S2x80x512.size inb_S2x80x512_S2x80x512_0_0_0).toLoadRect (View.loadsAt_vmem h_S2x80x512))
    Prog.lift (.store A.a (Rect.unit (s := S2x80x512) ![0, 0, 0] S2x80x512.size inb_S2x80x512_S2x80x512_0_0_0) (clearAcc (F := F)) Finset.univ (View.stores_vmem_bits_univ h_S2x80x512 rfl) (.inl rfl))
  | .emit qi i => do
    let a : Vec F S1x80x512 .f32 ← Prog.lift (.load A.a (Rect.unit (s := S2x80x512) ![i.val, 0, 0] S1x80x512.size (inbA' i)).toLoadRect (View.loadsAt_vmem h_S1x80x512))
    let _ : Vec F S1x1x64x512 .bf16 ← Prog.lift (.load A.o (Rect.unit (s := S1x8x128x512) ![0, qi.val, i.val * 64, 0] S1x1x64x512.size (inbO qi i)).toLoadRect (View.loadsAt_vmem h_S1x1x64x512))
    Prog.lift (.store A.o (Rect.unit (s := S1x8x128x512) ![0, qi.val, i.val * 64, 0] S1x1x64x512.size (inbO qi i)) (quotient a) Finset.univ (storesO A qi i) (.inl rfl))

/-- A list of steps as a program. -/
def runSteps (A : Args) : List Step → BodyProg F
  | [] => pure ⟨⟩
  | s :: l => do s.prog A; runSteps A l

/-- The printed body is the run of the schedule. -/
theorem body_eq (i : grid0.Coords) (arg2 : Memref sig .tc .vmem S1x1x8x128x512 .bf16) (harg2 : arg2.IsWhole) (arg3 : Memref sig .tc .vmem S1x1x8x128x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x80x512 .bf16) (harg6 : arg6.IsWhole) (arg7 : Memref sig .tc .vmem S1x1x8x80x512 .bf16) (harg7 : arg7.IsWhole) (arg8 : Memref sig .tc .vmem S1x8x128x512 .bf16) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x1x512 .f32) (harg11 : arg11.IsWhole) (arg12 : Memref sig .tc .vmem S2x1x512 .f32) (harg12 : arg12.IsWhole) (arg13 : Memref sig .tc .vmem S2x1x512 .f32) (harg13 : arg13.IsWhole) (arg14 : Memref sig .tc .vmem S2x80x512 .f32) (harg14 : arg14.IsWhole) :
    cc0_attn (F := F) i arg2 harg2 arg3 harg3 arg4 harg4 arg5 harg5 arg6 harg6 arg7 harg7 arg8 harg8 arg9 harg9 arg10 harg10 arg11 harg11 arg12 harg12 arg13 harg13 arg14 harg14
      = runSteps ⟨![arg2, arg3], ![arg4, arg5], ![arg6, arg7], arg8, harg8, (bif · then arg10 else arg9), (bif · then arg12 else arg11), arg13, arg14⟩ schedule := by
  sl_kernel_rfl

end Cert.Proof

end
-- ==== Proof.Run.lean ====
/- What the steps do to the buffers. The contents of the output and of the scratch buffers form a state; a step
   changes it by reading windows and putting windows; and the program of a list of steps, run on buffers that hold a
   state, leaves them at the state the steps lead to. -/
module

public import proofs.«01_k».proof.Proof.Steps
public import Idealize.ShloMosaic.Lib.VecWindow

@[expose] public section

set_option maxRecDepth 16384

noncomputable section

namespace Cert.Proof

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Named F]

local notation "𝕄" => MT nD τ sig Unit (Elt F) ℕ (UR sig nD τ) ℕ

/-! ## One load, one store, on a memref owned at its contents -/

/-- A load at a unit-stride rectangle reads a window of the contents. -/
theorem wp_load_owns (c : Dev nD) (E : Set ℕ) {β : Type} {s : Shape} {e : EltTy} (m : Memref sig .tc .vmem s e) (q : PosShare TreeShare) (X : s.Idx → Elt F e)
    {off size : Fin s.rank → ℕ} (inb : ∀ a, off a + size a ≤ s.size a) (hl : m.view.LoadsAt (Rect.unit off size inb).toLoadRect)
    (k : ((Rect.unit off size inb).shape.Idx → Elt F e) → Prog (TpuEff nD τ sig (Elt F) Λ₀ .tc) β) (Q : β → sProp 𝕄) :
    (owns (c : Thread nD τ) m q X : sProp 𝕄)
      ⊢ iprop((owns (c : Thread nD τ) m q X -∗ wp frame (wpE (defs₀ (F := F)) Variants.none c none) E (k (window X off size inb)) Q)
        -∗ wp frame (wpE (defs₀ (F := F)) Variants.none c none) E (Prog.lift (.load m (Rect.unit off size inb).toLoadRect hl) >>= k) Q) := by
  unfold owns
  iintro ⟨%f, %hf, H⟩ Hk
  iapply (wp_load (defs := defs₀ (F := F)) Variants.none (c : Thread nD τ) none E (m := m) (r := (Rect.unit off size inb).toLoadRect) (hl := hl)
    (q := q) (f := f) (S := m.view.set) (k := k) (Q := Q) (m.view.setOn_subset_set _)) $$ H
  iintro H
  rw [View.readAt_unit m.view f inb rfl inb, hf]
  iapply Hk
  iexists f; isplitr
  · ipureintro; exact hf
  iexact H

/-- An unmasked store at a unit-stride rectangle puts a window over the contents. -/
theorem wp_store_owns (c : Dev nD) (E : Set ℕ) {β : Type} {s : Shape} {e : EltTy} (m : Memref sig .tc .vmem s e) (X : s.Idx → Elt F e)
    {off size : Fin s.rank → ℕ} (inb : ∀ a, off a + size a ≤ s.size a) (w : (Rect.unit off size inb).shape.Idx → Elt F e)
    (hx : (m.access (Rect.unit off size inb)).Stores Finset.univ) (hm)
    (k : PUnit → Prog (TpuEff nD τ sig (Elt F) Λ₀ .tc) β) (Q : β → sProp 𝕄) :
    (owns (c : Thread nD τ) m fullShare X : sProp 𝕄)
      ⊢ iprop((owns (c : Thread nD τ) m fullShare (put X off size w) -∗ wp frame (wpE (defs₀ (F := F)) Variants.none c none) E (k ⟨⟩) Q)
        -∗ wp frame (wpE (defs₀ (F := F)) Variants.none c none) E (Prog.lift (.store m (Rect.unit off size inb) w Finset.univ hx hm) >>= k) Q) := by
  unfold owns
  iintro ⟨%f, %hf, H⟩ Hk
  iapply (wp_store (defs := defs₀ (F := F)) Variants.none (c : Thread nD τ) none E (m := m) (r := Rect.unit off size inb) (w := w) (Mk := Finset.univ)
    (hx := hx) (hm := hm) (f := f) (S := m.view.set) (k := k) (Q := Q) (by rw [View.setOn_univ]; exact View.set_slice_subset _ _)) $$ H
  iintro H
  iapply Hk
  iexists _; isplitr
  swap; · iexact H
  ipureintro
  rw [← hf]
  exact View.read_writes_cons_put m.view f inb w [] rfl

/-- The store that ends a program. -/
theorem wp_store_last (c : Dev nD) (E : Set ℕ) {s : Shape} {e : EltTy} (m : Memref sig .tc .vmem s e) (X : s.Idx → Elt F e)
    {off size : Fin s.rank → ℕ} (inb : ∀ a, off a + size a ≤ s.size a) (w : (Rect.unit off size inb).shape.Idx → Elt F e)
    (hx : (m.access (Rect.unit off size inb)).Stores Finset.univ) (hm) (Q : PUnit → sProp 𝕄) :
    (owns (c : Thread nD τ) m fullShare X : sProp 𝕄)
      ⊢ iprop((owns (c : Thread nD τ) m fullShare (put X off size w) -∗ Q ⟨⟩)
        -∗ wp frame (wpE (defs₀ (F := F)) Variants.none c none) E (Prog.lift (.store m (Rect.unit off size inb) w Finset.univ hx hm)) Q) := by
  iintro H Hk
  iapply (wp_store_owns c E m X inb w hx hm (fun u => .ret u) Q) $$ H
  iintro H
  iapply (le_wp_ret _ _ _ PUnit.unit Q)
  iapply Hk
  iexact H

/-! ## States -/

/-- The inputs of a grid point: per head, the queries, the keys and the values. -/
structure Inp (F : FTy → Type) where
  q : Fin 2 → Vec F S1x1x8x128x512 .bf16
  k : Fin 2 → Vec F S1x4096x128 .bf16
  v : Fin 2 → Vec F S1x1x8x80x512 .bf16

/-- The contents of the output and of the scratch buffers. -/
structure St (F : FTy → Type) where
  o : Vec F S1x8x128x512 .bf16
  s : Bool → Vec F S2x512x512 .f32
  x : Bool → Vec F S2x1x512 .f32
  m : Vec F S2x1x512 .f32
  a : Vec F S2x80x512 .f32

/-- The state after a step. -/
def Step.next (I : Inp F) (σ : St F) : Step → St F
  | .produce qi j slot diag i c =>
    let kb : Vec F S1x512x128 .bf16 := window (I.k i) ![0, j.val * 512, 0] S1x512x128.size (inbK j)
    let qb : Vec F S1x1x1x128x256 .bf16 := window (I.q i) ![0, 0, qi.val, 0, c.val * 256] S1x1x1x128x256.size (inbQ qi c)
    { σ with
      s := Function.update σ.s slot (put (σ.s slot) ![i.val, 0, c.val * 256] S1x512x256.size
        (shapeCast S1x512x256 (tile diag c kb qb) shapeCasts_S512x256_S1x512x256 : FVec F S1x512x256 .f32))
      x := Function.update σ.x slot (put (σ.x slot) ![i.val, 0, c.val * 256] S1x1x256.size (tileMax (tile diag c kb qb))) }
  | .consume j slot i c =>
    let m : Vec F S1x1x256 .f32 := window σ.m ![i.val, 0, c.val * 256] S1x1x256.size (inbX i c)
    let x : Vec F S1x1x256 .f32 := window (σ.x slot) ![i.val, 0, c.val * 256] S1x1x256.size (inbX i c)
    let s : Vec F S1x512x256 .f32 := window (σ.s slot) ![i.val, 0, c.val * 256] S1x512x256.size (inbS i c)
    let a : Vec F S1x80x256 .f32 := window σ.a ![i.val, 0, c.val * 256] S1x80x256.size (inbA i c)
    let vb : Vec F S1x1x1x80x512 .bf16 := window (I.v i) ![0, 0, j.val, 0, 0] S1x1x1x80x512.size (inbV j)
    { σ with
      m := put σ.m ![i.val, 0, c.val * 256] S1x1x256.size (shapeCast S1x1x256 (newMax m x) shapeCasts_S1x256_S1x1x256 : FVec F S1x1x256 .f32)
      a := put σ.a ![i.val, 0, c.val * 256] S1x80x256.size (newAcc m x s a vb) }
  | .clear =>
    { σ with
      m := put σ.m ![0, 0, 0] S2x1x512.size (clearMax (F := F))
      a := put σ.a ![0, 0, 0] S2x80x512.size (clearAcc (F := F)) }
  | .emit qi i =>
    let a : Vec F S1x80x512 .f32 := window σ.a ![i.val, 0, 0] S1x80x512.size (inbA' i)
    { σ with o := put σ.o ![0, qi.val, i.val * 64, 0] S1x1x64x512.size (quotient a) }

/-- The inputs, owned. -/
def ownIn (c : Dev nD) (A : Args) (I : Inp F) : sProp 𝕄 :=
  iprop(owns (c : Thread nD τ) (A.q 0) fullShare (I.q 0) ∗ owns (c : Thread nD τ) (A.q 1) fullShare (I.q 1)
    ∗ owns (c : Thread nD τ) (A.k 0) fullShare (I.k 0) ∗ owns (c : Thread nD τ) (A.k 1) fullShare (I.k 1)
    ∗ owns (c : Thread nD τ) (A.v 0) fullShare (I.v 0) ∗ owns (c : Thread nD τ) (A.v 1) fullShare (I.v 1))

/-- The output and the scratch buffers, owned at a state. -/
def ownSt (c : Dev nD) (A : Args) (σ : St F) : sProp 𝕄 :=
  iprop(owns (c : Thread nD τ) A.o fullShare σ.o
    ∗ owns (c : Thread nD τ) (A.s false) fullShare (σ.s false) ∗ owns (c : Thread nD τ) (A.s true) fullShare (σ.s true)
    ∗ owns (c : Thread nD τ) (A.x false) fullShare (σ.x false) ∗ owns (c : Thread nD τ) (A.x true) fullShare (σ.x true)
    ∗ owns (c : Thread nD τ) A.m fullShare σ.m ∗ owns (c : Thread nD τ) A.a fullShare σ.a)

/-- Producing a tile, on the four buffers it touches. -/
theorem wp_produce (c : Dev nD) (A : Args) (I : Inp F) (σ : St F) (qi j : Fin 8) (slot diag : Bool) (i h : Fin 2) (Q : PUnit → sProp 𝕄) :
    iprop(owns (c : Thread nD τ) (A.k i) fullShare (I.k i) ∗ owns (c : Thread nD τ) (A.q i) fullShare (I.q i)
        ∗ owns (c : Thread nD τ) (A.s slot) fullShare (σ.s slot) ∗ owns (c : Thread nD τ) (A.x slot) fullShare (σ.x slot))
      ⊢ iprop((owns (c : Thread nD τ) (A.k i) fullShare (I.k i) ∗ owns (c : Thread nD τ) (A.q i) fullShare (I.q i)
          ∗ owns (c : Thread nD τ) (A.s slot) fullShare ((Step.produce qi j slot diag i h).next I σ |>.s slot)
          ∗ owns (c : Thread nD τ) (A.x slot) fullShare ((Step.produce qi j slot diag i h).next I σ |>.x slot) -∗ Q ⟨⟩)
        -∗ wp frame (wpE (defs₀ (F := F)) Variants.none c none) Set.univ ((Step.produce qi j slot diag i h).prog A) Q) := by
  unfold Step.prog Step.next
  dsimp only
  rw [Function.update_self, Function.update_self]
  iintro ⟨H1, H2, H3, H4⟩ Hk
  iapply (wp_load_owns c _ (A.k i) fullShare (I.k i) _ _ _ Q) $$ H1
  iintro H1
  iapply (wp_load_owns c _ (A.q i) fullShare (I.q i) _ _ _ Q) $$ H2
  iintro H2
  iapply (wp_load_owns c _ (A.s slot) fullShare (σ.s slot) _ _ _ Q) $$ H3
  iintro H3
  iapply (wp_store_owns c _ (A.s slot) (σ.s slot) _ _ _ _ _ Q) $$ H3
  iintro H3
  iapply (wp_load_owns c _ (A.x slot) fullShare (σ.x slot) _ _ _ Q) $$ H4
  iintro H4
  iapply (wp_store_last c _ (A.x slot) (σ.x slot) _ _ _ _ Q) $$ H4
  iintro H4
  iapply Hk
  iframe

/-- Consuming a tile, on the five buffers it touches. -/
theorem wp_consume (c : Dev nD) (A : Args) (I : Inp F) (σ : St F) (j : Fin 8) (slot : Bool) (i h : Fin 2) (Q : PUnit → sProp 𝕄) :
    iprop(owns (c : Thread nD τ) (A.v i) fullShare (I.v i) ∗ owns (c : Thread nD τ) (A.s slot) fullShare (σ.s slot)
        ∗ owns (c : Thread nD τ) (A.x slot) fullShare (σ.x slot) ∗ owns (c : Thread nD τ) A.m fullShare σ.m
        ∗ owns (c : Thread nD τ) A.a fullShare σ.a)
      ⊢ iprop((owns (c : Thread nD τ) (A.v i) fullShare (I.v i) ∗ owns (c : Thread nD τ) (A.s slot) fullShare (σ.s slot)
          ∗ owns (c : Thread nD τ) (A.x slot) fullShare (σ.x slot)
          ∗ owns (c : Thread nD τ) A.m fullShare ((Step.consume j slot i h).next I σ).m
          ∗ owns (c : Thread nD τ) A.a fullShare ((Step.consume j slot i h).next I σ).a -∗ Q ⟨⟩)
        -∗ wp frame (wpE (defs₀ (F := F)) Variants.none c none) Set.univ ((Step.consume j slot i h).prog A) Q) := by
  unfold Step.prog Step.next
  dsimp only
  iintro ⟨Hv, Hs, Hx, Hm, Ha⟩ Hk
  iapply (wp_load_owns c _ A.m fullShare σ.m _ _ _ Q) $$ Hm
  iintro Hm
  iapply (wp_load_owns c _ (A.x slot) fullShare (σ.x slot) _ _ _ Q) $$ Hx
  iintro Hx
  iapply (wp_load_owns c _ (A.s slot) fullShare (σ.s slot) _ _ _ Q) $$ Hs
  iintro Hs
  iapply (wp_load_owns c _ A.m fullShare σ.m _ _ _ Q) $$ Hm
  iintro Hm
  iapply (wp_store_owns c _ A.m σ.m _ _ _ _ _ Q) $$ Hm
  iintro Hm
  iapply (wp_load_owns c _ A.a fullShare σ.a _ _ _ Q) $$ Ha
  iintro Ha
  iapply (wp_load_owns c _ (A.v i) fullShare (I.v i) _ _ _ Q) $$ Hv
  iintro Hv
  iapply (wp_load_owns c _ A.a fullShare σ.a _ _ _ Q) $$ Ha
  iintro Ha
  iapply (wp_store_last c _ A.a σ.a _ _ _ _ Q) $$ Ha
  iintro Ha
  iapply Hk
  iframe

/-- A step's program leaves the buffers at the next state. -/
theorem wp_step (c : Dev nD) (A : Args) (I : Inp F) (σ : St F) (s : Step) (Q : PUnit → sProp 𝕄) :
    iprop(ownIn c A I ∗ ownSt c A σ)
      ⊢ iprop((ownIn c A I ∗ ownSt c A (s.next I σ) -∗ Q ⟨⟩) -∗ wp frame (wpE (defs₀ (F := F)) Variants.none c none) Set.univ (s.prog A) Q) := by
  unfold ownIn ownSt
  iintro ⟨⟨Hq0, Hq1, Hk0, Hk1, Hv0, Hv1⟩, Ho, Hs0, Hs1, Hx0, Hx1, Hm, Ha⟩ Hk
  cases s with
  | produce qi j slot diag i h =>
    have hs (b : Bool) (hb : b ≠ slot) : ((Step.produce qi j slot diag i h).next I σ).s b = σ.s b := Function.update_of_ne hb _ _
    have hx (b : Bool) (hb : b ≠ slot) : ((Step.produce qi j slot diag i h).next I σ).x b = σ.x b := Function.update_of_ne hb _ _
    have ho : ((Step.produce qi j slot diag i h).next I σ).o = σ.o := rfl
    have hm : ((Step.produce qi j slot diag i h).next I σ).m = σ.m := rfl
    have ha : ((Step.produce qi j slot diag i h).next I σ).a = σ.a := rfl
    rw [ho, hm, ha]
    obtain rfl | rfl : i = 0 ∨ i = 1 := by omega
    · cases slot
      · rw [hs true (by decide), hx true (by decide)]
        iapply (wp_produce c A I σ qi j false diag 0 h Q) $$ [Hk0 Hq0 Hs0 Hx0]
        · iframe
        iintro ⟨Hk0, Hq0, Hs0, Hx0⟩
        iapply Hk; iframe
      · rw [hs false (by decide), hx false (by decide)]
        iapply (wp_produce c A I σ qi j true diag 0 h Q) $$ [Hk0 Hq0 Hs1 Hx1]
        · iframe
        iintro ⟨Hk0, Hq0, Hs1, Hx1⟩
        iapply Hk; iframe
    · cases slot
      · rw [hs true (by decide), hx true (by decide)]
        iapply (wp_produce c A I σ qi j false diag 1 h Q) $$ [Hk1 Hq1 Hs0 Hx0]
        · iframe
        iintro ⟨Hk1, Hq1, Hs0, Hx0⟩
        iapply Hk; iframe
      · rw [hs false (by decide), hx false (by decide)]
        iapply (wp_produce c A I σ qi j true diag 1 h Q) $$ [Hk1 Hq1 Hs1 Hx1]
        · iframe
        iintro ⟨Hk1, Hq1, Hs1, Hx1⟩
        iapply Hk; iframe
  | consume j slot i h =>
    have ho : ((Step.consume j slot i h).next I σ).o = σ.o := rfl
    have hs : ((Step.consume j slot i h).next I σ).s = σ.s := rfl
    have hx : ((Step.consume j slot i h).next I σ).x = σ.x := rfl
    rw [ho, hs, hx]
    obtain rfl | rfl : i = 0 ∨ i = 1 := by omega
    · cases slot
      · iapply (wp_consume c A I σ j false 0 h Q) $$ [Hv0 Hs0 Hx0 Hm Ha]
        · iframe
        iintro ⟨Hv0, Hs0, Hx0, Hm, Ha⟩
        iapply Hk; iframe
      · iapply (wp_consume c A I σ j true 0 h Q) $$ [Hv0 Hs1 Hx1 Hm Ha]
        · iframe
        iintro ⟨Hv0, Hs1, Hx1, Hm, Ha⟩
        iapply Hk; iframe
    · cases slot
      · iapply (wp_consume c A I σ j false 1 h Q) $$ [Hv1 Hs0 Hx0 Hm Ha]
        · iframe
        iintro ⟨Hv1, Hs0, Hx0, Hm, Ha⟩
        iapply Hk; iframe
      · iapply (wp_consume c A I σ j true 1 h Q) $$ [Hv1 Hs1 Hx1 Hm Ha]
        · iframe
        iintro ⟨Hv1, Hs1, Hx1, Hm, Ha⟩
        iapply Hk; iframe
  | clear =>
    unfold Step.prog Step.next
    iapply (wp_load_owns c _ A.m fullShare σ.m _ _ _ Q) $$ Hm
    iintro Hm
    iapply (wp_store_owns c _ A.m σ.m _ _ _ _ _ Q) $$ Hm
    iintro Hm
    iapply (wp_load_owns c _ A.a fullShare σ.a _ _ _ Q) $$ Ha
    iintro Ha
    iapply (wp_store_last c _ A.a σ.a _ _ _ _ Q) $$ Ha
    iintro Ha
    iapply Hk
    iframe
  | emit qi i =>
    unfold Step.prog Step.next
    dsimp only
    iapply (wp_load_owns c _ A.a fullShare σ.a _ _ _ Q) $$ Ha
    iintro Ha
    iapply (wp_load_owns c _ A.o fullShare σ.o _ _ _ Q) $$ Ho
    iintro Ho
    iapply (wp_store_last c _ A.o σ.o _ _ _ _ Q) $$ Ho
    iintro Ho
    iapply Hk
    iframe

/-- A list of steps run in order. -/
theorem wp_runSteps (c : Dev nD) (A : Args) (I : Inp F) (l : List Step) (σ : St F) (Q : PUnit → sProp 𝕄) :
    iprop(ownIn c A I ∗ ownSt c A σ)
      ⊢ iprop((ownIn c A I ∗ ownSt c A (l.foldl (fun σ s => s.next I σ) σ) -∗ Q ⟨⟩)
        -∗ wp frame (wpE (defs₀ (F := F)) Variants.none c none) Set.univ (runSteps A l) Q) := by
  induction l generalizing σ with
  | nil =>
    iintro H Hk
    iapply (le_wp_ret _ _ _ PUnit.unit Q)
    iapply Hk
    iexact H
  | cons s l ih =>
    iintro H Hk
    unfold runSteps
    rw [wp_bind]
    iapply (wp_step c A I σ s _) $$ H
    iintro H
    iapply (ih (s.next I σ)) $$ H
    iexact Hk

end Cert.Proof

end
-- ==== Proof.Part.lean ====
/- One part of the state at a time. A part is one head and one half of its 512 queries. A step of another part leaves a
   part as it is, so a part sees a shorter list of steps, the same for every part; and along that list its running
   maximum and accumulator, over a block of queries, are the consumptions of the key blocks in order. -/
module

public import proofs.«01_k».proof.Proof.Run
public import Idealize.ShloMosaic.Lib.Pointwise

@[expose] public section

set_option maxRecDepth 16384

noncomputable section

namespace Cert.Proof

open Cert.KernelIdeal Cert.KernelIdeal.Gen Idealize.ShloMosaic Idealize.SL.Sem
open VecWindow

variable {F : FTy → Type} [FloatOps F] [Named F]

/-! ## Parts -/

/-- What the state holds of one head and one half of the queries. -/
structure Part (F : FTy → Type) where
  s : Bool → Vec F S1x512x256 .f32
  x : Bool → Vec F S1x1x256 .f32
  m : Vec F S1x1x256 .f32
  a : Vec F S1x80x256 .f32
  o : Fin 8 → Fin 64 → Fin 256 → F .bf16

/-- An index of the output block: a query block, a head and a lane, a half and a query. -/
def oidx (i c : Fin 2) (qi : Fin 8) (d : Fin 64) (y : Fin 256) : S1x8x128x512.Idx :=
  ix4 0 qi ⟨i.val * 64 + d.val, by omega⟩ ⟨c.val * 256 + y.val, by omega⟩

/-- A part of a state. -/
def part (i c : Fin 2) (σ : St F) : Part F where
  s b := window (σ.s b) ![i.val, 0, c.val * 256] S1x512x256.size (inbS i c)
  x b := window (σ.x b) ![i.val, 0, c.val * 256] S1x1x256.size (inbX i c)
  m := window σ.m ![i.val, 0, c.val * 256] S1x1x256.size (inbX i c)
  a := window σ.a ![i.val, 0, c.val * 256] S1x80x256.size (inbA i c)
  o qi d y := σ.o (oidx i c qi d y)

/-- What a part reads of the inputs: blocks of keys, of queries, of values. -/
structure PInp (F : FTy → Type) where
  k : Fin 8 → Vec F S1x512x128 .bf16
  q : Fin 8 → Vec F S1x1x1x128x256 .bf16
  v : Fin 8 → Vec F S1x1x1x80x512 .bf16

/-- A part of the inputs. -/
def pinp (i c : Fin 2) (I : Inp F) : PInp F where
  k j := window (I.k i) ![0, j.val * 512, 0] S1x512x128.size (inbK j)
  q qi := window (I.q i) ![0, 0, qi.val, 0, c.val * 256] S1x1x1x128x256.size (inbQ qi c)
  v j := window (I.v i) ![0, 0, j.val, 0, 0] S1x1x1x80x512.size (inbV j)

/-- A step as a part sees it. -/
inductive PStep
  /-- Produce a tile of logits into a slot. -/
  | produce (qi j : Fin 8) (slot diag : Bool)
  /-- Consume the tile in a slot. -/
  | consume (j : Fin 8) (slot : Bool)
  /-- Clear the running maximum and the accumulator. -/
  | clear
  /-- Emit a block of queries. -/
  | emit (qi : Fin 8)

/-- What a part sees of a step. -/
def restrict (i c : Fin 2) : Step → Option PStep
  | .produce qi j slot diag i' c' => bif decide (i' = i) && decide (c' = c) then some (.produce qi j slot diag) else none
  | .consume j slot i' c' => bif decide (i' = i) && decide (c' = c) then some (.consume j slot) else none
  | .clear => some .clear
  | .emit qi i' => bif decide (i' = i) then some (.emit qi) else none

/-- The running maximum of a part at the start of a block of queries. -/
def clearM : Vec F S1x1x256 .f32 := fun _ => (Named.named κ "mask" 0xF149F2CA#32 : F .f32)
/-- The accumulator of a part at the start of a block of queries. -/
def clearA : Vec F S1x80x256 .f32 := fun _ => (Scalar.ofBits .f32 0x00000000#32 : F .f32)

/-- A part after a step. -/
def PStep.next (c : Fin 2) (I : PInp F) (P : Part F) : PStep → Part F
  | .produce qi j slot diag =>
    { P with
      s := Function.update P.s slot (shapeCast S1x512x256 (tile diag c (I.k j) (I.q qi)) shapeCasts_S512x256_S1x512x256 : FVec F S1x512x256 .f32)
      x := Function.update P.x slot (tileMax (tile diag c (I.k j) (I.q qi))) }
  | .consume j slot =>
    { P with
      m := (shapeCast S1x1x256 (newMax P.m (P.x slot)) shapeCasts_S1x256_S1x1x256 : FVec F S1x1x256 .f32)
      a := newAcc P.m (P.x slot) (P.s slot) P.a (I.v j) }
  | .clear => { P with m := clearM, a := clearA }
  | .emit qi =>
    { P with
      o := Function.update P.o qi fun d y =>
        FloatOps.truncf .bf16 bitsLt_bf16_f32 (FloatOps.divf (P.a (ix3 0 ⟨d.val, by omega⟩ y)) (P.a (ix3 0 64 y))) }

/-- What a part sees of a step of its own. -/
theorem restrict_produce_self (i c : Fin 2) (qi j : Fin 8) (slot diag : Bool) :
    restrict i c (.produce qi j slot diag i c) = some (.produce qi j slot diag) := by simp [restrict]

section
variable {α : Type} {i c i' c' : Fin 2}

/-- A window of another part does not see a put into the logits. -/
theorem window_put_S (h : ¬ (i' = i ∧ c' = c)) (X : S2x512x512.Idx → α) (w) :
    window (put X ![i'.val, 0, c'.val * 256] S1x512x256.size w) ![i.val, 0, c.val * 256] S1x512x256.size (inbS i c)
      = window X ![i.val, 0, c.val * 256] S1x512x256.size (inbS i c) := by
  obtain hi | hc : i'.val ≠ i.val ∨ c'.val ≠ c.val := by omega
  · exact window_put_of_disjoint X _ _ _ _ _ w 0 (by show i.val + 1 ≤ i'.val ∨ i'.val + 1 ≤ i.val; omega)
  · exact window_put_of_disjoint X _ _ _ _ _ w 2 (by show c.val * 256 + 256 ≤ c'.val * 256 ∨ c'.val * 256 + 256 ≤ c.val * 256; omega)

/-- A window of another part does not see a put into the maxima. -/
theorem window_put_X (h : ¬ (i' = i ∧ c' = c)) (X : S2x1x512.Idx → α) (w) :
    window (put X ![i'.val, 0, c'.val * 256] S1x1x256.size w) ![i.val, 0, c.val * 256] S1x1x256.size (inbX i c)
      = window X ![i.val, 0, c.val * 256] S1x1x256.size (inbX i c) := by
  obtain hi | hc : i'.val ≠ i.val ∨ c'.val ≠ c.val := by omega
  · exact window_put_of_disjoint X _ _ _ _ _ w 0 (by show i.val + 1 ≤ i'.val ∨ i'.val + 1 ≤ i.val; omega)
  · exact window_put_of_disjoint X _ _ _ _ _ w 2 (by show c.val * 256 + 256 ≤ c'.val * 256 ∨ c'.val * 256 + 256 ≤ c.val * 256; omega)

/-- A window of another part does not see a put into the accumulators. -/
theorem window_put_A (h : ¬ (i' = i ∧ c' = c)) (X : S2x80x512.Idx → α) (w) :
    window (put X ![i'.val, 0, c'.val * 256] S1x80x256.size w) ![i.val, 0, c.val * 256] S1x80x256.size (inbA i c)
      = window X ![i.val, 0, c.val * 256] S1x80x256.size (inbA i c) := by
  obtain hi | hc : i'.val ≠ i.val ∨ c'.val ≠ c.val := by omega
  · exact window_put_of_disjoint X _ _ _ _ _ w 0 (by show i.val + 1 ≤ i'.val ∨ i'.val + 1 ≤ i.val; omega)
  · exact window_put_of_disjoint X _ _ _ _ _ w 2 (by show c.val * 256 + 256 ≤ c'.val * 256 ∨ c'.val * 256 + 256 ≤ c.val * 256; omega)

end

/-- Clearing all the maxima clears a part's. -/
theorem window_clearMax (i c : Fin 2) (X : Vec F S2x1x512 .f32) :
    window (put X ![0, 0, 0] S2x1x512.size (clearMax (F := F))) ![i.val, 0, c.val * 256] S1x1x256.size (inbX i c) = clearM := by
  rw [window_put_of_inside _ _ _ _ _ _ _ (by revert i c; decide)]
  funext y
  rfl

/-- Clearing all the accumulators clears a part's. -/
theorem window_clearAcc (i c : Fin 2) (X : Vec F S2x80x512 .f32) :
    window (put X ![0, 0, 0] S2x80x512.size (clearAcc (F := F))) ![i.val, 0, c.val * 256] S1x80x256.size (inbA i c) = clearA := by
  rw [window_put_of_inside _ _ _ _ _ _ _ (by revert i c; decide)]
  funext y
  rfl

/-- The window of a whole head reads at a query of a half what the window of the half reads. -/
theorem window_half (i c : Fin 2) {α : Type} (X : S2x80x512.Idx → α) (e : Fin 80) (y : Fin 256) :
    window X ![i.val, 0, 0] S1x80x512.size (inbA' i) (ix3 0 e ⟨c.val * 256 + y.val, by omega⟩)
      = window X ![i.val, 0, c.val * 256] S1x80x256.size (inbA i c) (ix3 0 e y) :=
  congrArg X (funext fun a => Fin.ext (by
    match a with
    | ⟨0, _⟩ => rfl
    | ⟨1, _⟩ => rfl
    | ⟨2, _⟩ => show 0 + 1 * (c.val * 256 + y.val) = c.val * 256 + 1 * y.val; omega))

/-- An emitted block read at an index of the output: where it was emitted, the quotient; elsewhere what was there. -/
theorem put_quotient (i i' c : Fin 2) (qi qi' : Fin 8) (d : Fin 64) (y : Fin 256) (σ : St F) :
    put σ.o ![0, qi'.val, i'.val * 64, 0] S1x1x64x512.size (quotient (window σ.a ![i'.val, 0, 0] S1x80x512.size (inbA' i'))) (oidx i c qi d y)
      = if i' = i ∧ qi' = qi then
          FloatOps.truncf .bf16 bitsLt_bf16_f32 (FloatOps.divf ((part i c σ).a (ix3 0 ⟨d.val, by omega⟩ y)) ((part i c σ).a (ix3 0 64 y)))
        else σ.o (oidx i c qi d y) := by
  by_cases h : i' = i ∧ qi' = qi
  · obtain ⟨rfl, rfl⟩ := h
    rw [if_pos ⟨rfl, rfl⟩]
    have hm : ∀ a, ![0, qi'.val, i'.val * 64, 0] a ≤ (oidx i' c qi' d y a).val
        ∧ (oidx i' c qi' d y a).val < ![0, qi'.val, i'.val * 64, 0] a + S1x1x64x512.size a := fun a => by
      match a with
      | ⟨0, _⟩ => exact ⟨le_rfl, Nat.one_pos⟩
      | ⟨1, _⟩ => exact ⟨le_rfl, Nat.lt_succ_self _⟩
      | ⟨2, _⟩ => show i'.val * 64 ≤ i'.val * 64 + d.val ∧ i'.val * 64 + d.val < i'.val * 64 + 64; omega
      | ⟨3, _⟩ => show 0 ≤ c.val * 256 + y.val ∧ c.val * 256 + y.val < 0 + 512; omega
    refine (dif_pos hm).trans ?_
    have e : Rect.unitLocal (s := S1x8x128x512) (off := ![0, qi'.val, i'.val * 64, 0]) (size := S1x1x64x512.size) (oidx i' c qi' d y) hm
        = ix4 0 0 d ⟨c.val * 256 + y.val, by omega⟩ := funext fun a => Fin.ext (by
      match a with
      | ⟨0, _⟩ => rfl
      | ⟨1, _⟩ => exact Nat.sub_self _
      | ⟨2, _⟩ => show i'.val * 64 + d.val - i'.val * 64 = d.val; omega
      | ⟨3, _⟩ => rfl)
    rw [e]
    unfold quotient part
    pointwise []
    rw [window_half i' c, window_half i' c]
  · rw [if_neg h]
    refine dif_neg fun hm => h ?_
    have h1 : qi'.val ≤ qi.val ∧ qi.val < qi'.val + 1 := hm 1
    have h2 : i'.val * 64 ≤ i.val * 64 + d.val ∧ i.val * 64 + d.val < i'.val * 64 + 64 := hm 2
    exact ⟨by omega, by omega⟩

/-- A step as it acts on a part. -/
theorem part_next (i c : Fin 2) (I : Inp F) (σ : St F) (s : Step) :
    part i c (s.next I σ) = match restrict i c s with
      | some p => p.next c (pinp i c I) (part i c σ)
      | none => part i c σ := by
  cases s with
  | produce qi j slot diag i' c' =>
    by_cases h : i' = i ∧ c' = c
    · obtain ⟨rfl, rfl⟩ := h
      rw [restrict_produce_self]
      unfold Step.next PStep.next part pinp
      dsimp only
      congr 1
      · funext b
        by_cases hb : b = slot
        · subst hb
          rw [Function.update_self, Function.update_self]
          exact window_put_same _ _ _ _ _
        · rw [Function.update_of_ne hb, Function.update_of_ne hb]
      · funext b
        by_cases hb : b = slot
        · subst hb
          rw [Function.update_self, Function.update_self]
          exact window_put_same _ _ _ _ _
        · rw [Function.update_of_ne hb, Function.update_of_ne hb]
    · rw [show restrict i c (.produce qi j slot diag i' c') = none from by
        rw [not_and_or] at h; obtain h | h := h <;> simp [restrict, h]]
      unfold Step.next part
      dsimp only
      congr 1
      · funext b
        by_cases hb : b = slot
        · subst hb
          rw [Function.update_self]
          exact window_put_S h _ _
        · rw [Function.update_of_ne hb]
      · funext b
        by_cases hb : b = slot
        · subst hb
          rw [Function.update_self]
          exact window_put_X h _ _
        · rw [Function.update_of_ne hb]
  | consume j slot i' c' =>
    by_cases h : i' = i ∧ c' = c
    · obtain ⟨rfl, rfl⟩ := h
      rw [show restrict i' c' (.consume j slot i' c') = some (.consume j slot) from by simp [restrict]]
      unfold Step.next PStep.next part pinp
      dsimp only
      congr 1
      · exact window_put_same _ _ _ _ _
      · exact window_put_same _ _ _ _ _
    · rw [show restrict i c (.consume j slot i' c') = none from by
        rw [not_and_or] at h; obtain h | h := h <;> simp [restrict, h]]
      unfold Step.next part
      dsimp only
      congr 1
      · exact window_put_X h _ _
      · exact window_put_A h _ _
  | clear =>
    unfold Step.next PStep.next part restrict
    dsimp only
    congr 1
    · exact window_clearMax i c _
    · exact window_clearAcc i c _
  | emit qi i' =>
    by_cases h : i' = i
    · subst h
      rw [show restrict i' c (.emit qi i') = some (.emit qi) from by simp [restrict]]
      unfold Step.next PStep.next
      dsimp only
      unfold part
      dsimp only
      congr 1
      funext q d y
      rw [put_quotient i' i' c q qi d y σ]
      by_cases hq : qi = q
      · subst hq
        rw [if_pos ⟨rfl, rfl⟩, Function.update_self]
        rfl
      · rw [if_neg (fun h => hq h.2), Function.update_of_ne (Ne.symm hq)]
    · rw [show restrict i c (.emit qi i') = none from by simp [restrict, h]]
      unfold Step.next part
      dsimp only
      congr 1
      funext q d y
      rw [put_quotient i i' c q qi d y σ, if_neg (fun hh => h hh.1)]

/-- A list of steps as it acts on a part. -/
theorem part_foldl (i c : Fin 2) (I : Inp F) (l : List Step) (σ : St F) :
    part i c (l.foldl (fun σ s => s.next I σ) σ)
      = (l.filterMap (restrict i c)).foldl (fun P p => p.next c (pinp i c I) P) (part i c σ) := by
  induction l generalizing σ with
  | nil => rfl
  | cons s l ih =>
    rw [List.foldl_cons, ih, part_next, List.filterMap_cons]
    cases restrict i c s <;> rfl

/-! ## The schedule of a part -/

/-- One iteration of a part. -/
def iterP (qi j : ℕ) : List PStep :=
  match upcoming qi j with
  | none => [.consume (Fin.ofNat 8 j) (Nat.beq (j % 2) 1)]
  | some (qi', j', slot', diag') =>
    match Nat.beq (j % 2) 1 == slot' with
    | true => [.consume (Fin.ofNat 8 j) (Nat.beq (j % 2) 1), .produce qi' j' slot' diag']
    | false => [.produce qi' j' slot' diag', .consume (Fin.ofNat 8 j) (Nat.beq (j % 2) 1)]

/-- A block of queries of a part. -/
def rowP (qi : ℕ) : List PStep := [.clear] ++ (List.range (qi + 1)).flatMap (iterP qi) ++ [.emit (Fin.ofNat 8 qi)]

/-- All the steps of a part. -/
def scheduleP : List PStep := [.produce 0 0 false true] ++ (List.range 8).flatMap rowP

/-- Every part sees the same list. -/
theorem restrict_schedule (i c : Fin 2) : schedule.filterMap (restrict i c) = scheduleP := by
  obtain rfl | rfl : i = 0 ∨ i = 1 := by omega
  all_goals obtain rfl | rfl : c = 0 ∨ c = 1 := by omega
  all_goals rfl

/-! ## The schedule's result -/

section
variable (c : Fin 2) (I : PInp F)

/-- The tile of query block `qi` and key block `j`. -/
def tileOf (qi j : ℕ) : FVec F S512x256 .f32 := tile (Nat.beq j qi) c (I.k (Fin.ofNat 8 j)) (I.q (Fin.ofNat 8 qi))

/-- The running maximum and the accumulator of query block `qi` after its first `j` key blocks. -/
def accum (qi : ℕ) : ℕ → Vec F S1x1x256 .f32 × Vec F S1x80x256 .f32
  | 0 => (clearM, clearA)
  | j + 1 =>
    let p := accum qi j
    ((shapeCast S1x1x256 (newMax p.1 (tileMax (tileOf c I qi j))) shapeCasts_S1x256_S1x1x256 : FVec F S1x1x256 .f32),
      newAcc p.1 (tileMax (tileOf c I qi j)) (shapeCast S1x512x256 (tileOf c I qi j) shapeCasts_S512x256_S1x512x256 : FVec F S1x512x256 .f32) p.2 (I.v (Fin.ofNat 8 j)))

/-- What is emitted for query block `qi`. -/
def emitted (qi : ℕ) (d : Fin 64) (y : Fin 256) : F .bf16 :=
  FloatOps.truncf .bf16 bitsLt_bf16_f32 (FloatOps.divf ((accum c I qi (qi + 1)).2 (ix3 0 ⟨d.val, by omega⟩ y)) ((accum c I qi (qi + 1)).2 (ix3 0 64 y)))

/-- The run of a list of a part's steps. -/
def runP (l : List PStep) (P : Part F) : Part F := l.foldl (fun P p => p.next c I P) P

theorem runP_append (l l' : List PStep) (P : Part F) : runP c I (l ++ l') P = runP c I l' (runP c I l P) := List.foldl_append ..

/-- The tile of query block `qi` and key block `j` and its maxima stand in their slot. -/
def Ready (qi j : ℕ) (P : Part F) : Prop :=
  P.s (Nat.beq (j % 2) 1) = (shapeCast S1x512x256 (tileOf c I qi j) shapeCasts_S512x256_S1x512x256 : FVec F S1x512x256 .f32)
    ∧ P.x (Nat.beq (j % 2) 1) = tileMax (tileOf c I qi j)

/-- Consuming a tile that stands in its slot takes the running maximum and the accumulator one key block further. -/
theorem next_consume (qi j : ℕ) (P : Part F) (h : Ready c I qi j P) (hp : (P.m, P.a) = accum c I qi j) :
    (((PStep.consume (Fin.ofNat 8 j) (Nat.beq (j % 2) 1)).next c I P).m, ((PStep.consume (Fin.ofNat 8 j) (Nat.beq (j % 2) 1)).next c I P).a)
      = accum c I qi (j + 1) := by
  unfold PStep.next accum
  dsimp only
  rw [h.1, h.2, ← hp]

theorem blt_false {a b : ℕ} (h : ¬ a < b) : Nat.blt a b = false := Bool.eq_false_iff.mpr fun hb => h (Nat.blt_eq.mp hb)

/-- One iteration: the running maximum and the accumulator one key block further, the upcoming tile in its slot. -/
theorem run_iterP (qi j : ℕ) (hj : j ≤ qi) (P : Part F) (h : Ready c I qi j P) (hp : (P.m, P.a) = accum c I qi j) :
    ((runP c I (iterP qi j) P).m, (runP c I (iterP qi j) P).a) = accum c I qi (j + 1)
      ∧ (runP c I (iterP qi j) P).o = P.o
      ∧ (j < qi → Ready c I qi (j + 1) (runP c I (iterP qi j) P))
      ∧ (j = qi → qi + 1 < 8 → Ready c I (qi + 1) 0 (runP c I (iterP qi j) P)) := by
  have key (qi' j' : Fin 8) (slot' diag' : Bool) :
      let l : List PStep := match Nat.beq (j % 2) 1 == slot' with
        | true => [.consume (Fin.ofNat 8 j) (Nat.beq (j % 2) 1), .produce qi' j' slot' diag']
        | false => [.produce qi' j' slot' diag', .consume (Fin.ofNat 8 j) (Nat.beq (j % 2) 1)]
      ((runP c I l P).m, (runP c I l P).a) = accum c I qi (j + 1) ∧ (runP c I l P).o = P.o
        ∧ (runP c I l P).s slot' = (shapeCast S1x512x256 (tile diag' c (I.k j') (I.q qi')) shapeCasts_S512x256_S1x512x256 : FVec F S1x512x256 .f32)
        ∧ (runP c I l P).x slot' = tileMax (tile diag' c (I.k j') (I.q qi')) := by
    by_cases hs : Nat.beq (j % 2) 1 = slot'
    · rw [show (Nat.beq (j % 2) 1 == slot') = true from beq_iff_eq.mpr hs]
      exact ⟨next_consume c I qi j P h hp, rfl, Function.update_self .., Function.update_self ..⟩
    · rw [show (Nat.beq (j % 2) 1 == slot') = false from beq_eq_false_iff_ne.mpr hs]
      refine ⟨next_consume c I qi j ((PStep.produce qi' j' slot' diag').next c I P) ⟨?_, ?_⟩ hp, rfl, Function.update_self .., Function.update_self ..⟩
      · exact (Function.update_of_ne hs ..).trans h.1
      · exact (Function.update_of_ne hs ..).trans h.2
  unfold iterP
  by_cases h1 : j < qi
  · rw [show upcoming qi j = some (Fin.ofNat 8 qi, Fin.ofNat 8 (j + 1), Nat.beq ((j + 1) % 2) 1, Nat.beq (j + 1) qi) from by
      unfold upcoming; rw [show Nat.blt j qi = true from by simpa using h1]; rfl]
    have := key (Fin.ofNat 8 qi) (Fin.ofNat 8 (j + 1)) (Nat.beq ((j + 1) % 2) 1) (Nat.beq (j + 1) qi)
    exact ⟨this.1, this.2.1, fun _ => this.2.2, fun h => by omega⟩
  · by_cases h2 : qi + 1 < 8
    · rw [show upcoming qi j = some (Fin.ofNat 8 (qi + 1), 0, false, false) from by
        unfold upcoming
        rw [blt_false h1, show Nat.blt (qi + 1) 8 = true from by simpa using h2]; rfl]
      have := key (Fin.ofNat 8 (qi + 1)) 0 false false
      exact ⟨this.1, this.2.1, fun h => absurd h h1, fun _ _ => this.2.2⟩
    · rw [show upcoming qi j = none from by
        unfold upcoming
        rw [blt_false h1, blt_false h2]; rfl]
      exact ⟨next_consume c I qi j P h hp, rfl, fun h => absurd h h1, fun _ h => absurd h h2⟩

/-- The first `n` iterations of a block of queries. -/
theorem run_iters (qi : ℕ) (P : Part F) (h : Ready c I qi 0 P) (hp : (P.m, P.a) = accum c I qi 0) (n : ℕ) (hn : n ≤ qi + 1) :
    ((runP c I ((List.range n).flatMap (iterP qi)) P).m, (runP c I ((List.range n).flatMap (iterP qi)) P).a) = accum c I qi n
      ∧ (runP c I ((List.range n).flatMap (iterP qi)) P).o = P.o
      ∧ (n ≤ qi → Ready c I qi n (runP c I ((List.range n).flatMap (iterP qi)) P))
      ∧ (n = qi + 1 → qi + 1 < 8 → Ready c I (qi + 1) 0 (runP c I ((List.range n).flatMap (iterP qi)) P)) := by
  induction n with
  | zero => exact ⟨hp, rfl, fun _ => h, fun h => by omega⟩
  | succ n ih =>
    obtain ⟨h1, h2, h3, -⟩ := ih (by omega)
    have := run_iterP c I qi n (by omega) _ (h3 (by omega)) h1
    rw [List.range_succ, List.flatMap_append, runP_append, List.flatMap_singleton]
    exact ⟨this.1, this.2.1.trans h2, fun h => this.2.2.1 (by omega), fun h => this.2.2.2 (by omega)⟩

/-- A block of queries emits its quotient, leaves the other blocks, and leaves the next block's first tile in its slot. -/
theorem run_rowP (qi : ℕ) (hq : qi < 8) (P : Part F) (h : Ready c I qi 0 P) :
    (runP c I (rowP qi) P).o = Function.update P.o (Fin.ofNat 8 qi) (emitted c I qi)
      ∧ (qi + 1 < 8 → Ready c I (qi + 1) 0 (runP c I (rowP qi) P)) := by
  unfold rowP
  rw [runP_append, runP_append]
  have := run_iters c I qi (runP c I [.clear] P) h rfl (qi + 1) le_rfl
  refine ⟨?_, this.2.2.2 rfl⟩
  show Function.update (runP c I _ _).o _ _ = _
  rw [this.2.1]
  congr 1
  unfold emitted
  rw [← this.1]

/-- The first `n` blocks of queries. -/
theorem run_rows (P : Part F) (h : Ready c I 0 0 P) (n : ℕ) (hn : n ≤ 8) :
    (∀ qi < n, (runP c I ((List.range n).flatMap rowP) P).o (Fin.ofNat 8 qi) = emitted c I qi)
      ∧ (n < 8 → Ready c I n 0 (runP c I ((List.range n).flatMap rowP) P)) := by
  induction n with
  | zero => exact ⟨fun _ h => absurd h (Nat.not_lt_zero _), fun _ => h⟩
  | succ n ih =>
    obtain ⟨h1, h2⟩ := ih (by omega)
    have := run_rowP c I n (by omega) _ (h2 (by omega))
    rw [List.range_succ, List.flatMap_append, runP_append, List.flatMap_singleton]
    refine ⟨fun qi hqi => ?_, fun h => this.2 h⟩
    rw [this.1]
    by_cases he : qi = n
    · subst he
      exact Function.update_self ..
    · rw [Function.update_of_ne (fun h => he (by
        have := congrArg Fin.val h
        simp only [Fin.val_ofNat] at this
        omega))]
      exact h1 qi (by omega)

/-- The whole schedule of a part: every block of queries emits its quotient. -/
theorem run_scheduleP (P : Part F) (qi : Fin 8) : (runP c I scheduleP P).o qi = emitted c I qi.val := by
  unfold scheduleP
  rw [runP_append]
  have hs : ((PStep.produce 0 0 false true).next c I P).s false
      = (shapeCast S1x512x256 (tile true c (I.k 0) (I.q 0)) shapeCasts_S512x256_S1x512x256 : FVec F S1x512x256 .f32) := by
    unfold PStep.next; dsimp only; rw [Function.update_self]
  have hx : ((PStep.produce 0 0 false true).next c I P).x false = tileMax (tile true c (I.k 0) (I.q 0)) := by
    unfold PStep.next; dsimp only; rw [Function.update_self]
  have hr : Ready c I 0 0 ((PStep.produce 0 0 false true).next c I P) := ⟨hs, hx⟩
  have := (run_rows c I ((PStep.produce 0 0 false true).next c I P) hr 8 le_rfl).1 qi.val qi.isLt
  rwa [Fin.ofNat_eq_cast, Fin.cast_val_eq_self] at this

end

/-! ## The output of the body -/

/-- The output block of a grid point, from its inputs. -/
def outBlk (I : Inp F) : Vec F S1x8x128x512 .bf16 := fun z =>
  emitted ⟨(z 3).val / 256, by have : (z 3).val < 512 := (z 3).isLt; omega⟩
    (pinp ⟨(z 2).val / 64, by have : (z 2).val < 128 := (z 2).isLt; omega⟩ ⟨(z 3).val / 256, by have : (z 3).val < 512 := (z 3).isLt; omega⟩ I)
    (z 1).val ⟨(z 2).val % 64, Nat.mod_lt _ (by decide)⟩ ⟨(z 3).val % 256, Nat.mod_lt _ (by decide)⟩

/-- Whatever the buffers held, the body leaves `outBlk` of its inputs in the output. -/
theorem out_eq (I : Inp F) (σ : St F) : (schedule.foldl (fun σ s => s.next I σ) σ).o = outBlk I := by
  funext z
  have h2 : (z 2).val < 128 := (z 2).isLt
  have h3 : (z 3).val < 512 := (z 3).isLt
  have h0 : (z 0).val < 1 := (z 0).isLt
  have key := part_foldl ⟨(z 2).val / 64, by omega⟩ ⟨(z 3).val / 256, by omega⟩ I schedule σ
  rw [restrict_schedule] at key
  have key := congrFun (congrFun (congrFun (congrArg Part.o key) (z 1)) ⟨(z 2).val % 64, Nat.mod_lt _ (by decide)⟩) ⟨(z 3).val % 256, Nat.mod_lt _ (by decide)⟩
  have e : oidx ⟨(z 2).val / 64, by omega⟩ ⟨(z 3).val / 256, by omega⟩ (z 1) ⟨(z 2).val % 64, Nat.mod_lt _ (by decide)⟩ ⟨(z 3).val % 256, Nat.mod_lt _ (by decide)⟩ = z :=
    funext fun a => Fin.ext (by
      match a with
      | ⟨0, _⟩ => show 0 = (z 0).val; omega
      | ⟨1, _⟩ => rfl
      | ⟨2, _⟩ => exact Nat.div_add_mod' _ _
      | ⟨3, _⟩ => exact Nat.div_add_mod' _ _)
  refine (congrArg _ e.symm).trans (key.trans ?_)
  exact congrFun (congrFun (run_scheduleP _ _ _ _) _) _

end Cert.Proof

end
-- ==== Proof.Body.lean ====
/- The run of the kernel's program with the output's blocks named. The body, at any grid point, leaves in the output's
   buffer `outBlk` of the six input blocks, whatever its buffers held; so the pipeline writes these blocks back. -/
module

public import proofs.«01_k».proof.Proof.Part
public import Idealize.ShloMosaic.Lib.Claim
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The input blocks of a grid point. -/
def inpAt (c : Dev nD) (t : Fin cfg0.N) : Inp F where
  q := ![iblk m c 0 t, iblk m c 1 t]
  k := ![iblk m c 2 t, iblk m c 3 t]
  v := ![iblk m c 4 t, iblk m c 5 t]

/-- The pipeline's proof data: after the body each input's buffer holds its block, the output's `outBlk` of the inputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (inpAt m c t)
  Φ _ := Pipeline.ΦA spec0 c
  q w := Pipeline.shareOf spec0 w
  owed _ := 0

/-- The data's arrays are the contents at the region's entry. -/
theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlk (inpAt m c t) := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at a grid point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 2000000 in
/-- The body at any grid point: the schedule's run on the point's buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA0_eq]
  rw [body_eq]
  iintro ⟨⟨⟨⟨%e0, HS0⟩, ⟨%e1, HS1⟩, ⟨%e2, HS2⟩, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩⟩
  iapply (wp_runSteps c _ (inpAt m c t) schedule ⟨(dats m 0 c).before 6 t d6, (bif · then e1 else e0), (bif · then e3 else e2), e4, e5⟩ _) $$ [H0 H1 H2 H3 H4 H5 H6 HS0 HS1 HS2 HS3 HS4 HS5]
  · unfold ownIn ownSt inpAt
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [HS0]; · iexact HS0
    isplitl [HS1]; · iexact HS1
    isplitl [HS2]; · iexact HS2
    isplitl [HS3]; · iexact HS3
    isplitl [HS4]; · iexact HS4
    iexact HS5
  unfold ownIn ownSt
  rw [out_eq]
  iintro ⟨⟨H0, H1, H2, H3, H4, H5⟩, H6, HS0, HS1, HS2, HS3, HS4, HS5⟩
  isplitl [HS0 HS1 HS2 HS3 HS4 HS5 Hg]
  · isplitl [HS0 HS1 HS2 HS3 HS4 HS5]
    · isplitl [HS0]
      · iexists _; iexact HS0
      isplitl [HS1]
      · iexists _; iexact HS1
      isplitl [HS2]
      · iexists _; iexact HS2
      isplitl [HS3]
      · iexists _; iexact HS3
      isplitl [HS4]
      · iexists _; iexact HS4
      iexists _; iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row is the body at the point. -/
theorem row_eq (t : Fin cfg0.N) : defs₀ (F := F) .tc cfg0.body (cfg0.bodyArgs t (cfg0.slots t)) = bodyAt0 t := by
  unfold defs₀; rw [Defs.onTc_tc]

/-- The body keeps the pipeline's contract. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The run: every execution ends with the output array as the named blocks make it, every other array as the region
    found it, and every counter at zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hΦ := fun _ _ => rfl)

end Cert.Proof

end
-- ==== Proof.Softmax.lean ====
/- The running softmax over the extended reals. Blocks of logits are consumed one after another; the running maximum
   rescales what was summed before. The quotient it ends with is the weighted sum of the values over the sum of the
   weights, and so is the plain softmax with the maximum subtracted. Logits may be −∞ (weight zero) but not +∞, and
   the values are any extended reals. -/
module

public import Idealize.ShloMosaic.Lib.Pointwise

@[expose] public section

noncomputable section

namespace Cert.Proof

open Idealize.ShloMosaic

/-! ## Sums -/

/-- A nonnegative real distributes over a sum of extended reals. -/
theorem mul_sum_real {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Weights -/

theorem rpow_two_nonneg (x : ℝ) : 0 ≤ Real.rpow 2 x := Real.rpow_nonneg (by norm_num) x

/-- The weight of a logit to the base two: its power of two, zero at −∞. -/
def wt2 (T : EReal) : ℝ := (Ideal.exp2 T).toReal
/-- The weight of a logit: its exponential, zero at −∞. -/
def wt (l : EReal) : ℝ := (Ideal.exp l).toReal

theorem wt2_nonneg (T : EReal) : 0 ≤ wt2 T := by
  induction T using EReal.rec with
  | bot => simp [wt2]
  | top => simp [wt2]
  | coe r => exact Real.rpow_nonneg (by norm_num) _

theorem wt2_pos (r : ℝ) : 0 < wt2 r := Real.rpow_pos_of_pos (by norm_num) _

theorem wt_nonneg (T : EReal) : 0 ≤ wt T := by
  induction T using EReal.rec with
  | bot => simp [wt]
  | top => simp [wt]
  | coe r => exact Real.exp_nonneg _

theorem wt_pos (r : ℝ) : 0 < wt r := Real.exp_pos _

theorem exp2_eq (T : EReal) (h : T ≠ ⊤) : Ideal.exp2 T = (wt2 T : EReal) := by
  induction T using EReal.rec with
  | bot => simp [wt2]
  | top => exact absurd rfl h
  | coe r => simp [wt2]

/-- A shifted logit's power of two. -/
theorem exp2_sub (T : EReal) (h : T ≠ ⊤) (μ : ℝ) : Ideal.exp2 (T - μ) = ((Real.rpow 2 (-μ) * wt2 T : ℝ) : EReal) := by
  induction T using EReal.rec with
  | bot => simp [wt2]
  | top => exact absurd rfl h
  | coe r =>
    rw [← EReal.coe_sub, Ideal.exp2_coe]
    show ((2 : ℝ) ^ (r - μ) : ℝ) = (((2 : ℝ) ^ (-μ) * (2 : ℝ) ^ r : ℝ) : EReal)
    rw [← Real.rpow_add (by norm_num), sub_eq_neg_add]

/-- A shifted logit's exponential. -/
theorem exp_sub (l : EReal) (h : l ≠ ⊤) (μ : ℝ) : Ideal.exp (l - μ) = ((Real.exp (-μ) * wt l : ℝ) : EReal) := by
  induction l using EReal.rec with
  | bot => simp [wt]
  | top => exact absurd rfl h
  | coe r =>
    rw [← EReal.coe_sub, Ideal.exp_coe]
    show ((Real.exp (r - μ) : ℝ) : EReal) = ((Real.exp (-μ) * Real.exp r : ℝ) : EReal)
    rw [← Real.exp_add, sub_eq_neg_add]

/-- The two weights agree on logits that differ by the factor between the bases. -/
theorem wt2_div_log (x : ℝ) : wt2 ((x / Real.log 2 : ℝ) : EReal) = wt (x : EReal) := by
  show (2 : ℝ) ^ (x / Real.log 2) = Real.exp x
  rw [Real.rpow_def_of_pos (by norm_num), mul_div_cancel₀]
  exact (Real.log_pos (by norm_num)).ne'

theorem wt2_bot : wt2 ⊥ = 0 := by simp [wt2]
theorem wt_bot : wt ⊥ = 0 := by simp [wt]

/-! ## Quotients -/

/-- A common positive factor cancels in a quotient. -/
theorem div_cancel (c : ℝ) (hc : 0 < c) (S : EReal) (L : ℝ) (hL : 0 < L) :
    Ideal.div ((c : EReal) * S) ((c * L : ℝ) : EReal) = S * ((L⁻¹ : ℝ) : EReal) := by
  unfold Ideal.div
  have h : ((c * L : ℝ) : EReal) ≠ 0 := by
    intro h
    exact (mul_pos hc hL).ne' (EReal.coe_eq_zero.mp h)
  rw [if_neg h, ← EReal.coe_inv, mul_inv, EReal.coe_mul, mul_comm (c : EReal) S, mul_assoc, ← mul_assoc (c : EReal), ← EReal.coe_mul,
    mul_inv_cancel₀ hc.ne', EReal.coe_one, one_mul]

/-! ## The running softmax -/

section
variable (T : ℕ → Fin 512 → EReal) (V : ℕ → Fin 512 → EReal)

/-- The running maximum after `j` blocks. -/
def runMax : ℕ → EReal
  | 0 => ⊥
  | j + 1 => max (runMax j) (Finset.univ.sup (T j))

/-- The running sum after `j` blocks. -/
def runAcc : ℕ → EReal
  | 0 => 0
  | j + 1 => Ideal.exp2 (runMax T j - runMax T (j + 1)) * runAcc j + ∑ r, V j r * Ideal.exp2 (T j r - runMax T (j + 1))

/-- The weighted sum of the first `j` blocks. -/
def wsum (j : ℕ) : EReal := ∑ b ∈ Finset.range j, ∑ r, V b r * (wt2 (T b r) : EReal)

variable (hT : ∀ j r, T j r ≠ ⊤) (h0 : ∃ r, T 0 r ≠ ⊥)
include hT

theorem runMax_ne_top (j : ℕ) : runMax T j ≠ ⊤ := by
  induction j with
  | zero => exact bot_ne_top
  | succ j ih =>
    unfold runMax
    refine ne_of_lt (max_lt (lt_top_iff_ne_top.mpr ih) ?_)
    rw [Finset.sup_lt_iff (by exact bot_lt_top)]
    exact fun r _ => lt_top_iff_ne_top.mpr (hT j r)

include h0

theorem runMax_real (j : ℕ) : ∃ μ : ℝ, runMax T (j + 1) = μ := by
  have hb : runMax T (j + 1) ≠ ⊥ := by
    obtain ⟨r, hr⟩ := h0
    have h1 : T 0 r ≤ runMax T (j + 1) := by
      induction j with
      | zero => exact le_max_of_le_right (Finset.le_sup (f := T 0) (Finset.mem_univ r))
      | succ j ih => exact le_max_of_le_left ih
    intro h
    rw [h, le_bot_iff] at h1
    exact hr h1
  exact ⟨_, (EReal.coe_toReal (runMax_ne_top T hT _) hb).symm⟩

omit h0 in
/-- A block's sum at a real maximum. -/
theorem block_sum (b : ℕ) (μ : ℝ) : ∑ r, V b r * Ideal.exp2 (T b r - (μ : EReal))
    = ((Real.rpow 2 (-μ) : ℝ) : EReal) * ∑ r, V b r * (wt2 (T b r) : EReal) := by
  rw [mul_sum_real _ _ _ (rpow_two_nonneg _)]
  refine Finset.sum_congr rfl fun r _ => ?_
  rw [exp2_sub _ (hT b r), EReal.coe_mul, mul_left_comm]

/-- The running sum is the weighted sum, scaled by the running maximum. -/
theorem runAcc_eq (j : ℕ) (μ : ℝ) (hμ : runMax T (j + 1) = μ) :
    runAcc T V (j + 1) = ((Real.rpow 2 (-μ) : ℝ) : EReal) * wsum T V (j + 1) := by
  induction j generalizing μ with
  | zero =>
    show Ideal.exp2 (⊥ - _) * 0 + _ = _
    rw [mul_zero, zero_add, hμ, block_sum T V hT]
    simp [wsum]
  | succ j ih =>
    obtain ⟨ν, hν⟩ := runMax_real T hT h0 j
    rw [show wsum T V (j + 1 + 1) = wsum T V (j + 1) + ∑ r, V (j + 1) r * (wt2 (T (j + 1) r) : EReal) from Finset.sum_range_succ _ _]
    show Ideal.exp2 (runMax T (j + 1) - runMax T (j + 1 + 1)) * runAcc T V (j + 1) + _ = _
    rw [hμ, block_sum T V hT, ih ν hν, hν, ← EReal.coe_sub, Ideal.exp2_coe, ← mul_assoc, ← EReal.coe_mul,
      EReal.left_distrib_of_nonneg_of_ne_top (EReal.coe_nonneg.mpr (rpow_two_nonneg _)) (EReal.coe_ne_top _)]
    congr 3
    show (2 : ℝ) ^ (ν - μ) * (2 : ℝ) ^ (-ν) = (2 : ℝ) ^ (-μ)
    rw [← Real.rpow_add (by norm_num)]
    congr 1
    ring

/-- The sum of the weights of the first blocks is a positive real. -/
theorem wsum_one (j : ℕ) : 0 < (∑ b ∈ Finset.range (j + 1), ∑ r, wt2 (T b r)) := by
  obtain ⟨r, hr⟩ := h0
  refine Finset.sum_pos' (fun b _ => Finset.sum_nonneg fun r _ => wt2_nonneg _) ⟨0, by simp, ?_⟩
  refine Finset.sum_pos' (fun r _ => wt2_nonneg _) ⟨r, Finset.mem_univ _, ?_⟩
  rw [← EReal.coe_toReal (hT 0 r) hr]
  exact wt2_pos _

/-- The running softmax's quotient: the weighted sum over the sum of the weights. -/
theorem running_quotient (j : ℕ) :
    Ideal.div (runAcc T V (j + 1)) (runAcc T (fun _ _ => 1) (j + 1))
      = wsum T V (j + 1) * (((∑ b ∈ Finset.range (j + 1), ∑ r, wt2 (T b r))⁻¹ : ℝ) : EReal) := by
  obtain ⟨μ, hμ⟩ := runMax_real T hT h0 j
  rw [runAcc_eq T V hT h0 j μ hμ, runAcc_eq T (fun _ _ => 1) hT h0 j μ hμ]
  have : wsum T (fun _ _ => 1) (j + 1) = ((∑ b ∈ Finset.range (j + 1), ∑ r, wt2 (T b r) : ℝ) : EReal) := by
    unfold wsum
    rw [coe_sum]
    refine Finset.sum_congr rfl fun b _ => ?_
    rw [coe_sum]
    exact Finset.sum_congr rfl fun r _ => one_mul _
  rw [this, ← EReal.coe_mul]
  exact div_cancel _ (Real.rpow_pos_of_pos (by norm_num) _) _ _ (wsum_one T hT h0 j)

end

/-! ## The plain softmax -/

/-- The plain softmax with any real subtracted: the weighted sum over the sum of the weights. -/
theorem plain_softmax {n : ℕ} (l v : Fin n → EReal) (hl : ∀ k, l k ≠ ⊤) (h0 : ∃ k, l k ≠ ⊥) (μ : ℝ) :
    ∑ k, Ideal.div (Ideal.exp (l k - μ)) (∑ k', Ideal.exp (l k' - μ)) * v k
      = (∑ k, v k * (wt (l k) : EReal)) * (((∑ k, wt (l k))⁻¹ : ℝ) : EReal) := by
  have hp : 0 < ∑ k, wt (l k) := by
    obtain ⟨k, hk⟩ := h0
    refine Finset.sum_pos' (fun r _ => wt_nonneg _) ⟨k, Finset.mem_univ _, ?_⟩
    rw [← EReal.coe_toReal (hl k) hk]
    exact wt_pos _
  have hs : ∑ k', Ideal.exp (l k' - μ) = ((Real.exp (-μ) * ∑ k, wt (l k) : ℝ) : EReal) := by
    rw [Finset.mul_sum, coe_sum]
    exact Finset.sum_congr rfl fun k _ => exp_sub _ (hl k) μ
  rw [mul_comm, mul_sum_real _ _ _ (inv_nonneg.mpr hp.le)]
  refine Finset.sum_congr rfl fun k _ => ?_
  rw [hs, exp_sub _ (hl k), EReal.coe_mul (Real.exp (-μ)) (wt (l k)), div_cancel _ (Real.exp_pos _) _ _ hp, mul_comm, mul_comm (wt (l k) : EReal), ← mul_assoc, ← mul_assoc,
    mul_comm (v k)]

end Cert.Proof

end
-- ==== Proof.Tiles.lean ====
/- The kernel's vectors at an index, over the extended reals: the running maximum and the accumulator of a part, read
   at one query, are the running softmax over the tiles' column. -/
module

public import proofs.«01_k».proof.Proof.Part
public import proofs.«01_k».proof.Proof.Softmax

@[expose] public section

set_option maxRecDepth 16384

noncomputable section

namespace Cert.Proof

open Cert.KernelIdeal Cert.KernelIdeal.Gen Idealize.ShloMosaic Idealize.SL.Sem

/-- The named mask is −∞. -/
theorem mask_eq : (Named.named κ "mask" 0xF149F2CA#32 : Ideal .f32) = (⊥ : EReal) := by
  rfl

theorem newMax_apply (m x : Vec Ideal S1x1x256 .f32) (y : Fin 256) :
    (shapeCast S1x1x256 (newMax m x) shapeCasts_S1x256_S1x1x256 : FVec Ideal S1x1x256 .f32) (ix3 0 0 y) = max (m (ix3 0 0 y)) (x (ix3 0 0 y)) := by
  pointwise [newMax]

theorem tileMax_apply (s : FVec Ideal S512x256 .f32) (y : Fin 256) :
    tileMax s (ix3 0 0 y) = Finset.univ.sup fun r : Fin 512 => (s (ix2 r y) : EReal) := by
  pointwise [tileMax]
  rw [show Ideal.ofBits FTy.f32 4286578688#32 = ⊥ from by decide]
  rfl

theorem newAcc_apply (m x : Vec Ideal S1x1x256 .f32) (s : Vec Ideal S1x512x256 .f32) (a : Vec Ideal S1x80x256 .f32) (vb : Vec Ideal S1x1x1x80x512 .bf16) (e : Fin 80) (y : Fin 256) :
    newAcc m x s a vb (ix3 0 e y)
      = Ideal.exp2 (m (ix3 0 0 y) - max (m (ix3 0 0 y)) (x (ix3 0 0 y))) * a (ix3 0 e y)
        + ∑ r : Fin 512, vb (ix5 0 0 0 e r) * Ideal.exp2 (s (ix3 0 r y) - max (m (ix3 0 0 y)) (x (ix3 0 0 y))) := by
  pointwise [newAcc, newMax]
  rfl

theorem logits_apply (kb : Vec Ideal S1x512x128 .bf16) (qb : Vec Ideal S1x1x1x128x256 .bf16) (r : Fin 512) (y : Fin 256) :
    logits kb qb (ix2 r y) = ∑ d : Fin 128, (kb (ix3 0 r d) * qb (ix5 0 0 0 d y) : EReal) := by
  pointwise [logits]

/-- A small number as a signed word. -/
theorem toInt_small (n : ℕ) (h : n < 2 ^ 31) : (BitVec.ofNat 32 n).toInt = (n : ℤ) := by
  rw [BitVec.toInt_eq_toNat_of_lt (by rw [BitVec.toNat_ofNat, Nat.mod_eq_of_lt (by omega)]; omega), BitVec.toNat_ofNat, Nat.mod_eq_of_lt (by omega)]

theorem stored_apply (s : FVec Ideal S512x256 .f32) (r : Fin 512) (y : Fin 256) :
    (shapeCast S1x512x256 s shapeCasts_S512x256_S1x512x256 : FVec Ideal S1x512x256 .f32) (ix3 0 r y) = s (ix2 r y) := by
  pointwise []

theorem masked_apply (c : Fin 2) (s : FVec Ideal S512x256 .f32) (r : Fin 512) (y : Fin 256) :
    masked c s (ix2 r y) = if r.val ≤ c.val * 256 + y.val then (s (ix2 r y) : EReal) else ⊥ := by
  pointwise [masked]
  rw [mask_eq]
  have hc : (IntOp.cmpi CmpIPredicate.sle (BitVec.ofNat 32 r.val) (IntOp.addi (BitVec.ofNat 32 y.val) (BitVec.ofNat 32 (c.val * 256))))
      = BitVec.ofBool (decide (r.val ≤ c.val * 256 + y.val)) := by
    show BitVec.ofBool (BitVec.sle _ _) = _
    congr 1
    rw [BitVec.sle_eq_decide]
    congr 1
    have hr := r.isLt
    have hy := y.isLt
    have hc := c.isLt
    have e : IntOp.addi (BitVec.ofNat 32 y.val) (BitVec.ofNat 32 (c.val * 256)) = BitVec.ofNat 32 (c.val * 256 + y.val) := by
      show BitVec.ofNat 32 y.val + BitVec.ofNat 32 (c.val * 256) = _
      rw [← BitVec.ofNat_add, add_comm]
    rw [e, toInt_small r.val (by omega), toInt_small (c.val * 256 + y.val) (by omega)]
    exact propext Int.ofNat_le
  rw [hc]
  by_cases h : r.val ≤ c.val * 256 + y.val
  · rw [if_pos h, decide_eq_true h]; rfl
  · rw [if_neg h, decide_eq_false h]; rfl

/-- The column of tiles at a query. -/
def colT (c : Fin 2) (I : PInp Ideal) (qi : ℕ) (y : Fin 256) (j : ℕ) (r : Fin 512) : EReal := tileOf c I qi j (ix2 r y)

/-- A row of the values. -/
def rowV (I : PInp Ideal) (e : Fin 80) (j : ℕ) (r : Fin 512) : EReal := I.v (Fin.ofNat 8 j) (ix5 0 0 0 e r)

/-- The running maximum and the accumulator at a query are the running softmax's. -/
theorem accum_apply (c : Fin 2) (I : PInp Ideal) (qi : ℕ) (y : Fin 256) (j : ℕ) :
    (accum c I qi j).1 (ix3 0 0 y) = runMax (colT c I qi y) j
      ∧ ∀ e, (accum c I qi j).2 (ix3 0 e y) = runAcc (colT c I qi y) (rowV I e) j := by
  induction j with
  | zero =>
    refine ⟨mask_eq, fun e => ?_⟩
    show (Ideal.ofBits .f32 0x00000000#32 : EReal) = 0
    exact Ideal.ofBits_zero_f32
  | succ j ih =>
    obtain ⟨h1, h2⟩ := ih
    unfold accum runMax runAcc
    dsimp only
    have hm : (tileMax (tileOf c I qi j) (ix3 0 0 y) : EReal) = Finset.univ.sup (colT c I qi y j) := tileMax_apply _ _
    refine ⟨?_, fun e => ?_⟩
    · rw [newMax_apply, h1, hm]
    · rw [newAcc_apply, h1, h2, hm]
      simp only [stored_apply]
      rfl

/-- What is emitted, over the extended reals. -/
theorem emitted_apply (c : Fin 2) (I : PInp Ideal) (qi : ℕ) (d : Fin 64) (y : Fin 256) :
    emitted c I qi d y = Ideal.div (runAcc (colT c I qi y) (rowV I ⟨d.val, by omega⟩) (qi + 1)) (runAcc (colT c I qi y) (rowV I 64) (qi + 1)) := by
  unfold emitted
  rw [(accum_apply c I qi y (qi + 1)).2, (accum_apply c I qi y (qi + 1)).2]
  rfl

end Cert.Proof

end
-- ==== Proof.Host.lean ====
module

public import proofs.«01_k».proof.Proof.Body
public import proofs.«01_k».proof.Proof.Tiles

@[expose] public section
set_option maxRecDepth 16384
noncomputable section
namespace Cert.Proof
open Cert.KernelIdeal Cert.KernelIdeal.Gen Idealize.ShloMosaic Idealize.ShloMosaic.TcCoe Idealize.SL.Sem

/-! The arrays the host code hands to the kernel, each as a function of the arguments:
the queries with their bias lanes, the keys with theirs, the values with the lane of ones. -/

/-- `1 / log 2`. -/
def log2e : FVec Ideal S_ .f32 := Host.divf (constant S_ .f32 0x3F800000#32) (Host.log (constant S_ .f32 0x40000000#32))

/-- The running sums of the gates. -/
def cumul (f : FVec Ideal S8x8x4096 .f32) : FVec Ideal S8x8x4096 .f32 :=
  Host.reduceWindowAdd ![1, 1, 4096] ![1, 1, 1] ![0, 0, 4095] ![0, 0, 0] f
    (broadcastInDim S_ ![] bcast_S_S_ (constant S_ .f32 0x00000000#32))
    reduceWindows_S8x8x4096_S8x8x4096_w1s1p0_0_w1s1p0_0_w4096s1p4095_0 h_S_

/-- The running sums in units of `log 2`. -/
def bias (f : FVec Ideal S8x8x4096 .f32) : FVec Ideal S8x8x4096 .f32 :=
  mulf (cumul f) (broadcastInDim S8x8x4096 ![] bcast_S_S8x8x4096 log2e)

/-- A value rounded to the short type and back. -/
def rnd (b : FVec Ideal S8x8x4096 .f32) : FVec Ideal S8x8x4096 .f32 :=
  extf .f32 (truncf .bf16 b bitsLt_bf16_f32) bitsLt_bf16_f32

/-- A lane added at the end. -/
def lane (b : FVec Ideal S8x8x4096 .f32) : FVec Ideal S8x8x4096x1 .f32 :=
  broadcastInDim S8x8x4096x1 ![0, 1, 2] bcast_S8x8x4096_S8x8x4096x1_0_1_2 b

/-- Three lanes side by side. -/
def three (x y z : FVec Ideal S8x8x4096x1 .f32) : FVec Ideal S8x8x4096x3 .f32 :=
  concatenate S8x8x4096x3 3 [⟨S8x8x4096x1, x⟩, ⟨S8x8x4096x1, y⟩, ⟨S8x8x4096x1, z⟩]
    concatenates_S8x8x4096x1_S8x8x4096x1_S8x8x4096x1_S8x8x4096x3_d3

/-- A lane of ones. -/
def oneLane : FVec Ideal S8x8x4096x1 .f32 :=
  broadcastInDim S8x8x4096x1 ![] bcast_S_S8x8x4096x1 (constant S_ .f32 0x3F800000#32)

/-- The bias in its three biasParts. -/
def biasParts (f : FVec Ideal S8x8x4096 .f32) : FVec Ideal S8x8x4096x3 .f32 :=
  three (lane (rnd (bias f))) (lane (rnd (subf (bias f) (rnd (bias f)))))
    (lane (subf (subf (bias f) (rnd (bias f))) (rnd (subf (bias f) (rnd (bias f))))))

/-- Sixty-four lanes, then three and three, then zeros up to 128. -/
def lanes128 (x : FVec Ideal S8x8x4096x64 .f32) (y z : FVec Ideal S8x8x4096x3 .f32) : FVec Ideal S8x8x4096x128 .f32 :=
  pad S8x8x4096x128 ![0, 0, 0, 0] ![0, 0, 0, 58] ![0, 0, 0, 0]
    (concatenate S8x8x4096x70 3 [⟨S8x8x4096x64, x⟩, ⟨S8x8x4096x3, y⟩, ⟨S8x8x4096x3, z⟩]
      concatenates_S8x8x4096x64_S8x8x4096x3_S8x8x4096x3_S8x8x4096x70_d3)
    (sitofp .f32 (constantI S_ 32 0#32)) pads_S8x8x4096x70_S8x8x4096x128_000_000_000_0580 h_S_

/-- The queries as the kernel takes them. -/
def packQ (q : FVec Ideal S8x8x4096x64 .f32) (f : FVec Ideal S8x8x4096 .f32) : FVec Ideal S8x8x8x128x512 .bf16 :=
  truncf .bf16 (transpose S8x8x8x128x512 [0, 1, 2, 4, 3]
    (shapeCast S8x8x8x512x128
      (lanes128 (mulf q (broadcastInDim S8x8x4096x64 ![] bcast_S_S8x8x4096x64
          (mulf (constant S_ .f32 0x3E000000#32) log2e))) (biasParts f) (three oneLane oneLane oneLane))
      shapeCasts_S8x8x4096x128_S8x8x8x512x128)
    transposes_S8x8x8x512x128_S8x8x8x128x512_0_1_2_4_3) bitsLt_bf16_f32

/-- The keys as the kernel takes them. -/
def packK (k : FVec Ideal S8x8x4096x64 .f32) (f : FVec Ideal S8x8x4096 .f32) : FVec Ideal S8x4096x1024 .bf16 :=
  truncf .bf16 (shapeCast S8x4096x1024
    (transpose S8x4096x8x128 [0, 2, 1, 3]
      (lanes128 k (three oneLane oneLane oneLane) (Host.negf (biasParts f)))
      transposes_S8x8x4096x128_S8x4096x8x128_0_2_1_3)
    shapeCasts_S8x4096x8x128_S8x4096x1024) bitsLt_bf16_f32

/-- The values as the kernel takes them. -/
def packV (v : FVec Ideal S8x8x4096x64 .f32) : FVec Ideal S8x8x8x80x512 .bf16 :=
  truncf .bf16 (transpose S8x8x8x80x512 [0, 1, 2, 4, 3]
    (shapeCast S8x8x8x512x80
      (pad S8x8x4096x80 ![0, 0, 0, 0] ![0, 0, 0, 15] ![0, 0, 0, 0]
        (concatenate S8x8x4096x65 3 [⟨S8x8x4096x64, v⟩, ⟨S8x8x4096x1, oneLane⟩]
          concatenates_S8x8x4096x64_S8x8x4096x1_S8x8x4096x65_d3)
        (sitofp .f32 (constantI S_ 32 0#32)) pads_S8x8x4096x65_S8x8x4096x80_000_000_000_0150 h_S_)
      shapeCasts_S8x8x4096x80_S8x8x8x512x80)
    transposes_S8x8x8x512x80_S8x8x8x80x512_0_1_2_4_3) bitsLt_bf16_f32

variable (m : (ℓ : Loc nD τ sig) → Buf (Elt Ideal) ℓ) (c : Dev nD)

set_option maxHeartbeats 2000000 in
/-- The queries' buffer when the kernel is entered. -/
theorem V_qt : V m c main_v24 = packQ (m ((c : Thread nD τ).loc main_arg0)) (m ((c : Thread nD τ).loc main_arg3)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

set_option maxHeartbeats 2000000 in
/-- The keys' buffer when the kernel is entered. -/
theorem V_ka : V m c main_v30 = packK (m ((c : Thread nD τ).loc main_arg1)) (m ((c : Thread nD τ).loc main_arg3)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

set_option maxHeartbeats 2000000 in
/-- The values' buffer when the kernel is entered. -/
theorem V_vt : V m c main_v35 = packV (m ((c : Thread nD τ).loc main_arg2)) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

end Cert.Proof
end
-- ==== Proof.Pack.lean ====
/- The packed arrays at an index, and a logit: the product of a packed key's lanes with a packed query's is the scaled
   product of key and query plus the difference of their biases, in units of `log 2`. -/
module

public import proofs.«01_k».proof.Proof.Host
import Idealize.ShloMosaic.Lib.Pointwise
public import Idealize.ShloMosaic.Lib.IdealHost

@[expose] public section

set_option maxRecDepth 16384

noncomputable section

namespace Cert.Proof

open Cert.KernelIdeal Cert.KernelIdeal.Gen Idealize.ShloMosaic Idealize.ShloMosaic.TcCoe Idealize.SL.Sem

theorem three_apply (x y z : FVec Ideal S8x8x4096x1 .f32) (b h : Fin 8) (t : Fin 4096) (d : Fin 3) :
    three x y z (ix4 b h t d) = if d.val = 0 then x (ix4 b h t 0) else if d.val = 1 then y (ix4 b h t 0) else z (ix4 b h t 0) := by
  pointwise [three]
  fin_cases d <;> rfl

theorem sitofp_zero : (FloatOps.sitofp FTy.f32 (0#32) : Ideal .f32) = (0 : EReal) := by
  show (((0#32).toInt : ℝ) : EReal) = 0
  simp

theorem lanes128_apply (x : FVec Ideal S8x8x4096x64 .f32) (y z : FVec Ideal S8x8x4096x3 .f32) (b h : Fin 8) (t : Fin 4096) (d : Fin 128) :
    lanes128 x y z (ix4 b h t d) = if h0 : d.val < 64 then x (ix4 b h t ⟨d.val, h0⟩) else
      if h1 : d.val < 67 then y (ix4 b h t ⟨d.val - 64, by omega⟩) else
      if h2 : d.val < 70 then z (ix4 b h t ⟨d.val - 67, by omega⟩) else 0 := by
  pointwise [lanes128]
  rw [sitofp_zero]
  by_cases h2 : d.val < 70
  · rw [dif_pos h2]
    by_cases h0 : d.val < 64
    · rw [dif_pos h0, dif_pos h0]
    · rw [dif_neg h0, dif_neg h0]
      by_cases h1 : d.val < 67
      · rw [dif_pos h1, dif_pos (show d.val - 64 < 3 by omega)]
      · rw [dif_neg h1, dif_neg (show ¬ d.val - 64 < 3 by omega), dif_pos h2]
        congr 2
  · rw [dif_neg h2, dif_neg (by omega), dif_neg (by omega), dif_neg h2]

theorem ofBits_two : Ideal.ofBits FTy.f32 1073741824#32 = ((2 : ℝ) : EReal) := by
  simp [Ideal.ofBits, Ideal.ieee, -EReal.coe_mul]
  norm_num

theorem ofBits_eighth : Ideal.ofBits FTy.f32 1040187392#32 = ((1 / 8 : ℝ) : EReal) := by
  simp [Ideal.ofBits, Ideal.ieee, -EReal.coe_mul]
  norm_num

theorem log_two_pos : (0 : ℝ) < Real.log 2 := Real.log_pos (by norm_num)

theorem log2e_apply : log2e ix0 = ((1 / Real.log 2 : ℝ) : EReal) := by
  pointwise [log2e]
  rw [ofBits_two]
  have h : Ideal.log ((2 : ℝ) : EReal) = ((Real.log 2 : ℝ) : EReal) := by
    show (if (2 : ℝ) ≤ 0 then (⊥ : EReal) else (Real.log 2 : EReal)) = _
    rw [if_neg (by norm_num)]
  rw [h, Ideal.div, if_neg (by rw [EReal.coe_eq_zero]; exact log_two_pos.ne'), one_mul, ← EReal.coe_inv, one_div]

theorem bias_apply (f : FVec Ideal S8x8x4096 .f32) (b h : Fin 8) (t : Fin 4096) :
    bias f (ix3 b h t) = cumul f (ix3 b h t) * ((1 / Real.log 2 : ℝ) : EReal) := by
  pointwise [bias]
  rw [log2e_apply]

theorem lane_rnd_apply (x : FVec Ideal S8x8x4096 .f32) (b h : Fin 8) (t : Fin 4096) :
    lane (rnd x) (ix4 b h t 0) = x (ix3 b h t) := by
  pointwise [lane, rnd]

theorem lane_apply (x : FVec Ideal S8x8x4096 .f32) (b h : Fin 8) (t : Fin 4096) :
    lane x (ix4 b h t 0) = x (ix3 b h t) := by
  pointwise [lane]

theorem rnd_apply (x : FVec Ideal S8x8x4096 .f32) (b h : Fin 8) (t : Fin 4096) :
    rnd x (ix3 b h t) = x (ix3 b h t) := by
  pointwise [rnd]

theorem ones_apply (b h : Fin 8) (t : Fin 4096) (d : Fin 3) : three oneLane oneLane oneLane (ix4 b h t d) = (1 : EReal) := by
  rw [three_apply]
  have : oneLane (ix4 b h t 0) = (1 : EReal) := by pointwise [oneLane]
  rw [this]
  split_ifs <;> rfl

/-- A finite bias in its three parts: itself and zeros. -/
theorem biasParts_apply (f : FVec Ideal S8x8x4096 .f32) (b h : Fin 8) (t : Fin 4096) (d : Fin 3) (r : ℝ)
    (hr : cumul f (ix3 b h t) = (r : EReal)) :
    biasParts f (ix4 b h t d) = (((if d.val = 0 then r / Real.log 2 else 0 : ℝ)) : EReal) := by
  have hb : bias f (ix3 b h t) = ((r / Real.log 2 : ℝ) : EReal) := by
    rw [bias_apply, hr, ← EReal.coe_mul, mul_one_div]
  have h0 : subf (bias f) (rnd (bias f)) (ix3 b h t) = ((0 : ℝ) : EReal) := by
    show (bias f (ix3 b h t) - rnd (bias f) (ix3 b h t) : EReal) = _
    rw [rnd_apply, hb, ← EReal.coe_sub, sub_self]
  unfold biasParts
  rw [three_apply, lane_rnd_apply, lane_rnd_apply, lane_apply, hb, h0]
  have h1 : subf (subf (bias f) (rnd (bias f))) (rnd (subf (bias f) (rnd (bias f)))) (ix3 b h t) = ((0 : ℝ) : EReal) := by
    show (subf (bias f) (rnd (bias f)) (ix3 b h t) - rnd (subf (bias f) (rnd (bias f))) (ix3 b h t) : EReal) = _
    rw [rnd_apply, h0, ← EReal.coe_sub, sub_self]
  rw [h1]
  split_ifs <;> rfl

/-- The values' rows: the values, a row of ones, zeros. -/
theorem packV_apply (v : FVec Ideal S8x8x4096x64 .f32) (b h t : Fin 8) (d : Fin 80) (x : Fin 512) :
    packV v (ix5 b h t d x) = if h0 : d.val < 64 then v (ix4 b h ⟨t.val * 512 + x.val, by omega⟩ ⟨d.val, h0⟩) else
      if d.val < 65 then (1 : EReal) else 0 := by
  pointwise [packV, oneLane]
  rw [sitofp_zero]
  have : t.val * 512 + x.val < 4096 := by omega
  simp only [this, true_and]
  split_ifs <;> first | rfl | omega

section
variable (q k : FVec Ideal S8x8x4096x64 .f32) (f : FVec Ideal S8x8x4096 .f32)
variable (qr kr : S8x8x4096x64.Idx → ℝ) (cr : S8x8x4096.Idx → ℝ)

/-- A packed query's lanes, all real. -/
def laneQ (b h : Fin 8) (t : Fin 4096) (d : Fin 128) : ℝ :=
  if h0 : d.val < 64 then qr (ix4 b h t ⟨d.val, h0⟩) * (1 / 8 * (1 / Real.log 2)) else
  if d.val < 67 then (if d.val = 64 then cr (ix3 b h t) / Real.log 2 else 0) else
  if d.val < 70 then 1 else 0

/-- A packed key's lanes, all real. -/
def laneK (b h : Fin 8) (t : Fin 4096) (d : Fin 128) : ℝ :=
  if h0 : d.val < 64 then kr (ix4 b h t ⟨d.val, h0⟩) else
  if d.val < 67 then 1 else
  if d.val < 70 then (if d.val = 67 then - (cr (ix3 b h t) / Real.log 2) else 0) else 0

theorem packQ_apply (hq : ∀ i, q i = (qr i : EReal)) (hc : ∀ i, cumul f i = (cr i : EReal)) (b h t : Fin 8) (d : Fin 128) (x : Fin 512) :
    packQ q f (ix5 b h t d x) = (laneQ qr cr b h ⟨t.val * 512 + x.val, by omega⟩ d : EReal) := by
  pointwise [packQ]
  rw [lanes128_apply]
  unfold laneQ
  split_ifs with h0 h1 h2 h3
  · show (q _ * broadcastInDim S8x8x4096x64 ![] bcast_S_S8x8x4096x64 (mulf (constant S_ FTy.f32 1040187392#32) log2e) _ : EReal) = _
    rw [hq, show broadcastInDim S8x8x4096x64 ![] bcast_S_S8x8x4096x64 (mulf (constant S_ FTy.f32 1040187392#32) log2e)
        (ix4 b h ⟨t.val * 512 + x.val, by omega⟩ ⟨d.val, h0⟩) = (Ideal.ofBits FTy.f32 1040187392#32 * log2e ix0 : EReal) from by pointwise [],
      ofBits_eighth, log2e_apply, ← EReal.coe_mul, ← EReal.coe_mul]
  · rw [biasParts_apply _ _ _ _ _ _ (hc _), if_pos (show d.val - 64 = 0 by omega)]
  · rw [biasParts_apply _ _ _ _ _ _ (hc _), if_neg (show ¬ d.val - 64 = 0 by omega)]
  · exact ones_apply ..
  · rfl

theorem packK_apply (hk : ∀ i, k i = (kr i : EReal)) (hc : ∀ i, cumul f i = (cr i : EReal)) (b h : Fin 8) (t : Fin 4096) (d : Fin 128) :
    packK k f (ix3 b t ⟨h.val * 128 + d.val, by omega⟩) = (laneK kr cr b h t d : EReal) := by
  pointwise [packK]
  rw [lanes128_apply]
  unfold laneK
  split_ifs with h0 h1 h2 h3
  · exact hk _
  · exact ones_apply ..
  · show (- biasParts f _ : EReal) = _
    rw [biasParts_apply _ _ _ _ _ _ (hc _), if_pos (show d.val - 67 = 0 by omega), EReal.coe_neg]
  · show (- biasParts f _ : EReal) = _
    rw [biasParts_apply _ _ _ _ _ _ (hc _), if_neg (show ¬ d.val - 67 = 0 by omega), ← EReal.coe_neg, neg_zero]
  · rfl

theorem lanes_sum (b h : Fin 8) (t s : Fin 4096) :
    ∑ d : Fin 128, laneK kr cr b h s d * laneQ qr cr b h t d
      = ((∑ d : Fin 64, qr (ix4 b h t d) * kr (ix4 b h s d)) * (1 / 8) + cr (ix3 b h t) - cr (ix3 b h s)) / Real.log 2 := by
  have e : ∀ g : Fin 128 → ℝ, ∑ d, g d = (∑ d : Fin 64, g ⟨d.val, by omega⟩) + ((∑ d : Fin 6, g ⟨64 + d.val, by omega⟩) + ∑ d : Fin 58, g ⟨70 + d.val, by omega⟩) := by
    intro g
    rw [show (∑ d, g d) = ∑ d : Fin (64 + (6 + 58)), g d from rfl, Fin.sum_univ_add, Fin.sum_univ_add]
    congr 2
  rw [e]
  have e1 : ∀ d : Fin 64, laneK kr cr b h s ⟨d.val, by omega⟩ * laneQ qr cr b h t ⟨d.val, by omega⟩ = (qr (ix4 b h t d) * kr (ix4 b h s d)) * (1 / 8 * (1 / Real.log 2)) := by
    intro d
    simp only [laneK, laneQ, dif_pos d.isLt]
    ring
  have e3 : ∀ d : Fin 58, laneK kr cr b h s ⟨70 + d.val, by omega⟩ * laneQ qr cr b h t ⟨70 + d.val, by omega⟩ = 0 := by
    intro d
    simp only [laneK, laneQ]
    rw [dif_neg (by omega), if_neg (by omega), if_neg (by omega), zero_mul]
  rw [Finset.sum_congr rfl fun d _ => e1 d, Finset.sum_congr rfl fun d _ => e3 d, ← Finset.sum_mul]
  have := log_two_pos.ne'
  simp [Fin.sum_univ_succ, laneK, laneQ]
  field_simp
  ring

/-- A logit in units of `log 2`. -/
theorem logit_eq (hq : ∀ i, q i = (qr i : EReal)) (hk : ∀ i, k i = (kr i : EReal)) (hc : ∀ i, cumul f i = (cr i : EReal))
    (b h t : Fin 8) (x : Fin 512) (s : Fin 4096) :
    (∑ d : Fin 128, (packK k f (ix3 b s ⟨h.val * 128 + d.val, by omega⟩) * packQ q f (ix5 b h t d x) : EReal))
      = ((((∑ d : Fin 64, qr (ix4 b h ⟨t.val * 512 + x.val, by omega⟩ d) * kr (ix4 b h s d)) * (1 / 8) + cr (ix3 b h ⟨t.val * 512 + x.val, by omega⟩) - cr (ix3 b h s)) / Real.log 2 : ℝ) : EReal) := by
  rw [← lanes_sum qr kr cr, coe_sum]
  refine Finset.sum_congr rfl fun d _ => ?_
  rw [packK_apply k f kr cr hk hc, packQ_apply q f qr cr hq hc, ← EReal.coe_mul]

end

theorem zero_elt : broadcastInDim S_ ![] bcast_S_S_ (constant S_ .f32 0x00000000#32 : FVec Ideal S_ .f32) (Shape.Idx.first h_S_) = ((0 : ℝ) : EReal) := by
  show Ideal.ofBits FTy.f32 0#32 = _
  rw [Ideal.ofBits_zero_f32, EReal.coe_zero]

/-- The running sum of real gates is real. -/
theorem cumul_real (f : FVec Ideal S8x8x4096 .f32) (hf : ∀ i, ∃ r : ℝ, f i = (r : EReal)) (i : S8x8x4096.Idx) : ∃ r : ℝ, cumul f i = (r : EReal) := by
  show ∃ r : ℝ, (List.foldl _ _ _ : EReal) = (r : EReal)
  refine List.foldlRecOn (motive := fun z : EReal => ∃ r : ℝ, z = (r : EReal)) _ _ ?_ fun z hz n _ => ?_
  · exact ⟨0, zero_elt⟩
  · obtain ⟨r, rfl⟩ := hz
    dsimp only
    split_ifs with h
    · obtain ⟨r', e⟩ := hf _
      exact ⟨r + r', by rw [EReal.coe_add, ← e]⟩
    · exact ⟨r, by rw [zero_elt, EReal.coe_zero, add_zero]⟩

end Cert.Proof
end
-- ==== Proof.Blocks.lean ====
/- The kernel's input blocks at a grid point as parts of the packed arrays. -/
module

public import proofs.«01_k».proof.Proof.Body
public import proofs.«01_k».proof.Proof.Pack
public import Idealize.ShloMosaic.Lib.Pipeline.ValueKit

@[expose] public section

set_option maxRecDepth 16384

noncomputable section

namespace Cert.Proof

open Cert.KernelIdeal Cert.KernelIdeal.Gen Idealize.ShloMosaic Idealize.ShloMosaic.TcCoe Idealize.SL.Sem

variable (m : (ℓ : Loc nD τ sig) → Buf (Elt Ideal) ℓ) (c : Dev nD)

/-- A grid point's batch. -/
def batch (t : Fin cfg0.N) : Fin 8 := ⟨(grid0.coords t 0).val, (grid0.coords t 0).isLt⟩
/-- A grid point's head of a pair. -/
def head (t : Fin cfg0.N) (i : Fin 2) : Fin 8 :=
  ⟨2 * (grid0.coords t 1).val + i.val, by have : (grid0.coords t 1).val < 4 := (grid0.coords t 1).isLt; omega⟩

theorem index_0 : ∀ t, win0_0.index t = ![(grid0.coords t 0).val, 2 * (grid0.coords t 1).val, 0, 0, 0] := by decide +kernel
theorem index_1 : ∀ t, win0_1.index t = ![(grid0.coords t 0).val, 2 * (grid0.coords t 1).val + 1, 0, 0, 0] := by decide +kernel
theorem index_2 : ∀ t, win0_2.index t = ![(grid0.coords t 0).val, 0, 2 * (grid0.coords t 1).val] := by decide +kernel
theorem index_3 : ∀ t, win0_3.index t = ![(grid0.coords t 0).val, 0, 2 * (grid0.coords t 1).val + 1] := by decide +kernel
theorem index_4 : ∀ t, win0_4.index t = ![(grid0.coords t 0).val, 2 * (grid0.coords t 1).val, 0, 0, 0] := by decide +kernel
theorem index_5 : ∀ t, win0_5.index t = ![(grid0.coords t 0).val, 2 * (grid0.coords t 1).val + 1, 0, 0, 0] := by decide +kernel
theorem index_6 : ∀ t, win0_6.index t = ![(grid0.coords t 0).val, 0, (grid0.coords t 1).val, 0] := by decide +kernel

theorem read_0 (A : Vec Ideal S8x8x8x128x512 .bf16) (t : Fin cfg0.N) (qi : Fin 8) (d : Fin 128) (x : Fin 512) :
    ((cfg0.win 0).blk t).view.read (Elt Ideal) A (ix5 0 0 qi d x) = A (ix5 (batch t) (head t 0) qi d x) := by
  blk_ext [index_0, batch, head]

theorem read_1 (A : Vec Ideal S8x8x8x128x512 .bf16) (t : Fin cfg0.N) (qi : Fin 8) (d : Fin 128) (x : Fin 512) :
    ((cfg0.win 1).blk t).view.read (Elt Ideal) A (ix5 0 0 qi d x) = A (ix5 (batch t) (head t 1) qi d x) := by
  blk_ext [index_1, batch, head]

theorem read_2 (A : Vec Ideal S8x4096x1024 .bf16) (t : Fin cfg0.N) (s : Fin 4096) (d : Fin 128) :
    ((cfg0.win 2).blk t).view.read (Elt Ideal) A (ix3 0 s d) = A (ix3 (batch t) s ⟨(head t 0).val * 128 + d.val, by have := (head t 0).isLt; omega⟩) := by
  blk_ext [index_2, batch, head]

theorem read_3 (A : Vec Ideal S8x4096x1024 .bf16) (t : Fin cfg0.N) (s : Fin 4096) (d : Fin 128) :
    ((cfg0.win 3).blk t).view.read (Elt Ideal) A (ix3 0 s d) = A (ix3 (batch t) s ⟨(head t 1).val * 128 + d.val, by have := (head t 1).isLt; omega⟩) := by
  blk_ext [index_3, batch, head]

theorem read_4 (A : Vec Ideal S8x8x8x80x512 .bf16) (t : Fin cfg0.N) (j : Fin 8) (e : Fin 80) (r : Fin 512) :
    ((cfg0.win 4).blk t).view.read (Elt Ideal) A (ix5 0 0 j e r) = A (ix5 (batch t) (head t 0) j e r) := by
  blk_ext [index_4, batch, head]

theorem read_5 (A : Vec Ideal S8x8x8x80x512 .bf16) (t : Fin cfg0.N) (j : Fin 8) (e : Fin 80) (r : Fin 512) :
    ((cfg0.win 5).blk t).view.read (Elt Ideal) A (ix5 0 0 j e r) = A (ix5 (batch t) (head t 1) j e r) := by
  blk_ext [index_5, batch, head]

theorem q_apply_0 (A : Vec Ideal S8x8x8x128x512 .bf16) (hA : V m c main_v24 = A) (t : Fin cfg0.N) (qi : Fin 8) (d : Fin 128) (x : Fin 512) :
    (inpAt m c t).q 0 (ix5 0 0 qi d x) = A (ix5 (batch t) (head t 0) qi d x) := by
  rw [show (inpAt m c t).q 0 = iblk m c 0 t from rfl]
  unfold iblk
  rw [show V m c (Pipeline.arrRef spec0 0) = A from hA]
  exact read_0 A t qi d x

theorem q_apply_1 (A : Vec Ideal S8x8x8x128x512 .bf16) (hA : V m c main_v24 = A) (t : Fin cfg0.N) (qi : Fin 8) (d : Fin 128) (x : Fin 512) :
    (inpAt m c t).q 1 (ix5 0 0 qi d x) = A (ix5 (batch t) (head t 1) qi d x) := by
  rw [show (inpAt m c t).q 1 = iblk m c 1 t from rfl]
  unfold iblk
  rw [show V m c (Pipeline.arrRef spec0 1) = A from hA]
  exact read_1 A t qi d x

theorem q_apply (A : Vec Ideal S8x8x8x128x512 .bf16) (hA : V m c main_v24 = A) (t : Fin cfg0.N) (i : Fin 2) (qi : Fin 8) (d : Fin 128) (x : Fin 512) :
    (inpAt m c t).q i (ix5 0 0 qi d x) = A (ix5 (batch t) (head t i) qi d x) :=
  match i with
  | 0 => q_apply_0 m c A hA t qi d x
  | 1 => q_apply_1 m c A hA t qi d x

theorem k_apply_0 (A : Vec Ideal S8x4096x1024 .bf16) (hA : V m c main_v30 = A) (t : Fin cfg0.N) (s : Fin 4096) (d : Fin 128) :
    (inpAt m c t).k 0 (ix3 0 s d) = A (ix3 (batch t) s ⟨(head t 0).val * 128 + d.val, by omega⟩) := by
  rw [show (inpAt m c t).k 0 = iblk m c 2 t from rfl]
  unfold iblk
  rw [show V m c (Pipeline.arrRef spec0 2) = A from hA]
  exact read_2 A t s d

theorem k_apply_1 (A : Vec Ideal S8x4096x1024 .bf16) (hA : V m c main_v30 = A) (t : Fin cfg0.N) (s : Fin 4096) (d : Fin 128) :
    (inpAt m c t).k 1 (ix3 0 s d) = A (ix3 (batch t) s ⟨(head t 1).val * 128 + d.val, by omega⟩) := by
  rw [show (inpAt m c t).k 1 = iblk m c 3 t from rfl]
  unfold iblk
  rw [show V m c (Pipeline.arrRef spec0 3) = A from hA]
  exact read_3 A t s d

theorem k_apply (A : Vec Ideal S8x4096x1024 .bf16) (hA : V m c main_v30 = A) (t : Fin cfg0.N) (i : Fin 2) (s : Fin 4096) (d : Fin 128) :
    (inpAt m c t).k i (ix3 0 s d) = A (ix3 (batch t) s ⟨(head t i).val * 128 + d.val, by omega⟩) :=
  match i with
  | 0 => k_apply_0 m c A hA t s d
  | 1 => k_apply_1 m c A hA t s d

theorem v_apply_0 (A : Vec Ideal S8x8x8x80x512 .bf16) (hA : V m c main_v35 = A) (t : Fin cfg0.N) (j : Fin 8) (e : Fin 80) (r : Fin 512) :
    (inpAt m c t).v 0 (ix5 0 0 j e r) = A (ix5 (batch t) (head t 0) j e r) := by
  rw [show (inpAt m c t).v 0 = iblk m c 4 t from rfl]
  unfold iblk
  rw [show V m c (Pipeline.arrRef spec0 4) = A from hA]
  exact read_4 A t j e r

theorem v_apply_1 (A : Vec Ideal S8x8x8x80x512 .bf16) (hA : V m c main_v35 = A) (t : Fin cfg0.N) (j : Fin 8) (e : Fin 80) (r : Fin 512) :
    (inpAt m c t).v 1 (ix5 0 0 j e r) = A (ix5 (batch t) (head t 1) j e r) := by
  rw [show (inpAt m c t).v 1 = iblk m c 5 t from rfl]
  unfold iblk
  rw [show V m c (Pipeline.arrRef spec0 5) = A from hA]
  exact read_5 A t j e r

theorem v_apply (A : Vec Ideal S8x8x8x80x512 .bf16) (hA : V m c main_v35 = A) (t : Fin cfg0.N) (i : Fin 2) (j : Fin 8) (e : Fin 80) (r : Fin 512) :
    (inpAt m c t).v i (ix5 0 0 j e r) = A (ix5 (batch t) (head t i) j e r) :=
  match i with
  | 0 => v_apply_0 m c A hA t j e r
  | 1 => v_apply_1 m c A hA t j e r

theorem pq_apply (I : Inp Ideal) (i c : Fin 2) (qi : Fin 8) (d : Fin 128) (y : Fin 256) :
    (pinp i c I).q qi (ix5 0 0 0 d y) = I.q i (ix5 0 0 qi d ⟨c.val * 256 + y.val, by omega⟩) := by
  unfold pinp VecWindow.window
  refine congrArg (I.q i) (funext fun a => Fin.ext ?_)
  fin_cases a <;> simp [Rect.unit, Rect.emb]

theorem pk_apply (I : Inp Ideal) (i c : Fin 2) (j : Fin 8) (r : Fin 512) (d : Fin 128) :
    (pinp i c I).k j (ix3 0 r d) = I.k i (ix3 0 ⟨j.val * 512 + r.val, by omega⟩ d) := by
  unfold pinp VecWindow.window
  refine congrArg (I.k i) (funext fun a => Fin.ext ?_)
  fin_cases a <;> simp [Rect.unit, Rect.emb]

theorem pv_apply (I : Inp Ideal) (i c : Fin 2) (j : Fin 8) (e : Fin 80) (r : Fin 512) :
    (pinp i c I).v j (ix5 0 0 0 e r) = I.v i (ix5 0 0 j e r) := by
  unfold pinp VecWindow.window
  refine congrArg (I.v i) (funext fun a => Fin.ext ?_)
  fin_cases a <;> simp [Rect.unit, Rect.emb]

end Cert.Proof
end
-- ==== Proof.Head.lean ====
/- What a part emits is a softmax over all keys, those after the query at −∞: the running softmax to the base two over
   the tiles up to the diagonal, read in units of `log 2`, and the keys it does not visit weigh nothing. -/
module

public import proofs.«01_k».proof.Proof.Tiles

@[expose] public section

set_option maxRecDepth 16384

noncomputable section

namespace Cert.Proof

open Cert.KernelIdeal Cert.KernelIdeal.Gen Idealize.ShloMosaic Idealize.SL.Sem

/-- A sum over the keys, block by block. -/
theorem sum_blocks {M : Type} [AddCommMonoid M] (f : Fin 4096 → M) :
    ∑ s, f s = ∑ j : Fin 8, ∑ r : Fin 512, f ⟨j.val * 512 + r.val, by omega⟩ := by
  rw [← Fintype.sum_prod_type']
  refine (Fintype.sum_equiv (finProdFinEquiv (m := 8) (n := 512)) _ _ fun ⟨j, r⟩ => ?_).symm
  refine congrArg f (Fin.ext ?_)
  show j.val * 512 + r.val = r.val + 512 * j.val
  omega

/-- A sum over the first blocks is one over all of them when the later ones vanish. -/
theorem sum_prefix {M : Type} [AddCommMonoid M] (n : ℕ) (hn : n ≤ 8) (g : ℕ → M) (hg : ∀ j, n ≤ j → j < 8 → g j = 0) :
    ∑ j ∈ Finset.range n, g j = ∑ j : Fin 8, g j.val := by
  rw [Fin.sum_univ_eq_sum_range g 8]
  refine Finset.sum_subset (fun j hj => ?_) fun j hj hj' => ?_
  · simp only [Finset.mem_range] at hj ⊢; omega
  · simp only [Finset.mem_range] at hj hj'
    exact hg j (by omega) hj

variable (c : Fin 2) (I : PInp Ideal) (qi : Fin 8) (d : Fin 64) (y : Fin 256)

/-- A tile's entry: the logit, or −∞ for a key of the diagonal tile after the query. -/
theorem colT_apply (j : ℕ) (r : Fin 512) :
    colT c I qi.val y j r = if j = qi.val ∧ ¬ r.val ≤ c.val * 256 + y.val then ⊥ else (logits (I.k (Fin.ofNat 8 j)) (I.q qi) (ix2 r y) : EReal) := by
  have hq : Fin.ofNat 8 qi.val = qi := Fin.ext (Nat.mod_eq_of_lt qi.isLt)
  unfold colT tileOf
  rw [hq]
  by_cases hj : j = qi.val
  · rw [show Nat.beq j qi.val = true from by rw [hj]; exact Nat.beq_refl _]
    show masked c _ _ = _
    rw [masked_apply]
    by_cases hr : r.val ≤ c.val * 256 + y.val
    · rw [if_pos hr, if_neg (by tauto)]
    · rw [if_neg hr, if_pos ⟨hj, hr⟩]
  · rw [show Nat.beq j qi.val = false from by rw [← Bool.not_eq_true]; exact fun h => hj (Nat.eq_of_beq_eq_true h)]
    rw [if_neg (by tauto)]
    rfl

/-- What a part emits, given its logits and its values. -/
theorem emitted_softmax (L : Fin 4096 → ℝ) (v : Fin 4096 → EReal)
    (hL : ∀ (j : Fin 8) (r : Fin 512), (logits (I.k j) (I.q qi) (ix2 r y) : EReal) = ((L ⟨j.val * 512 + r.val, by omega⟩ / Real.log 2 : ℝ) : EReal))
    (hv : ∀ (j : Fin 8) (r : Fin 512), (I.v j (ix5 0 0 0 ⟨d.val, by omega⟩ r) : EReal) = v ⟨j.val * 512 + r.val, by omega⟩)
    (h1 : ∀ (j : Fin 8) (r : Fin 512), (I.v j (ix5 0 0 0 64 r) : EReal) = 1) :
    emitted c I qi.val d y
      = ((∑ s : Fin 4096, (v s * (wt (if s.val ≤ qi.val * 512 + (c.val * 256 + y.val) then (L s : EReal) else ⊥) : EReal) : EReal))
        * (((∑ s : Fin 4096, wt (if s.val ≤ qi.val * 512 + (c.val * 256 + y.val) then (L s : EReal) else ⊥))⁻¹ : ℝ) : EReal) : EReal) := by
  rw [emitted_apply]
  have e1 : rowV I 64 = fun _ _ => 1 := by
    funext j r
    exact h1 _ r
  have hT : ∀ j r, colT c I qi.val y j r ≠ ⊤ := by
    intro j r
    rw [colT_apply, hL]
    split_ifs
    · exact bot_ne_top
    · exact EReal.coe_ne_top _
  have h0 : ∃ r, colT c I qi.val y 0 r ≠ ⊥ := by
    refine ⟨0, ?_⟩
    rw [colT_apply, hL, if_neg (by simp)]
    exact EReal.coe_ne_bot _
  rw [e1, running_quotient _ _ hT h0]
  have hw : ∀ (j : Fin 8) (r : Fin 512), (if j.val < qi.val + 1 then wt2 (colT c I qi.val y j.val r) else 0)
      = wt (if j.val * 512 + r.val ≤ qi.val * 512 + (c.val * 256 + y.val) then (L ⟨j.val * 512 + r.val, by omega⟩ : EReal) else ⊥) := by
    intro j r
    have hj : Fin.ofNat 8 j.val = j := Fin.ext (Nat.mod_eq_of_lt j.isLt)
    rw [colT_apply, hj, hL]
    have hr := r.isLt
    have hy := y.isLt
    have hc := c.isLt
    by_cases h : j.val * 512 + r.val ≤ qi.val * 512 + (c.val * 256 + y.val)
    · rw [if_pos h, if_pos (show j.val < qi.val + 1 by omega), if_neg (by omega), wt2_div_log]
    · rw [if_neg h, wt_bot]
      by_cases hq : j.val < qi.val + 1
      · rw [if_pos hq, if_pos (by omega), wt2_bot]
      · rw [if_neg hq]
  have ew : ∀ (j : ℕ), j < qi.val + 1 → j < 8 → ∀ r, wt2 (colT c I qi.val y j r)
      = wt (if (Fin.ofNat 8 j).val * 512 + r.val ≤ qi.val * 512 + (c.val * 256 + y.val) then (L ⟨(Fin.ofNat 8 j).val * 512 + r.val, by have := (Fin.ofNat 8 j).isLt; omega⟩ : EReal) else ⊥) := by
    intro j hj hj8 r
    have h := hw (Fin.ofNat 8 j) r
    have hv : (Fin.ofNat 8 j).val = j := Nat.mod_eq_of_lt hj8
    rw [if_pos (by rw [hv]; exact hj)] at h
    rw [← h, hv]
  have eb : ∀ (j : ℕ), qi.val + 1 ≤ j → j < 8 → ∀ r : Fin 512,
      wt (if (Fin.ofNat 8 j).val * 512 + r.val ≤ qi.val * 512 + (c.val * 256 + y.val) then (L ⟨(Fin.ofNat 8 j).val * 512 + r.val, by have := (Fin.ofNat 8 j).isLt; omega⟩ : EReal) else ⊥) = 0 := by
    intro j hj hj8 r
    have h := hw (Fin.ofNat 8 j) r
    have hv : (Fin.ofNat 8 j).val = j := Nat.mod_eq_of_lt hj8
    rw [if_neg (by rw [hv]; omega)] at h
    exact h.symm
  have hf : ∀ j : Fin 8, Fin.ofNat 8 j.val = j := fun j => Fin.ext (Nat.mod_eq_of_lt j.isLt)
  congr 1
  · unfold wsum
    rw [sum_blocks]
    have := sum_prefix (qi.val + 1) (by omega) (fun j => ∑ r : Fin 512, (v ⟨(Fin.ofNat 8 j).val * 512 + r.val, by have := (Fin.ofNat 8 j).isLt; omega⟩
      * (wt (if (Fin.ofNat 8 j).val * 512 + r.val ≤ qi.val * 512 + (c.val * 256 + y.val) then (L ⟨(Fin.ofNat 8 j).val * 512 + r.val, by have := (Fin.ofNat 8 j).isLt; omega⟩ : EReal) else ⊥) : EReal) : EReal))
      (fun j hj hj8 => Finset.sum_eq_zero fun r _ => by rw [eb j hj hj8 r, EReal.coe_zero, mul_zero])
    simp only [hf] at this
    rw [← this]
    refine Finset.sum_congr rfl fun j hj => Finset.sum_congr rfl fun r _ => ?_
    have hj := Finset.mem_range.mp hj
    rw [ew j hj (by omega) r]
    congr 1
    exact hv _ r
  · congr 2
    rw [sum_blocks]
    have := sum_prefix (qi.val + 1) (by omega) (fun j => ∑ r : Fin 512,
      wt (if (Fin.ofNat 8 j).val * 512 + r.val ≤ qi.val * 512 + (c.val * 256 + y.val) then (L ⟨(Fin.ofNat 8 j).val * 512 + r.val, by have := (Fin.ofNat 8 j).isLt; omega⟩ : EReal) else ⊥))
      (fun j hj hj8 => Finset.sum_eq_zero fun r _ => eb j hj hj8 r)
    simp only [hf] at this
    rw [← this]
    refine Finset.sum_congr rfl fun j hj => Finset.sum_congr rfl fun r _ => ?_
    have hj := Finset.mem_range.mp hj
    exact ew j hj (by omega) r

end Cert.Proof
end
-- ==== Proof.Reference.lean ====
/- The reference's result at an index: a softmax over all keys, those after the query at −∞. -/
module

public import proofs.«01_k».proof.Proof.Softmax
public import proofs.«01_k».proof.Proof.Gen.ReferenceIdeal.Run
import Idealize.ShloMosaic.Lib.Pointwise
public import Idealize.ShloMosaic.Lib.IdealHost

@[expose] public section

set_option maxRecDepth 16384

noncomputable section

namespace Cert.Proof.Ref

open Cert.ReferenceIdeal Cert.ReferenceIdeal.Gen Idealize.ShloMosaic Idealize.ShloMosaic.TcCoe Idealize.SL.Sem

/-- The running sums of the gates. -/
def cumul (f : FVec Ideal S8x8x4096 .f32) : FVec Ideal S8x8x4096 .f32 :=
  Host.reduceWindowAdd ![1, 1, 4096] ![1, 1, 1] ![0, 0, 4095] ![0, 0, 0] f
    (broadcastInDim S_ ![] bcast_S_S_ (constant S_ .f32 0x00000000#32))
    reduceWindows_S8x8x4096_S8x8x4096_w1s1p0_0_w1s1p0_0_w4096s1p4095_0 h_S_

/-- Which keys a query sees. -/
def sees : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The logits before the mask. -/
def raw (q k : FVec Ideal S8x8x4096x64 .f32) (s : FVec Ideal S8x8x4096 .f32) : FVec Ideal S8x8x4096x4096 .f32 :=
  subf (addf (mulf (Host.dotGeneral dot_S8x8x4096x64_S8x8x4096x64_S8x8x4096x4096_3_3_2_2_01_01 none q k)
      (broadcastInDim S8x8x4096x4096 ![] bcast_S_S8x8x4096x4096 (constant S_ .f32 0x3E000000#32)))
    (broadcastInDim S8x8x4096x4096 ![0, 1, 2, 3] bcast_S8x8x4096x1_S8x8x4096x4096_0_1_2_3 (broadcastInDim S8x8x4096x1 ![0, 1, 2] bcast_S8x8x4096_S8x8x4096x1_0_1_2 s)))
    (broadcastInDim S8x8x4096x4096 ![0, 1, 2, 3] bcast_S8x8x1x4096_S8x8x4096x4096_0_1_2_3 (broadcastInDim S8x8x1x4096 ![0, 1, 3] bcast_S8x8x4096_S8x8x1x4096_0_1_3 s))

/-- The logits, a key after the query at −∞. -/
def logits (q k : FVec Ideal S8x8x4096x64 .f32) (s : FVec Ideal S8x8x4096 .f32) : FVec Ideal S8x8x4096x4096 .f32 :=
  select (broadcastInDim S8x8x4096x4096 ![2, 3] bcast_S4096x4096_S8x8x4096x4096_2_3 sees) (raw q k s)
    (broadcastInDim S8x8x4096x4096 ![] bcast_S_S8x8x4096x4096 (id (constant S_ .f32 0xFF800000#32)))

/-- The largest logit of each query. -/
def top (l : FVec Ideal S8x8x4096x4096 .f32) : FVec Ideal S8x8x4096 .f32 :=
  maximumf (broadcastInDim S8x8x4096 ![] bcast_S_S8x8x4096 (constant S_ .f32 0xFF800000#32))
    (Host.reduce FloatOps.maximumf l (constant S_ .f32 0xFF800000#32) reducesTo_S8x8x4096x4096_S8x8x4096_d3 h_S_)

/-- The exponentials of the logits less the largest. -/
def expo (l : FVec Ideal S8x8x4096x4096 .f32) : FVec Ideal S8x8x4096x4096 .f32 :=
  Host.exp (subf l (broadcastInDim S8x8x4096x4096 ![0, 1, 2, 3] bcast_S8x8x4096x1_S8x8x4096x4096_0_1_2_3
    (broadcastInDim S8x8x4096x1 ![0, 1, 2] bcast_S8x8x4096_S8x8x4096x1_0_1_2 (top l))))

/-- The weights. -/
def soft (p : FVec Ideal S8x8x4096x4096 .f32) : FVec Ideal S8x8x4096x4096 .f32 :=
  Host.divf p (broadcastInDim S8x8x4096x4096 ![0, 1, 2, 3] bcast_S8x8x4096x1_S8x8x4096x4096_0_1_2_3
    (broadcastInDim S8x8x4096x1 ![0, 1, 2] bcast_S8x8x4096_S8x8x4096x1_0_1_2
      (Host.reduceAdd p (constant S_ .f32 0x00000000#32) reducesTo_S8x8x4096x4096_S8x8x4096_d3 h_S_)))

/-- The weighted values, laid out as the result. -/
def out (w : FVec Ideal S8x8x4096x4096 .f32) (v : FVec Ideal S8x8x4096x64 .f32) : FVec Ideal S8x8x512x512 .bf16 :=
  truncf .bf16 (transpose S8x8x512x512 [0, 2, 1, 3] (shapeCast S8x512x8x512 (transpose S8x8x64x4096 [0, 1, 3, 2]
    (Host.dotGeneral dot_S8x8x4096x4096_S8x8x4096x64_S8x8x4096x64_3_2_2_3_01_01 none w v)
    transposes_S8x8x4096x64_S8x8x64x4096_0_1_3_2) shapeCasts_S8x8x64x4096_S8x512x8x512) transposes_S8x512x8x512_S8x8x512x512_0_2_1_3) bitsLt_bf16_f32

variable (m : (ℓ : Loc nD τ sig) → Buf (Elt Ideal) ℓ) (c : Dev nD)

theorem result_eq : Cert.ReferenceIdeal.Value.res_main_v32 m c
    = out (soft (expo (logits (m ((c.tc : Thread nD τ).loc main_arg0)) (m ((c.tc : Thread nD τ).loc main_arg1)) (cumul (m ((c.tc : Thread nD τ).loc main_arg3))))))
        (m ((c.tc : Thread nD τ).loc main_arg2)) := by
  unfold Cert.ReferenceIdeal.Value.res_main_v32
  rfl

theorem out_apply (w : FVec Ideal S8x8x4096x4096 .f32) (v : FVec Ideal S8x8x4096x64 .f32) (b t : Fin 8) (e x : Fin 512) :
    out w v (ix4 b t e x) = ∑ s : Fin 4096, (w (ix4 b ⟨e.val / 64, by omega⟩ ⟨t.val * 512 + x.val, by omega⟩ s)
      * v (ix4 b ⟨e.val / 64, by omega⟩ s ⟨e.val % 64, by omega⟩) : EReal) := by
  pointwise [out]

theorem soft_apply (p : FVec Ideal S8x8x4096x4096 .f32) (b h : Fin 8) (t s : Fin 4096) :
    soft p (ix4 b h t s) = Ideal.div (p (ix4 b h t s)) (∑ s' : Fin 4096, (p (ix4 b h t s') : EReal)) := by
  pointwise [soft]

theorem expo_apply (l : FVec Ideal S8x8x4096x4096 .f32) (b h : Fin 8) (t s : Fin 4096) :
    expo l (ix4 b h t s) = Ideal.exp (l (ix4 b h t s) - top l (ix3 b h t)) := by
  pointwise [expo]

section Max
variable {s t u : Shape} {axes : List (Fin s.rank)}

/-- A maximum of values below ∞ is below ∞. -/
theorem reduce_max_ne_top (x : FVec Ideal s .f32) (init : FVec Ideal u .f32) (h : s.ReducesTo axes t) (hu : 0 < u.numel) (j : t.Idx)
    (hi : init (Shape.Idx.first hu) = (⊥ : EReal)) (hx : ∀ i, x i ≠ (⊤ : EReal)) :
    Host.reduce FloatOps.maximumf x init h hu j ≠ (⊤ : EReal) := by
  rw [Host.reduce_eq_fold, hi]
  refine ne_of_lt ?_
  exact (Finset.fold_max_lt (c := (⊤ : EReal))).mpr ⟨bot_lt_top, fun i _ => lt_top_iff_ne_top.mpr (hx i)⟩

/-- A maximum is no less than its values. -/
theorem le_reduce_max (x : FVec Ideal s .f32) (init : FVec Ideal u .f32) (h : s.ReducesTo axes t) (hu : 0 < u.numel) (i : s.Idx) :
    (x i : EReal) ≤ Host.reduce FloatOps.maximumf x init h hu (h.drop i) := by
  rw [Host.reduce_eq_fold]
  exact (Finset.le_fold_max (c := (x i : EReal))).mpr (Or.inr ⟨i, by simp, le_rfl⟩)

end Max

theorem negInf : Ideal.ofBits FTy.f32 4286578688#32 = ⊥ := by decide

theorem floor_apply (r : FVec Ideal S8x8x4096 .f32) (i : S8x8x4096.Idx) :
    maximumf (broadcastInDim S8x8x4096 ![] bcast_S_S8x8x4096 (constant S_ .f32 0xFF800000#32)) r i = max (Ideal.ofBits FTy.f32 4286578688#32) (r i) := rfl

theorem negInf_first : (constant S_ .f32 0xFF800000#32 : FVec Ideal S_ .f32) (Shape.Idx.first h_S_) = (⊥ : EReal) := negInf

theorem drop_last (b h : Fin 8) (t s : Fin 4096) : reducesTo_S8x8x4096x4096_S8x8x4096_d3.drop (ix4 b h t s) = ix3 b h t := by
  funext a
  fin_cases a <;> rfl

/-- The largest logit is real when none is ∞ and one is not −∞. -/
theorem top_real (l : FVec Ideal S8x8x4096x4096 .f32) (b h : Fin 8) (t s : Fin 4096) (hl : ∀ i, l i ≠ (⊤ : EReal))
    (h0 : l (ix4 b h t s) ≠ (⊥ : EReal)) : ∃ μ : ℝ, top l (ix3 b h t) = (μ : EReal) := by
  have h1 := reduce_max_ne_top l (constant S_ .f32 0xFF800000#32) reducesTo_S8x8x4096x4096_S8x8x4096_d3 h_S_ (ix3 b h t) negInf_first hl
  have h2 := le_reduce_max l (constant S_ .f32 0xFF800000#32) reducesTo_S8x8x4096x4096_S8x8x4096_d3 h_S_ (ix4 b h t s)
  rw [drop_last] at h2
  unfold top
  rw [floor_apply]
  generalize Host.reduce FloatOps.maximumf l (constant S_ .f32 0xFF800000#32) reducesTo_S8x8x4096x4096_S8x8x4096_d3 h_S_ = R at h1 h2 ⊢
  rw [negInf, max_eq_right bot_le]
  exact ⟨_, (EReal.coe_toReal h1 (ne_of_gt (lt_of_lt_of_le (bot_lt_iff_ne_bot.mpr h0) h2))).symm⟩

/-- A small number as a signed word. -/
theorem toInt_small (n : ℕ) (h : n < 2 ^ 31) : (BitVec.ofNat 32 n).toInt = (n : ℤ) := by
  rw [BitVec.toInt_eq_toNat_of_lt (by rw [BitVec.toNat_ofNat, Nat.mod_eq_of_lt (by omega)]; omega), BitVec.toNat_ofNat, Nat.mod_eq_of_lt (by omega)]

/-- A logit. -/
theorem logits_apply (q k : FVec Ideal S8x8x4096x64 .f32) (f : FVec Ideal S8x8x4096 .f32) (b h : Fin 8) (t s : Fin 4096) :
    logits q k f (ix4 b h t s) = if s.val ≤ t.val then
      ((∑ d : Fin 64, (q (ix4 b h t d) * k (ix4 b h s d) : EReal)) * Ideal.ofBits FTy.f32 1040187392#32 + f (ix3 b h t) - f (ix3 b h s) : EReal) else ⊥ := by
  pointwise [logits, raw, sees]
  have hc : IntOp.cmpi CmpIPredicate.sle (BitVec.ofNat 32 s.val) (BitVec.ofNat 32 t.val) = BitVec.ofBool (decide (s.val ≤ t.val)) := by
    show BitVec.ofBool (BitVec.sle _ _) = _
    rw [BitVec.sle_eq_decide, toInt_small s.val (by omega), toInt_small t.val (by omega)]
    congr 2
    exact propext Int.ofNat_le
  rw [hc, show (id (constant S_ FTy.f32 4286578688#32) ix0 : Ideal .f32) = (⊥ : EReal) from negInf]
  by_cases h : s.val ≤ t.val
  · rw [if_pos h, decide_eq_true h]; rfl
  · rw [if_neg h, decide_eq_false h]; rfl

/-- The reference's result where every logit is real or −∞: the weighted mean of the values. -/
theorem result_apply (l : FVec Ideal S8x8x4096x4096 .f32) (v : FVec Ideal S8x8x4096x64 .f32) (hl : ∀ i, l i ≠ (⊤ : EReal))
    (b t : Fin 8) (e x : Fin 512) (h0 : l (ix4 b ⟨e.val / 64, by omega⟩ ⟨t.val * 512 + x.val, by omega⟩ 0) ≠ (⊥ : EReal)) :
    out (soft (expo l)) v (ix4 b t e x)
      = ((∑ s : Fin 4096, (v (ix4 b ⟨e.val / 64, by omega⟩ s ⟨e.val % 64, by omega⟩) * (wt (l (ix4 b ⟨e.val / 64, by omega⟩ ⟨t.val * 512 + x.val, by omega⟩ s)) : EReal) : EReal))
        * (((∑ s : Fin 4096, wt (l (ix4 b ⟨e.val / 64, by omega⟩ ⟨t.val * 512 + x.val, by omega⟩ s)))⁻¹ : ℝ) : EReal) : EReal) := by
  obtain ⟨μ, hμ⟩ := top_real l _ _ _ _ hl h0
  rw [out_apply]
  simp only [soft_apply, expo_apply, hμ]
  exact plain_softmax _ _ (fun s => hl _) ⟨0, h0⟩ μ

end Cert.Proof.Ref
end
-- ==== Proof.Value.lean ====
/- The kernel's result is the reference's: block by block the running softmax of the packed arrays, and the reference's
   softmax over all keys, are one weighted mean of the values. -/
module

public import proofs.«01_k».proof.Proof.Blocks
public import proofs.«01_k».proof.Proof.Head
public import proofs.«01_k».proof.Proof.Reference

@[expose] public section

set_option maxRecDepth 16384

noncomputable section

namespace Cert.Proof

open Cert.KernelIdeal Cert.KernelIdeal.Gen Idealize.ShloMosaic Idealize.ShloMosaic.TcCoe Idealize.SL.Sem

/-- The reference's result as a function of queries, keys, values and gates. -/
def answer (q k v : FVec Ideal S8x8x4096x64 .f32) (f : FVec Ideal S8x8x4096 .f32) : FVec Ideal S8x8x512x512 .bf16 :=
  Ref.out (Ref.soft (Ref.expo (Ref.logits q k (cumul f)))) v

section
variable (q k v : FVec Ideal S8x8x4096x64 .f32) (f : FVec Ideal S8x8x4096 .f32)
variable (qr kr : S8x8x4096x64.Idx → ℝ) (cr : S8x8x4096.Idx → ℝ)

/-- A logit, real. -/
def lg (b h : Fin 8) (t s : Fin 4096) : ℝ :=
  (∑ d : Fin 64, qr (ix4 b h t d) * kr (ix4 b h s d)) * (1 / 8) + cr (ix3 b h t) - cr (ix3 b h s)

theorem ref_logit (hq : ∀ i, q i = (qr i : EReal)) (hk : ∀ i, k i = (kr i : EReal)) (hc : ∀ i, cumul f i = (cr i : EReal))
    (b h : Fin 8) (t s : Fin 4096) :
    Ref.logits q k (cumul f) (ix4 b h t s) = if s.val ≤ t.val then ((lg qr kr cr b h t s : ℝ) : EReal) else ⊥ := by
  rw [Ref.logits_apply, ofBits_eighth, hc, hc]
  simp only [hq, hk]
  unfold lg
  rw [EReal.coe_sub, EReal.coe_add, EReal.coe_mul, coe_sum]
  simp only [EReal.coe_mul]

/-- The reference's result at an index. -/
theorem answer_apply (hq : ∀ i, q i = (qr i : EReal)) (hk : ∀ i, k i = (kr i : EReal)) (hc : ∀ i, cumul f i = (cr i : EReal))
    (b t h : Fin 8) (d : Fin 64) (x : Fin 512) :
    answer q k v f (ix4 b t ⟨h.val * 64 + d.val, by omega⟩ x)
      = ((∑ s : Fin 4096, (v (ix4 b h s d) * (wt (if s.val ≤ t.val * 512 + x.val then (lg qr kr cr b h ⟨t.val * 512 + x.val, by omega⟩ s : EReal) else ⊥) : EReal) : EReal))
        * (((∑ s : Fin 4096, wt (if s.val ≤ t.val * 512 + x.val then (lg qr kr cr b h ⟨t.val * 512 + x.val, by omega⟩ s : EReal) else ⊥))⁻¹ : ℝ) : EReal) : EReal) := by
  have hl : ∀ i, Ref.logits q k (cumul f) i ≠ (⊤ : EReal) := by
    intro i
    obtain ⟨b, h, t, s, rfl⟩ : ∃ (b h : Fin 8) (t s : Fin 4096), i = ix4 b h t s :=
      ⟨i 0, i 1, i 2, i 3, by funext a; fin_cases a <;> rfl⟩
    rw [ref_logit q k f qr kr cr hq hk hc]
    split_ifs
    · exact EReal.coe_ne_top _
    · exact bot_ne_top
  have h0 : ∀ b h t, Ref.logits q k (cumul f) (ix4 b h t 0) ≠ (⊥ : EReal) := by
    intro b h t
    rw [ref_logit q k f qr kr cr hq hk hc, if_pos (by simp)]
    exact EReal.coe_ne_bot _
  unfold answer
  rw [Ref.result_apply _ _ hl _ _ _ _ (h0 _ _ _)]
  have e1 : (⟨(h.val * 64 + d.val) / 64, by omega⟩ : Fin 8) = h := Fin.ext (by show (h.val * 64 + d.val) / 64 = h.val; omega)
  have e2 : (⟨(h.val * 64 + d.val) % 64, by omega⟩ : Fin 64) = d := Fin.ext (by show (h.val * 64 + d.val) % 64 = d.val; omega)
  simp only [e1, e2, ref_logit q k f qr kr cr hq hk hc]

variable (m : (ℓ : Loc nD τ sig) → Buf (Elt Ideal) ℓ) (c : Dev nD)

/-- What a part emits at a grid point is the reference's result. -/
theorem emitted_answer (hV : V m c main_v24 = packQ q f) (hK : V m c main_v30 = packK k f) (hW : V m c main_v35 = packV v)
    (hq : ∀ i, q i = (qr i : EReal)) (hk : ∀ i, k i = (kr i : EReal)) (hc : ∀ i, cumul f i = (cr i : EReal))
    (t : Fin cfg0.N) (qi : Fin 8) (i c' : Fin 2) (d : Fin 64) (y : Fin 256) :
    emitted c' (pinp i c' (inpAt m c t)) qi.val d y
      = answer q k v f (ix4 (batch t) qi ⟨(head t i).val * 64 + d.val, by omega⟩ ⟨c'.val * 256 + y.val, by omega⟩) := by
  rw [answer_apply q k v f qr kr cr hq hk hc]
  refine emitted_softmax c' _ qi d y (fun s => lg qr kr cr (batch t) (head t i) ⟨qi.val * 512 + (c'.val * 256 + y.val), by omega⟩ s)
    (fun s => v (ix4 (batch t) (head t i) s d)) ?_ ?_ ?_
  · intro j r
    rw [logits_apply]
    simp only [pk_apply, pq_apply, k_apply m c _ hK, q_apply m c _ hV]
    exact logit_eq q k f qr kr cr hq hk hc (batch t) (head t i) qi _ _
  · intro j r
    rw [pv_apply, v_apply m c _ hW, packV_apply, dif_pos d.isLt]
  · intro j r
    rw [pv_apply, v_apply m c _ hW, packV_apply]
    rfl

/-- The output array after the run. -/
theorem array_eq (hV : V m c main_v24 = packQ q f) (hK : V m c main_v30 = packK k f) (hW : V m c main_v35 = packV v)
    (hq : ∀ i, q i = (qr i : EReal)) (hk : ∀ i, k i = (kr i : EReal)) (hc : ∀ i, cumul f i = (cr i : EReal)) :
    (dats m 0 c).arrAt 6 cfg0.N = answer q k v f := by
  refine (dats m 0 c).arrAt_eq_of_covers 6 _ (by decide +kernel) fun t hf y => ?_
  have e := emitted_answer q k v f qr kr cr m c hV hK hW hq hk hc t (y 1) ⟨(y 2).val / 64, by have := (y 2).isLt; exact Nat.div_lt_of_lt_mul this⟩
    ⟨(y 3).val / 256, by have := (y 3).isLt; exact Nat.div_lt_of_lt_mul this⟩ ⟨(y 2).val % 64, Nat.mod_lt _ (by decide)⟩ ⟨(y 3).val % 256, Nat.mod_lt _ (by decide)⟩
  rw [after_6]
  unfold outBlk
  have g : (win0_6.blk t).view.emb y = (ix4 (batch t) (y 1 : Fin 8)
      (⟨(head t ⟨(y 2).val / 64, by have := (y 2).isLt; exact Nat.div_lt_of_lt_mul this⟩).val * 64 + (y 2).val % 64,
        by have := (head t ⟨(y 2).val / 64, by have := (y 2).isLt; exact Nat.div_lt_of_lt_mul this⟩).isLt; omega⟩ : Fin 512)
      (⟨(y 3).val / 256 * 256 + (y 3).val % 256, by have := (y 3).isLt; change (y 3).val < 512 at this; omega⟩ : Fin 512) : S8x8x512x512.Idx) := by
    have h0 : (y 0).val < 1 := (y 0).isLt
    have h2 : (y 2).val < 128 := (y 2).isLt
    funext a
    apply Fin.ext
    blk_simp [index_6, batch, head]
    fin_cases a
    · show (grid0.coords t 0).val * 1 + (y 0).val = (grid0.coords t 0).val
      omega
    · show 0 * 8 + (y 1).val = (y 1).val
      omega
    · show (grid0.coords t 1).val * 128 + (y 2).val = (2 * (grid0.coords t 1).val + (y 2).val / 64) * 64 + (y 2).val % 64
      omega
    · show 0 * 512 + (y 3).val = (y 3).val / 256 * 256 + (y 3).val % 256
      omega
  blk_simp
  rw [g]
  exact e

end

end Cert.Proof
end
-- ==== Proof.Finite.lean ====
/- What the precondition says: every query, key and gate is a real number. -/
module

public import proofs.«01_k».proof.Defs
public import Idealize.ShloMosaic.Lib.ReduceAll
public import Idealize.ShloMosaic.Lib.IdealHost

@[expose] public section

set_option maxRecDepth 16384

noncomputable section

namespace Cert.Proof

open Idealize.ShloMosaic Idealize.SL.Sem

instance preFacts : Cert.Pre_finite.Facts where
  bcast_S_S8x8x4096x64 := by decide +kernel
  reducesTo_S8x8x4096x64_S_d0_1_2_3 := by decide +kernel
  h_S_ := by decide +kernel
  bcast_S_S8x8x4096 := by decide +kernel
  reducesTo_S8x8x4096_S_d0_1_2 := by decide +kernel

theorem ofBits_inf : Ideal.ofBits FTy.f32 0x7F800000#32 = ⊤ := by
  simp [Ideal.ofBits, Ideal.ieee]

/-- A number of finite magnitude is real. -/
theorem real_of_abs_lt (x : EReal) (h : Ideal.cmp .olt (max x (-x)) ⊤ = 1#1) : ∃ r : ℝ, x = r := by
  have h' : max x (-x) < ⊤ := by
    by_contra hn
    simp [Ideal.cmp, hn] at h
  induction x with
  | bot => simp at h'
  | top => simp at h'
  | coe r => exact ⟨r, rfl⟩

theorem real_of_all {s t u : Shape} {axes : List (Fin s.rank)} (x : FVec Ideal s .f32) (w : FVec Ideal s .f32) (hw : ∀ i, w i = ⊤)
    [Subsingleton t.Idx] (init : IVec u 1) (hr : s.ReducesTo axes t) (hu : 0 < u.numel) (j : t.Idx)
    (e : Host.reduce IntOp.andi (cmpf .olt (Host.absf x) w) init hr hu j = 1#1) (i : s.Idx) : ∃ r : ℝ, x i = r := by
  have := Host.reduce_andi_all _ _ _ _ _ e i
  apply real_of_abs_lt
  rw [← hw i]
  exact this

/-- Where the precondition holds, queries, keys and gates are real. -/
theorem real_of_pre (q k v : FVec Ideal Cert.Pre_finite.S8x8x4096x64 .f32) (f : FVec Ideal Cert.Pre_finite.S8x8x4096 .f32)
    (h : Cert.Pre_finite.fn (F := Ideal) q k v f = fun _ => 1#1) :
    (∀ i, ∃ r : ℝ, q i = r) ∧ (∀ i, ∃ r : ℝ, k i = r) ∧ (∀ i, ∃ r : ℝ, f i = r) := by
  haveI : Subsingleton Cert.Pre_finite.S_.Idx := ⟨fun a b => funext fun x => x.elim0⟩
  have e := congrFun h (fun x => x.elim0)
  unfold Cert.Pre_finite.fn at e
  obtain ⟨e1, e3⟩ := IntOp.andi_eq_one.1 e
  obtain ⟨e1, e2⟩ := IntOp.andi_eq_one.1 e1
  exact ⟨real_of_all _ _ (fun _ => ofBits_inf) _ _ _ _ e1, real_of_all _ _ (fun _ => ofBits_inf) _ _ _ _ e2,
    real_of_all _ _ (fun _ => ofBits_inf) _ _ _ _ e3⟩

end Cert.Proof
end
-- ==== Proof.FfnSteps.lean ====
/- The body of the second kernel as a list of steps. One grid point handles 1024 tokens in two halves of 512. The
   first two steps mix the attention's and the gating's outputs into the residual stream; then a half's normalised
   and modulated rows go through the feed-forward network, 256 hidden columns at a time, the products adding up in an
   accumulator; at the end the accumulator, normalised, is added to the residual stream. The last columns of the first
   half alternate with the first columns of the second. -/
module

public import proofs.«01_k».proof.Proof.Gen.Kernel2Ideal.Frame.Runs

@[expose] public section

set_option maxRecDepth 16384

noncomputable section

namespace Cert.Proof.Ffn

open Cert.Kernel2Ideal Cert.Kernel2Ideal.Gen Idealize.ShloMosaic Idealize.SL.Sem

variable {F : FTy → Type} [FloatOps F]

/-! ## The payloads -/

/-- One over the root mean square of each row. -/
def rowScale (y : FVec F S512x1024 .f32) : FVec F S512x1024 .f32 :=
  broadcastTo S512x1024 (rsqrt (addf (divf
    (shapeCast S512x1 (multiReduction .add [1] S512 (mulf y y) 0x00000000#32 reduces_S512x1024_S512 (.inl rfl) rfl) shapeCasts_S512_S512x1)
    (broadcast S512x1 (Scalar.ofBits .f32 0x44800000#32 : F .f32))) (broadcast S512x1 (Scalar.ofBits .f32 0x358637BD#32 : F .f32)))) broadcasts_S512x1_S512x1024

/-- One over the root mean square of each column of the gating's output, which is stored transposed. -/
def colScale (y : FVec F S512x512 .f32) : FVec F S512x512 .f32 :=
  broadcastTo S512x512 (rsqrt (addf (divf
    (shapeCast S1x512 (multiReduction .add [0] S512 (mulf y y) 0x00000000#32 reduces_S512x512_S512 (.inl rfl) rfl) shapeCasts_S512_S1x512)
    (broadcast S1x512 (Scalar.ofBits .f32 0x44000000#32 : F .f32))) (broadcast S1x512 (Scalar.ofBits .f32 0x358637BD#32 : F .f32)))) broadcasts_S1x512_S512x512

/-- The gating's gain, one column for each of 512 tokens. -/
def gains (g : Vec F S512x128 .f32) : FVec F S512x512 .f32 :=
  concatenate S512x512 1 [⟨S512x128, (shapeCast S512x128 g shapeCasts_S512x128_S512x128 : FVec F S512x128 .f32)⟩, ⟨S512x128, (shapeCast S512x128 g shapeCasts_S512x128_S512x128 : FVec F S512x128 .f32)⟩,
    ⟨S512x128, (shapeCast S512x128 g shapeCasts_S512x128_S512x128 : FVec F S512x128 .f32)⟩, ⟨S512x128, (shapeCast S512x128 g shapeCasts_S512x128_S512x128 : FVec F S512x128 .f32)⟩]
    concatenates_S512x128_S512x128_S512x128_S512x128_S512x512_d1

/-- The gating's output, a column per token. -/
def cols (yb : Vec F S1x1x512x512 .bf16) : FVec F S512x512 .f32 :=
  extf .f32 (shapeCast S512x512 yb shapeCasts_S1x1x512x512_S512x512 : FVec F S512x512 .bf16) bitsLt_bf16_f32

/-- The gating's output, normalised. -/
def normed (yb : Vec F S1x1x512x512 .bf16) (g : Vec F S512x128 .f32) : FVec F S512x512 .bf16 :=
  truncf .bf16 (transpose S512x512 [1, 0] (mulf (mulf (cols yb) (colScale (cols yb))) (gains g)) transposes_S512x512_p1_0_S512x512) bitsLt_bf16_f32

/-- The out-projection. -/
def outProj (yb : Vec F S1x1x512x512 .bf16) (g : Vec F S512x128 .f32) (ya : Vec F S1x512x512 .bf16) (wa wb : Vec F S512x1024 .bf16) : FVec F S512x1024 .f32 :=
  addf (matmul dot_S512x512_S512x1024_S512x1024_1_0_0_1_n_n none
      (shapeCast S512x512 ya shapeCasts_S1x512x512_S512x512 : FVec F S512x512 .bf16) (shapeCast S512x1024 wa shapeCasts_S512x1024_S512x1024 : FVec F S512x1024 .bf16)
      (constant S512x1024 .f32 0x00000000#32))
    (matmul dot_S512x512_S512x1024_S512x1024_1_0_0_1_n_n none (normed yb g) (shapeCast S512x1024 wb shapeCasts_S512x1024_S512x1024 : FVec F S512x1024 .bf16)
      (constant S512x1024 .f32 0x00000000#32))

/-- One plus a row of the modulation. -/
def onePlus (r : Vec F S1x1x1x1024 .f32) : FVec F S1x1024 .f32 :=
  addf (broadcast S1x1024 (Scalar.ofBits .f32 0x3F800000#32 : F .f32)) (shapeCast S1x1024 r shapeCasts_S1x1x1x1024_S1x1024)

/-- The residual stream after the mix. -/
def mixed (y : FVec F S512x1024 .f32) (gain : Vec F S1x1024 .f32) (gate : Vec F S1x1x1x1024 .f32) (x : Vec F S1x512x1024 .f32) : FVec F S512x1024 .f32 :=
  shapeCast S512x1024 (addf (shapeCast S512x1024 x shapeCasts_S1x512x1024_S512x1024 : FVec F S512x1024 .f32)
    (mulf (mulf y (rowScale y)) (broadcastTo S512x1024 (mulf (shapeCast S1x1024 gain shapeCasts_S1x1024_S1x1024) (onePlus gate)) broadcasts_S1x1024_S512x1024)))
    shapeCasts_S512x1024_S512x1024

/-- The rows that go through the feed-forward network. -/
def modulated (x : Vec F S512x1024 .f32) (shift scale : Vec F S1x1x1x1024 .f32) (gain : Vec F S1x1024 .f32) : FVec F S512x1024 .bf16 :=
  truncf .bf16 (addf (mulf (mulf x (rowScale x))
      (broadcastTo S512x1024 (mulf (shapeCast S1x1024 gain shapeCasts_S1x1024_S1x1024) (onePlus scale)) broadcasts_S1x1024_S512x1024))
    (broadcastTo S512x1024 (shapeCast S1x1024 shift shapeCasts_S1x1x1x1024_S1x1024) broadcasts_S1x1024_S512x1024)) bitsLt_bf16_f32

/-- A product with 256 columns. -/
def times (hb : FVec F S512x1024 .bf16) (w : Vec F S1x1x1024x256 .bf16) : FVec F S512x256 .f32 :=
  matmul dot_S512x1024_S1024x256_S512x256_1_0_0_1_n_n none hb (shapeCast S1024x256 w shapeCasts_S1x1x1024x256_S1024x256 : FVec F S1024x256 .bf16)
    (constant S512x256 .f32 0x00000000#32)

/-- 256 hidden columns. -/
def hidden (hb : FVec F S512x1024 .bf16) (wg wu : Vec F S1x1x1024x256 .bf16) : FVec F S512x256 .bf16 :=
  truncf .bf16 (mulf (mulf (times hb wg) (logistic (times hb wg))) (times hb wu)) bitsLt_bf16_f32

/-- What 256 hidden columns add to the output. -/
def piece (hb : FVec F S512x1024 .bf16) (wg wu : Vec F S1x1x1024x256 .bf16) (wd : Vec F S1x1x256x1024 .bf16) : FVec F S512x1024 .f32 :=
  matmul dot_S512x256_S256x1024_S512x1024_1_0_0_1_n_n none (hidden hb wg wu) (shapeCast S256x1024 wd shapeCasts_S1x1x256x1024_S256x1024 : FVec F S256x1024 .bf16)
    (constant S512x1024 .f32 0x00000000#32)

/-- The accumulator after the first piece. -/
def accFirst (p : FVec F S512x1024 .f32) : FVec F S1x512x1024 .f32 := shapeCast S1x512x1024 p shapeCasts_S512x1024_S1x512x1024

/-- The accumulator after a further piece. -/
def accNext (p : FVec F S512x1024 .f32) (a : Vec F S1x512x1024 .f32) : FVec F S1x512x1024 .f32 :=
  shapeCast S1x512x1024 (addf (shapeCast S512x1024 a shapeCasts_S1x512x1024_S512x1024) p) shapeCasts_S512x1024_S1x512x1024

/-- The output rows from the accumulator. -/
def finished (y : FVec F S512x1024 .f32) (gain : Vec F S1x1024 .f32) (gate : Vec F S1x1x1x1024 .f32) (x : Vec F S512x1024 .f32) : FVec F S512x1024 .f32 :=
  addf x (mulf (mulf y (rowScale y)) (broadcastTo S512x1024
    (mulf (shapeCast S1x1024 gain shapeCasts_S1x1024_S1x1024) (mulf (broadcast S1x1024 (Scalar.ofBits .f32 0x3F000000#32 : F .f32)) (onePlus gate))) broadcasts_S1x1024_S512x1024))

/-! ## The rectangles are inside their buffers -/

theorem inbYb (h : Fin 2) (a : Fin 4) : ![0, h.val, 0, 0] a + S1x1x512x512.size a ≤ S1x2x512x512.size a := by revert h a; decide
theorem inbYa (h : Fin 2) (a : Fin 3) : ![0, h.val * 512, 0] a + S1x512x512.size a ≤ S1x1024x512.size a := by revert h a; decide
theorem inbX (h : Fin 2) (a : Fin 3) : ![0, h.val * 512, 0] a + S1x512x1024.size a ≤ S1x1024x1024.size a := by revert h a; decide
theorem inbW (h : Fin 2) (a : Fin 2) : ![h.val * 512, 0] a + S512x1024.size a ≤ S1024x1024.size a := by revert h a; decide
theorem inbM (r : Fin 3) (a : Fin 4) : ![0, 0, r.val, 0] a + S1x1x1x1024.size a ≤ S1x1x3x1024.size a := by revert r a; decide
theorem inbG (a : Fin 2) : ![0, 0] a + S512x128.size a ≤ S512x128.size a := by revert a; decide
theorem inbV (a : Fin 2) : ![0, 0] a + S1x1024.size a ≤ S1x1024.size a := by revert a; decide
theorem inbU (n : Fin 11) (a : Fin 4) : ![0, 0, 0, n.val * 256] a + S1x1x1024x256.size a ≤ S1x1x1024x2816.size a := by revert n a; decide
theorem inbD (n : Fin 11) (a : Fin 4) : ![0, 0, n.val * 256, 0] a + S1x1x256x1024.size a ≤ S1x1x2816x1024.size a := by revert n a; decide
theorem inbA (h : Fin 2) (a : Fin 3) : ![h.val, 0, 0] a + S1x512x1024.size a ≤ S2x512x1024.size a := by revert h a; decide

/-! ## The steps -/

/-- The buffers of a grid point: thirteen inputs, the output, two scratch buffers. -/
structure Args where
  x : Memref sig .tc .vmem S1x1024x1024 .f32
  ya : Memref sig .tc .vmem S1x1024x512 .bf16
  yb : Memref sig .tc .vmem S1x2x512x512 .bf16
  mm : Memref sig .tc .vmem S1x1x3x1024 .f32
  gb : Memref sig .tc .vmem S512x128 .f32
  gm : Memref sig .tc .vmem S1x1024 .f32
  wo : Memref sig .tc .vmem S1024x1024 .bf16
  mf : Memref sig .tc .vmem S1x1x3x1024 .f32
  gpre : Memref sig .tc .vmem S1x1024 .f32
  gpost : Memref sig .tc .vmem S1x1024 .f32
  wg : Memref sig .tc .vmem S1x1x1024x2816 .bf16
  wu : Memref sig .tc .vmem S1x1x1024x2816 .bf16
  wd : Memref sig .tc .vmem S1x1x2816x1024 .bf16
  o : Memref sig .tc .vmem S1x1024x1024 .f32
  a : Memref sig .tc .vmem S2x512x1024 .f32
  z : Memref sig .tc .vmem S1024x1024 .f32

/-- A program of the kernel body. -/
abbrev BodyProg (F : FTy → Type) [FloatOps F] := Prog (TpuEff nD τ sig (Elt F) Λ₀ .tc) PUnit

/-- One step of the body. -/
inductive Step (F : FTy → Type)
  /-- Mix half `h`. -/
  | mix (h : Fin 2)
  /-- The first columns for half `h`, whose rows are `hb`. -/
  | first (hb : FVec F S512x1024 .bf16) (h : Fin 2)
  /-- Columns `n` for half `h`, whose rows are `hb`. -/
  | more (hb : FVec F S512x1024 .bf16) (h : Fin 2) (n : Fin 11)
  /-- Emit half `h`. -/
  | finish (h : Fin 2)

/-- A step as a program. -/
def Step.prog (A : Args) : Step F → BodyProg F
  | .mix h => do
    let yb : Vec F S1x1x512x512 .bf16 ← Prog.lift (.load A.yb (Rect.unit (s := S1x2x512x512) ![0, h.val, 0, 0] S1x1x512x512.size (inbYb h)).toLoadRect (View.loadsAt_vmem h_S1x1x512x512))
    let gb : Vec F S512x128 .f32 ← Prog.lift (.load A.gb (Rect.unit (s := S512x128) ![0, 0] S512x128.size inbG).toLoadRect (View.loadsAt_vmem h_S512x128))
    let ya : Vec F S1x512x512 .bf16 ← Prog.lift (.load A.ya (Rect.unit (s := S1x1024x512) ![0, h.val * 512, 0] S1x512x512.size (inbYa h)).toLoadRect (View.loadsAt_vmem h_S1x512x512))
    let wa : Vec F S512x1024 .bf16 ← Prog.lift (.load A.wo (Rect.unit (s := S1024x1024) ![0, 0] S512x1024.size (inbW 0)).toLoadRect (View.loadsAt_vmem h_S512x1024))
    let wb : Vec F S512x1024 .bf16 ← Prog.lift (.load A.wo (Rect.unit (s := S1024x1024) ![512, 0] S512x1024.size (inbW 1)).toLoadRect (View.loadsAt_vmem h_S512x1024))
    let gm : Vec F S1x1024 .f32 ← Prog.lift (.load A.gm (Rect.unit (s := S1x1024) ![0, 0] S1x1024.size inbV).toLoadRect (View.loadsAt_vmem h_S1x1024))
    let gate : Vec F S1x1x1x1024 .f32 ← Prog.lift (.load A.mm (Rect.unit (s := S1x1x3x1024) ![0, 0, 2, 0] S1x1x1x1024.size (inbM 2)).toLoadRect (View.loadsAt_vmem h_S1x1x1x1024))
    let x : Vec F S1x512x1024 .f32 ← Prog.lift (.load A.x (Rect.unit (s := S1x1024x1024) ![0, h.val * 512, 0] S1x512x1024.size (inbX h)).toLoadRect (View.loadsAt_vmem h_S1x512x1024))
    let _ : Vec F S512x1024 .f32 ← Prog.lift (.load A.z (Rect.unit (s := S1024x1024) ![h.val * 512, 0] S512x1024.size (inbW h)).toLoadRect (View.loadsAt_vmem h_S512x1024))
    Prog.lift (.store A.z (Rect.unit (s := S1024x1024) ![h.val * 512, 0] S512x1024.size (inbW h)) (mixed (outProj yb gb ya wa wb) gm gate x) Finset.univ (View.stores_vmem_bits_univ h_S512x1024 rfl) (.inl rfl))
  | .first hb h => do
    let wg : Vec F S1x1x1024x256 .bf16 ← Prog.lift (.load A.wg (Rect.unit (s := S1x1x1024x2816) ![0, 0, 0, 0] S1x1x1024x256.size (inbU 0)).toLoadRect (View.loadsAt_vmem h_S1x1x1024x256))
    let wu : Vec F S1x1x1024x256 .bf16 ← Prog.lift (.load A.wu (Rect.unit (s := S1x1x1024x2816) ![0, 0, 0, 0] S1x1x1024x256.size (inbU 0)).toLoadRect (View.loadsAt_vmem h_S1x1x1024x256))
    let wd : Vec F S1x1x256x1024 .bf16 ← Prog.lift (.load A.wd (Rect.unit (s := S1x1x2816x1024) ![0, 0, 0, 0] S1x1x256x1024.size (inbD 0)).toLoadRect (View.loadsAt_vmem h_S1x1x256x1024))
    let _ : Vec F S1x512x1024 .f32 ← Prog.lift (.load A.a (Rect.unit (s := S2x512x1024) ![h.val, 0, 0] S1x512x1024.size (inbA h)).toLoadRect (View.loadsAt_vmem h_S1x512x1024))
    Prog.lift (.store A.a (Rect.unit (s := S2x512x1024) ![h.val, 0, 0] S1x512x1024.size (inbA h)) (accFirst (piece hb wg wu wd)) Finset.univ (View.stores_vmem_bits_univ h_S1x512x1024 rfl) (.inl rfl))
  | .more hb h n => do
    let wg : Vec F S1x1x1024x256 .bf16 ← Prog.lift (.load A.wg (Rect.unit (s := S1x1x1024x2816) ![0, 0, 0, n.val * 256] S1x1x1024x256.size (inbU n)).toLoadRect (View.loadsAt_vmem h_S1x1x1024x256))
    let wu : Vec F S1x1x1024x256 .bf16 ← Prog.lift (.load A.wu (Rect.unit (s := S1x1x1024x2816) ![0, 0, 0, n.val * 256] S1x1x1024x256.size (inbU n)).toLoadRect (View.loadsAt_vmem h_S1x1x1024x256))
    let wd : Vec F S1x1x256x1024 .bf16 ← Prog.lift (.load A.wd (Rect.unit (s := S1x1x2816x1024) ![0, 0, n.val * 256, 0] S1x1x256x1024.size (inbD n)).toLoadRect (View.loadsAt_vmem h_S1x1x256x1024))
    let a : Vec F S1x512x1024 .f32 ← Prog.lift (.load A.a (Rect.unit (s := S2x512x1024) ![h.val, 0, 0] S1x512x1024.size (inbA h)).toLoadRect (View.loadsAt_vmem h_S1x512x1024))
    let _ : Vec F S1x512x1024 .f32 ← Prog.lift (.load A.a (Rect.unit (s := S2x512x1024) ![h.val, 0, 0] S1x512x1024.size (inbA h)).toLoadRect (View.loadsAt_vmem h_S1x512x1024))
    Prog.lift (.store A.a (Rect.unit (s := S2x512x1024) ![h.val, 0, 0] S1x512x1024.size (inbA h)) (accNext (piece hb wg wu wd) a) Finset.univ (View.stores_vmem_bits_univ h_S1x512x1024 rfl) (.inl rfl))
  | .finish h => do
    let a : Vec F S1x512x1024 .f32 ← Prog.lift (.load A.a (Rect.unit (s := S2x512x1024) ![h.val, 0, 0] S1x512x1024.size (inbA h)).toLoadRect (View.loadsAt_vmem h_S1x512x1024))
    let g : Vec F S1x1024 .f32 ← Prog.lift (.load A.gpost (Rect.unit (s := S1x1024) ![0, 0] S1x1024.size inbV).toLoadRect (View.loadsAt_vmem h_S1x1024))
    let gate : Vec F S1x1x1x1024 .f32 ← Prog.lift (.load A.mf (Rect.unit (s := S1x1x3x1024) ![0, 0, 2, 0] S1x1x1x1024.size (inbM 2)).toLoadRect (View.loadsAt_vmem h_S1x1x1x1024))
    let x : Vec F S512x1024 .f32 ← Prog.lift (.load A.z (Rect.unit (s := S1024x1024) ![h.val * 512, 0] S512x1024.size (inbW h)).toLoadRect (View.loadsAt_vmem h_S512x1024))
    let _ : Vec F S1x512x1024 .f32 ← Prog.lift (.load A.o (Rect.unit (s := S1x1024x1024) ![0, h.val * 512, 0] S1x512x1024.size (inbX h)).toLoadRect (View.loadsAt_vmem h_S1x512x1024))
    Prog.lift (.store A.o (Rect.unit (s := S1x1024x1024) ![0, h.val * 512, 0] S1x512x1024.size (inbX h)) (accFirst (finished (shapeCast S512x1024 a shapeCasts_S1x512x1024_S512x1024) g gate x)) Finset.univ (View.stores_vmem_bits_univ h_S1x512x1024 rfl) (.inl rfl))

/-- A half's modulated rows, read. -/
def rows (A : Args) (h : Fin 2) : Prog (TpuEff nD τ sig (Elt F) Λ₀ .tc) (FVec F S512x1024 .bf16) := do
  let x : Vec F S512x1024 .f32 ← Prog.lift (.load A.z (Rect.unit (s := S1024x1024) ![h.val * 512, 0] S512x1024.size (inbW h)).toLoadRect (View.loadsAt_vmem h_S512x1024))
  let shift : Vec F S1x1x1x1024 .f32 ← Prog.lift (.load A.mf (Rect.unit (s := S1x1x3x1024) ![0, 0, 0, 0] S1x1x1x1024.size (inbM 0)).toLoadRect (View.loadsAt_vmem h_S1x1x1x1024))
  let scale : Vec F S1x1x1x1024 .f32 ← Prog.lift (.load A.mf (Rect.unit (s := S1x1x3x1024) ![0, 0, 1, 0] S1x1x1x1024.size (inbM 1)).toLoadRect (View.loadsAt_vmem h_S1x1x1x1024))
  let g : Vec F S1x1024 .f32 ← Prog.lift (.load A.gpre (Rect.unit (s := S1x1024) ![0, 0] S1x1024.size inbV).toLoadRect (View.loadsAt_vmem h_S1x1024))
  pure (modulated x shift scale g)

/-- A list of steps as a program. -/
def runSteps (A : Args) : List (Step F) → BodyProg F
  | [] => pure ⟨⟩
  | s :: l => do s.prog A; runSteps A l

/-- What is done with the first half's rows alone. -/
def alone (hb : FVec F S512x1024 .bf16) : List (Step F) :=
  [.first hb 0, .more hb 0 1, .more hb 0 2, .more hb 0 3, .more hb 0 4, .more hb 0 5, .more hb 0 6, .more hb 0 7]

/-- What is done once the second half's rows are there. -/
def together (hb hb' : FVec F S512x1024 .bf16) : List (Step F) :=
  [.more hb 0 8, .first hb' 1, .more hb 0 9, .more hb' 1 1, .more hb 0 10, .more hb' 1 2, .finish 0,
    .more hb' 1 3, .more hb' 1 4, .more hb' 1 5, .more hb' 1 6, .more hb' 1 7, .more hb' 1 8, .more hb' 1 9, .more hb' 1 10, .finish 1]

/-- The whole body. -/
def body (A : Args) : BodyProg F := do
  runSteps A [.mix 0, .mix 1]
  let hb ← rows A 0
  runSteps A (alone hb)
  let hb' ← rows A 1
  runSteps A (together hb hb')

/-- The printed body is the run of the steps. -/
theorem body_eq (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x2x512x512 .bf16) (harg4 : arg4.IsWhole) (arg5 : Memref sig .tc .vmem S1x1x3x1024 .f32) (harg5 : arg5.IsWhole) (arg6 : Memref sig .tc .vmem S512x128 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1x3x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1x1024x2816 .bf16) (harg12 : arg12.IsWhole) (arg13 : Memref sig .tc .vmem S1x1x1024x2816 .bf16) (harg13 : arg13.IsWhole) (arg14 : Memref sig .tc .vmem S1x1x2816x1024 .bf16) (harg14 : arg14.IsWhole) (arg15 : Memref sig .tc .vmem S1x1024x1024 .f32) (harg15 : arg15.IsWhole) (arg16 : Memref sig .tc .vmem S2x512x1024 .f32) (harg16 : arg16.IsWhole) (arg17 : Memref sig .tc .vmem S1024x1024 .f32) (harg17 : arg17.IsWhole) :
    cc0_mix_out_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = body ⟨arg2, arg3, arg4, arg5, arg6, arg7, arg8, arg9, arg10, arg11, arg12, arg13, arg14, arg15, arg16, arg17⟩ := by
  sl_kernel_rfl

end Cert.Proof.Ffn

end
-- ==== Proof.FfnRun.lean ====
/- What the steps of the second kernel do to the buffers: the program of the body, run on buffers that hold the inputs
   and a state, leaves the inputs as they are and the state at the one the steps lead to. -/
module

public import proofs.«01_k».proof.Proof.FfnSteps
public import Idealize.ShloMosaic.Lib.VecWindow

@[expose] public section

set_option maxRecDepth 16384

noncomputable section

namespace Cert.Proof.Ffn

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (UR sig nD τ) ℕ

/-! ## One load, one store, on a memref owned at its contents -/

/-- A load at a unit-stride rectangle reads a window of the contents. -/
theorem wp_load_owns (c : Dev nD) (E : Set ℕ) {β : Type} {s : Shape} {e : EltTy} (m : Memref sig .tc .vmem s e) (q : PosShare TreeShare) (X : s.Idx → Elt F e)
    {off size : Fin s.rank → ℕ} (inb : ∀ a, off a + size a ≤ s.size a) (hl : m.view.LoadsAt (Rect.unit off size inb).toLoadRect)
    (k : ((Rect.unit off size inb).shape.Idx → Elt F e) → Prog (TpuEff nD τ sig (Elt F) Λ₀ .tc) β) (Q : β → sProp 𝕄) :
    (owns (c : Thread nD τ) m q X : sProp 𝕄)
      ⊢ iprop((owns (c : Thread nD τ) m q X -∗ wp frame (wpE (defs₀ (F := F)) Variants.none c none) E (k (window X off size inb)) Q)
        -∗ wp frame (wpE (defs₀ (F := F)) Variants.none c none) E (Prog.lift (.load m (Rect.unit off size inb).toLoadRect hl) >>= k) Q) := by
  unfold owns
  iintro ⟨%f, %hf, H⟩ Hk
  iapply (wp_load (defs := defs₀ (F := F)) Variants.none (c : Thread nD τ) none E (m := m) (r := (Rect.unit off size inb).toLoadRect) (hl := hl)
    (q := q) (f := f) (S := m.view.set) (k := k) (Q := Q) (m.view.setOn_subset_set _)) $$ H
  iintro H
  rw [View.readAt_unit m.view f inb rfl inb, hf]
  iapply Hk
  iexists f; isplitr
  · ipureintro; exact hf
  iexact H

/-- An unmasked store at a unit-stride rectangle puts a window over the contents. -/
theorem wp_store_owns (c : Dev nD) (E : Set ℕ) {β : Type} {s : Shape} {e : EltTy} (m : Memref sig .tc .vmem s e) (X : s.Idx → Elt F e)
    {off size : Fin s.rank → ℕ} (inb : ∀ a, off a + size a ≤ s.size a) (w : (Rect.unit off size inb).shape.Idx → Elt F e)
    (hx : (m.access (Rect.unit off size inb)).Stores Finset.univ) (hm)
    (k : PUnit → Prog (TpuEff nD τ sig (Elt F) Λ₀ .tc) β) (Q : β → sProp 𝕄) :
    (owns (c : Thread nD τ) m fullShare X : sProp 𝕄)
      ⊢ iprop((owns (c : Thread nD τ) m fullShare (put X off size w) -∗ wp frame (wpE (defs₀ (F := F)) Variants.none c none) E (k ⟨⟩) Q)
        -∗ wp frame (wpE (defs₀ (F := F)) Variants.none c none) E (Prog.lift (.store m (Rect.unit off size inb) w Finset.univ hx hm) >>= k) Q) := by
  unfold owns
  iintro ⟨%f, %hf, H⟩ Hk
  iapply (wp_store (defs := defs₀ (F := F)) Variants.none (c : Thread nD τ) none E (m := m) (r := Rect.unit off size inb) (w := w) (Mk := Finset.univ)
    (hx := hx) (hm := hm) (f := f) (S := m.view.set) (k := k) (Q := Q) (by rw [View.setOn_univ]; exact View.set_slice_subset _ _)) $$ H
  iintro H
  iapply Hk
  iexists _; isplitr
  swap; · iexact H
  ipureintro
  rw [← hf]
  exact View.read_writes_cons_put m.view f inb w [] rfl

/-- The store that ends a program. -/
theorem wp_store_last (c : Dev nD) (E : Set ℕ) {s : Shape} {e : EltTy} (m : Memref sig .tc .vmem s e) (X : s.Idx → Elt F e)
    {off size : Fin s.rank → ℕ} (inb : ∀ a, off a + size a ≤ s.size a) (w : (Rect.unit off size inb).shape.Idx → Elt F e)
    (hx : (m.access (Rect.unit off size inb)).Stores Finset.univ) (hm) (Q : PUnit → sProp 𝕄) :
    (owns (c : Thread nD τ) m fullShare X : sProp 𝕄)
      ⊢ iprop((owns (c : Thread nD τ) m fullShare (put X off size w) -∗ Q ⟨⟩)
        -∗ wp frame (wpE (defs₀ (F := F)) Variants.none c none) E (Prog.lift (.store m (Rect.unit off size inb) w Finset.univ hx hm)) Q) := by
  iintro H Hk
  iapply (wp_store_owns c E m X inb w hx hm (fun u => .ret u) Q) $$ H
  iintro H
  iapply (le_wp_ret _ _ _ PUnit.unit Q)
  iapply Hk
  iexact H

/-! ## States -/

/-- The inputs of a grid point. -/
structure Inp (F : FTy → Type) where
  x : Vec F S1x1024x1024 .f32
  ya : Vec F S1x1024x512 .bf16
  yb : Vec F S1x2x512x512 .bf16
  mm : Vec F S1x1x3x1024 .f32
  gb : Vec F S512x128 .f32
  gm : Vec F S1x1024 .f32
  wo : Vec F S1024x1024 .bf16
  mf : Vec F S1x1x3x1024 .f32
  gpre : Vec F S1x1024 .f32
  gpost : Vec F S1x1024 .f32
  wg : Vec F S1x1x1024x2816 .bf16
  wu : Vec F S1x1x1024x2816 .bf16
  wd : Vec F S1x1x2816x1024 .bf16

/-- The contents of the output and of the scratch buffers. -/
structure St (F : FTy → Type) where
  o : Vec F S1x1024x1024 .f32
  a : Vec F S2x512x1024 .f32
  z : Vec F S1024x1024 .f32

/-- The rows of a half of the mixed residual stream. -/
def Inp.mixedHalf (I : Inp F) (h : Fin 2) : FVec F S512x1024 .f32 :=
  mixed (outProj (window I.yb ![0, h.val, 0, 0] S1x1x512x512.size (inbYb h)) (window I.gb ![0, 0] S512x128.size inbG)
      (window I.ya ![0, h.val * 512, 0] S1x512x512.size (inbYa h)) (window I.wo ![0, 0] S512x1024.size (inbW 0)) (window I.wo ![512, 0] S512x1024.size (inbW 1)))
    (window I.gm ![0, 0] S1x1024.size inbV) (window I.mm ![0, 0, 2, 0] S1x1x1x1024.size (inbM 2)) (window I.x ![0, h.val * 512, 0] S1x512x1024.size (inbX h))

/-- What columns `n` add. -/
def Inp.pieceOf (I : Inp F) (hb : FVec F S512x1024 .bf16) (n : Fin 11) : FVec F S512x1024 .f32 :=
  piece hb (window I.wg ![0, 0, 0, n.val * 256] S1x1x1024x256.size (inbU n)) (window I.wu ![0, 0, 0, n.val * 256] S1x1x1024x256.size (inbU n))
    (window I.wd ![0, 0, n.val * 256, 0] S1x1x256x1024.size (inbD n))

/-- The modulated rows of a half. -/
def Inp.rowsOf (I : Inp F) (x : Vec F S512x1024 .f32) : FVec F S512x1024 .bf16 :=
  modulated x (window I.mf ![0, 0, 0, 0] S1x1x1x1024.size (inbM 0)) (window I.mf ![0, 0, 1, 0] S1x1x1x1024.size (inbM 1)) (window I.gpre ![0, 0] S1x1024.size inbV)

/-- The finished rows of a half. -/
def Inp.done (I : Inp F) (a : Vec F S1x512x1024 .f32) (x : Vec F S512x1024 .f32) : FVec F S1x512x1024 .f32 :=
  accFirst (finished (shapeCast S512x1024 a shapeCasts_S1x512x1024_S512x1024) (window I.gpost ![0, 0] S1x1024.size inbV)
    (window I.mf ![0, 0, 2, 0] S1x1x1x1024.size (inbM 2)) x)

/-- A half of the accumulator. -/
def St.acc (σ : St F) (h : Fin 2) : Vec F S1x512x1024 .f32 := window σ.a ![h.val, 0, 0] S1x512x1024.size (inbA h)

/-- A half of the mixed residual stream. -/
def St.half (σ : St F) (h : Fin 2) : Vec F S512x1024 .f32 := window σ.z ![h.val * 512, 0] S512x1024.size (inbW h)

/-- The state after a step. -/
def Step.next (I : Inp F) (σ : St F) : Step F → St F
  | .mix h => { σ with z := put σ.z ![h.val * 512, 0] S512x1024.size (I.mixedHalf h) }
  | .first hb h => { σ with a := put σ.a ![h.val, 0, 0] S1x512x1024.size (accFirst (I.pieceOf hb 0)) }
  | .more hb h n => { σ with a := put σ.a ![h.val, 0, 0] S1x512x1024.size (accNext (I.pieceOf hb n) (σ.acc h)) }
  | .finish h => { σ with o := put σ.o ![0, h.val * 512, 0] S1x512x1024.size (I.done (σ.acc h) (σ.half h)) }

/-- The state after a list of steps. -/
def steps (I : Inp F) (σ : St F) (l : List (Step F)) : St F := l.foldl (fun σ s => s.next I σ) σ

/-- The state after the body. -/
def after (I : Inp F) (σ : St F) : St F :=
  let σ₁ := steps I σ [.mix 0, .mix 1]
  let hb := I.rowsOf (σ₁.half 0)
  let σ₂ := steps I σ₁ (alone hb)
  steps I σ₂ (together hb (I.rowsOf (σ₂.half 1)))

/-- The inputs, owned. -/
def ownIn (c : Dev nD) (A : Args) (I : Inp F) : sProp 𝕄 :=
  iprop(owns (c : Thread nD τ) A.x fullShare I.x ∗ owns (c : Thread nD τ) A.ya fullShare I.ya ∗ owns (c : Thread nD τ) A.yb fullShare I.yb ∗ owns (c : Thread nD τ) A.mm fullShare I.mm ∗ owns (c : Thread nD τ) A.gb fullShare I.gb ∗ owns (c : Thread nD τ) A.gm fullShare I.gm ∗ owns (c : Thread nD τ) A.wo fullShare I.wo ∗ owns (c : Thread nD τ) A.mf fullShare I.mf ∗ owns (c : Thread nD τ) A.gpre fullShare I.gpre ∗ owns (c : Thread nD τ) A.gpost fullShare I.gpost ∗ owns (c : Thread nD τ) A.wg fullShare I.wg ∗ owns (c : Thread nD τ) A.wu fullShare I.wu ∗ owns (c : Thread nD τ) A.wd fullShare I.wd)

/-- The output and the scratch buffers, owned at a state. -/
def ownSt (c : Dev nD) (A : Args) (σ : St F) : sProp 𝕄 :=
  iprop(owns (c : Thread nD τ) A.o fullShare σ.o ∗ owns (c : Thread nD τ) A.a fullShare σ.a ∗ owns (c : Thread nD τ) A.z fullShare σ.z)

/-- A step's program leaves the buffers at the next state. -/
theorem wp_step (c : Dev nD) (A : Args) (I : Inp F) (σ : St F) (s : Step F) (Q : PUnit → sProp 𝕄) :
    iprop(ownIn c A I ∗ ownSt c A σ)
      ⊢ iprop((ownIn c A I ∗ ownSt c A (s.next I σ) -∗ Q ⟨⟩) -∗ wp frame (wpE (defs₀ (F := F)) Variants.none c none) Set.univ (s.prog A) Q) := by
  unfold ownIn ownSt
  iintro ⟨⟨Hx, Hya, Hyb, Hmm, Hgb, Hgm, Hwo, Hmf, Hgpre, Hgpost, Hwg, Hwu, Hwd⟩, Ho, Ha, Hz⟩ Hk
  cases s with
  | mix h =>
    unfold Step.prog Step.next
    dsimp only
    iapply (wp_load_owns c _ A.yb fullShare I.yb _ _ _ Q) $$ Hyb
    iintro Hyb
    iapply (wp_load_owns c _ A.gb fullShare I.gb _ _ _ Q) $$ Hgb
    iintro Hgb
    iapply (wp_load_owns c _ A.ya fullShare I.ya _ _ _ Q) $$ Hya
    iintro Hya
    iapply (wp_load_owns c _ A.wo fullShare I.wo _ _ _ Q) $$ Hwo
    iintro Hwo
    iapply (wp_load_owns c _ A.wo fullShare I.wo _ _ _ Q) $$ Hwo
    iintro Hwo
    iapply (wp_load_owns c _ A.gm fullShare I.gm _ _ _ Q) $$ Hgm
    iintro Hgm
    iapply (wp_load_owns c _ A.mm fullShare I.mm _ _ _ Q) $$ Hmm
    iintro Hmm
    iapply (wp_load_owns c _ A.x fullShare I.x _ _ _ Q) $$ Hx
    iintro Hx
    iapply (wp_load_owns c _ A.z fullShare σ.z _ _ _ Q) $$ Hz
    iintro Hz
    iapply (wp_store_last c _ A.z σ.z _ _ _ _ Q) $$ Hz
    iintro Hz
    iapply Hk
    iframe
    iexact Hz
  | first hb h =>
    unfold Step.prog Step.next
    dsimp only
    iapply (wp_load_owns c _ A.wg fullShare I.wg _ _ _ Q) $$ Hwg
    iintro Hwg
    iapply (wp_load_owns c _ A.wu fullShare I.wu _ _ _ Q) $$ Hwu
    iintro Hwu
    iapply (wp_load_owns c _ A.wd fullShare I.wd _ _ _ Q) $$ Hwd
    iintro Hwd
    iapply (wp_load_owns c _ A.a fullShare σ.a _ _ _ Q) $$ Ha
    iintro Ha
    iapply (wp_store_last c _ A.a σ.a _ _ _ _ Q) $$ Ha
    iintro Ha
    iapply Hk
    iframe
    iexact Ha
  | more hb h n =>
    unfold Step.prog Step.next
    dsimp only
    iapply (wp_load_owns c _ A.wg fullShare I.wg _ _ _ Q) $$ Hwg
    iintro Hwg
    iapply (wp_load_owns c _ A.wu fullShare I.wu _ _ _ Q) $$ Hwu
    iintro Hwu
    iapply (wp_load_owns c _ A.wd fullShare I.wd _ _ _ Q) $$ Hwd
    iintro Hwd
    iapply (wp_load_owns c _ A.a fullShare σ.a _ _ _ Q) $$ Ha
    iintro Ha
    iapply (wp_load_owns c _ A.a fullShare σ.a _ _ _ Q) $$ Ha
    iintro Ha
    iapply (wp_store_last c _ A.a σ.a _ _ _ _ Q) $$ Ha
    iintro Ha
    iapply Hk
    iframe
    iexact Ha
  | finish h =>
    unfold Step.prog Step.next
    dsimp only
    iapply (wp_load_owns c _ A.a fullShare σ.a _ _ _ Q) $$ Ha
    iintro Ha
    iapply (wp_load_owns c _ A.gpost fullShare I.gpost _ _ _ Q) $$ Hgpost
    iintro Hgpost
    iapply (wp_load_owns c _ A.mf fullShare I.mf _ _ _ Q) $$ Hmf
    iintro Hmf
    iapply (wp_load_owns c _ A.z fullShare σ.z _ _ _ Q) $$ Hz
    iintro Hz
    iapply (wp_load_owns c _ A.o fullShare σ.o _ _ _ Q) $$ Ho
    iintro Ho
    iapply (wp_store_last c _ A.o σ.o _ _ _ _ Q) $$ Ho
    iintro Ho
    iapply Hk
    iframe
    iexact Ho

/-- A half's modulated rows, read. -/
theorem wp_rows (c : Dev nD) (A : Args) (I : Inp F) (σ : St F) (h : Fin 2) (Q : FVec F S512x1024 .bf16 → sProp 𝕄) :
    iprop(ownIn c A I ∗ ownSt c A σ)
      ⊢ iprop((ownIn c A I ∗ ownSt c A σ -∗ Q (I.rowsOf (σ.half h))) -∗ wp frame (wpE (defs₀ (F := F)) Variants.none c none) Set.univ (rows A h) Q) := by
  unfold ownIn ownSt rows Inp.rowsOf St.half
  iintro ⟨⟨Hx, Hya, Hyb, Hmm, Hgb, Hgm, Hwo, Hmf, Hgpre, Hgpost, Hwg, Hwu, Hwd⟩, Ho, Ha, Hz⟩ Hk
  iapply (wp_load_owns c _ A.z fullShare σ.z _ _ _ Q) $$ Hz
  iintro Hz
  iapply (wp_load_owns c _ A.mf fullShare I.mf _ _ _ Q) $$ Hmf
  iintro Hmf
  iapply (wp_load_owns c _ A.mf fullShare I.mf _ _ _ Q) $$ Hmf
  iintro Hmf
  iapply (wp_load_owns c _ A.gpre fullShare I.gpre _ _ _ Q) $$ Hgpre
  iintro Hgpre
  iapply (le_wp_ret _ _ _ _ Q)
  iapply Hk
  iframe

/-- A list of steps run in order. -/
theorem wp_runSteps (c : Dev nD) (A : Args) (I : Inp F) (l : List (Step F)) (σ : St F) (Q : PUnit → sProp 𝕄) :
    iprop(ownIn c A I ∗ ownSt c A σ)
      ⊢ iprop((ownIn c A I ∗ ownSt c A (steps I σ l) -∗ Q ⟨⟩) -∗ wp frame (wpE (defs₀ (F := F)) Variants.none c none) Set.univ (runSteps A l) Q) := by
  induction l generalizing σ with
  | nil =>
    iintro H Hk
    iapply (le_wp_ret _ _ _ PUnit.unit Q)
    iapply Hk
    iexact H
  | cons s l ih =>
    iintro H Hk
    unfold runSteps
    rw [wp_bind]
    iapply (wp_step c A I σ s _) $$ H
    iintro H
    iapply (ih (s.next I σ)) $$ H
    iexact Hk

/-- The body run. -/
theorem wp_body (c : Dev nD) (A : Args) (I : Inp F) (σ : St F) (Q : PUnit → sProp 𝕄) :
    iprop(ownIn c A I ∗ ownSt c A σ)
      ⊢ iprop((ownIn c A I ∗ ownSt c A (after I σ) -∗ Q ⟨⟩) -∗ wp frame (wpE (defs₀ (F := F)) Variants.none c none) Set.univ (body A) Q) := by
  unfold body after
  iintro H Hk
  rw [wp_bind]
  iapply (wp_runSteps c A I _ σ _) $$ H
  iintro H
  rw [wp_bind]
  iapply (wp_rows c A I _ 0 _) $$ H
  iintro H
  rw [wp_bind]
  iapply (wp_runSteps c A I _ _ _) $$ H
  iintro H
  rw [wp_bind]
  iapply (wp_rows c A I _ 1 _) $$ H
  iintro H
  iapply (wp_runSteps c A I _ _ _) $$ H
  iexact Hk

end Cert.Proof.Ffn

end
-- ==== Proof.FfnOut.lean ====
/- What the body of the second kernel leaves in the output's block, as a function of the input blocks. -/
module

public import proofs.«01_k».proof.Proof.FfnRun
public import Idealize.ShloMosaic.Lib.Pointwise

@[expose] public section

set_option maxRecDepth 16384

noncomputable section

namespace Cert.Proof.Ffn

open Cert.Kernel2Ideal Cert.Kernel2Ideal.Gen Idealize.ShloMosaic Idealize.SL.Sem
open VecWindow

variable {F : FTy → Type} [FloatOps F] (I : Inp F) (σ : St F) (hb : FVec F S512x1024 .bf16)

/-! ## What a step changes -/

theorem half_mix (h : Fin 2) : ((Step.mix h).next I σ).half h = I.mixedHalf h := window_put_same _ _ _ _ _
theorem half_mix_0 : ((Step.mix 1).next I σ).half 0 = σ.half 0 :=
  window_put_of_disjoint _ _ _ _ _ _ _ 0 (Or.inl (by decide))
theorem half_first (h h' : Fin 2) : ((Step.first hb h).next I σ).half h' = σ.half h' := rfl
theorem half_more (h h' : Fin 2) (n : Fin 11) : ((Step.more hb h n).next I σ).half h' = σ.half h' := rfl
theorem half_finish (h h' : Fin 2) : ((Step.finish h).next I σ).half h' = σ.half h' := rfl

theorem acc_first (h : Fin 2) : ((Step.first hb h).next I σ).acc h = accFirst (I.pieceOf hb 0) := window_put_same _ _ _ _ _
theorem acc_first_01 : ((Step.first hb 1).next I σ).acc 0 = σ.acc 0 := window_put_of_disjoint _ _ _ _ _ _ _ 0 (Or.inl (by decide))
theorem acc_more (h : Fin 2) (n : Fin 11) : ((Step.more hb h n).next I σ).acc h = accNext (I.pieceOf hb n) (σ.acc h) := window_put_same _ _ _ _ _
theorem acc_more_01 (n : Fin 11) : ((Step.more hb 1 n).next I σ).acc 0 = σ.acc 0 := window_put_of_disjoint _ _ _ _ _ _ _ 0 (Or.inl (by decide))
theorem acc_more_10 (n : Fin 11) : ((Step.more hb 0 n).next I σ).acc 1 = σ.acc 1 := window_put_of_disjoint _ _ _ _ _ _ _ 0 (Or.inr (by decide))
theorem acc_finish (h h' : Fin 2) : ((Step.finish h).next I σ).acc h' = σ.acc h' := rfl

theorem o_mix (h : Fin 2) : ((Step.mix h).next I σ).o = σ.o := rfl
theorem o_first (h : Fin 2) : ((Step.first hb h).next I σ).o = σ.o := rfl
theorem o_more (h : Fin 2) (n : Fin 11) : ((Step.more hb h n).next I σ).o = σ.o := rfl
theorem o_finish (h : Fin 2) : ((Step.finish h).next I σ).o = put σ.o ![0, h.val * 512, 0] S1x512x1024.size (I.done (σ.acc h) (σ.half h)) := rfl

/-! ## The body -/

/-- The accumulator after columns 0 to `n`. -/
def accTo : ℕ → FVec F S1x512x1024 .f32
  | 0 => accFirst (I.pieceOf hb 0)
  | n + 1 => accNext (I.pieceOf hb (Fin.ofNat 11 (n + 1))) (accTo n)

/-- A half of the output's block. -/
def outHalf (h : Fin 2) : FVec F S1x512x1024 .f32 := I.done (accTo I (I.rowsOf (I.mixedHalf h)) 10) (I.mixedHalf h)

/-- The output's block. -/
def outBlk : Vec F S1x1024x1024 .f32 := fun y =>
  outHalf I ⟨(y 1).val / 512, by have : (y 1).val < 1024 := (y 1).isLt; omega⟩
    (ix3 (0 : Fin 1) (⟨(y 1).val % 512, by omega⟩ : Fin 512) (y 2 : Fin 1024) : S1x512x1024.Idx)

theorem halves_eq : (after I σ).o = put (put σ.o ![0, (0 : Fin 2).val * 512, 0] S1x512x1024.size (outHalf I 0)) ![0, (1 : Fin 2).val * 512, 0] S1x512x1024.size (outHalf I 1) := by
  simp only [after, steps, alone, together, List.foldl, o_mix, o_first, o_more, o_finish, half_mix, half_mix_0, half_first, half_more, half_finish,
    acc_first, acc_first_01, acc_more, acc_more_01, acc_more_10, acc_finish]
  rfl

theorem out_eq : (after I σ).o = outBlk I := by
  rw [halves_eq]
  funext y
  have h0 : (y 0).val < 1 := (y 0).isLt
  have h1 : (y 1).val < 1024 := (y 1).isLt
  have h2 : (y 2).val < 1024 := (y 2).isLt
  unfold put outBlk
  by_cases hy : (y 1).val < 512
  · rw [dif_neg, dif_pos]
    · have e : (⟨(y 1).val / 512, by omega⟩ : Fin 2) = 0 := Fin.ext (by show (y 1).val / 512 = 0; omega)
      rw [e]
      refine congrArg (outHalf I 0) (funext fun a => Fin.ext ?_)
      fin_cases a
      · show (y 0).val - 0 = 0; omega
      · show (y 1).val - 0 = (y 1).val % 512; omega
      · rfl
    · intro a
      fin_cases a
      · exact ⟨Nat.zero_le _, by show (y 0).val < 0 + 1; omega⟩
      · exact ⟨Nat.zero_le _, by show (y 1).val < 0 + 512; omega⟩
      · exact ⟨Nat.zero_le _, by show (y 2).val < 0 + 1024; omega⟩
    · intro h
      have := (h 1).1
      change 512 ≤ (y 1).val at this
      omega
  · rw [dif_pos]
    · have e : (⟨(y 1).val / 512, by omega⟩ : Fin 2) = 1 := Fin.ext (by show (y 1).val / 512 = 1; omega)
      rw [e]
      refine congrArg (outHalf I 1) (funext fun a => Fin.ext ?_)
      fin_cases a
      · show (y 0).val - 0 = 0; omega
      · show (y 1).val - 512 = (y 1).val % 512; omega
      · rfl
    · intro a
      fin_cases a
      · exact ⟨Nat.zero_le _, by show (y 0).val < 0 + 1; omega⟩
      · exact ⟨by show 512 ≤ (y 1).val; omega, by show (y 1).val < 512 + 512; omega⟩
      · exact ⟨Nat.zero_le _, by show (y 2).val < 0 + 1024; omega⟩

end Cert.Proof.Ffn

end
-- ==== Proof.FfnBody.lean ====
/- The run of the second kernel's program with the output's blocks named. The body, at any grid point, leaves in the
   output's buffer `outBlk` of the input blocks, whatever its buffers held; so the pipeline writes these blocks back. -/
module

public import proofs.«01_k».proof.Proof.FfnOut
public import Idealize.ShloMosaic.Lib.Claim
public import Idealize.ShloMosaic.Lib.Pipeline.ValueKit

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of a grid point. -/
def inpAt (c : Dev nD) (t : Fin cfg0.N) : Inp F where
  x := iblk m c 0 t
  ya := iblk m c 1 t
  yb := iblk m c 2 t
  mm := iblk m c 3 t
  gb := iblk m c 4 t
  gm := iblk m c 5 t
  wo := iblk m c 6 t
  mf := iblk m c 7 t
  gpre := iblk m c 8 t
  gpost := iblk m c 9 t
  wg := iblk m c 10 t
  wu := iblk m c 11 t
  wd := iblk m c 12 t

/-- The pipeline's proof data: after the body each input's buffer holds its block, the output's `outBlk` of the inputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlk (inpAt m c t)
  Φ _ := Pipeline.ΦA spec0 c
  q w := Pipeline.shareOf spec0 w
  owed _ := 0

/-- The data's arrays are the contents at the region's entry. -/
theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outBlk (inpAt m c t) := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d
theorem before_8 (c : Dev nD) (t : Fin cfg0.N) (d) : (dats m 0 c).before 8 t d = iblk m c 8 t :=
  before0_8_of m (dats m 0 c) (dats_A m c 8) (after_8 m c) t d
theorem before_9 (c : Dev nD) (t : Fin cfg0.N) (d) : (dats m 0 c).before 9 t d = iblk m c 9 t :=
  before0_9_of m (dats m 0 c) (dats_A m c 9) (after_9 m c) t d
theorem before_10 (c : Dev nD) (t : Fin cfg0.N) (d) : (dats m 0 c).before 10 t d = iblk m c 10 t :=
  before0_10_of m (dats m 0 c) (dats_A m c 10) (after_10 m c) t d
theorem before_11 (c : Dev nD) (t : Fin cfg0.N) (d) : (dats m 0 c).before 11 t d = iblk m c 11 t :=
  before0_11_of m (dats m 0 c) (dats_A m c 11) (after_11 m c) t d
theorem before_12 (c : Dev nD) (t : Fin cfg0.N) (d) : (dats m 0 c).before 12 t d = iblk m c 12 t :=
  before0_12_of m (dats m 0 c) (dats_A m c 12) (after_12 m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What the body returns at a grid point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 2000000 in
/-- The body at any grid point: the steps' run on the point's buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  rw [show (dats m 0 c).Φ t.castSucc = Pipeline.ΦA spec0 c from rfl, PhiA0_eq]
  rw [body_eq]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (wp_body c _ (inpAt m c t) ⟨(dats m 0 c).before 13 t d13, e0, e1⟩ _) $$ [H0 H1 H2 H3 H4 H5 H6 H7 H8 H9 H10 H11 H12 H13 HS0 HS1]
  · unfold ownIn ownSt inpAt
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexact H13
    isplitl [HS0]; · iexact HS0
    iexact HS1
  unfold ownIn ownSt
  rw [out_eq]
  iintro ⟨⟨H0, H1, H2, H3, H4, H5, H6, H7, H8, H9, H10, H11, H12⟩, H13, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row is the body at the point. -/
theorem row_eq (t : Fin cfg0.N) : defs₀ (F := F) .tc cfg0.body (cfg0.bodyArgs t (cfg0.slots t)) = bodyAt0 t := by
  unfold defs₀; rw [Defs.onTc_tc]

/-- The body keeps the pipeline's contract. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The run: every execution ends with the output array as the named blocks make it, every other array as the region
    found it, and every counter at zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hΦ := fun _ _ => rfl)

end Cert.Proof.Ffn

end
-- ==== Proof.FfnTiles.lean ====
/- The payloads of the second kernel at an index, and the finished rows of a half as a function of a token's rows. -/
module

public import proofs.«01_k».proof.Proof.FfnOut
public import Idealize.ShloMosaic.Lib.Pointwise

@[expose] public section

set_option maxRecDepth 16384

noncomputable section

namespace Cert.Proof.Ffn

open Cert.Kernel2Ideal Cert.Kernel2Ideal.Gen Idealize.ShloMosaic Idealize.SL.Sem

/-! ## A token's rows -/

/-- One over the root mean square of a row of 1024. -/
def rms (f : Fin 1024 → EReal) : EReal :=
  Ideal.rsqrt (Ideal.div (∑ j, f j * f j) (Ideal.ofBits FTy.f32 0x44800000#32) + Ideal.ofBits FTy.f32 0x358637BD#32)

/-- One over the root mean square of a row of 512. -/
def rmsB (f : Fin 512 → EReal) : EReal :=
  Ideal.rsqrt (Ideal.div (∑ j, f j * f j) (Ideal.ofBits FTy.f32 0x44000000#32) + Ideal.ofBits FTy.f32 0x358637BD#32)

/-- A row scaled to root mean square one, times a gain, added to another. -/
def addRow (x y gain : Fin 1024 → EReal) (n : Fin 1024) : EReal := x n + y n * rms y * gain n

/-- A row scaled to root mean square one, times a gain, plus a shift. -/
def modRow (x gain shift : Fin 1024 → EReal) (n : Fin 1024) : EReal := x n * rms x * gain n + shift n

/-- The out-projection of a token. -/
def outRow (ya yb gb : Fin 512 → EReal) (wa wb : Fin 512 → Fin 1024 → EReal) (n : Fin 1024) : EReal :=
  (∑ j, ya j * wa j n) + ∑ j, yb j * rmsB yb * gb j * wb j n

/-- A hidden column of a token. -/
def hidRow {K : Type} (hb : Fin 1024 → EReal) (wg wu : Fin 1024 → K → EReal) (k : K) : EReal :=
  (∑ j, hb j * wg j k) * Ideal.logistic (∑ j, hb j * wg j k) * ∑ j, hb j * wu j k

/-! ## The payloads at an index -/

theorem rowScale_apply (y : FVec Ideal S512x1024 .f32) (r : Fin 512) (n : Fin 1024) :
    rowScale y (ix2 r n) = rms fun j => y (ix2 r j) := by
  pointwise [rowScale, rms]

theorem cols_apply (yb : Vec Ideal S1x1x512x512 .bf16) (j r : Fin 512) : cols yb (ix2 j r) = yb (ix4 0 0 j r) := by
  pointwise [cols]

theorem colScale_apply (y : FVec Ideal S512x512 .f32) (j r : Fin 512) :
    colScale y (ix2 j r) = rmsB fun k => y (ix2 k r) := by
  pointwise [colScale, rmsB]

theorem gains_apply (g : Vec Ideal S512x128 .f32) (gb : Fin 512 → EReal) (hg : ∀ j l, g (ix2 j l) = gb j) (j r : Fin 512) :
    gains g (ix2 j r) = gb j := by
  pointwise [gains]
  simp only [hg]
  split_ifs <;> rfl

theorem normed_apply (yb : Vec Ideal S1x1x512x512 .bf16) (g : Vec Ideal S512x128 .f32) (gb : Fin 512 → EReal) (hg : ∀ j l, g (ix2 j l) = gb j) (r j : Fin 512) :
    normed yb g (ix2 r j) = yb (ix4 0 0 j r) * rmsB (fun k => yb (ix4 0 0 k r)) * gb j := by
  pointwise [normed]
  rw [gains_apply g gb hg, colScale_apply]
  simp only [cols_apply]

theorem outProj_apply (yb : Vec Ideal S1x1x512x512 .bf16) (g : Vec Ideal S512x128 .f32) (gb : Fin 512 → EReal) (hg : ∀ j l, g (ix2 j l) = gb j)
    (ya : Vec Ideal S1x512x512 .bf16) (wa wb : Vec Ideal S512x1024 .bf16) (r : Fin 512) (n : Fin 1024) :
    outProj yb g ya wa wb (ix2 r n)
      = outRow (fun j => ya (ix3 0 r j)) (fun j => yb (ix4 0 0 j r)) gb (fun j n => wa (ix2 j n)) (fun j n => wb (ix2 j n)) n := by
  pointwise [outProj]
  simp only [normed_apply yb g gb hg]
  rfl

theorem onePlus_apply (r : Vec Ideal S1x1x1x1024 .f32) (n : Fin 1024) : onePlus r (ix2 0 n) = 1 + r (ix4 0 0 0 n) := by
  pointwise [onePlus]

theorem mixed_apply (y : FVec Ideal S512x1024 .f32) (gain : Vec Ideal S1x1024 .f32) (gate : Vec Ideal S1x1x1x1024 .f32) (x : Vec Ideal S1x512x1024 .f32)
    (r : Fin 512) (n : Fin 1024) :
    mixed y gain gate x (ix2 r n)
      = addRow (fun n => x (ix3 0 r n)) (fun n => y (ix2 r n)) (fun n => gain (ix2 0 n) * (1 + gate (ix4 0 0 0 n))) n := by
  pointwise [mixed]
  rw [rowScale_apply, onePlus_apply]
  rfl

theorem modulated_apply (x : Vec Ideal S512x1024 .f32) (shift scale : Vec Ideal S1x1x1x1024 .f32) (gain : Vec Ideal S1x1024 .f32)
    (r : Fin 512) (n : Fin 1024) :
    modulated x shift scale gain (ix2 r n)
      = modRow (fun n => x (ix2 r n)) (fun n => gain (ix2 0 n) * (1 + scale (ix4 0 0 0 n))) (fun n => shift (ix4 0 0 0 n)) n := by
  pointwise [modulated]
  rw [rowScale_apply, onePlus_apply]
  rfl

theorem times_apply (hb : FVec Ideal S512x1024 .bf16) (w : Vec Ideal S1x1x1024x256 .bf16) (r : Fin 512) (k : Fin 256) :
    times hb w (ix2 r k) = ∑ j : Fin 1024, (hb (ix2 r j) * w (ix4 0 0 j k) : EReal) := by
  pointwise [times]

theorem hidden_apply (hb : FVec Ideal S512x1024 .bf16) (wg wu : Vec Ideal S1x1x1024x256 .bf16) (r : Fin 512) (k : Fin 256) :
    hidden hb wg wu (ix2 r k) = hidRow (fun j => hb (ix2 r j)) (fun j k => wg (ix4 0 0 j k)) (fun j k => wu (ix4 0 0 j k)) k := by
  pointwise [hidden]
  simp only [times_apply]
  rfl

theorem piece_apply (hb : FVec Ideal S512x1024 .bf16) (wg wu : Vec Ideal S1x1x1024x256 .bf16) (wd : Vec Ideal S1x1x256x1024 .bf16) (r : Fin 512) (n : Fin 1024) :
    piece hb wg wu wd (ix2 r n)
      = ∑ k : Fin 256, (hidRow (fun j => hb (ix2 r j)) (fun j k => wg (ix4 0 0 j k)) (fun j k => wu (ix4 0 0 j k)) k * wd (ix4 0 0 k n) : EReal) := by
  pointwise [piece]
  simp only [hidden_apply]

theorem accFirst_apply (p : FVec Ideal S512x1024 .f32) (r : Fin 512) (n : Fin 1024) : accFirst p (ix3 0 r n) = p (ix2 r n) := by
  pointwise [accFirst]

theorem accNext_apply (p : FVec Ideal S512x1024 .f32) (a : Vec Ideal S1x512x1024 .f32) (r : Fin 512) (n : Fin 1024) :
    accNext p a (ix3 0 r n) = (a (ix3 0 r n) + p (ix2 r n) : EReal) := by
  pointwise [accNext]

theorem finished_apply (y : FVec Ideal S512x1024 .f32) (gain : Vec Ideal S1x1024 .f32) (gate : Vec Ideal S1x1x1x1024 .f32) (x : Vec Ideal S512x1024 .f32)
    (r : Fin 512) (n : Fin 1024) :
    finished y gain gate x (ix2 r n)
      = addRow (fun n => x (ix2 r n)) (fun n => y (ix2 r n))
        (fun n => gain (ix2 0 n) * (Ideal.ofBits FTy.f32 0x3F000000#32 * (1 + gate (ix4 0 0 0 n)))) n := by
  pointwise [finished]
  rw [rowScale_apply, onePlus_apply]
  rfl

end Cert.Proof.Ffn

end
-- ==== Proof.FfnHalf.lean ====
/- A row of the second kernel's output block as a function of a token's rows: the eleven pieces the accumulator adds up
   are one sum over the hidden columns. -/
module

public import proofs.«01_k».proof.Proof.FfnTiles

@[expose] public section

set_option maxRecDepth 16384

noncomputable section

namespace Cert.Proof.Ffn

open Cert.Kernel2Ideal Cert.Kernel2Ideal.Gen Idealize.ShloMosaic Idealize.SL.Sem
open VecWindow

/-- A token's rows: the residual stream, the attention's and the gating's outputs. -/
structure Token where
  x : Fin 1024 → EReal
  ya : Fin 512 → EReal
  yb : Fin 512 → EReal

/-- What all tokens of a batch share: gains, modulations and weights. -/
structure Shared where
  gb : Fin 512 → EReal
  gm : Fin 1024 → EReal
  gateM : Fin 1024 → EReal
  wo : Fin 1024 → Fin 1024 → EReal
  shift : Fin 1024 → EReal
  scale : Fin 1024 → EReal
  gateF : Fin 1024 → EReal
  gpre : Fin 1024 → EReal
  gpost : Fin 1024 → EReal
  wg : Fin 1024 → Fin 2816 → EReal
  wu : Fin 1024 → Fin 2816 → EReal
  wd : Fin 2816 → Fin 1024 → EReal

/-- The mixed residual stream of a token. -/
def mixRow (S : Shared) (T : Token) : Fin 1024 → EReal :=
  addRow T.x (outRow T.ya T.yb S.gb (fun j => S.wo ⟨j.val, by omega⟩) (fun j => S.wo ⟨512 + j.val, by omega⟩)) fun n => S.gm n * (1 + S.gateM n)

/-- The token's row that goes through the feed-forward network. -/
def preRow (S : Shared) (T : Token) : Fin 1024 → EReal :=
  modRow (mixRow S T) (fun n => S.gpre n * (1 + S.scale n)) S.shift

/-- The feed-forward network's row. -/
def ffnRow (S : Shared) (T : Token) (n : Fin 1024) : EReal := ∑ k, hidRow (preRow S T) S.wg S.wu k * S.wd k n

/-- The token's result. -/
def tokenRow (S : Shared) (T : Token) : Fin 1024 → EReal :=
  addRow (mixRow S T) (ffnRow S T) fun n => S.gpost n * (Ideal.ofBits FTy.f32 0x3F000000#32 * (1 + S.gateF n))

/-! ## A grid point's rows -/

variable (I : Inp Ideal)

/-- The token in row `t` of a grid point's blocks. -/
def tok (t : Fin 1024) : Token where
  x n := I.x (ix3 0 t n)
  ya j := I.ya (ix3 0 t j)
  yb j := I.yb (ix4 0 ⟨t.val / 512, by omega⟩ j ⟨t.val % 512, by omega⟩)

/-- What a grid point's tokens share. -/
def shared : Shared where
  gb j := I.gb (ix2 j 0)
  gm n := I.gm (ix2 0 n)
  gateM n := I.mm (ix4 0 0 2 n)
  wo j n := I.wo (ix2 j n)
  shift n := I.mf (ix4 0 0 0 n)
  scale n := I.mf (ix4 0 0 1 n)
  gateF n := I.mf (ix4 0 0 2 n)
  gpre n := I.gpre (ix2 0 n)
  gpost n := I.gpost (ix2 0 n)
  wg j k := I.wg (ix4 0 0 j k)
  wu j k := I.wu (ix4 0 0 j k)
  wd k n := I.wd (ix4 0 0 k n)

theorem win_yb (A : Vec Ideal S1x2x512x512 .bf16) (h : Fin 2) (j r : Fin 512) :
    (window A ![0, h.val, 0, 0] S1x1x512x512.size (inbYb h) : Vec Ideal S1x1x512x512 .bf16) (ix4 0 0 j r) = A (ix4 0 h j r) := by
  unfold window
  refine congrArg A (funext fun a => Fin.ext ?_)
  fin_cases a <;> simp [Rect.unit, Rect.emb]
theorem win_gb (A : Vec Ideal S512x128 .f32) (j : Fin 512) (l : Fin 128) :
    (window A ![0, 0] S512x128.size inbG : Vec Ideal S512x128 .f32) (ix2 j l) = A (ix2 j l) := by
  unfold window
  refine congrArg A (funext fun a => Fin.ext ?_)
  fin_cases a <;> simp [Rect.unit, Rect.emb]
theorem win_ya (A : Vec Ideal S1x1024x512 .bf16) (h : Fin 2) (r j : Fin 512) :
    (window A ![0, h.val * 512, 0] S1x512x512.size (inbYa h) : Vec Ideal S1x512x512 .bf16) (ix3 0 r j) = A (ix3 0 ⟨h.val * 512 + r.val, by omega⟩ j) := by
  unfold window
  refine congrArg A (funext fun a => Fin.ext ?_)
  fin_cases a <;> simp [Rect.unit, Rect.emb]
theorem win_wa (A : Vec Ideal S1024x1024 .bf16) (j : Fin 512) (n : Fin 1024) :
    (window A ![0, 0] S512x1024.size (inbW 0) : Vec Ideal S512x1024 .bf16) (ix2 j n) = A (ix2 ⟨j.val, by omega⟩ n) := by
  unfold window
  refine congrArg A (funext fun a => Fin.ext ?_)
  fin_cases a <;> simp [Rect.unit, Rect.emb]
theorem win_wb (A : Vec Ideal S1024x1024 .bf16) (j : Fin 512) (n : Fin 1024) :
    (window A ![512, 0] S512x1024.size (inbW 1) : Vec Ideal S512x1024 .bf16) (ix2 j n) = A (ix2 ⟨512 + j.val, by omega⟩ n) := by
  unfold window
  refine congrArg A (funext fun a => Fin.ext ?_)
  fin_cases a <;> simp [Rect.unit, Rect.emb]
theorem win_v (A : Vec Ideal S1x1024 .f32) (n : Fin 1024) :
    (window A ![0, 0] S1x1024.size inbV : Vec Ideal S1x1024 .f32) (ix2 0 n) = A (ix2 0 n) := by
  unfold window
  refine congrArg A (funext fun a => Fin.ext ?_)
  fin_cases a <;> simp [Rect.unit, Rect.emb]
theorem win_m (A : Vec Ideal S1x1x3x1024 .f32) (k : Fin 3) (n : Fin 1024) :
    (window A ![0, 0, k.val, 0] S1x1x1x1024.size (inbM k) : Vec Ideal S1x1x1x1024 .f32) (ix4 0 0 0 n) = A (ix4 0 0 k n) := by
  unfold window
  refine congrArg A (funext fun a => Fin.ext ?_)
  fin_cases a <;> simp [Rect.unit, Rect.emb]
theorem win_x (A : Vec Ideal S1x1024x1024 .f32) (h : Fin 2) (r : Fin 512) (n : Fin 1024) :
    (window A ![0, h.val * 512, 0] S1x512x1024.size (inbX h) : Vec Ideal S1x512x1024 .f32) (ix3 0 r n) = A (ix3 0 ⟨h.val * 512 + r.val, by omega⟩ n) := by
  unfold window
  refine congrArg A (funext fun a => Fin.ext ?_)
  fin_cases a <;> simp [Rect.unit, Rect.emb]
theorem win_u (A : Vec Ideal S1x1x1024x2816 .bf16) (i : Fin 11) (j : Fin 1024) (k : Fin 256) :
    (window A ![0, 0, 0, i.val * 256] S1x1x1024x256.size (inbU i) : Vec Ideal S1x1x1024x256 .bf16) (ix4 0 0 j k) = A (ix4 0 0 j ⟨i.val * 256 + k.val, by omega⟩) := by
  unfold window
  refine congrArg A (funext fun a => Fin.ext ?_)
  fin_cases a <;> simp [Rect.unit, Rect.emb]
theorem win_d (A : Vec Ideal S1x1x2816x1024 .bf16) (i : Fin 11) (k : Fin 256) (n : Fin 1024) :
    (window A ![0, 0, i.val * 256, 0] S1x1x256x1024.size (inbD i) : Vec Ideal S1x1x256x1024 .bf16) (ix4 0 0 k n) = A (ix4 0 0 ⟨i.val * 256 + k.val, by omega⟩ n) := by
  unfold window
  refine congrArg A (funext fun a => Fin.ext ?_)
  fin_cases a <;> simp [Rect.unit, Rect.emb]

/-- The gating's gain is one column repeated. -/
def Repeated : Prop := ∀ j l, I.gb (ix2 j l) = I.gb (ix2 j 0)

theorem tok_yb (h : Fin 2) (r j : Fin 512) : (tok I ⟨h.val * 512 + r.val, by omega⟩).yb j = I.yb (ix4 0 h j r) := by
  unfold tok
  have e1 : (⟨(h.val * 512 + r.val) / 512, by omega⟩ : Fin 2) = h := Fin.ext (by show (h.val * 512 + r.val) / 512 = h.val; omega)
  have e2 : (⟨(h.val * 512 + r.val) % 512, by omega⟩ : Fin 512) = r := Fin.ext (by show (h.val * 512 + r.val) % 512 = r.val; omega)
  simp only [e1, e2]

theorem mixedHalf_apply (hg : Repeated I) (h : Fin 2) (r : Fin 512) (n : Fin 1024) :
    I.mixedHalf h (ix2 r n) = mixRow (shared I) (tok I ⟨h.val * 512 + r.val, by omega⟩) n := by
  unfold Inp.mixedHalf mixRow
  rw [mixed_apply]
  have e2 : ∀ n, (window I.mm ![0, 0, 2, 0] S1x1x1x1024.size (inbM 2) : Vec Ideal S1x1x1x1024 .f32) (ix4 0 0 0 n) = I.mm (ix4 0 0 2 n) := win_m I.mm 2
  have eb : ∀ j, (window I.yb ![0, h.val, 0, 0] S1x1x512x512.size (inbYb h) : Vec Ideal S1x1x512x512 .bf16) (ix4 0 0 j r) = I.yb (ix4 0 h j r) := fun j => win_yb I.yb h j r
  have ea : ∀ j, (window I.ya ![0, h.val * 512, 0] S1x512x512.size (inbYa h) : Vec Ideal S1x512x512 .bf16) (ix3 0 r j) = I.ya (ix3 0 ⟨h.val * 512 + r.val, by omega⟩ j) := fun j => win_ya I.ya h r j
  have e3 : ∀ j n, (window I.wo ![0, 0] S512x1024.size (inbW 0) : Vec Ideal S512x1024 .bf16) (ix2 j n) = I.wo (ix2 ⟨j.val, by omega⟩ n) := win_wa I.wo
  have e4 : ∀ j n, (window I.wo ![512, 0] S512x1024.size (inbW 1) : Vec Ideal S512x1024 .bf16) (ix2 j n) = I.wo (ix2 ⟨512 + j.val, by omega⟩ n) := win_wb I.wo
  have e5 : ∀ n, (window I.gm ![0, 0] S1x1024.size inbV : Vec Ideal S1x1024 .f32) (ix2 0 n) = I.gm (ix2 0 n) := win_v I.gm
  have e6 : ∀ n, (window I.x ![0, h.val * 512, 0] S1x512x1024.size (inbX h) : Vec Ideal S1x512x1024 .f32) (ix3 0 r n) = I.x (ix3 0 ⟨h.val * 512 + r.val, by omega⟩ n) := win_x I.x h r
  simp only [outProj_apply _ _ (shared I).gb (fun j l => (win_gb I.gb j l).trans (hg j l)), eb, ea, e2, e3, e4, e5, e6, ← tok_yb]
  rfl

theorem rowsOf_apply (S : Shared) (T : Token) (x : Vec Ideal S512x1024 .f32) (r : Fin 512) (hS : S = shared I) (hx : ∀ n, x (ix2 r n) = mixRow S T n) (n : Fin 1024) :
    I.rowsOf x (ix2 r n) = preRow S T n := by
  subst hS
  unfold Inp.rowsOf preRow
  have e0 : ∀ n, (window I.mf ![0, 0, 0, 0] S1x1x1x1024.size (inbM 0) : Vec Ideal S1x1x1x1024 .f32) (ix4 0 0 0 n) = I.mf (ix4 0 0 0 n) := win_m I.mf 0
  have e1 : ∀ n, (window I.mf ![0, 0, 1, 0] S1x1x1x1024.size (inbM 1) : Vec Ideal S1x1x1x1024 .f32) (ix4 0 0 0 n) = I.mf (ix4 0 0 1 n) := win_m I.mf 1
  have e5 : ∀ n, (window I.gpre ![0, 0] S1x1024.size inbV : Vec Ideal S1x1024 .f32) (ix2 0 n) = I.gpre (ix2 0 n) := win_v I.gpre
  rw [modulated_apply]
  simp only [hx, e0, e1, e5]
  rfl

/-- A term of the feed-forward network's sum. -/
def term (S : Shared) (p : Fin 1024 → EReal) (n : Fin 1024) (k : Fin 2816) : EReal := hidRow p S.wg S.wu k * S.wd k n

theorem pieceOf_apply (hb : FVec Ideal S512x1024 .bf16) (p : Fin 1024 → EReal) (r : Fin 512) (hp : ∀ j, hb (ix2 r j) = p j) (i : Fin 11) (n : Fin 1024) :
    I.pieceOf hb i (ix2 r n) = ∑ k : Fin 256, term (shared I) p n ⟨i.val * 256 + k.val, by omega⟩ := by
  unfold Inp.pieceOf
  rw [piece_apply]
  have e0 : ∀ j k, (window I.wg ![0, 0, 0, i.val * 256] S1x1x1024x256.size (inbU i) : Vec Ideal S1x1x1024x256 .bf16) (ix4 0 0 j k) = I.wg (ix4 0 0 j ⟨i.val * 256 + k.val, by omega⟩) := win_u I.wg i
  have e1 : ∀ j k, (window I.wu ![0, 0, 0, i.val * 256] S1x1x1024x256.size (inbU i) : Vec Ideal S1x1x1024x256 .bf16) (ix4 0 0 j k) = I.wu (ix4 0 0 j ⟨i.val * 256 + k.val, by omega⟩) := win_u I.wu i
  have e2 : ∀ k n, (window I.wd ![0, 0, i.val * 256, 0] S1x1x256x1024.size (inbD i) : Vec Ideal S1x1x256x1024 .bf16) (ix4 0 0 k n) = I.wd (ix4 0 0 ⟨i.val * 256 + k.val, by omega⟩ n) := win_d I.wd i
  simp only [hp, e0, e1, e2]
  rfl

theorem accTo_apply (hb : FVec Ideal S512x1024 .bf16) (p : Fin 1024 → EReal) (r : Fin 512) (hp : ∀ j, hb (ix2 r j) = p j) (n : Fin 1024) (i : ℕ) :
    accTo I hb i (ix3 0 r n) = ∑ i' ∈ Finset.range (i + 1), ∑ k : Fin 256, term (shared I) p n ⟨(Fin.ofNat 11 i').val * 256 + k.val, by omega⟩ := by
  induction i with
  | zero =>
    rw [accTo, accFirst_apply, pieceOf_apply I hb p r hp, Finset.sum_range_one]
    rfl
  | succ i ih =>
    rw [accTo, accNext_apply, ih, pieceOf_apply I hb p r hp, Finset.sum_range_succ _ (i + 1)]

/-- A sum over the hidden columns, 256 at a time. -/
theorem sum_hidden (f : Fin 2816 → EReal) :
    (∑ i ∈ Finset.range 11, ∑ k : Fin 256, f ⟨(Fin.ofNat 11 i).val * 256 + k.val, by omega⟩) = ∑ k, f k := by
  rw [Finset.sum_range (n := 11) (f := fun i => ∑ k : Fin 256, f ⟨(Fin.ofNat 11 i).val * 256 + k.val, by omega⟩)]
  rw [← Equiv.sum_comp (finProdFinEquiv (m := 11) (n := 256)) (f : Fin (11 * 256) → EReal), Fintype.sum_prod_type]
  refine Finset.sum_congr rfl fun i _ => Finset.sum_congr rfl fun k _ => congrArg f (Fin.ext ?_)
  show (i.val % 11) * 256 + k.val = k.val + 256 * i.val
  omega

theorem outHalf_apply (hg : Repeated I) (h : Fin 2) (r : Fin 512) (n : Fin 1024) :
    outHalf I h (ix3 0 r n) = tokenRow (shared I) (tok I ⟨h.val * 512 + r.val, by omega⟩) n := by
  have hx : ∀ n, I.mixedHalf h (ix2 r n) = mixRow (shared I) (tok I ⟨h.val * 512 + r.val, by omega⟩) n := mixedHalf_apply I hg h r
  have hp := rowsOf_apply I (shared I) _ (I.mixedHalf h) r rfl hx
  have ha : ∀ n, (shapeCast S512x1024 (accTo I (I.rowsOf (I.mixedHalf h)) 10) shapeCasts_S1x512x1024_S512x1024 : FVec Ideal S512x1024 .f32) (ix2 r n)
      = ffnRow (shared I) (tok I ⟨h.val * 512 + r.val, by omega⟩) n := by
    intro n
    have e : (shapeCast S512x1024 (accTo I (I.rowsOf (I.mixedHalf h)) 10) shapeCasts_S1x512x1024_S512x1024 : FVec Ideal S512x1024 .f32) (ix2 r n)
        = accTo I (I.rowsOf (I.mixedHalf h)) 10 (ix3 0 r n) := by pointwise []
    rw [e, accTo_apply I _ _ r hp, sum_hidden]
    rfl
  unfold outHalf Inp.done tokenRow
  rw [accFirst_apply, finished_apply]
  have e2 : ∀ n, (window I.mf ![0, 0, 2, 0] S1x1x1x1024.size (inbM 2) : Vec Ideal S1x1x1x1024 .f32) (ix4 0 0 0 n) = I.mf (ix4 0 0 2 n) := win_m I.mf 2
  have e5 : ∀ n, (window I.gpost ![0, 0] S1x1024.size inbV : Vec Ideal S1x1024 .f32) (ix2 0 n) = I.gpost (ix2 0 n) := win_v I.gpost
  simp only [hx, ha, e2, e5]
  rfl

/-- A row of the output's block. -/
theorem outBlk_apply (hg : Repeated I) (t : Fin 1024) (n : Fin 1024) : outBlk I (ix3 0 t n) = tokenRow (shared I) (tok I t) n := by
  have e := outHalf_apply I hg ⟨t.val / 512, by omega⟩ ⟨t.val % 512, by omega⟩ n
  have ht : (⟨t.val / 512 * 512 + t.val % 512, by omega⟩ : Fin 1024) = t := Fin.ext (by show t.val / 512 * 512 + t.val % 512 = t.val; omega)
  rw [ht] at e
  exact e

end Cert.Proof.Ffn

end
-- ==== Proof.FfnBlocks.lean ====
/- The second kernel's input blocks at a grid point as parts of the arguments. -/
module

public import proofs.«01_k».proof.Proof.FfnBody
public import proofs.«01_k».proof.Proof.FfnHalf
public import Idealize.ShloMosaic.Lib.Pipeline.ValueKit

@[expose] public section

set_option maxRecDepth 16384

noncomputable section

namespace Cert.Proof.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-! ## The arrays the host code hands to the kernel -/

/-- The gating's output, each 512 tokens turned so that a token is a column. -/
def turned (y : FVec Ideal S8x4096x512 .f32) : FVec Ideal S8x8x512x512 .bf16 :=
  truncf .bf16 (transpose S8x8x512x512 [0, 1, 3, 2] (shapeCast S8x8x512x512 y shapeCasts_S8x4096x512_S8x8x512x512)
    transposes_S8x8x512x512_S8x8x512x512_0_1_3_2) bitsLt_bf16_f32

/-- The gating's gain as a column repeated. -/
def repeated (g : FVec Ideal S512 .f32) : FVec Ideal S512x128 .f32 :=
  broadcastInDim S512x128 ![0, 1] bcast_S512x1_S512x128_0_1 (broadcastInDim S512x1 ![0] bcast_S512_S512x1_0 g)

/-- A gain as a row. -/
def asRow (g : FVec Ideal S1024 .f32) : FVec Ideal S1x1024 .f32 := shapeCast S1x1024 g shapeCasts_S1024_S1x1024

theorem turned_apply (y : FVec Ideal S8x4096x512 .f32) (b q : Fin 8) (j r : Fin 512) :
    turned y (ix4 b q j r) = y (ix3 b ⟨q.val * 512 + r.val, by omega⟩ j) := by
  pointwise [turned]

theorem repeated_apply (g : FVec Ideal S512 .f32) (j : Fin 512) (l : Fin 128) : repeated g (ix2 j l) = g (ix1 j) := by
  pointwise [repeated]

theorem asRow_apply (g : FVec Ideal S1024 .f32) (n : Fin 1024) : asRow g (ix2 0 n) = g (ix1 n) := by
  pointwise [asRow]

theorem V_v0 : V m c main_v0 = (truncf .bf16 (m ((c : Thread nD τ).loc main_arg9)) bitsLt_bf16_f32 : FVec Ideal S1x2x1024x2816 .bf16) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v1 : V m c main_v1 = (truncf .bf16 (m ((c : Thread nD τ).loc main_arg10)) bitsLt_bf16_f32 : FVec Ideal S1x2x1024x2816 .bf16) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v2 : V m c main_v2 = (truncf .bf16 (m ((c : Thread nD τ).loc main_arg11)) bitsLt_bf16_f32 : FVec Ideal S1x2x2816x1024 .bf16) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v5 : V m c main_v5 = turned (m ((c : Thread nD τ).loc main_arg2)) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v7 : V m c main_v7 = repeated (m ((c : Thread nD τ).loc main_arg4)) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v8 : V m c main_v8 = (truncf .bf16 (m ((c : Thread nD τ).loc main_arg1)) bitsLt_bf16_f32 : FVec Ideal S8x4096x512 .bf16) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v9 : V m c main_v9 = (truncf .bf16 (m ((c : Thread nD τ).loc main_arg6)) bitsLt_bf16_f32 : FVec Ideal S1024x1024 .bf16) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v10 : V m c main_v10 = asRow (m ((c : Thread nD τ).loc main_arg5)) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v11 : V m c main_v11 = asRow (m ((c : Thread nD τ).loc main_arg7)) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v12 : V m c main_v12 = asRow (m ((c : Thread nD τ).loc main_arg8)) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-! ## The blocks -/

/-- A grid point's batch. -/
def batch (t : Fin cfg0.N) : Fin 8 := ⟨(grid0.coords t 0).val, (grid0.coords t 0).isLt⟩
/-- A row of a grid point's 1024. -/
def row (t : Fin cfg0.N) (r : Fin 1024) : Fin 4096 :=
  ⟨(grid0.coords t 1).val * 1024 + r.val, by have : (grid0.coords t 1).val < 4 := (grid0.coords t 1).isLt; omega⟩
/-- One of a grid point's two parts of 512. -/
def part (t : Fin cfg0.N) (h : Fin 2) : Fin 8 :=
  ⟨(grid0.coords t 1).val * 2 + h.val, by have : (grid0.coords t 1).val < 4 := (grid0.coords t 1).isLt; omega⟩

theorem index_0 : ∀ t, win0_0.index t = ![(grid0.coords t 0).val, (grid0.coords t 1).val, 0] := by decide +kernel
theorem index_1 : ∀ t, win0_1.index t = ![(grid0.coords t 0).val, (grid0.coords t 1).val, 0] := by decide +kernel
theorem index_2 : ∀ t, win0_2.index t = ![(grid0.coords t 0).val, (grid0.coords t 1).val, 0, 0] := by decide +kernel
theorem index_3 : ∀ t, win0_3.index t = ![(grid0.coords t 0).val, 1, 0, 0] := by decide +kernel
theorem index_4 : ∀ t, win0_4.index t = ![0, 0] := by decide +kernel
theorem index_5 : ∀ t, win0_5.index t = ![0, 0] := by decide +kernel
theorem index_6 : ∀ t, win0_6.index t = ![0, 0] := by decide +kernel
theorem index_7 : ∀ t, win0_7.index t = ![(grid0.coords t 0).val, 2, 0, 0] := by decide +kernel
theorem index_8 : ∀ t, win0_8.index t = ![0, 0] := by decide +kernel
theorem index_9 : ∀ t, win0_9.index t = ![0, 0] := by decide +kernel
theorem index_10 : ∀ t, win0_10.index t = ![0, 1, 0, 0] := by decide +kernel
theorem index_11 : ∀ t, win0_11.index t = ![0, 1, 0, 0] := by decide +kernel
theorem index_12 : ∀ t, win0_12.index t = ![0, 1, 0, 0] := by decide +kernel
theorem index_13 : ∀ t, win0_13.index t = ![(grid0.coords t 0).val, (grid0.coords t 1).val, 0] := by decide +kernel

theorem read_0 (A : Vec Ideal S8x4096x1024 .f32) (t : Fin cfg0.N) (r : Fin 1024) (n : Fin 1024) :
    ((cfg0.win 0).blk t).view.read (Elt Ideal) A (ix3 0 r n) = A (ix3 (batch t) (row t r) n) := by
  blk_ext [index_0, batch, row, part]

theorem x_apply (A : Vec Ideal S8x4096x1024 .f32) (hA : V m c main_arg0 = A) (t : Fin cfg0.N) (r : Fin 1024) (n : Fin 1024) :
    (inpAt m c t).x (ix3 0 r n) = A (ix3 (batch t) (row t r) n) := by
  rw [show (inpAt m c t).x = iblk m c 0 t from rfl]
  unfold iblk
  rw [show V m c (Pipeline.arrRef spec0 0) = A from hA]
  exact read_0 A t r n

theorem read_1 (A : Vec Ideal S8x4096x512 .bf16) (t : Fin cfg0.N) (r : Fin 1024) (j : Fin 512) :
    ((cfg0.win 1).blk t).view.read (Elt Ideal) A (ix3 0 r j) = A (ix3 (batch t) (row t r) j) := by
  blk_ext [index_1, batch, row, part]

theorem ya_apply (A : Vec Ideal S8x4096x512 .bf16) (hA : V m c main_v8 = A) (t : Fin cfg0.N) (r : Fin 1024) (j : Fin 512) :
    (inpAt m c t).ya (ix3 0 r j) = A (ix3 (batch t) (row t r) j) := by
  rw [show (inpAt m c t).ya = iblk m c 1 t from rfl]
  unfold iblk
  rw [show V m c (Pipeline.arrRef spec0 1) = A from hA]
  exact read_1 A t r j

theorem read_2 (A : Vec Ideal S8x8x512x512 .bf16) (t : Fin cfg0.N) (h : Fin 2) (j r : Fin 512) :
    ((cfg0.win 2).blk t).view.read (Elt Ideal) A (ix4 0 h j r) = A (ix4 (batch t) (part t h) j r) := by
  blk_ext [index_2, batch, row, part]

theorem yb_apply (A : Vec Ideal S8x8x512x512 .bf16) (hA : V m c main_v5 = A) (t : Fin cfg0.N) (h : Fin 2) (j r : Fin 512) :
    (inpAt m c t).yb (ix4 0 h j r) = A (ix4 (batch t) (part t h) j r) := by
  rw [show (inpAt m c t).yb = iblk m c 2 t from rfl]
  unfold iblk
  rw [show V m c (Pipeline.arrRef spec0 2) = A from hA]
  exact read_2 A t h j r

theorem read_3 (A : Vec Ideal S8x3x3x1024 .f32) (t : Fin cfg0.N) (k : Fin 3) (n : Fin 1024) :
    ((cfg0.win 3).blk t).view.read (Elt Ideal) A (ix4 0 0 k n) = A (ix4 (batch t) 1 k n) := by
  blk_ext [index_3, batch, row, part]

theorem mm_apply (A : Vec Ideal S8x3x3x1024 .f32) (hA : V m c main_arg3 = A) (t : Fin cfg0.N) (k : Fin 3) (n : Fin 1024) :
    (inpAt m c t).mm (ix4 0 0 k n) = A (ix4 (batch t) 1 k n) := by
  rw [show (inpAt m c t).mm = iblk m c 3 t from rfl]
  unfold iblk
  rw [show V m c (Pipeline.arrRef spec0 3) = A from hA]
  exact read_3 A t k n

theorem read_4 (A : Vec Ideal S512x128 .f32) (t : Fin cfg0.N) (j : Fin 512) (l : Fin 128) :
    ((cfg0.win 4).blk t).view.read (Elt Ideal) A (ix2 j l) = A (ix2 j l) := by
  blk_ext [index_4, batch, row, part]

theorem gb_apply (A : Vec Ideal S512x128 .f32) (hA : V m c main_v7 = A) (t : Fin cfg0.N) (j : Fin 512) (l : Fin 128) :
    (inpAt m c t).gb (ix2 j l) = A (ix2 j l) := by
  rw [show (inpAt m c t).gb = iblk m c 4 t from rfl]
  unfold iblk
  rw [show V m c (Pipeline.arrRef spec0 4) = A from hA]
  exact read_4 A t j l

theorem read_5 (A : Vec Ideal S1x1024 .f32) (t : Fin cfg0.N) (n : Fin 1024) :
    ((cfg0.win 5).blk t).view.read (Elt Ideal) A (ix2 0 n) = A (ix2 0 n) := by
  blk_ext [index_5, batch, row, part]

theorem gm_apply (A : Vec Ideal S1x1024 .f32) (hA : V m c main_v10 = A) (t : Fin cfg0.N) (n : Fin 1024) :
    (inpAt m c t).gm (ix2 0 n) = A (ix2 0 n) := by
  rw [show (inpAt m c t).gm = iblk m c 5 t from rfl]
  unfold iblk
  rw [show V m c (Pipeline.arrRef spec0 5) = A from hA]
  exact read_5 A t n

theorem read_6 (A : Vec Ideal S1024x1024 .bf16) (t : Fin cfg0.N) (j n : Fin 1024) :
    ((cfg0.win 6).blk t).view.read (Elt Ideal) A (ix2 j n) = A (ix2 j n) := by
  blk_ext [index_6, batch, row, part]

theorem wo_apply (A : Vec Ideal S1024x1024 .bf16) (hA : V m c main_v9 = A) (t : Fin cfg0.N) (j n : Fin 1024) :
    (inpAt m c t).wo (ix2 j n) = A (ix2 j n) := by
  rw [show (inpAt m c t).wo = iblk m c 6 t from rfl]
  unfold iblk
  rw [show V m c (Pipeline.arrRef spec0 6) = A from hA]
  exact read_6 A t j n

theorem read_7 (A : Vec Ideal S8x3x3x1024 .f32) (t : Fin cfg0.N) (k : Fin 3) (n : Fin 1024) :
    ((cfg0.win 7).blk t).view.read (Elt Ideal) A (ix4 0 0 k n) = A (ix4 (batch t) 2 k n) := by
  blk_ext [index_7, batch, row, part]

theorem mf_apply (A : Vec Ideal S8x3x3x1024 .f32) (hA : V m c main_arg3 = A) (t : Fin cfg0.N) (k : Fin 3) (n : Fin 1024) :
    (inpAt m c t).mf (ix4 0 0 k n) = A (ix4 (batch t) 2 k n) := by
  rw [show (inpAt m c t).mf = iblk m c 7 t from rfl]
  unfold iblk
  rw [show V m c (Pipeline.arrRef spec0 7) = A from hA]
  exact read_7 A t k n

theorem read_8 (A : Vec Ideal S1x1024 .f32) (t : Fin cfg0.N) (n : Fin 1024) :
    ((cfg0.win 8).blk t).view.read (Elt Ideal) A (ix2 0 n) = A (ix2 0 n) := by
  blk_ext [index_8, batch, row, part]

theorem gpre_apply (A : Vec Ideal S1x1024 .f32) (hA : V m c main_v11 = A) (t : Fin cfg0.N) (n : Fin 1024) :
    (inpAt m c t).gpre (ix2 0 n) = A (ix2 0 n) := by
  rw [show (inpAt m c t).gpre = iblk m c 8 t from rfl]
  unfold iblk
  rw [show V m c (Pipeline.arrRef spec0 8) = A from hA]
  exact read_8 A t n

theorem read_9 (A : Vec Ideal S1x1024 .f32) (t : Fin cfg0.N) (n : Fin 1024) :
    ((cfg0.win 9).blk t).view.read (Elt Ideal) A (ix2 0 n) = A (ix2 0 n) := by
  blk_ext [index_9, batch, row, part]

theorem gpost_apply (A : Vec Ideal S1x1024 .f32) (hA : V m c main_v12 = A) (t : Fin cfg0.N) (n : Fin 1024) :
    (inpAt m c t).gpost (ix2 0 n) = A (ix2 0 n) := by
  rw [show (inpAt m c t).gpost = iblk m c 9 t from rfl]
  unfold iblk
  rw [show V m c (Pipeline.arrRef spec0 9) = A from hA]
  exact read_9 A t n

theorem read_10 (A : Vec Ideal S1x2x1024x2816 .bf16) (t : Fin cfg0.N) (j : Fin 1024) (k : Fin 2816) :
    ((cfg0.win 10).blk t).view.read (Elt Ideal) A (ix4 0 0 j k) = A (ix4 0 1 j k) := by
  blk_ext [index_10, batch, row, part]

theorem wg_apply (A : Vec Ideal S1x2x1024x2816 .bf16) (hA : V m c main_v0 = A) (t : Fin cfg0.N) (j : Fin 1024) (k : Fin 2816) :
    (inpAt m c t).wg (ix4 0 0 j k) = A (ix4 0 1 j k) := by
  rw [show (inpAt m c t).wg = iblk m c 10 t from rfl]
  unfold iblk
  rw [show V m c (Pipeline.arrRef spec0 10) = A from hA]
  exact read_10 A t j k

theorem read_11 (A : Vec Ideal S1x2x1024x2816 .bf16) (t : Fin cfg0.N) (j : Fin 1024) (k : Fin 2816) :
    ((cfg0.win 11).blk t).view.read (Elt Ideal) A (ix4 0 0 j k) = A (ix4 0 1 j k) := by
  blk_ext [index_11, batch, row, part]

theorem wu_apply (A : Vec Ideal S1x2x1024x2816 .bf16) (hA : V m c main_v1 = A) (t : Fin cfg0.N) (j : Fin 1024) (k : Fin 2816) :
    (inpAt m c t).wu (ix4 0 0 j k) = A (ix4 0 1 j k) := by
  rw [show (inpAt m c t).wu = iblk m c 11 t from rfl]
  unfold iblk
  rw [show V m c (Pipeline.arrRef spec0 11) = A from hA]
  exact read_11 A t j k

theorem read_12 (A : Vec Ideal S1x2x2816x1024 .bf16) (t : Fin cfg0.N) (k : Fin 2816) (n : Fin 1024) :
    ((cfg0.win 12).blk t).view.read (Elt Ideal) A (ix4 0 0 k n) = A (ix4 0 1 k n) := by
  blk_ext [index_12, batch, row, part]

theorem wd_apply (A : Vec Ideal S1x2x2816x1024 .bf16) (hA : V m c main_v2 = A) (t : Fin cfg0.N) (k : Fin 2816) (n : Fin 1024) :
    (inpAt m c t).wd (ix4 0 0 k n) = A (ix4 0 1 k n) := by
  rw [show (inpAt m c t).wd = iblk m c 12 t from rfl]
  unfold iblk
  rw [show V m c (Pipeline.arrRef spec0 12) = A from hA]
  exact read_12 A t k n

/-! ## A grid point's tokens -/

/-- A token's rows in the arguments. -/
def tokOf (x : FVec Ideal S8x4096x1024 .f32) (ya yb : FVec Ideal S8x4096x512 .f32) (b : Fin 8) (s : Fin 4096) : Token where
  x n := x (ix3 b s n)
  ya j := ya (ix3 b s j)
  yb j := yb (ix3 b s j)

/-- What a batch's tokens share. -/
def sharedOf (mod : FVec Ideal S8x3x3x1024 .f32) (gb : FVec Ideal S512 .f32) (gm : FVec Ideal S1024 .f32) (wo : FVec Ideal S1024x1024 .f32)
    (gpre gpost : FVec Ideal S1024 .f32) (wg wu : FVec Ideal S1x2x1024x2816 .f32) (wd : FVec Ideal S1x2x2816x1024 .f32) (b : Fin 8) : Shared where
  gb j := gb (ix1 j)
  gm n := gm (ix1 n)
  gateM n := mod (ix4 b 1 2 n)
  wo j n := wo (ix2 j n)
  shift n := mod (ix4 b 2 0 n)
  scale n := mod (ix4 b 2 1 n)
  gateF n := mod (ix4 b 2 2 n)
  gpre n := gpre (ix1 n)
  gpost n := gpost (ix1 n)
  wg j k := wg (ix4 0 1 j k)
  wu j k := wu (ix4 0 1 j k)
  wd k n := wd (ix4 0 1 k n)

variable (x : FVec Ideal S8x4096x1024 .f32) (ya yb : FVec Ideal S8x4096x512 .f32) (mod : FVec Ideal S8x3x3x1024 .f32)
  (gb : FVec Ideal S512 .f32) (gm : FVec Ideal S1024 .f32) (wo : FVec Ideal S1024x1024 .f32)
  (gpre gpost : FVec Ideal S1024 .f32) (wg wu : FVec Ideal S1x2x1024x2816 .f32) (wd : FVec Ideal S1x2x2816x1024 .f32)

theorem tok_inpAt (h0 : V m c main_arg0 = x) (h1 : V m c main_v8 = (truncf .bf16 ya bitsLt_bf16_f32 : FVec Ideal S8x4096x512 .bf16))
    (h2 : V m c main_v5 = turned yb) (t : Fin cfg0.N) (r : Fin 1024) : tok (inpAt m c t) r = tokOf x ya yb (batch t) (row t r) := by
  unfold tok tokOf
  rw [Token.mk.injEq]
  refine ⟨funext fun n => x_apply m c _ h0 t r n, funext fun j => ya_apply m c _ h1 t r j, funext fun j => ?_⟩
  rw [yb_apply m c _ h2, turned_apply]
  refine congrArg (fun s => yb (ix3 (batch t) s j)) (Fin.ext ?_)
  show ((grid0.coords t 1).val * 2 + r.val / 512) * 512 + r.val % 512 = (grid0.coords t 1).val * 1024 + r.val
  omega

theorem repeated_inpAt (h4 : V m c main_v7 = repeated gb) (t : Fin cfg0.N) : Repeated (inpAt m c t) := by
  intro j l
  rw [gb_apply m c _ h4, gb_apply m c _ h4, repeated_apply, repeated_apply]

theorem shared_inpAt (h3 : V m c main_arg3 = mod) (h4 : V m c main_v7 = repeated gb) (h5 : V m c main_v10 = asRow gm)
    (h6 : V m c main_v9 = (truncf .bf16 wo bitsLt_bf16_f32 : FVec Ideal S1024x1024 .bf16))
    (h8 : V m c main_v11 = asRow gpre) (h9 : V m c main_v12 = asRow gpost)
    (h10 : V m c main_v0 = (truncf .bf16 wg bitsLt_bf16_f32 : FVec Ideal S1x2x1024x2816 .bf16))
    (h11 : V m c main_v1 = (truncf .bf16 wu bitsLt_bf16_f32 : FVec Ideal S1x2x1024x2816 .bf16))
    (h12 : V m c main_v2 = (truncf .bf16 wd bitsLt_bf16_f32 : FVec Ideal S1x2x2816x1024 .bf16)) (t : Fin cfg0.N) :
    shared (inpAt m c t) = sharedOf mod gb gm wo gpre gpost wg wu wd (batch t) := by
  unfold shared sharedOf
  rw [Shared.mk.injEq]
  exact ⟨funext fun j => (gb_apply m c _ h4 t j 0).trans (repeated_apply gb j 0),
    funext fun n => (gm_apply m c _ h5 t n).trans (asRow_apply gm n),
    funext fun n => mm_apply m c _ h3 t 2 n,
    funext fun j => funext fun n => wo_apply m c _ h6 t j n,
    funext fun n => mf_apply m c _ h3 t 0 n,
    funext fun n => mf_apply m c _ h3 t 1 n,
    funext fun n => mf_apply m c _ h3 t 2 n,
    funext fun n => (gpre_apply m c _ h8 t n).trans (asRow_apply gpre n),
    funext fun n => (gpost_apply m c _ h9 t n).trans (asRow_apply gpost n),
    funext fun j => funext fun k => wg_apply m c _ h10 t j k,
    funext fun j => funext fun k => wu_apply m c _ h11 t j k,
    funext fun k => funext fun n => wd_apply m c _ h12 t k n⟩

end Cert.Proof.Ffn

end
-- ==== Proof.FfnReference.lean ====
/- The second reference's result at an index, as a function of a token's rows. -/
module

public import proofs.«01_k».proof.Proof.FfnBlocks
public import proofs.«01_k».proof.Proof.Gen.Reference2Ideal.Run
import Idealize.ShloMosaic.Lib.Pointwise
public import Idealize.ShloMosaic.Lib.IdealHost

@[expose] public section

set_option maxRecDepth 16384

noncomputable section

namespace Cert.Proof.Ffn.Ref

open Cert.Reference2Ideal Cert.Reference2Ideal.Gen Idealize.ShloMosaic Idealize.ShloMosaic.TcCoe Idealize.SL.Sem
open Cert.Proof.Ffn (Token Shared rms rmsB addRow modRow outRow hidRow mixRow preRow ffnRow tokenRow tokOf sharedOf)

/-- One over the root mean square of each row. -/
def scaleOf (y : FVec Ideal S8x4096x1024 .f32) : FVec Ideal S8x4096x1 .f32 :=
  Host.rsqrt (addf (Host.divf (broadcastInDim S8x4096x1 ![0, 1] bcast_S8x4096_S8x4096x1_0_1
      (Host.reduceAdd (mulf y y) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32)))

/-- The rows scaled to root mean square one, times a gain. -/
def norm (y : FVec Ideal S8x4096x1024 .f32) (g : FVec Ideal S1024 .f32) : FVec Ideal S8x4096x1024 .f32 :=
  mulf (mulf y (broadcastInDim S8x4096x1024 ![0, 1, 2] bcast_S8x4096x1_S8x4096x1024_0_1_2 (scaleOf y)))
    (broadcastInDim S8x4096x1024 ![0, 1, 2] bcast_S1x1x1024_S8x4096x1024_0_1_2 (broadcastInDim S1x1x1024 ![2] bcast_S1024_S1x1x1024_2 g))

/-- One over the root mean square of each row of the gating's output. -/
def scaleOfB (y : FVec Ideal S8x4096x512 .f32) : FVec Ideal S8x4096x1 .f32 :=
  Host.rsqrt (addf (Host.divf (broadcastInDim S8x4096x1 ![0, 1] bcast_S8x4096_S8x4096x1_0_1
      (Host.reduceAdd (mulf y y) (constant S_ .f32 0x00000000#32) reducesTo_S8x4096x512_S8x4096_d2 h_S_))
    (broadcastInDim S8x4096x1 ![] bcast_S_S8x4096x1 (constant S_ .f32 0x44000000#32)))
    (broadcastInDim S8x4096x1 ![] bcast_S_S8x4096x1 (constant S_ .f32 0x358637BD#32)))

/-- The gating's output normed. -/
def normB (y : FVec Ideal S8x4096x512 .f32) (g : FVec Ideal S512 .f32) : FVec Ideal S8x4096x512 .f32 :=
  mulf (mulf y (broadcastInDim S8x4096x512 ![0, 1, 2] bcast_S8x4096x1_S8x4096x512_0_1_2 (scaleOfB y)))
    (broadcastInDim S8x4096x512 ![0, 1, 2] bcast_S1x1x512_S8x4096x512_0_1_2 (broadcastInDim S1x1x512 ![2] bcast_S512_S1x1x512_2 g))

/-- The out-projection. -/
def outp (ya yn : FVec Ideal S8x4096x512 .f32) (w : FVec Ideal S1024x1024 .f32) : FVec Ideal S8x4096x1024 .f32 :=
  Host.dotGeneral dot_S8x4096x1024_S1024x1024_S8x4096x1024_2_0_01_1_n_n none
    (concatenate S8x4096x1024 2 [⟨S8x4096x512, ya⟩, ⟨S8x4096x512, yn⟩] concatenates_S8x4096x512_S8x4096x512_S8x4096x1024_d2) w

/-- The shifts of the three sublayers. -/
def shifts (a : FVec Ideal S8x3x3x1024 .f32) : FVec Ideal S8x3x1024 .f32 :=
  shapeCast _ (extractStridedSlice S8x3x1x1024 ![0, 0, 0, 0] a slices_S8x3x3x1024_S8x3x1x1024_0_0_0_0) shapeCasts_S8x3x1x1024_S8x3x1024
/-- The scales of the three sublayers. -/
def scales (a : FVec Ideal S8x3x3x1024 .f32) : FVec Ideal S8x3x1024 .f32 :=
  shapeCast _ (extractStridedSlice S8x3x1x1024 ![0, 0, 1, 0] a slices_S8x3x3x1024_S8x3x1x1024_0_0_1_0) shapeCasts_S8x3x1x1024_S8x3x1024
/-- The gates of the three sublayers. -/
def gates (a : FVec Ideal S8x3x3x1024 .f32) : FVec Ideal S8x3x1024 .f32 :=
  shapeCast _ (extractStridedSlice S8x3x1x1024 ![0, 0, 2, 0] a slices_S8x3x3x1024_S8x3x1x1024_0_0_2_0) shapeCasts_S8x3x1x1024_S8x3x1024

/-- The second sublayer's row of each batch. -/
def second (a : FVec Ideal S8x3x1024 .f32) : FVec Ideal S8x1x1024 .f32 :=
  broadcastInDim S8x1x1024 ![0, 2] bcast_S8x1024_S8x1x1024_0_2
    (shapeCast _ (extractStridedSlice S8x1x1024 ![0, 1, 0] a slices_S8x3x1024_S8x1x1024_0_1_0) shapeCasts_S8x1x1024_S8x1024)
/-- The third sublayer's row of each batch. -/
def third (a : FVec Ideal S8x3x1024 .f32) : FVec Ideal S8x1x1024 .f32 :=
  broadcastInDim S8x1x1024 ![0, 2] bcast_S8x1024_S8x1x1024_0_2
    (shapeCast _ (extractStridedSlice S8x1x1024 ![0, 2, 0] a slices_S8x3x1024_S8x1x1024_0_2_0) shapeCasts_S8x1x1024_S8x1024)

/-- One more than each value. -/
def plusOne (a : FVec Ideal S8x1x1024 .f32) : FVec Ideal S8x1x1024 .f32 :=
  addf (broadcastInDim S8x1x1024 ![] bcast_S_S8x1x1024 (constant S_ .f32 0x3F800000#32)) a

/-- A batch's row for each of its tokens. -/
def all (a : FVec Ideal S8x1x1024 .f32) : FVec Ideal S8x4096x1024 .f32 :=
  broadcastInDim S8x4096x1024 ![0, 1, 2] bcast_S8x1x1024_S8x4096x1024_0_1_2 a

/-- The residual stream after the mixer. -/
def mix (x h : FVec Ideal S8x4096x1024 .f32) (a : FVec Ideal S8x3x3x1024 .f32) (g : FVec Ideal S1024 .f32) : FVec Ideal S8x4096x1024 .f32 :=
  addf x (mulf (all (plusOne (second (gates a)))) (norm h g))

/-- The rows that go through the feed-forward network. -/
def pre (x : FVec Ideal S8x4096x1024 .f32) (a : FVec Ideal S8x3x3x1024 .f32) (g : FVec Ideal S1024 .f32) : FVec Ideal S8x4096x1024 .f32 :=
  addf (mulf (norm x g) (all (plusOne (third (scales a))))) (all (third (shifts a)))

/-- The second network's weights upwards. -/
def wUp (w : FVec Ideal S1x2x1024x2816 .f32) : FVec Ideal S1024x2816 .f32 :=
  shapeCast _ (extractStridedSlice S1x1x1024x2816 ![0, 1, 0, 0] w slices_S1x2x1024x2816_S1x1x1024x2816_0_1_0_0) shapeCasts_S1x1x1024x2816_S1024x2816
/-- The second network's weights downwards. -/
def wDown (w : FVec Ideal S1x2x2816x1024 .f32) : FVec Ideal S2816x1024 .f32 :=
  shapeCast _ (extractStridedSlice S1x1x2816x1024 ![0, 1, 0, 0] w slices_S1x2x2816x1024_S1x1x2816x1024_0_1_0_0) shapeCasts_S1x1x2816x1024_S2816x1024

/-- A projection to the hidden columns. -/
def up (h : FVec Ideal S8x4096x1024 .f32) (w : FVec Ideal S1x2x1024x2816 .f32) : FVec Ideal S8x4096x2816 .f32 :=
  Host.dotGeneral dot_S8x4096x1024_S1024x2816_S8x4096x2816_2_0_01_1_n_n none h (wUp w)

/-- `x · 1/(1 + exp(−x))`. -/
def silu (g : FVec Ideal S8x4096x2816 .f32) : FVec Ideal S8x4096x2816 .f32 :=
  mulf g (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf g))))

/-- The projection back. -/
def down (p : FVec Ideal S8x4096x2816 .f32) (w : FVec Ideal S1x2x2816x1024 .f32) : FVec Ideal S8x4096x1024 .f32 :=
  Host.dotGeneral dot_S8x4096x2816_S2816x1024_S8x4096x1024_2_0_01_1_n_n none p (wDown w)

/-- The result: the network's rows normed, gated and added. -/
def fin (x d : FVec Ideal S8x4096x1024 .f32) (a : FVec Ideal S8x3x3x1024 .f32) (g : FVec Ideal S1024 .f32) : FVec Ideal S8x4096x1024 .f32 :=
  addf x (mulf (all (mulf (broadcastInDim S8x1x1024 ![] bcast_S_S8x1x1024 (constant S_ .f32 0x3F000000#32)) (plusOne (third (gates a))))) (norm d g))

/-- The network. -/
def ffn (h : FVec Ideal S8x4096x1024 .f32) (wg wu : FVec Ideal S1x2x1024x2816 .f32) (wd : FVec Ideal S1x2x2816x1024 .f32) : FVec Ideal S8x4096x1024 .f32 :=
  down (mulf (silu (up h wg)) (up h wu)) wd

/-- The feed-forward half-step. -/
def half (x : FVec Ideal S8x4096x1024 .f32) (a : FVec Ideal S8x3x3x1024 .f32) (gpre gpost : FVec Ideal S1024 .f32)
    (wg wu : FVec Ideal S1x2x1024x2816 .f32) (wd : FVec Ideal S1x2x2816x1024 .f32) : FVec Ideal S8x4096x1024 .f32 :=
  fin x (ffn (pre x a gpre) wg wu wd) a gpost

/-- The reference's result as a function of the arguments. -/
def result (x : FVec Ideal S8x4096x1024 .f32) (ya yb : FVec Ideal S8x4096x512 .f32) (a : FVec Ideal S8x3x3x1024 .f32) (gb : FVec Ideal S512 .f32)
    (gm : FVec Ideal S1024 .f32) (wo : FVec Ideal S1024x1024 .f32) (gpre gpost : FVec Ideal S1024 .f32)
    (wg wu : FVec Ideal S1x2x1024x2816 .f32) (wd : FVec Ideal S1x2x2816x1024 .f32) : FVec Ideal S8x4096x1024 .f32 :=
  half (mix x (outp ya (normB yb gb) wo) a gm) a gpre gpost wg wu wd

/-! ## At an index -/

theorem ofBits_one : Ideal.ofBits FTy.f32 0x3F800000#32 = 1 := by
  simp [Ideal.ofBits, Ideal.ieee, -EReal.coe_mul]; norm_num

theorem scaleOf_apply (y : FVec Ideal S8x4096x1024 .f32) (b : Fin 8) (s : Fin 4096) : scaleOf y (ix3 b s 0) = rms fun j => y (ix3 b s j) := by
  pointwise [scaleOf, rms]

theorem norm_apply (y : FVec Ideal S8x4096x1024 .f32) (g : FVec Ideal S1024 .f32) (b : Fin 8) (s : Fin 4096) (n : Fin 1024) :
    norm y g (ix3 b s n) = y (ix3 b s n) * rms (fun j => y (ix3 b s j)) * g (ix1 n) := by
  pointwise [norm]
  rw [scaleOf_apply]

theorem scaleOfB_apply (y : FVec Ideal S8x4096x512 .f32) (b : Fin 8) (s : Fin 4096) : scaleOfB y (ix3 b s 0) = rmsB fun j => y (ix3 b s j) := by
  pointwise [scaleOfB, rmsB]

theorem normB_apply (y : FVec Ideal S8x4096x512 .f32) (g : FVec Ideal S512 .f32) (b : Fin 8) (s : Fin 4096) (n : Fin 512) :
    normB y g (ix3 b s n) = y (ix3 b s n) * rmsB (fun j => y (ix3 b s j)) * g (ix1 n) := by
  pointwise [normB]
  rw [scaleOfB_apply]

theorem outp_apply (ya yn : FVec Ideal S8x4096x512 .f32) (w : FVec Ideal S1024x1024 .f32) (b : Fin 8) (s : Fin 4096) (n : Fin 1024) :
    outp ya yn w (ix3 b s n) = (∑ j : Fin 512, (ya (ix3 b s j) * w (ix2 ⟨j.val, by omega⟩ n) : EReal))
      + ∑ j : Fin 512, (yn (ix3 b s j) * w (ix2 ⟨512 + j.val, by omega⟩ n) : EReal) := by
  pointwise [outp]

theorem shifts_apply (a : FVec Ideal S8x3x3x1024 .f32) (b : Fin 8) (i : Fin 3) (n : Fin 1024) : shifts a (ix3 b i n) = a (ix4 b i 0 n) := by
  pointwise [shifts]
theorem scales_apply (a : FVec Ideal S8x3x3x1024 .f32) (b : Fin 8) (i : Fin 3) (n : Fin 1024) : scales a (ix3 b i n) = a (ix4 b i 1 n) := by
  pointwise [scales]
theorem gates_apply (a : FVec Ideal S8x3x3x1024 .f32) (b : Fin 8) (i : Fin 3) (n : Fin 1024) : gates a (ix3 b i n) = a (ix4 b i 2 n) := by
  pointwise [gates]
theorem second_apply (a : FVec Ideal S8x3x1024 .f32) (b : Fin 8) (n : Fin 1024) : second a (ix3 b 0 n) = a (ix3 b 1 n) := by
  pointwise [second]
theorem third_apply (a : FVec Ideal S8x3x1024 .f32) (b : Fin 8) (n : Fin 1024) : third a (ix3 b 0 n) = a (ix3 b 2 n) := by
  pointwise [third]
theorem plusOne_apply (a : FVec Ideal S8x1x1024 .f32) (b : Fin 8) (n : Fin 1024) : plusOne a (ix3 b 0 n) = 1 + a (ix3 b 0 n) := by
  pointwise [plusOne]
theorem all_apply (a : FVec Ideal S8x1x1024 .f32) (b : Fin 8) (s : Fin 4096) (n : Fin 1024) : all a (ix3 b s n) = a (ix3 b 0 n) := by
  pointwise [all]
theorem wUp_apply (w : FVec Ideal S1x2x1024x2816 .f32) (j : Fin 1024) (k : Fin 2816) : wUp w (ix2 j k) = w (ix4 0 1 j k) := by
  pointwise [wUp]
theorem wDown_apply (w : FVec Ideal S1x2x2816x1024 .f32) (k : Fin 2816) (n : Fin 1024) : wDown w (ix2 k n) = w (ix4 0 1 k n) := by
  pointwise [wDown]
theorem up_apply (h : FVec Ideal S8x4096x1024 .f32) (w : FVec Ideal S1x2x1024x2816 .f32) (b : Fin 8) (s : Fin 4096) (k : Fin 2816) :
    up h w (ix3 b s k) = ∑ j : Fin 1024, (h (ix3 b s j) * w (ix4 0 1 j k) : EReal) := by
  pointwise [up]
  simp only [wUp_apply]
theorem silu_apply (g : FVec Ideal S8x4096x2816 .f32) (b : Fin 8) (s : Fin 4096) (k : Fin 2816) :
    silu g (ix3 b s k) = g (ix3 b s k) * Ideal.logistic (g (ix3 b s k)) := by
  pointwise [silu, Ideal.logistic]
theorem down_apply (p : FVec Ideal S8x4096x2816 .f32) (w : FVec Ideal S1x2x2816x1024 .f32) (b : Fin 8) (s : Fin 4096) (n : Fin 1024) :
    down p w (ix3 b s n) = ∑ k : Fin 2816, (p (ix3 b s k) * w (ix4 0 1 k n) : EReal) := by
  pointwise [down]
  simp only [wDown_apply]

theorem mix_apply (x h : FVec Ideal S8x4096x1024 .f32) (a : FVec Ideal S8x3x3x1024 .f32) (g : FVec Ideal S1024 .f32) (b : Fin 8) (s : Fin 4096) (n : Fin 1024) :
    mix x h a g (ix3 b s n) = addRow (fun n => x (ix3 b s n)) (fun n => h (ix3 b s n)) (fun n => g (ix1 n) * (1 + a (ix4 b 1 2 n))) n := by
  have e : mix x h a g (ix3 b s n) = (x (ix3 b s n) : EReal) + all (plusOne (second (gates a))) (ix3 b s n) * norm h g (ix3 b s n) := rfl
  rw [e, all_apply, plusOne_apply, second_apply, gates_apply, norm_apply]
  unfold addRow
  rw [mul_comm, mul_assoc _ (g (ix1 n) : EReal)]

theorem pre_apply (x : FVec Ideal S8x4096x1024 .f32) (a : FVec Ideal S8x3x3x1024 .f32) (g : FVec Ideal S1024 .f32) (b : Fin 8) (s : Fin 4096) (n : Fin 1024) :
    pre x a g (ix3 b s n) = modRow (fun n => x (ix3 b s n)) (fun n => g (ix1 n) * (1 + a (ix4 b 2 1 n))) (fun n => a (ix4 b 2 0 n)) n := by
  have e : pre x a g (ix3 b s n) = (norm x g (ix3 b s n) : EReal) * all (plusOne (third (scales a))) (ix3 b s n) + all (third (shifts a)) (ix3 b s n) := rfl
  rw [e, all_apply, all_apply, plusOne_apply, third_apply, third_apply, scales_apply, shifts_apply, norm_apply]
  unfold modRow
  rw [mul_assoc _ (g (ix1 n) : EReal)]

theorem fin_apply (x d : FVec Ideal S8x4096x1024 .f32) (a : FVec Ideal S8x3x3x1024 .f32) (g : FVec Ideal S1024 .f32) (b : Fin 8) (s : Fin 4096) (n : Fin 1024) :
    fin x d a g (ix3 b s n) = addRow (fun n => x (ix3 b s n)) (fun n => d (ix3 b s n)) (fun n => g (ix1 n) * (Ideal.ofBits FTy.f32 0x3F000000#32 * (1 + a (ix4 b 2 2 n)))) n := by
  have e : fin x d a g (ix3 b s n) = (x (ix3 b s n) : EReal)
      + all (mulf (broadcastInDim S8x1x1024 ![] bcast_S_S8x1x1024 (constant S_ .f32 0x3F000000#32)) (plusOne (third (gates a)))) (ix3 b s n) * norm d g (ix3 b s n) := rfl
  have e' : mulf (broadcastInDim S8x1x1024 ![] bcast_S_S8x1x1024 (constant S_ .f32 0x3F000000#32)) (plusOne (third (gates a))) (ix3 b 0 n)
      = (Ideal.ofBits FTy.f32 0x3F000000#32 * plusOne (third (gates a)) (ix3 b 0 n) : EReal) := rfl
  rw [e, all_apply, e', plusOne_apply, third_apply, gates_apply, norm_apply]
  unfold addRow
  rw [mul_comm, mul_assoc _ (g (ix1 n) : EReal)]

theorem ffn_apply (h : FVec Ideal S8x4096x1024 .f32) (wg wu : FVec Ideal S1x2x1024x2816 .f32) (wd : FVec Ideal S1x2x2816x1024 .f32) (b : Fin 8) (s : Fin 4096) (n : Fin 1024) :
    ffn h wg wu wd (ix3 b s n) = ∑ k : Fin 2816, (hidRow (fun j => h (ix3 b s j)) (fun j k => wg (ix4 0 1 j k)) (fun j k => wu (ix4 0 1 j k)) k * wd (ix4 0 1 k n) : EReal) := by
  unfold ffn
  rw [down_apply]
  refine Finset.sum_congr rfl fun k _ => ?_
  have e : mulf (silu (up h wg)) (up h wu) (ix3 b s k) = (silu (up h wg) (ix3 b s k) * up h wu (ix3 b s k) : EReal) := rfl
  rw [e, silu_apply, up_apply, up_apply]
  rfl

variable (x : FVec Ideal S8x4096x1024 .f32) (ya yb : FVec Ideal S8x4096x512 .f32) (a : FVec Ideal S8x3x3x1024 .f32) (gb : FVec Ideal S512 .f32)
  (gm : FVec Ideal S1024 .f32) (wo : FVec Ideal S1024x1024 .f32) (gpre gpost : FVec Ideal S1024 .f32)
  (wg wu : FVec Ideal S1x2x1024x2816 .f32) (wd : FVec Ideal S1x2x2816x1024 .f32)

theorem mixed_apply (b : Fin 8) (s : Fin 4096) (n : Fin 1024) :
    mix x (outp ya (normB yb gb) wo) a gm (ix3 b s n) = mixRow (sharedOf a gb gm wo gpre gpost wg wu wd b) (tokOf x ya yb b s) n := by
  rw [mix_apply]
  simp only [outp_apply, normB_apply]
  rfl

/-- A row of the result is a function of the token's rows and of what its batch shares. -/
theorem result_apply (b : Fin 8) (s : Fin 4096) (n : Fin 1024) :
    result x ya yb a gb gm wo gpre gpost wg wu wd (ix3 b s n) = tokenRow (sharedOf a gb gm wo gpre gpost wg wu wd b) (tokOf x ya yb b s) n := by
  unfold result half
  rw [fin_apply]
  simp only [ffn_apply, pre_apply, mixed_apply x ya yb a gb gm wo gpre gpost wg wu wd]
  rfl

end Cert.Proof.Ffn.Ref

end
-- ==== Proof.FfnValue.lean ====
/- The second kernel's result is its reference's: each block's rows are the tokens' rows. -/
module

public import proofs.«01_k».proof.Proof.FfnReference

@[expose] public section

set_option maxRecDepth 16384

noncomputable section

namespace Cert.Proof.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)
variable (x : FVec Ideal S8x4096x1024 .f32) (ya yb : FVec Ideal S8x4096x512 .f32) (mod : FVec Ideal S8x3x3x1024 .f32)
  (gb : FVec Ideal S512 .f32) (gm : FVec Ideal S1024 .f32) (wo : FVec Ideal S1024x1024 .f32)
  (gpre gpost : FVec Ideal S1024 .f32) (wg wu : FVec Ideal S1x2x1024x2816 .f32) (wd : FVec Ideal S1x2x2816x1024 .f32)

/-- The output array after the run. -/
theorem array_eq (h0 : V m c main_arg0 = x) (h1 : V m c main_v8 = (truncf .bf16 ya bitsLt_bf16_f32 : FVec Ideal S8x4096x512 .bf16))
    (h2 : V m c main_v5 = turned yb) (h3 : V m c main_arg3 = mod) (h4 : V m c main_v7 = repeated gb) (h5 : V m c main_v10 = asRow gm)
    (h6 : V m c main_v9 = (truncf .bf16 wo bitsLt_bf16_f32 : FVec Ideal S1024x1024 .bf16))
    (h8 : V m c main_v11 = asRow gpre) (h9 : V m c main_v12 = asRow gpost)
    (h10 : V m c main_v0 = (truncf .bf16 wg bitsLt_bf16_f32 : FVec Ideal S1x2x1024x2816 .bf16))
    (h11 : V m c main_v1 = (truncf .bf16 wu bitsLt_bf16_f32 : FVec Ideal S1x2x1024x2816 .bf16))
    (h12 : V m c main_v2 = (truncf .bf16 wd bitsLt_bf16_f32 : FVec Ideal S1x2x2816x1024 .bf16)) :
    (dats m 0 c).arrAt 13 cfg0.N = Ref.result x ya yb mod gb gm wo gpre gpost wg wu wd := by
  refine (dats m 0 c).arrAt_eq_of_covers 13 _ (by decide +kernel) fun t hf y => ?_
  have hy1 : (y 1).val < 1024 := (y 1).isLt
  have hy2 : (y 2).val < 1024 := (y 2).isLt
  have e := outBlk_apply (inpAt m c t) (repeated_inpAt m c gb h4 t) ⟨(y 1).val, hy1⟩ ⟨(y 2).val, hy2⟩
  rw [shared_inpAt m c mod gb gm wo gpre gpost wg wu wd h3 h4 h5 h6 h8 h9 h10 h11 h12, tok_inpAt m c x ya yb h0 h1 h2,
    ← Ref.result_apply x ya yb mod gb gm wo gpre gpost wg wu wd] at e
  rw [after_13]
  have g : (win0_13.blk t).view.emb y = (ix3 (batch t) (row t ⟨(y 1).val, hy1⟩) (⟨(y 2).val, hy2⟩ : Fin 1024) : S8x4096x1024.Idx) := by
    have h0 : (y 0).val < 1 := (y 0).isLt
    funext a
    apply Fin.ext
    blk_simp [index_13, batch, row]
    fin_cases a
    · show (grid0.coords t 0).val * 1 + (y 0).val = (grid0.coords t 0).val
      omega
    · show (grid0.coords t 1).val * 1024 + (y 1).val = (grid0.coords t 1).val * 1024 + (y 1).val
      rfl
    · show 0 * 1024 + (y 2).val = (y 2).val
      omega
  have g' : y = (ix3 0 (⟨(y 1).val, hy1⟩ : Fin 1024) (⟨(y 2).val, hy2⟩ : Fin 1024) : S1x1024x1024.Idx) := by
    have h0 : (y 0).val < 1 := (y 0).isLt
    funext a
    apply Fin.ext
    fin_cases a
    · show (y 0).val = 0
      omega
    · rfl
    · rfl
  blk_simp
  rw [g]
  refine Eq.trans ?_ e
  exact congrArg (outBlk (inpAt m c t)) g'

end Cert.Proof.Ffn

end
-- ==== Proof.FirstSteps.lean ====
/- The body of the third kernel, the first feed-forward half-step, as a list of steps. One grid point handles 1024 tokens in
   two halves of 512, the hidden columns 256 at a time. The normalised and modulated rows of a grid point's first half
   are not computed there: the grid point before leaves them in a scratch buffer, and the first grid point begins with
   computing its own. -/
module

public import proofs.«01_k».proof.Proof.FfnTiles
public import proofs.«01_k».proof.Proof.Gen.Kernel3Ideal.Frame.Runs

@[expose] public section

set_option maxRecDepth 16384

noncomputable section

namespace Cert.Proof.First

open Cert.Kernel3Ideal Cert.Kernel3Ideal.Gen Idealize.ShloMosaic Idealize.SL.Sem
open Cert.Proof.Ffn (modulated piece accFirst accNext finished inbX inbM inbV inbU inbD inbA)

variable {F : FTy → Type} [FloatOps F]

/-- A half's rows, from the layout of the blocks. -/
def flat (x : Vec F S1x512x1024 .f32) : FVec F S512x1024 .f32 := shapeCast S512x1024 x shapeCasts_S1x512x1024_S512x1024

/-- Rows as they are stored for the next grid point. -/
def stored (hb : FVec F S512x1024 .bf16) : FVec F S512x1024 .bf16 := shapeCast S512x1024 hb shapeCasts_S512x1024_S512x1024

theorem inbN (a : Fin 3) : ![0, 0, 0] a + S1x512x1024.size a ≤ S1x512x1024.size a := by revert a; decide
theorem inbH (a : Fin 2) : ![0, 0] a + S512x1024.size a ≤ S512x1024.size a := by revert a; decide

/-! ## The steps -/

/-- The buffers of a grid point: nine inputs, the output, two scratch buffers. -/
structure Args where
  x : Memref sig .tc .vmem S1x1024x1024 .f32
  xn : Memref sig .tc .vmem S1x512x1024 .f32
  mf : Memref sig .tc .vmem S1x1x3x1024 .f32
  mn : Memref sig .tc .vmem S1x1x3x1024 .f32
  gpre : Memref sig .tc .vmem S1x1024 .f32
  gpost : Memref sig .tc .vmem S1x1024 .f32
  wg : Memref sig .tc .vmem S1x1x1024x2816 .bf16
  wu : Memref sig .tc .vmem S1x1x1024x2816 .bf16
  wd : Memref sig .tc .vmem S1x1x2816x1024 .bf16
  o : Memref sig .tc .vmem S1x1024x1024 .f32
  a : Memref sig .tc .vmem S2x512x1024 .f32
  z : Memref sig .tc .vmem S512x1024 .bf16
  whole : z.IsWhole

/-- A program of the kernel body. -/
abbrev BodyProg (F : FTy → Type) [FloatOps F] := Prog (TpuEff nD τ sig (Elt F) Λ₀ .tc) PUnit

/-- One step of the body. -/
inductive Step (F : FTy → Type)
  /-- Store the rows of the grid point's own first half. -/
  | fill
  /-- Store the rows of the next grid point's first half. -/
  | ahead
  /-- The first columns for half `h`, whose rows are `hb`. -/
  | first (hb : FVec F S512x1024 .bf16) (h : Fin 2)
  /-- Columns `n` for half `h`, whose rows are `hb`. -/
  | more (hb : FVec F S512x1024 .bf16) (h : Fin 2) (n : Fin 11)
  /-- Emit half `h`. -/
  | finish (h : Fin 2)

/-- A step as a program. -/
def Step.prog (A : Args) : Step F → BodyProg F
  | .fill => do
    let x : Vec F S1x512x1024 .f32 ← Prog.lift (.load A.x (Rect.unit (s := S1x1024x1024) ![0, 0, 0] S1x512x1024.size (inbX 0)).toLoadRect (View.loadsAt_vmem h_S1x512x1024))
    let shift : Vec F S1x1x1x1024 .f32 ← Prog.lift (.load A.mf (Rect.unit (s := S1x1x3x1024) ![0, 0, 0, 0] S1x1x1x1024.size (inbM 0)).toLoadRect (View.loadsAt_vmem h_S1x1x1x1024))
    let scale : Vec F S1x1x1x1024 .f32 ← Prog.lift (.load A.mf (Rect.unit (s := S1x1x3x1024) ![0, 0, 1, 0] S1x1x1x1024.size (inbM 1)).toLoadRect (View.loadsAt_vmem h_S1x1x1x1024))
    let g : Vec F S1x1024 .f32 ← Prog.lift (.load A.gpre (Rect.unit (s := S1x1024) ![0, 0] S1x1024.size inbV).toLoadRect (View.loadsAt_vmem h_S1x1024))
    let _ : Vec F S512x1024 .bf16 ← Prog.lift (.load A.z (Rect.unit (s := S512x1024) ![0, 0] S512x1024.size inbH).toLoadRect (View.loadsAt_vmem h_S512x1024))
    Prog.lift (.store A.z (Rect.unit (s := S512x1024) ![0, 0] S512x1024.size inbH) (stored (modulated (flat x) shift scale g)) Finset.univ (View.stores_vmem h_S512x1024 (A.whole.storeExact_slice rfl _ packedbf16_S512x1024_S512x1024_0_0) (fun _ => rfl)) (.inl rfl))
  | .ahead => do
    let x : Vec F S1x512x1024 .f32 ← Prog.lift (.load A.xn (Rect.unit (s := S1x512x1024) ![0, 0, 0] S1x512x1024.size inbN).toLoadRect (View.loadsAt_vmem h_S1x512x1024))
    let shift : Vec F S1x1x1x1024 .f32 ← Prog.lift (.load A.mn (Rect.unit (s := S1x1x3x1024) ![0, 0, 0, 0] S1x1x1x1024.size (inbM 0)).toLoadRect (View.loadsAt_vmem h_S1x1x1x1024))
    let scale : Vec F S1x1x1x1024 .f32 ← Prog.lift (.load A.mn (Rect.unit (s := S1x1x3x1024) ![0, 0, 1, 0] S1x1x1x1024.size (inbM 1)).toLoadRect (View.loadsAt_vmem h_S1x1x1x1024))
    let g : Vec F S1x1024 .f32 ← Prog.lift (.load A.gpre (Rect.unit (s := S1x1024) ![0, 0] S1x1024.size inbV).toLoadRect (View.loadsAt_vmem h_S1x1024))
    let _ : Vec F S512x1024 .bf16 ← Prog.lift (.load A.z (Rect.unit (s := S512x1024) ![0, 0] S512x1024.size inbH).toLoadRect (View.loadsAt_vmem h_S512x1024))
    Prog.lift (.store A.z (Rect.unit (s := S512x1024) ![0, 0] S512x1024.size inbH) (stored (modulated (flat x) shift scale g)) Finset.univ (View.stores_vmem h_S512x1024 (A.whole.storeExact_slice rfl _ packedbf16_S512x1024_S512x1024_0_0) (fun _ => rfl)) (.inl rfl))
  | .first hb h => do
    let wg : Vec F S1x1x1024x256 .bf16 ← Prog.lift (.load A.wg (Rect.unit (s := S1x1x1024x2816) ![0, 0, 0, 0] S1x1x1024x256.size (inbU 0)).toLoadRect (View.loadsAt_vmem h_S1x1x1024x256))
    let wu : Vec F S1x1x1024x256 .bf16 ← Prog.lift (.load A.wu (Rect.unit (s := S1x1x1024x2816) ![0, 0, 0, 0] S1x1x1024x256.size (inbU 0)).toLoadRect (View.loadsAt_vmem h_S1x1x1024x256))
    let wd : Vec F S1x1x256x1024 .bf16 ← Prog.lift (.load A.wd (Rect.unit (s := S1x1x2816x1024) ![0, 0, 0, 0] S1x1x256x1024.size (inbD 0)).toLoadRect (View.loadsAt_vmem h_S1x1x256x1024))
    let _ : Vec F S1x512x1024 .f32 ← Prog.lift (.load A.a (Rect.unit (s := S2x512x1024) ![h.val, 0, 0] S1x512x1024.size (inbA h)).toLoadRect (View.loadsAt_vmem h_S1x512x1024))
    Prog.lift (.store A.a (Rect.unit (s := S2x512x1024) ![h.val, 0, 0] S1x512x1024.size (inbA h)) (accFirst (piece hb wg wu wd)) Finset.univ (View.stores_vmem_bits_univ h_S1x512x1024 rfl) (.inl rfl))
  | .more hb h n => do
    let wg : Vec F S1x1x1024x256 .bf16 ← Prog.lift (.load A.wg (Rect.unit (s := S1x1x1024x2816) ![0, 0, 0, n.val * 256] S1x1x1024x256.size (inbU n)).toLoadRect (View.loadsAt_vmem h_S1x1x1024x256))
    let wu : Vec F S1x1x1024x256 .bf16 ← Prog.lift (.load A.wu (Rect.unit (s := S1x1x1024x2816) ![0, 0, 0, n.val * 256] S1x1x1024x256.size (inbU n)).toLoadRect (View.loadsAt_vmem h_S1x1x1024x256))
    let wd : Vec F S1x1x256x1024 .bf16 ← Prog.lift (.load A.wd (Rect.unit (s := S1x1x2816x1024) ![0, 0, n.val * 256, 0] S1x1x256x1024.size (inbD n)).toLoadRect (View.loadsAt_vmem h_S1x1x256x1024))
    let a : Vec F S1x512x1024 .f32 ← Prog.lift (.load A.a (Rect.unit (s := S2x512x1024) ![h.val, 0, 0] S1x512x1024.size (inbA h)).toLoadRect (View.loadsAt_vmem h_S1x512x1024))
    let _ : Vec F S1x512x1024 .f32 ← Prog.lift (.load A.a (Rect.unit (s := S2x512x1024) ![h.val, 0, 0] S1x512x1024.size (inbA h)).toLoadRect (View.loadsAt_vmem h_S1x512x1024))
    Prog.lift (.store A.a (Rect.unit (s := S2x512x1024) ![h.val, 0, 0] S1x512x1024.size (inbA h)) (accNext (piece hb wg wu wd) a) Finset.univ (View.stores_vmem_bits_univ h_S1x512x1024 rfl) (.inl rfl))
  | .finish h => do
    let a : Vec F S1x512x1024 .f32 ← Prog.lift (.load A.a (Rect.unit (s := S2x512x1024) ![h.val, 0, 0] S1x512x1024.size (inbA h)).toLoadRect (View.loadsAt_vmem h_S1x512x1024))
    let g : Vec F S1x1024 .f32 ← Prog.lift (.load A.gpost (Rect.unit (s := S1x1024) ![0, 0] S1x1024.size inbV).toLoadRect (View.loadsAt_vmem h_S1x1024))
    let gate : Vec F S1x1x1x1024 .f32 ← Prog.lift (.load A.mf (Rect.unit (s := S1x1x3x1024) ![0, 0, 2, 0] S1x1x1x1024.size (inbM 2)).toLoadRect (View.loadsAt_vmem h_S1x1x1x1024))
    let x : Vec F S1x512x1024 .f32 ← Prog.lift (.load A.x (Rect.unit (s := S1x1024x1024) ![0, h.val * 512, 0] S1x512x1024.size (inbX h)).toLoadRect (View.loadsAt_vmem h_S1x512x1024))
    let _ : Vec F S1x512x1024 .f32 ← Prog.lift (.load A.o (Rect.unit (s := S1x1024x1024) ![0, h.val * 512, 0] S1x512x1024.size (inbX h)).toLoadRect (View.loadsAt_vmem h_S1x512x1024))
    Prog.lift (.store A.o (Rect.unit (s := S1x1024x1024) ![0, h.val * 512, 0] S1x512x1024.size (inbX h)) (accFirst (finished (shapeCast S512x1024 a shapeCasts_S1x512x1024_S512x1024) g gate (flat x))) Finset.univ (View.stores_vmem_bits_univ h_S1x512x1024 rfl) (.inl rfl))

/-- The first half's rows, read. -/
def kept (A : Args) : Prog (TpuEff nD τ sig (Elt F) Λ₀ .tc) (FVec F S512x1024 .bf16) := do
  let hb : Vec F S512x1024 .bf16 ← Prog.lift (.load A.z (Rect.unit (s := S512x1024) ![0, 0] S512x1024.size inbH).toLoadRect (View.loadsAt_vmem h_S512x1024))
  pure hb

/-- The second half's rows, computed. -/
def rows (A : Args) : Prog (TpuEff nD τ sig (Elt F) Λ₀ .tc) (FVec F S512x1024 .bf16) := do
  let x : Vec F S1x512x1024 .f32 ← Prog.lift (.load A.x (Rect.unit (s := S1x1024x1024) ![0, 512, 0] S1x512x1024.size (inbX 1)).toLoadRect (View.loadsAt_vmem h_S1x512x1024))
  let shift : Vec F S1x1x1x1024 .f32 ← Prog.lift (.load A.mf (Rect.unit (s := S1x1x3x1024) ![0, 0, 0, 0] S1x1x1x1024.size (inbM 0)).toLoadRect (View.loadsAt_vmem h_S1x1x1x1024))
  let scale : Vec F S1x1x1x1024 .f32 ← Prog.lift (.load A.mf (Rect.unit (s := S1x1x3x1024) ![0, 0, 1, 0] S1x1x1x1024.size (inbM 1)).toLoadRect (View.loadsAt_vmem h_S1x1x1x1024))
  let g : Vec F S1x1024 .f32 ← Prog.lift (.load A.gpre (Rect.unit (s := S1x1024) ![0, 0] S1x1024.size inbV).toLoadRect (View.loadsAt_vmem h_S1x1024))
  pure (modulated (flat x) shift scale g)

/-- A list of steps as a program. -/
def runSteps (A : Args) : List (Step F) → BodyProg F
  | [] => pure ⟨⟩
  | s :: l => do s.prog A; runSteps A l

/-- What is done with the first half's rows alone. -/
def alone (hb : FVec F S512x1024 .bf16) : List (Step F) :=
  [.first hb 0, .more hb 0 1, .more hb 0 2, .more hb 0 3, .more hb 0 4, .more hb 0 5, .more hb 0 6, .more hb 0 7]

/-- What is done once the second half's rows are there. -/
def together (hb hb' : FVec F S512x1024 .bf16) : List (Step F) :=
  [.more hb 0 8, .first hb' 1, .more hb 0 9, .more hb' 1 1, .more hb 0 10, .more hb' 1 2, .finish 0,
    .more hb' 1 3, .more hb' 1 4, .ahead, .more hb' 1 5, .more hb' 1 6, .more hb' 1 7, .more hb' 1 8, .more hb' 1 9, .more hb' 1 10, .finish 1]

/-- The body once the first half's rows are there. -/
def mainPart (A : Args) : BodyProg F := do
  let hb ← kept A
  runSteps A (alone hb)
  let hb' ← rows A
  runSteps A (together hb hb')

/-- At the first grid point the printed body computes its rows first. -/
theorem body_first (i : grid0.Coords) (arg2 : Memref sig .tc .vmem S1x1024x1024 .f32) (harg2 : arg2.IsWhole) (arg3 : Memref sig .tc .vmem S1x512x1024 .f32) (harg3 : arg3.IsWhole) (arg4 : Memref sig .tc .vmem S1x1x3x1024 .f32) (harg4 : arg4.IsWhole) (arg5 : Memref sig .tc .vmem S1x1x3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1x1024x2816 .bf16) (harg8 : arg8.IsWhole) (arg9 : Memref sig .tc .vmem S1x1x1024x2816 .bf16) (harg9 : arg9.IsWhole) (arg10 : Memref sig .tc .vmem S1x1x2816x1024 .bf16) (harg10 : arg10.IsWhole) (arg11 : Memref sig .tc .vmem S1x1024x1024 .f32) (harg11 : arg11.IsWhole) (arg12 : Memref sig .tc .vmem S2x512x1024 .f32) (harg12 : arg12.IsWhole) (arg13 : Memref sig .tc .vmem S512x1024 .bf16) (harg13 : arg13.IsWhole) (hc : cond0_0 i) :
    cc0_ffn (F := F) i arg2 harg2 arg3 harg3 arg4 harg4 arg5 harg5 arg6 harg6 arg7 harg7 arg8 harg8 arg9 harg9 arg10 harg10 arg11 harg11 arg12 harg12 arg13 harg13
      = (do runSteps ⟨arg2, arg3, arg4, arg5, arg6, arg7, arg8, arg9, arg10, arg11, arg12, arg13, harg13⟩ [.fill]; mainPart ⟨arg2, arg3, arg4, arg5, arg6, arg7, arg8, arg9, arg10, arg11, arg12, arg13, harg13⟩) := by
  have e : k0_part1 (F := F) i arg2 harg2 arg3 harg3 arg4 harg4 arg5 harg5 arg6 harg6 arg7 harg7 arg8 harg8 arg9 harg9 arg10 harg10 arg11 harg11 arg12 harg12 arg13 harg13 = _ := dif_pos hc
  unfold cc0_ffn
  rw [e]
  sl_kernel_rfl

/-- At a later grid point the printed body begins with reading its rows. -/
theorem body_later (i : grid0.Coords) (arg2 : Memref sig .tc .vmem S1x1024x1024 .f32) (harg2 : arg2.IsWhole) (arg3 : Memref sig .tc .vmem S1x512x1024 .f32) (harg3 : arg3.IsWhole) (arg4 : Memref sig .tc .vmem S1x1x3x1024 .f32) (harg4 : arg4.IsWhole) (arg5 : Memref sig .tc .vmem S1x1x3x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1x1024x2816 .bf16) (harg8 : arg8.IsWhole) (arg9 : Memref sig .tc .vmem S1x1x1024x2816 .bf16) (harg9 : arg9.IsWhole) (arg10 : Memref sig .tc .vmem S1x1x2816x1024 .bf16) (harg10 : arg10.IsWhole) (arg11 : Memref sig .tc .vmem S1x1024x1024 .f32) (harg11 : arg11.IsWhole) (arg12 : Memref sig .tc .vmem S2x512x1024 .f32) (harg12 : arg12.IsWhole) (arg13 : Memref sig .tc .vmem S512x1024 .bf16) (harg13 : arg13.IsWhole) (hc : ¬cond0_0 i) :
    cc0_ffn (F := F) i arg2 harg2 arg3 harg3 arg4 harg4 arg5 harg5 arg6 harg6 arg7 harg7 arg8 harg8 arg9 harg9 arg10 harg10 arg11 harg11 arg12 harg12 arg13 harg13
      = mainPart ⟨arg2, arg3, arg4, arg5, arg6, arg7, arg8, arg9, arg10, arg11, arg12, arg13, harg13⟩ := by
  have e : k0_part1 (F := F) i arg2 harg2 arg3 harg3 arg4 harg4 arg5 harg5 arg6 harg6 arg7 harg7 arg8 harg8 arg9 harg9 arg10 harg10 arg11 harg11 arg12 harg12 arg13 harg13 = _ := dif_neg hc
  unfold cc0_ffn
  rw [e]
  sl_kernel_rfl

end Cert.Proof.First

end
-- ==== Proof.FirstRun.lean ====
/- What the steps of the third kernel do to the buffers: the program of the body, run on buffers that hold the inputs
   and a state, leaves the inputs as they are and the state at the one the steps lead to. -/
module

public import proofs.«01_k».proof.Proof.FirstSteps
public import Idealize.ShloMosaic.Lib.VecWindow

@[expose] public section

set_option maxRecDepth 16384

noncomputable section

namespace Cert.Proof.First

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow
open Cert.Proof.Ffn (modulated piece accFirst accNext finished inbX inbM inbV inbU inbD inbA)

variable {F : FTy → Type} [FloatOps F]

local notation "𝕄" => MT nD τ sig Unit (Elt F) ℕ (UR sig nD τ) ℕ

/-! ## One load, one store, on a memref owned at its contents -/

/-- A load at a unit-stride rectangle reads a window of the contents. -/
theorem wp_load_owns (c : Dev nD) (E : Set ℕ) {β : Type} {s : Shape} {e : EltTy} (m : Memref sig .tc .vmem s e) (q : PosShare TreeShare) (X : s.Idx → Elt F e)
    {off size : Fin s.rank → ℕ} (inb : ∀ a, off a + size a ≤ s.size a) (hl : m.view.LoadsAt (Rect.unit off size inb).toLoadRect)
    (k : ((Rect.unit off size inb).shape.Idx → Elt F e) → Prog (TpuEff nD τ sig (Elt F) Λ₀ .tc) β) (Q : β → sProp 𝕄) :
    (owns (c : Thread nD τ) m q X : sProp 𝕄)
      ⊢ iprop((owns (c : Thread nD τ) m q X -∗ wp frame (wpE (defs₀ (F := F)) Variants.none c none) E (k (window X off size inb)) Q)
        -∗ wp frame (wpE (defs₀ (F := F)) Variants.none c none) E (Prog.lift (.load m (Rect.unit off size inb).toLoadRect hl) >>= k) Q) := by
  unfold owns
  iintro ⟨%f, %hf, H⟩ Hk
  iapply (wp_load (defs := defs₀ (F := F)) Variants.none (c : Thread nD τ) none E (m := m) (r := (Rect.unit off size inb).toLoadRect) (hl := hl)
    (q := q) (f := f) (S := m.view.set) (k := k) (Q := Q) (m.view.setOn_subset_set _)) $$ H
  iintro H
  rw [View.readAt_unit m.view f inb rfl inb, hf]
  iapply Hk
  iexists f; isplitr
  · ipureintro; exact hf
  iexact H

/-- An unmasked store at a unit-stride rectangle puts a window over the contents. -/
theorem wp_store_owns (c : Dev nD) (E : Set ℕ) {β : Type} {s : Shape} {e : EltTy} (m : Memref sig .tc .vmem s e) (X : s.Idx → Elt F e)
    {off size : Fin s.rank → ℕ} (inb : ∀ a, off a + size a ≤ s.size a) (w : (Rect.unit off size inb).shape.Idx → Elt F e)
    (hx : (m.access (Rect.unit off size inb)).Stores Finset.univ) (hm)
    (k : PUnit → Prog (TpuEff nD τ sig (Elt F) Λ₀ .tc) β) (Q : β → sProp 𝕄) :
    (owns (c : Thread nD τ) m fullShare X : sProp 𝕄)
      ⊢ iprop((owns (c : Thread nD τ) m fullShare (put X off size w) -∗ wp frame (wpE (defs₀ (F := F)) Variants.none c none) E (k ⟨⟩) Q)
        -∗ wp frame (wpE (defs₀ (F := F)) Variants.none c none) E (Prog.lift (.store m (Rect.unit off size inb) w Finset.univ hx hm) >>= k) Q) := by
  unfold owns
  iintro ⟨%f, %hf, H⟩ Hk
  iapply (wp_store (defs := defs₀ (F := F)) Variants.none (c : Thread nD τ) none E (m := m) (r := Rect.unit off size inb) (w := w) (Mk := Finset.univ)
    (hx := hx) (hm := hm) (f := f) (S := m.view.set) (k := k) (Q := Q) (by rw [View.setOn_univ]; exact View.set_slice_subset _ _)) $$ H
  iintro H
  iapply Hk
  iexists _; isplitr
  swap; · iexact H
  ipureintro
  rw [← hf]
  exact View.read_writes_cons_put m.view f inb w [] rfl

/-- The store that ends a program. -/
theorem wp_store_last (c : Dev nD) (E : Set ℕ) {s : Shape} {e : EltTy} (m : Memref sig .tc .vmem s e) (X : s.Idx → Elt F e)
    {off size : Fin s.rank → ℕ} (inb : ∀ a, off a + size a ≤ s.size a) (w : (Rect.unit off size inb).shape.Idx → Elt F e)
    (hx : (m.access (Rect.unit off size inb)).Stores Finset.univ) (hm) (Q : PUnit → sProp 𝕄) :
    (owns (c : Thread nD τ) m fullShare X : sProp 𝕄)
      ⊢ iprop((owns (c : Thread nD τ) m fullShare (put X off size w) -∗ Q ⟨⟩)
        -∗ wp frame (wpE (defs₀ (F := F)) Variants.none c none) E (Prog.lift (.store m (Rect.unit off size inb) w Finset.univ hx hm)) Q) := by
  iintro H Hk
  iapply (wp_store_owns c E m X inb w hx hm (fun u => .ret u) Q) $$ H
  iintro H
  iapply (le_wp_ret _ _ _ PUnit.unit Q)
  iapply Hk
  iexact H

/-! ## States -/

/-- The inputs of a grid point. -/
structure Inp (F : FTy → Type) where
  x : Vec F S1x1024x1024 .f32
  xn : Vec F S1x512x1024 .f32
  mf : Vec F S1x1x3x1024 .f32
  mn : Vec F S1x1x3x1024 .f32
  gpre : Vec F S1x1024 .f32
  gpost : Vec F S1x1024 .f32
  wg : Vec F S1x1x1024x2816 .bf16
  wu : Vec F S1x1x1024x2816 .bf16
  wd : Vec F S1x1x2816x1024 .bf16

/-- The contents of the output and of the scratch buffers. -/
structure St (F : FTy → Type) where
  o : Vec F S1x1024x1024 .f32
  a : Vec F S2x512x1024 .f32
  z : Vec F S512x1024 .bf16

/-- A half of the residual stream. -/
def Inp.half (I : Inp F) (h : Fin 2) : FVec F S512x1024 .f32 := flat (window I.x ![0, h.val * 512, 0] S1x512x1024.size (inbX h))

/-- The modulated rows of a half. -/
def Inp.rowsOf (I : Inp F) (h : Fin 2) : FVec F S512x1024 .bf16 :=
  modulated (I.half h) (window I.mf ![0, 0, 0, 0] S1x1x1x1024.size (inbM 0)) (window I.mf ![0, 0, 1, 0] S1x1x1x1024.size (inbM 1)) (window I.gpre ![0, 0] S1x1024.size inbV)

/-- The modulated rows of the next grid point's first half. -/
def Inp.rowsNext (I : Inp F) : FVec F S512x1024 .bf16 :=
  modulated (flat (window I.xn ![0, 0, 0] S1x512x1024.size inbN)) (window I.mn ![0, 0, 0, 0] S1x1x1x1024.size (inbM 0)) (window I.mn ![0, 0, 1, 0] S1x1x1x1024.size (inbM 1))
    (window I.gpre ![0, 0] S1x1024.size inbV)

/-- What columns `n` add. -/
def Inp.pieceOf (I : Inp F) (hb : FVec F S512x1024 .bf16) (n : Fin 11) : FVec F S512x1024 .f32 :=
  piece hb (window I.wg ![0, 0, 0, n.val * 256] S1x1x1024x256.size (inbU n)) (window I.wu ![0, 0, 0, n.val * 256] S1x1x1024x256.size (inbU n))
    (window I.wd ![0, 0, n.val * 256, 0] S1x1x256x1024.size (inbD n))

/-- The finished rows of a half. -/
def Inp.done (I : Inp F) (a : Vec F S1x512x1024 .f32) (h : Fin 2) : FVec F S1x512x1024 .f32 :=
  accFirst (finished (shapeCast S512x1024 a shapeCasts_S1x512x1024_S512x1024) (window I.gpost ![0, 0] S1x1024.size inbV)
    (window I.mf ![0, 0, 2, 0] S1x1x1x1024.size (inbM 2)) (I.half h))

/-- A half of the accumulator. -/
def St.acc (σ : St F) (h : Fin 2) : Vec F S1x512x1024 .f32 := window σ.a ![h.val, 0, 0] S1x512x1024.size (inbA h)

/-- The rows kept for the first half. -/
def St.kept (σ : St F) : Vec F S512x1024 .bf16 := window σ.z ![0, 0] S512x1024.size inbH

/-- The state after a step. -/
def Step.next (I : Inp F) (σ : St F) : Step F → St F
  | .fill => { σ with z := put σ.z ![0, 0] S512x1024.size (stored (I.rowsOf 0)) }
  | .ahead => { σ with z := put σ.z ![0, 0] S512x1024.size (stored I.rowsNext) }
  | .first hb h => { σ with a := put σ.a ![h.val, 0, 0] S1x512x1024.size (accFirst (I.pieceOf hb 0)) }
  | .more hb h n => { σ with a := put σ.a ![h.val, 0, 0] S1x512x1024.size (accNext (I.pieceOf hb n) (σ.acc h)) }
  | .finish h => { σ with o := put σ.o ![0, h.val * 512, 0] S1x512x1024.size (I.done (σ.acc h) h) }

/-- The state after a list of steps. -/
def steps (I : Inp F) (σ : St F) (l : List (Step F)) : St F := l.foldl (fun σ s => s.next I σ) σ

/-- The state after the body, from rows that are there. -/
def after (I : Inp F) (σ : St F) : St F := steps I (steps I σ (alone σ.kept)) (together σ.kept (I.rowsOf 1))

/-- The inputs, owned. -/
def ownIn (c : Dev nD) (A : Args) (I : Inp F) : sProp 𝕄 :=
  iprop(owns (c : Thread nD τ) A.x fullShare I.x ∗ owns (c : Thread nD τ) A.xn fullShare I.xn ∗ owns (c : Thread nD τ) A.mf fullShare I.mf ∗ owns (c : Thread nD τ) A.mn fullShare I.mn ∗ owns (c : Thread nD τ) A.gpre fullShare I.gpre ∗ owns (c : Thread nD τ) A.gpost fullShare I.gpost ∗ owns (c : Thread nD τ) A.wg fullShare I.wg ∗ owns (c : Thread nD τ) A.wu fullShare I.wu ∗ owns (c : Thread nD τ) A.wd fullShare I.wd)

/-- The output and the scratch buffers, owned at a state. -/
def ownSt (c : Dev nD) (A : Args) (σ : St F) : sProp 𝕄 :=
  iprop(owns (c : Thread nD τ) A.o fullShare σ.o ∗ owns (c : Thread nD τ) A.a fullShare σ.a ∗ owns (c : Thread nD τ) A.z fullShare σ.z)

/-- A step's program leaves the buffers at the next state. -/
theorem wp_step (c : Dev nD) (A : Args) (I : Inp F) (σ : St F) (s : Step F) (Q : PUnit → sProp 𝕄) :
    iprop(ownIn c A I ∗ ownSt c A σ)
      ⊢ iprop((ownIn c A I ∗ ownSt c A (s.next I σ) -∗ Q ⟨⟩) -∗ wp frame (wpE (defs₀ (F := F)) Variants.none c none) Set.univ (s.prog A) Q) := by
  unfold ownIn ownSt
  iintro ⟨⟨Hx, Hxn, Hmf, Hmn, Hgpre, Hgpost, Hwg, Hwu, Hwd⟩, Ho, Ha, Hz⟩ Hk
  cases s with
  | fill =>
    unfold Step.prog Step.next
    dsimp only
    iapply (wp_load_owns c _ A.x fullShare I.x _ _ _ Q) $$ Hx
    iintro Hx
    iapply (wp_load_owns c _ A.mf fullShare I.mf _ _ _ Q) $$ Hmf
    iintro Hmf
    iapply (wp_load_owns c _ A.mf fullShare I.mf _ _ _ Q) $$ Hmf
    iintro Hmf
    iapply (wp_load_owns c _ A.gpre fullShare I.gpre _ _ _ Q) $$ Hgpre
    iintro Hgpre
    iapply (wp_load_owns c _ A.z fullShare σ.z _ _ _ Q) $$ Hz
    iintro Hz
    iapply (wp_store_last c _ A.z σ.z _ _ _ _ Q) $$ Hz
    iintro Hz
    iapply Hk
    iframe
    iexact Hz
  | ahead =>
    unfold Step.prog Step.next
    dsimp only
    iapply (wp_load_owns c _ A.xn fullShare I.xn _ _ _ Q) $$ Hxn
    iintro Hxn
    iapply (wp_load_owns c _ A.mn fullShare I.mn _ _ _ Q) $$ Hmn
    iintro Hmn
    iapply (wp_load_owns c _ A.mn fullShare I.mn _ _ _ Q) $$ Hmn
    iintro Hmn
    iapply (wp_load_owns c _ A.gpre fullShare I.gpre _ _ _ Q) $$ Hgpre
    iintro Hgpre
    iapply (wp_load_owns c _ A.z fullShare σ.z _ _ _ Q) $$ Hz
    iintro Hz
    iapply (wp_store_last c _ A.z σ.z _ _ _ _ Q) $$ Hz
    iintro Hz
    iapply Hk
    iframe
    iexact Hz
  | first hb h =>
    unfold Step.prog Step.next
    dsimp only
    iapply (wp_load_owns c _ A.wg fullShare I.wg _ _ _ Q) $$ Hwg
    iintro Hwg
    iapply (wp_load_owns c _ A.wu fullShare I.wu _ _ _ Q) $$ Hwu
    iintro Hwu
    iapply (wp_load_owns c _ A.wd fullShare I.wd _ _ _ Q) $$ Hwd
    iintro Hwd
    iapply (wp_load_owns c _ A.a fullShare σ.a _ _ _ Q) $$ Ha
    iintro Ha
    iapply (wp_store_last c _ A.a σ.a _ _ _ _ Q) $$ Ha
    iintro Ha
    iapply Hk
    iframe
    iexact Ha
  | more hb h n =>
    unfold Step.prog Step.next
    dsimp only
    iapply (wp_load_owns c _ A.wg fullShare I.wg _ _ _ Q) $$ Hwg
    iintro Hwg
    iapply (wp_load_owns c _ A.wu fullShare I.wu _ _ _ Q) $$ Hwu
    iintro Hwu
    iapply (wp_load_owns c _ A.wd fullShare I.wd _ _ _ Q) $$ Hwd
    iintro Hwd
    iapply (wp_load_owns c _ A.a fullShare σ.a _ _ _ Q) $$ Ha
    iintro Ha
    iapply (wp_load_owns c _ A.a fullShare σ.a _ _ _ Q) $$ Ha
    iintro Ha
    iapply (wp_store_last c _ A.a σ.a _ _ _ _ Q) $$ Ha
    iintro Ha
    iapply Hk
    iframe
    iexact Ha
  | finish h =>
    unfold Step.prog Step.next
    dsimp only
    iapply (wp_load_owns c _ A.a fullShare σ.a _ _ _ Q) $$ Ha
    iintro Ha
    iapply (wp_load_owns c _ A.gpost fullShare I.gpost _ _ _ Q) $$ Hgpost
    iintro Hgpost
    iapply (wp_load_owns c _ A.mf fullShare I.mf _ _ _ Q) $$ Hmf
    iintro Hmf
    iapply (wp_load_owns c _ A.x fullShare I.x _ _ _ Q) $$ Hx
    iintro Hx
    iapply (wp_load_owns c _ A.o fullShare σ.o _ _ _ Q) $$ Ho
    iintro Ho
    iapply (wp_store_last c _ A.o σ.o _ _ _ _ Q) $$ Ho
    iintro Ho
    iapply Hk
    iframe
    iexact Ho

/-- The first half's rows, read. -/
theorem wp_kept (c : Dev nD) (A : Args) (I : Inp F) (σ : St F) (Q : FVec F S512x1024 .bf16 → sProp 𝕄) :
    iprop(ownIn c A I ∗ ownSt c A σ)
      ⊢ iprop((ownIn c A I ∗ ownSt c A σ -∗ Q σ.kept) -∗ wp frame (wpE (defs₀ (F := F)) Variants.none c none) Set.univ (kept A) Q) := by
  unfold ownIn ownSt kept St.kept
  iintro ⟨⟨Hx, Hxn, Hmf, Hmn, Hgpre, Hgpost, Hwg, Hwu, Hwd⟩, Ho, Ha, Hz⟩ Hk
  iapply (wp_load_owns c _ A.z fullShare σ.z _ _ _ Q) $$ Hz
  iintro Hz
  iapply (le_wp_ret _ _ _ _ Q)
  iapply Hk
  iframe

/-- The second half's rows, computed. -/
theorem wp_rows (c : Dev nD) (A : Args) (I : Inp F) (σ : St F) (Q : FVec F S512x1024 .bf16 → sProp 𝕄) :
    iprop(ownIn c A I ∗ ownSt c A σ)
      ⊢ iprop((ownIn c A I ∗ ownSt c A σ -∗ Q (I.rowsOf 1)) -∗ wp frame (wpE (defs₀ (F := F)) Variants.none c none) Set.univ (rows A) Q) := by
  unfold ownIn ownSt rows Inp.rowsOf Inp.half
  iintro ⟨⟨Hx, Hxn, Hmf, Hmn, Hgpre, Hgpost, Hwg, Hwu, Hwd⟩, Ho, Ha, Hz⟩ Hk
  iapply (wp_load_owns c _ A.x fullShare I.x _ _ _ Q) $$ Hx
  iintro Hx
  iapply (wp_load_owns c _ A.mf fullShare I.mf _ _ _ Q) $$ Hmf
  iintro Hmf
  iapply (wp_load_owns c _ A.mf fullShare I.mf _ _ _ Q) $$ Hmf
  iintro Hmf
  iapply (wp_load_owns c _ A.gpre fullShare I.gpre _ _ _ Q) $$ Hgpre
  iintro Hgpre
  iapply (le_wp_ret _ _ _ _ Q)
  iapply Hk
  iframe

/-- A list of steps run in order. -/
theorem wp_runSteps (c : Dev nD) (A : Args) (I : Inp F) (l : List (Step F)) (σ : St F) (Q : PUnit → sProp 𝕄) :
    iprop(ownIn c A I ∗ ownSt c A σ)
      ⊢ iprop((ownIn c A I ∗ ownSt c A (steps I σ l) -∗ Q ⟨⟩) -∗ wp frame (wpE (defs₀ (F := F)) Variants.none c none) Set.univ (runSteps A l) Q) := by
  induction l generalizing σ with
  | nil =>
    iintro H Hk
    iapply (le_wp_ret _ _ _ PUnit.unit Q)
    iapply Hk
    iexact H
  | cons s l ih =>
    iintro H Hk
    unfold runSteps
    rw [wp_bind]
    iapply (wp_step c A I σ s _) $$ H
    iintro H
    iapply (ih (s.next I σ)) $$ H
    iexact Hk

/-- The body run, from rows that are there. -/
theorem wp_main (c : Dev nD) (A : Args) (I : Inp F) (σ : St F) (Q : PUnit → sProp 𝕄) :
    iprop(ownIn c A I ∗ ownSt c A σ)
      ⊢ iprop((ownIn c A I ∗ ownSt c A (after I σ) -∗ Q ⟨⟩) -∗ wp frame (wpE (defs₀ (F := F)) Variants.none c none) Set.univ (mainPart A) Q) := by
  unfold mainPart after
  iintro H Hk
  rw [wp_bind]
  iapply (wp_kept c A I σ _) $$ H
  iintro H
  rw [wp_bind]
  iapply (wp_runSteps c A I _ _ _) $$ H
  iintro H
  rw [wp_bind]
  iapply (wp_rows c A I _ _) $$ H
  iintro H
  iapply (wp_runSteps c A I _ _ _) $$ H
  iexact Hk

/-- The body run at the first grid point. -/
theorem wp_fill (c : Dev nD) (A : Args) (I : Inp F) (σ : St F) (Q : PUnit → sProp 𝕄) :
    iprop(ownIn c A I ∗ ownSt c A σ)
      ⊢ iprop((ownIn c A I ∗ ownSt c A (after I (steps I σ [.fill])) -∗ Q ⟨⟩)
        -∗ wp frame (wpE (defs₀ (F := F)) Variants.none c none) Set.univ (do runSteps A [.fill]; mainPart A) Q) := by
  iintro H Hk
  rw [wp_bind]
  iapply (wp_runSteps c A I _ σ _) $$ H
  iintro H
  iapply (wp_main c A I _ _) $$ H
  iexact Hk

end Cert.Proof.First

end
-- ==== Proof.FirstOut.lean ====
/- What the body of the third kernel leaves in the output's block and in the buffer of rows kept for the next grid point,
   as functions of the input blocks. -/
module

public import proofs.«01_k».proof.Proof.FirstRun
public import Idealize.ShloMosaic.Lib.Pointwise

@[expose] public section

set_option maxRecDepth 16384

noncomputable section

namespace Cert.Proof.First

open Cert.Kernel3Ideal Cert.Kernel3Ideal.Gen Idealize.ShloMosaic Idealize.SL.Sem
open VecWindow
open Cert.Proof.Ffn (modulated piece accFirst accNext finished inbX inbM inbV inbU inbD inbA)

variable {F : FTy → Type} [FloatOps F] (I : Inp F) (σ : St F) (hb : FVec F S512x1024 .bf16)

theorem stored_eq : stored hb = hb := shapeCast_id hb _

/-! ## What a step changes -/

theorem kept_fill : (Step.fill.next I σ).kept = I.rowsOf 0 := (window_put_same _ _ _ _ _).trans (stored_eq _)
theorem kept_ahead : (Step.ahead.next I σ).kept = I.rowsNext := (window_put_same _ _ _ _ _).trans (stored_eq _)
theorem kept_first (h : Fin 2) : ((Step.first hb h).next I σ).kept = σ.kept := rfl
theorem kept_more (h : Fin 2) (n : Fin 11) : ((Step.more hb h n).next I σ).kept = σ.kept := rfl
theorem kept_finish (h : Fin 2) : ((Step.finish h).next I σ).kept = σ.kept := rfl

theorem acc_first (h : Fin 2) : ((Step.first hb h).next I σ).acc h = accFirst (I.pieceOf hb 0) := window_put_same _ _ _ _ _
theorem acc_first_01 : ((Step.first hb 1).next I σ).acc 0 = σ.acc 0 := window_put_of_disjoint _ _ _ _ _ _ _ 0 (Or.inl (by decide))
theorem acc_more (h : Fin 2) (n : Fin 11) : ((Step.more hb h n).next I σ).acc h = accNext (I.pieceOf hb n) (σ.acc h) := window_put_same _ _ _ _ _
theorem acc_more_01 (n : Fin 11) : ((Step.more hb 1 n).next I σ).acc 0 = σ.acc 0 := window_put_of_disjoint _ _ _ _ _ _ _ 0 (Or.inl (by decide))
theorem acc_more_10 (n : Fin 11) : ((Step.more hb 0 n).next I σ).acc 1 = σ.acc 1 := window_put_of_disjoint _ _ _ _ _ _ _ 0 (Or.inr (by decide))
theorem acc_ahead (h : Fin 2) : (Step.ahead.next I σ).acc h = σ.acc h := rfl
theorem acc_finish (h h' : Fin 2) : ((Step.finish h).next I σ).acc h' = σ.acc h' := rfl

theorem o_ahead : (Step.ahead.next I σ).o = σ.o := rfl
theorem o_first (h : Fin 2) : ((Step.first hb h).next I σ).o = σ.o := rfl
theorem o_more (h : Fin 2) (n : Fin 11) : ((Step.more hb h n).next I σ).o = σ.o := rfl
theorem o_finish (h : Fin 2) : ((Step.finish h).next I σ).o = put σ.o ![0, h.val * 512, 0] S1x512x1024.size (I.done (σ.acc h) h) := rfl

/-! ## The body -/

/-- The accumulator after columns 0 to `n`. -/
def accTo : ℕ → FVec F S1x512x1024 .f32
  | 0 => accFirst (I.pieceOf hb 0)
  | n + 1 => accNext (I.pieceOf hb (Fin.ofNat 11 (n + 1))) (accTo n)

/-- A half of the output's block. -/
def outHalf (h : Fin 2) : FVec F S1x512x1024 .f32 := I.done (accTo I (I.rowsOf h) 10) h

/-- The output's block. -/
def outBlk : Vec F S1x1024x1024 .f32 := fun y =>
  outHalf I ⟨(y 1).val / 512, by have : (y 1).val < 1024 := (y 1).isLt; omega⟩
    (ix3 (0 : Fin 1) (⟨(y 1).val % 512, by omega⟩ : Fin 512) (y 2 : Fin 1024) : S1x512x1024.Idx)

theorem halves_eq (hk : σ.kept = I.rowsOf 0) :
    (after I σ).o = put (put σ.o ![0, (0 : Fin 2).val * 512, 0] S1x512x1024.size (outHalf I 0)) ![0, (1 : Fin 2).val * 512, 0] S1x512x1024.size (outHalf I 1) := by
  simp only [after, hk, steps, alone, together, List.foldl, o_ahead, o_first, o_more, o_finish,
    acc_ahead, acc_first, acc_first_01, acc_more, acc_more_01, acc_more_10, acc_finish]
  rfl

/-- The rows kept for the next grid point. -/
theorem next_eq : (after I σ).kept = I.rowsNext := by
  simp only [after, steps, together, List.foldl, kept_ahead, kept_first, kept_more, kept_finish]

/-- The output's block, when the first half's rows were there. -/
theorem out_eq (hk : σ.kept = I.rowsOf 0) : (after I σ).o = outBlk I := by
  rw [halves_eq I σ hk]
  funext y
  have h0 : (y 0).val < 1 := (y 0).isLt
  have h1 : (y 1).val < 1024 := (y 1).isLt
  have h2 : (y 2).val < 1024 := (y 2).isLt
  unfold put outBlk
  by_cases hy : (y 1).val < 512
  · rw [dif_neg, dif_pos]
    · have e : (⟨(y 1).val / 512, by omega⟩ : Fin 2) = 0 := Fin.ext (by show (y 1).val / 512 = 0; omega)
      rw [e]
      refine congrArg (outHalf I 0) (funext fun a => Fin.ext ?_)
      fin_cases a
      · show (y 0).val - 0 = 0; omega
      · show (y 1).val - 0 = (y 1).val % 512; omega
      · rfl
    · intro a
      fin_cases a
      · exact ⟨Nat.zero_le _, by show (y 0).val < 0 + 1; omega⟩
      · exact ⟨Nat.zero_le _, by show (y 1).val < 0 + 512; omega⟩
      · exact ⟨Nat.zero_le _, by show (y 2).val < 0 + 1024; omega⟩
    · intro h
      have := (h 1).1
      change 512 ≤ (y 1).val at this
      omega
  · rw [dif_pos]
    · have e : (⟨(y 1).val / 512, by omega⟩ : Fin 2) = 1 := Fin.ext (by show (y 1).val / 512 = 1; omega)
      rw [e]
      refine congrArg (outHalf I 1) (funext fun a => Fin.ext ?_)
      fin_cases a
      · show (y 0).val - 0 = 0; omega
      · show (y 1).val - 512 = (y 1).val % 512; omega
      · rfl
    · intro a
      fin_cases a
      · exact ⟨Nat.zero_le _, by show (y 0).val < 0 + 1; omega⟩
      · exact ⟨by show 512 ≤ (y 1).val; omega, by show (y 1).val < 512 + 512; omega⟩
      · exact ⟨Nat.zero_le _, by show (y 2).val < 0 + 1024; omega⟩

end Cert.Proof.First

end
-- ==== Proof.FirstBody.lean ====
/- The run of the third kernel's program with the output's blocks named. The body, at any grid point, finds the rows of the
   grid point's first half in the buffer that the grid point before filled (at the first grid point it fills it itself),
   leaves in the output's buffer `outBlk` of the input blocks, and in the buffer of rows those of the next grid point. -/
module

public import proofs.«01_k».proof.Proof.FirstOut
public import Idealize.ShloMosaic.Lib.Claim
public import Idealize.ShloMosaic.Lib.Pipeline.ValueKit

@[expose] public section

set_option maxRecDepth 16384

noncomputable section

namespace Cert.Proof.First

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open VecWindow
open Cert.Proof.Ffn (modulated inbX inbM inbV)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of a grid point. -/
def inpAt (c : Dev nD) (t : Fin cfg0.N) : Inp F where
  x := iblk m c 0 t
  xn := iblk m c 1 t
  mf := iblk m c 2 t
  mn := iblk m c 3 t
  gpre := iblk m c 4 t
  gpost := iblk m c 5 t
  wg := iblk m c 6 t
  wu := iblk m c 7 t
  wd := iblk m c 8 t

/-! ## The next grid point's first half -/

theorem index_0 : ∀ t, win0_0.index t = ![(grid0.coords t 0).val, (grid0.coords t 1).val, 0] := by decide +kernel
theorem index_1 : ∀ (t : Fin grid0.N) (h : t.val + 1 < grid0.N),
    win0_1.index t = ![(grid0.coords ⟨t.val + 1, h⟩ 0).val, (grid0.coords ⟨t.val + 1, h⟩ 1).val * 2, 0] := by decide +kernel
theorem index_2 : ∀ t, win0_2.index t = ![(grid0.coords t 0).val, 0, 0, 0] := by decide +kernel
theorem index_3 : ∀ (t : Fin grid0.N) (h : t.val + 1 < grid0.N), win0_3.index t = ![(grid0.coords ⟨t.val + 1, h⟩ 0).val, 0, 0, 0] := by decide +kernel
theorem index_4 : ∀ t, win0_4.index t = ![0, 0] := by decide +kernel

/-- A grid point's batch. -/
def batch (t : Fin cfg0.N) : Fin 8 := ⟨(grid0.coords t 0).val, (grid0.coords t 0).isLt⟩
/-- A row of a grid point's 1024. -/
def row (t : Fin cfg0.N) (r : Fin 1024) : Fin 4096 :=
  ⟨(grid0.coords t 1).val * 1024 + r.val, by have : (grid0.coords t 1).val < 4 := (grid0.coords t 1).isLt; omega⟩

theorem read_0 (A : Vec F S8x4096x1024 .f32) (t : Fin cfg0.N) (r : Fin 1024) (n : Fin 1024) :
    ((cfg0.win 0).blk t).view.read (Elt F) A (ix3 0 r n) = A (ix3 (batch t) (row t r) n) := by
  blk_ext [index_0, batch, row]

theorem read_1 (A : Vec F S8x4096x1024 .f32) (t : Fin cfg0.N) (h : t.val + 1 < cfg0.N) (r : Fin 512) (n : Fin 1024) :
    ((cfg0.win 1).blk t).view.read (Elt F) A (ix3 0 r n) = A (ix3 (batch ⟨t.val + 1, h⟩) (row ⟨t.val + 1, h⟩ ⟨r.val, by omega⟩) n) := by
  blk_ext [index_1 t h, batch, row]

theorem read_2 (A : Vec F S8x3x3x1024 .f32) (t : Fin cfg0.N) (k : Fin 3) (n : Fin 1024) :
    ((cfg0.win 2).blk t).view.read (Elt F) A (ix4 0 0 k n) = A (ix4 (batch t) 0 k n) := by
  blk_ext [index_2, batch]

theorem read_3 (A : Vec F S8x3x3x1024 .f32) (t : Fin cfg0.N) (h : t.val + 1 < cfg0.N) (k : Fin 3) (n : Fin 1024) :
    ((cfg0.win 3).blk t).view.read (Elt F) A (ix4 0 0 k n) = A (ix4 (batch ⟨t.val + 1, h⟩) 0 k n) := by
  blk_ext [index_3 t h, batch]

theorem read_4 (A : Vec F S1x1024 .f32) (t : Fin cfg0.N) (n : Fin 1024) :
    ((cfg0.win 4).blk t).view.read (Elt F) A (ix2 0 n) = A (ix2 0 n) := by
  blk_ext [index_4]

theorem blk_x (c : Dev nD) (t : Fin cfg0.N) (h : t.val + 1 < cfg0.N) :
    window (inpAt m c t).xn ![0, 0, 0] S1x512x1024.size inbN = window (inpAt m c ⟨t.val + 1, h⟩).x ![0, (0 : Fin 2).val * 512, 0] S1x512x1024.size (inbX 0) := by
  obtain ⟨A, hA⟩ : ∃ A : Vec F S8x4096x1024 .f32, V m c main_arg0 = A := ⟨_, rfl⟩
  funext y
  have h0 : (y 0).val < 1 := (y 0).isLt
  have h1 : (y 1).val < 512 := (y 1).isLt
  have h2 : (y 2).val < 1024 := (y 2).isLt
  have e1 := read_1 A t h ⟨(y 1).val, h1⟩ ⟨(y 2).val, h2⟩
  have e0 := read_0 A ⟨t.val + 1, h⟩ ⟨(y 1).val, by omega⟩ ⟨(y 2).val, h2⟩
  rw [show (inpAt m c t).xn = iblk m c 1 t from rfl, show (inpAt m c ⟨t.val + 1, h⟩).x = iblk m c 0 ⟨t.val + 1, h⟩ from rfl]
  unfold iblk
  rw [show V m c (Pipeline.arrRef spec0 1) = A from hA]
  refine Eq.trans (Eq.trans ?_ (e1.trans e0.symm)) ?_
  · unfold window
    refine congrArg _ (funext fun a => Fin.ext ?_)
    fin_cases a
    · show 0 + 1 * (y 0).val = 0; omega
    · show 0 + 1 * (y 1).val = (y 1).val; omega
    · show 0 + 1 * (y 2).val = (y 2).val; omega
  · unfold window
    refine congrArg _ (funext fun a => Fin.ext ?_)
    fin_cases a
    · show 0 = 0 + 1 * (y 0).val; omega
    · show (y 1).val = 0 * 512 + 1 * (y 1).val; omega
    · show (y 2).val = 0 + 1 * (y 2).val; omega

theorem blk_m (c : Dev nD) (t : Fin cfg0.N) (h : t.val + 1 < cfg0.N) (k : Fin 3) :
    window (inpAt m c t).mn ![0, 0, k.val, 0] S1x1x1x1024.size (inbM k) = window (inpAt m c ⟨t.val + 1, h⟩).mf ![0, 0, k.val, 0] S1x1x1x1024.size (inbM k) := by
  obtain ⟨A, hA⟩ : ∃ A : Vec F S8x3x3x1024 .f32, V m c main_arg1 = A := ⟨_, rfl⟩
  have e : (inpAt m c t).mn = (inpAt m c ⟨t.val + 1, h⟩).mf := by
    rw [show (inpAt m c t).mn = iblk m c 3 t from rfl, show (inpAt m c ⟨t.val + 1, h⟩).mf = iblk m c 2 ⟨t.val + 1, h⟩ from rfl]
    unfold iblk
    rw [show V m c (Pipeline.arrRef spec0 3) = A from hA]
    funext y
    have h0 : (y 0).val < 1 := (y 0).isLt
    have h1 : (y 1).val < 1 := (y 1).isLt
    have h2 : (y 2).val < 3 := (y 2).isLt
    have h3 : (y 3).val < 1024 := (y 3).isLt
    have hy : y = (ix4 0 0 (⟨(y 2).val, h2⟩ : Fin 3) (⟨(y 3).val, h3⟩ : Fin 1024) : S1x1x3x1024.Idx) := by
      funext a
      apply Fin.ext
      fin_cases a
      · show (y 0).val = 0; omega
      · show (y 1).val = 0; omega
      · rfl
      · rfl
    rw [hy]
    exact (read_3 A t h ⟨(y 2).val, h2⟩ ⟨(y 3).val, h3⟩).trans (read_2 A ⟨t.val + 1, h⟩ ⟨(y 2).val, h2⟩ ⟨(y 3).val, h3⟩).symm
  rw [e]

theorem blk_g (c : Dev nD) (t t' : Fin cfg0.N) : (inpAt m c t).gpre = (inpAt m c t').gpre := by
  obtain ⟨A, hA⟩ : ∃ A : Vec F S1x1024 .f32, V m c main_v3 = A := ⟨_, rfl⟩
  rw [show (inpAt m c t).gpre = iblk m c 4 t from rfl, show (inpAt m c t').gpre = iblk m c 4 t' from rfl]
  unfold iblk
  rw [show V m c (Pipeline.arrRef spec0 4) = A from hA]
  funext y
  have h0 : (y 0).val < 1 := (y 0).isLt
  have h1 : (y 1).val < 1024 := (y 1).isLt
  have hy : y = (ix2 0 (⟨(y 1).val, h1⟩ : Fin 1024) : S1x1024.Idx) := by
    funext a
    apply Fin.ext
    fin_cases a
    · show (y 0).val = 0; omega
    · rfl
  rw [hy]
  exact (read_4 A t ⟨(y 1).val, h1⟩).trans (read_4 A t' ⟨(y 1).val, h1⟩).symm

/-- What a grid point keeps are the next one's rows. -/
theorem rowsNext_eq (c : Dev nD) (t : Fin cfg0.N) (h : t.val + 1 < cfg0.N) : (inpAt m c t).rowsNext = (inpAt m c ⟨t.val + 1, h⟩).rowsOf 0 := by
  unfold Inp.rowsNext Inp.rowsOf Inp.half
  rw [blk_x m c t h, blk_g m c t ⟨t.val + 1, h⟩]
  exact congrArg₂ (fun a b => modulated _ a b _) (blk_m m c t h 0) (blk_m m c t h 1)

/-! ## The run -/

/-- Before position `n`: the accumulator at anything, the rows of the grid point's first half (except before the first), and
    the generator's register. -/
def held (c : Dev nD) (n : ℕ) : sProp 𝕄 :=
  iprop(iprop((∃ d, owns (c : Thread nD τ) scM0_0 fullShare d)
      ∗ (∃ d, ⌜n ≠ 0 → ∀ h : n < cfg0.N, window d ![0, 0] S512x1024.size inbH = (inpAt m c ⟨n, h⟩).rowsOf 0⌝ ∗ owns (c : Thread nD τ) scM0_1 fullShare d))
    ∗ (∃ r, prngReg c r))

/-- The pipeline's proof data: after the body each input's buffer holds its block, the output's `outBlk` of the inputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (inpAt m c t)
  Φ t := held m c t.val
  q w := Pipeline.shareOf spec0 w
  owed _ := 0

/-- The data's arrays are the contents at the region's entry. -/
theorem dats_A (c : Dev nD) (w : Fin cfg0.W) : (dats m 0 c).A w = V m c (Pipeline.arrRef spec0 w) := by
  dsimp only [dats]

theorem held_castSucc (c : Dev nD) (t : Fin cfg0.N) : (dats m 0 c).Φ t.castSucc = held m c t.val := by
  dsimp only [dats]; exact Pipeline.Dat.Φ_castSucc (fun n _ => held m c n) t
theorem held_succ (c : Dev nD) (t : Fin cfg0.N) : (dats m 0 c).Φ t.succ = held m c (t.val + 1) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlk (inpAt m c t) := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d
theorem before_8 (c : Dev nD) (t : Fin cfg0.N) (d) : (dats m 0 c).before 8 t d = iblk m c 8 t :=
  before0_8_of m (dats m 0 c) (dats_A m c 8) (after_8 m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns at a grid point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2000000 in
/-- The body at any grid point: the steps' run on the point's buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [held_castSucc, held_succ, show (dats m 0 c).owesAt () t.succ = (dats m 0 c).owesAt () t.castSucc from rfl,
    after_0, after_1, after_2, after_3, after_4, after_5, after_6, after_7, after_8, after_9]
  unfold held
  have hN : t.val < 32 := lt_of_lt_of_eq t.isLt (show cfg0.N = 32 from N_0)
  by_cases h0 : t.val = 0
  · have hc : cond0_0 (grid0.coords t) := (hcond0_0 t).mpr (by omega)
    rw [body_first (hc := hc)]
    iintro ⟨⟨⟨⟨%e0, HS0⟩, ⟨%e1, %he, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (wp_fill c _ (inpAt m c t) ⟨(dats m 0 c).before 9 t d9, e0, e1⟩ _) $$ [H0 H1 H2 H3 H4 H5 H6 H7 H8 H9 HS0 HS1]
    · unfold ownIn ownSt inpAt
      isplitl [H0 H1 H2 H3 H4 H5 H6 H7 H8]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexact H9
      isplitl [HS0]; · iexact HS0
      iexact HS1
    unfold ownIn ownSt
    rw [out_eq (inpAt m c t) (steps (inpAt m c t) ⟨(dats m 0 c).before 9 t d9, e0, e1⟩ [.fill]) (kept_fill _ _)]
    iintro ⟨⟨H0, H1, H2, H3, H4, H5, H6, H7, H8⟩, H9, HS0, HS1⟩
    isplitl [HS0 HS1 Hg]
    · isplitl [HS0 HS1]
      · isplitl [HS0]
        · iexists _; iexact HS0
        iexists _
        isplitr
        swap; · iexact HS1
        ipureintro
        exact fun _ h => (next_eq _ _).trans (rowsNext_eq m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hc : ¬cond0_0 (grid0.coords t) := fun h => h0 (by have := (hcond0_0 t).mp h; omega)
    rw [body_later (hc := hc)]
    iintro ⟨⟨⟨⟨%e0, HS0⟩, ⟨%e1, %he, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (wp_main c _ (inpAt m c t) ⟨(dats m 0 c).before 9 t d9, e0, e1⟩ _) $$ [H0 H1 H2 H3 H4 H5 H6 H7 H8 H9 HS0 HS1]
    · unfold ownIn ownSt inpAt
      isplitl [H0 H1 H2 H3 H4 H5 H6 H7 H8]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexact H9
      isplitl [HS0]; · iexact HS0
      iexact HS1
    unfold ownIn ownSt
    rw [out_eq (inpAt m c t) ⟨(dats m 0 c).before 9 t d9, e0, e1⟩ (he h0 t.isLt)]
    iintro ⟨⟨H0, H1, H2, H3, H4, H5, H6, H7, H8⟩, H9, HS0, HS1⟩
    isplitl [HS0 HS1 Hg]
    · isplitl [HS0 HS1]
      · isplitl [HS0]
        · iexists _; iexact HS0
        iexists _
        isplitr
        swap; · iexact HS1
        ipureintro
        exact fun _ h => (next_eq _ _).trans (rowsNext_eq m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row is the body at the point. -/
theorem row_eq (t : Fin cfg0.N) : defs₀ (F := F) .tc cfg0.body (cfg0.bodyArgs t (cfg0.slots t)) = bodyAt0 t := by
  unfold defs₀; rw [Defs.onTc_tc]

/-- The body keeps the pipeline's contract. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem held_in (c : Dev nD) : (Pipeline.ΦA spec0 c : sProp 𝕄) ⊢ (dats m 0 c).Φ 0 := by
  rw [PhiA0_eq, show (dats m 0 c).Φ 0 = held m c 0 from rfl]
  unfold held
  iintro ⟨⟨HS0, ⟨%e1, HS1⟩⟩, Hg⟩
  isplitl [HS0 HS1]
  · isplitl [HS0]; · iexact HS0
    iexists e1
    isplitr
    · ipureintro; exact fun h => absurd rfl h
    iexact HS1
  iexact Hg

theorem held_out (c : Dev nD) : (dats m 0 c).Φ (Fin.last cfg0.N) ⊢ (Pipeline.ΦA spec0 c : sProp 𝕄) := by
  rw [PhiA0_eq, show (dats m 0 c).Φ (Fin.last cfg0.N) = held m c cfg0.N from rfl]
  unfold held
  iintro ⟨⟨HS0, ⟨%e1, %he, HS1⟩⟩, Hg⟩
  isplitl [HS0 HS1]
  · isplitl [HS0]; · iexact HS0
    iexists e1
    iexact HS1
  iexact Hg

set_option backward.isDefEq.respectTransparency.types false in
/-- The run: every execution ends with the output array as the named blocks make it, every other array as the region
    found it, and every counter at zero. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hin := held_in m) (hout := held_out m)

end Cert.Proof.First

end
-- ==== Proof.FirstRows.lean ====
/- A row of the third kernel's output block as a function of a token's row of the residual stream. -/
module

public import proofs.«01_k».proof.Proof.FirstOut
public import proofs.«01_k».proof.Proof.FfnHalf

@[expose] public section

set_option maxRecDepth 16384

noncomputable section

namespace Cert.Proof.First

open Cert.Kernel3Ideal Cert.Kernel3Ideal.Gen Idealize.ShloMosaic Idealize.SL.Sem
open VecWindow
open Cert.Proof.Ffn (modulated modulated_apply piece piece_apply accFirst accFirst_apply accNext_apply finished finished_apply
  inbX inbM inbV inbU inbD win_x win_m win_v win_u win_d sum_hidden rms addRow modRow hidRow)

/-- What all tokens of a batch share: gains, modulations and weights. -/
structure Shared where
  shift : Fin 1024 → EReal
  scale : Fin 1024 → EReal
  gate : Fin 1024 → EReal
  gpre : Fin 1024 → EReal
  gpost : Fin 1024 → EReal
  wg : Fin 1024 → Fin 2816 → EReal
  wu : Fin 1024 → Fin 2816 → EReal
  wd : Fin 2816 → Fin 1024 → EReal

/-- The token's row that goes through the feed-forward network. -/
def preRow (S : Shared) (x : Fin 1024 → EReal) : Fin 1024 → EReal :=
  modRow x (fun n => S.gpre n * (1 + S.scale n)) S.shift

/-- The feed-forward network's row. -/
def ffnRow (S : Shared) (x : Fin 1024 → EReal) (n : Fin 1024) : EReal := ∑ k, hidRow (preRow S x) S.wg S.wu k * S.wd k n

/-- The token's result. -/
def tokenRow (S : Shared) (x : Fin 1024 → EReal) : Fin 1024 → EReal :=
  addRow x (ffnRow S x) fun n => S.gpost n * (Ideal.ofBits FTy.f32 0x3F000000#32 * (1 + S.gate n))

/-! ## A grid point's rows -/

variable (I : Inp Ideal)

/-- The token in row `t` of a grid point's block. -/
def tok (t : Fin 1024) (n : Fin 1024) : EReal := I.x (ix3 0 t n)

/-- What a grid point's tokens share. -/
def shared : Shared where
  shift n := I.mf (ix4 0 0 0 n)
  scale n := I.mf (ix4 0 0 1 n)
  gate n := I.mf (ix4 0 0 2 n)
  gpre n := I.gpre (ix2 0 n)
  gpost n := I.gpost (ix2 0 n)
  wg j k := I.wg (ix4 0 0 j k)
  wu j k := I.wu (ix4 0 0 j k)
  wd k n := I.wd (ix4 0 0 k n)

theorem half_apply (h : Fin 2) (r : Fin 512) (n : Fin 1024) : I.half h (ix2 r n) = tok I ⟨h.val * 512 + r.val, by omega⟩ n := by
  have e : I.half h (ix2 r n) = (window I.x ![0, h.val * 512, 0] S1x512x1024.size (inbX h) : Vec Ideal S1x512x1024 .f32) (ix3 0 r n) := by
    pointwise [Inp.half, flat]
  exact e.trans (win_x I.x h r n)

theorem rowsOf_apply (h : Fin 2) (r : Fin 512) (n : Fin 1024) :
    I.rowsOf h (ix2 r n) = preRow (shared I) (tok I ⟨h.val * 512 + r.val, by omega⟩) n := by
  unfold Inp.rowsOf preRow
  have e0 : ∀ n, (window I.mf ![0, 0, 0, 0] S1x1x1x1024.size (inbM 0) : Vec Ideal S1x1x1x1024 .f32) (ix4 0 0 0 n) = I.mf (ix4 0 0 0 n) := win_m I.mf 0
  have e1 : ∀ n, (window I.mf ![0, 0, 1, 0] S1x1x1x1024.size (inbM 1) : Vec Ideal S1x1x1x1024 .f32) (ix4 0 0 0 n) = I.mf (ix4 0 0 1 n) := win_m I.mf 1
  have e5 : ∀ n, (window I.gpre ![0, 0] S1x1024.size inbV : Vec Ideal S1x1024 .f32) (ix2 0 n) = I.gpre (ix2 0 n) := win_v I.gpre
  rw [modulated_apply]
  simp only [half_apply, e0, e1, e5]
  rfl

/-- A term of the feed-forward network's sum. -/
def term (S : Shared) (p : Fin 1024 → EReal) (n : Fin 1024) (k : Fin 2816) : EReal := hidRow p S.wg S.wu k * S.wd k n

theorem pieceOf_apply (hb : FVec Ideal S512x1024 .bf16) (p : Fin 1024 → EReal) (r : Fin 512) (hp : ∀ j, hb (ix2 r j) = p j) (i : Fin 11) (n : Fin 1024) :
    I.pieceOf hb i (ix2 r n) = ∑ k : Fin 256, term (shared I) p n ⟨i.val * 256 + k.val, by omega⟩ := by
  unfold Inp.pieceOf
  rw [piece_apply]
  have e0 : ∀ j k, (window I.wg ![0, 0, 0, i.val * 256] S1x1x1024x256.size (inbU i) : Vec Ideal S1x1x1024x256 .bf16) (ix4 0 0 j k) = I.wg (ix4 0 0 j ⟨i.val * 256 + k.val, by omega⟩) := win_u I.wg i
  have e1 : ∀ j k, (window I.wu ![0, 0, 0, i.val * 256] S1x1x1024x256.size (inbU i) : Vec Ideal S1x1x1024x256 .bf16) (ix4 0 0 j k) = I.wu (ix4 0 0 j ⟨i.val * 256 + k.val, by omega⟩) := win_u I.wu i
  have e2 : ∀ k n, (window I.wd ![0, 0, i.val * 256, 0] S1x1x256x1024.size (inbD i) : Vec Ideal S1x1x256x1024 .bf16) (ix4 0 0 k n) = I.wd (ix4 0 0 ⟨i.val * 256 + k.val, by omega⟩ n) := win_d I.wd i
  simp only [hp, e0, e1, e2]
  rfl

theorem accTo_apply (hb : FVec Ideal S512x1024 .bf16) (p : Fin 1024 → EReal) (r : Fin 512) (hp : ∀ j, hb (ix2 r j) = p j) (n : Fin 1024) (i : ℕ) :
    accTo I hb i (ix3 0 r n) = ∑ i' ∈ Finset.range (i + 1), ∑ k : Fin 256, term (shared I) p n ⟨(Fin.ofNat 11 i').val * 256 + k.val, by omega⟩ := by
  induction i with
  | zero =>
    rw [accTo, accFirst_apply, pieceOf_apply I hb p r hp, Finset.sum_range_one]
    rfl
  | succ i ih =>
    rw [accTo, accNext_apply, ih, pieceOf_apply I hb p r hp, Finset.sum_range_succ _ (i + 1)]

theorem outHalf_apply (h : Fin 2) (r : Fin 512) (n : Fin 1024) :
    outHalf I h (ix3 0 r n) = tokenRow (shared I) (tok I ⟨h.val * 512 + r.val, by omega⟩) n := by
  have hp := rowsOf_apply I h r
  have ha : ∀ n, (shapeCast S512x1024 (accTo I (I.rowsOf h) 10) shapeCasts_S1x512x1024_S512x1024 : FVec Ideal S512x1024 .f32) (ix2 r n)
      = ffnRow (shared I) (tok I ⟨h.val * 512 + r.val, by omega⟩) n := by
    intro n
    have e : (shapeCast S512x1024 (accTo I (I.rowsOf h) 10) shapeCasts_S1x512x1024_S512x1024 : FVec Ideal S512x1024 .f32) (ix2 r n)
        = accTo I (I.rowsOf h) 10 (ix3 0 r n) := by pointwise []
    rw [e, accTo_apply I _ _ r hp, sum_hidden]
    rfl
  unfold outHalf Inp.done tokenRow
  rw [accFirst_apply, finished_apply]
  have e2 : ∀ n, (window I.mf ![0, 0, 2, 0] S1x1x1x1024.size (inbM 2) : Vec Ideal S1x1x1x1024 .f32) (ix4 0 0 0 n) = I.mf (ix4 0 0 2 n) := win_m I.mf 2
  have e5 : ∀ n, (window I.gpost ![0, 0] S1x1024.size inbV : Vec Ideal S1x1024 .f32) (ix2 0 n) = I.gpost (ix2 0 n) := win_v I.gpost
  simp only [half_apply, ha, e2, e5]
  rfl

/-- A row of the output's block. -/
theorem outBlk_apply (t : Fin 1024) (n : Fin 1024) : outBlk I (ix3 0 t n) = tokenRow (shared I) (tok I t) n := by
  have e := outHalf_apply I ⟨t.val / 512, by omega⟩ ⟨t.val % 512, by omega⟩ n
  have ht : (⟨t.val / 512 * 512 + t.val % 512, by omega⟩ : Fin 1024) = t := Fin.ext (by show t.val / 512 * 512 + t.val % 512 = t.val; omega)
  rw [ht] at e
  exact e

end Cert.Proof.First

end
-- ==== Proof.FirstBlocks.lean ====
/- The third kernel's input blocks at a grid point as parts of the arguments. -/
module

public import proofs.«01_k».proof.Proof.FirstBody
public import proofs.«01_k».proof.Proof.FirstRows
public import proofs.«01_k».proof.Proof.FfnBlocks

@[expose] public section

set_option maxRecDepth 16384

noncomputable section

namespace Cert.Proof.First

open Cert.Kernel3Ideal Cert.Kernel3Ideal.Gen Idealize.ShloMosaic Idealize.ShloMosaic.TcCoe Idealize.SL.Sem
open Cert.Proof.Ffn (asRow asRow_apply)

variable (m : (ℓ : Loc nD τ sig) → Buf (Elt Ideal) ℓ) (c : Dev nD)

/-! ## The arrays the host code hands to the kernel -/

theorem V_v0 : V m c main_v0 = (truncf .bf16 (m ((c : Thread nD τ).loc main_arg4)) bitsLt_bf16_f32 : FVec Ideal S1x2x1024x2816 .bf16) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v1 : V m c main_v1 = (truncf .bf16 (m ((c : Thread nD τ).loc main_arg5)) bitsLt_bf16_f32 : FVec Ideal S1x2x1024x2816 .bf16) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v2 : V m c main_v2 = (truncf .bf16 (m ((c : Thread nD τ).loc main_arg6)) bitsLt_bf16_f32 : FVec Ideal S1x2x2816x1024 .bf16) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v3 : V m c main_v3 = asRow (m ((c : Thread nD τ).loc main_arg2)) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v4 : V m c main_v4 = asRow (m ((c : Thread nD τ).loc main_arg3)) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-! ## The blocks -/

theorem index_5 : ∀ t, win0_5.index t = ![0, 0] := by decide +kernel
theorem index_6 : ∀ t, win0_6.index t = ![0, 0, 0, 0] := by decide +kernel
theorem index_7 : ∀ t, win0_7.index t = ![0, 0, 0, 0] := by decide +kernel
theorem index_8 : ∀ t, win0_8.index t = ![0, 0, 0, 0] := by decide +kernel
theorem index_9 : ∀ t, win0_9.index t = ![(grid0.coords t 0).val, (grid0.coords t 1).val, 0] := by decide +kernel

theorem read_5 (A : Vec Ideal S1x1024 .f32) (t : Fin cfg0.N) (n : Fin 1024) :
    ((cfg0.win 5).blk t).view.read (Elt Ideal) A (ix2 0 n) = A (ix2 0 n) := by
  blk_ext [index_5]

theorem read_6 (A : Vec Ideal S1x2x1024x2816 .bf16) (t : Fin cfg0.N) (j : Fin 1024) (k : Fin 2816) :
    ((cfg0.win 6).blk t).view.read (Elt Ideal) A (ix4 0 0 j k) = A (ix4 0 0 j k) := by
  blk_ext [index_6]

theorem read_7 (A : Vec Ideal S1x2x1024x2816 .bf16) (t : Fin cfg0.N) (j : Fin 1024) (k : Fin 2816) :
    ((cfg0.win 7).blk t).view.read (Elt Ideal) A (ix4 0 0 j k) = A (ix4 0 0 j k) := by
  blk_ext [index_7]

theorem read_8 (A : Vec Ideal S1x2x2816x1024 .bf16) (t : Fin cfg0.N) (k : Fin 2816) (n : Fin 1024) :
    ((cfg0.win 8).blk t).view.read (Elt Ideal) A (ix4 0 0 k n) = A (ix4 0 0 k n) := by
  blk_ext [index_8]

theorem x_apply (A : Vec Ideal S8x4096x1024 .f32) (hA : V m c main_arg0 = A) (t : Fin cfg0.N) (r : Fin 1024) (n : Fin 1024) :
    (inpAt m c t).x (ix3 0 r n) = A (ix3 (batch t) (row t r) n) := by
  rw [show (inpAt m c t).x = iblk m c 0 t from rfl]
  unfold iblk
  rw [show V m c (Pipeline.arrRef spec0 0) = A from hA]
  exact read_0 A t r n

theorem mf_apply (A : Vec Ideal S8x3x3x1024 .f32) (hA : V m c main_arg1 = A) (t : Fin cfg0.N) (k : Fin 3) (n : Fin 1024) :
    (inpAt m c t).mf (ix4 0 0 k n) = A (ix4 (batch t) 0 k n) := by
  rw [show (inpAt m c t).mf = iblk m c 2 t from rfl]
  unfold iblk
  rw [show V m c (Pipeline.arrRef spec0 2) = A from hA]
  exact read_2 A t k n

theorem gpre_apply (A : Vec Ideal S1x1024 .f32) (hA : V m c main_v3 = A) (t : Fin cfg0.N) (n : Fin 1024) :
    (inpAt m c t).gpre (ix2 0 n) = A (ix2 0 n) := by
  rw [show (inpAt m c t).gpre = iblk m c 4 t from rfl]
  unfold iblk
  rw [show V m c (Pipeline.arrRef spec0 4) = A from hA]
  exact read_4 A t n

theorem gpost_apply (A : Vec Ideal S1x1024 .f32) (hA : V m c main_v4 = A) (t : Fin cfg0.N) (n : Fin 1024) :
    (inpAt m c t).gpost (ix2 0 n) = A (ix2 0 n) := by
  rw [show (inpAt m c t).gpost = iblk m c 5 t from rfl]
  unfold iblk
  rw [show V m c (Pipeline.arrRef spec0 5) = A from hA]
  exact read_5 A t n

theorem wg_apply (A : Vec Ideal S1x2x1024x2816 .bf16) (hA : V m c main_v0 = A) (t : Fin cfg0.N) (j : Fin 1024) (k : Fin 2816) :
    (inpAt m c t).wg (ix4 0 0 j k) = A (ix4 0 0 j k) := by
  rw [show (inpAt m c t).wg = iblk m c 6 t from rfl]
  unfold iblk
  rw [show V m c (Pipeline.arrRef spec0 6) = A from hA]
  exact read_6 A t j k

theorem wu_apply (A : Vec Ideal S1x2x1024x2816 .bf16) (hA : V m c main_v1 = A) (t : Fin cfg0.N) (j : Fin 1024) (k : Fin 2816) :
    (inpAt m c t).wu (ix4 0 0 j k) = A (ix4 0 0 j k) := by
  rw [show (inpAt m c t).wu = iblk m c 7 t from rfl]
  unfold iblk
  rw [show V m c (Pipeline.arrRef spec0 7) = A from hA]
  exact read_7 A t j k

theorem wd_apply (A : Vec Ideal S1x2x2816x1024 .bf16) (hA : V m c main_v2 = A) (t : Fin cfg0.N) (k : Fin 2816) (n : Fin 1024) :
    (inpAt m c t).wd (ix4 0 0 k n) = A (ix4 0 0 k n) := by
  rw [show (inpAt m c t).wd = iblk m c 8 t from rfl]
  unfold iblk
  rw [show V m c (Pipeline.arrRef spec0 8) = A from hA]
  exact read_8 A t k n

/-! ## A grid point's tokens -/

/-- A token's row in the argument. -/
def tokOf (x : FVec Ideal S8x4096x1024 .f32) (b : Fin 8) (s : Fin 4096) (n : Fin 1024) : EReal := x (ix3 b s n)

/-- What a batch's tokens share. -/
def sharedOf (mod : FVec Ideal S8x3x3x1024 .f32) (gpre gpost : FVec Ideal S1024 .f32) (wg wu : FVec Ideal S1x2x1024x2816 .f32)
    (wd : FVec Ideal S1x2x2816x1024 .f32) (b : Fin 8) : Shared where
  shift n := mod (ix4 b 0 0 n)
  scale n := mod (ix4 b 0 1 n)
  gate n := mod (ix4 b 0 2 n)
  gpre n := gpre (ix1 n)
  gpost n := gpost (ix1 n)
  wg j k := wg (ix4 0 0 j k)
  wu j k := wu (ix4 0 0 j k)
  wd k n := wd (ix4 0 0 k n)

variable (x : FVec Ideal S8x4096x1024 .f32) (mod : FVec Ideal S8x3x3x1024 .f32) (gpre gpost : FVec Ideal S1024 .f32)
  (wg wu : FVec Ideal S1x2x1024x2816 .f32) (wd : FVec Ideal S1x2x2816x1024 .f32)

theorem tok_inpAt (h0 : V m c main_arg0 = x) (t : Fin cfg0.N) (r : Fin 1024) : tok (inpAt m c t) r = tokOf x (batch t) (row t r) :=
  funext fun n => x_apply m c _ h0 t r n

theorem shared_inpAt (h1 : V m c main_arg1 = mod) (h4 : V m c main_v3 = asRow gpre) (h5 : V m c main_v4 = asRow gpost)
    (h6 : V m c main_v0 = (truncf .bf16 wg bitsLt_bf16_f32 : FVec Ideal S1x2x1024x2816 .bf16))
    (h7 : V m c main_v1 = (truncf .bf16 wu bitsLt_bf16_f32 : FVec Ideal S1x2x1024x2816 .bf16))
    (h8 : V m c main_v2 = (truncf .bf16 wd bitsLt_bf16_f32 : FVec Ideal S1x2x2816x1024 .bf16)) (t : Fin cfg0.N) :
    shared (inpAt m c t) = sharedOf mod gpre gpost wg wu wd (batch t) := by
  unfold shared sharedOf
  rw [Shared.mk.injEq]
  exact ⟨funext fun n => mf_apply m c _ h1 t 0 n,
    funext fun n => mf_apply m c _ h1 t 1 n,
    funext fun n => mf_apply m c _ h1 t 2 n,
    funext fun n => (gpre_apply m c _ h4 t n).trans (asRow_apply gpre n),
    funext fun n => (gpost_apply m c _ h5 t n).trans (asRow_apply gpost n),
    funext fun j => funext fun k => wg_apply m c _ h6 t j k,
    funext fun j => funext fun k => wu_apply m c _ h7 t j k,
    funext fun k => funext fun n => wd_apply m c _ h8 t k n⟩

end Cert.Proof.First

end
-- ==== Proof.FirstReference.lean ====
/- The third reference's result at an index, as a function of a token's row. -/
module

public import proofs.«01_k».proof.Proof.FirstBlocks
public import proofs.«01_k».proof.Proof.FfnReference
public import proofs.«01_k».proof.Proof.Gen.Reference3Ideal.Run
import Idealize.ShloMosaic.Lib.Pointwise
public import Idealize.ShloMosaic.Lib.IdealHost

@[expose] public section

set_option maxRecDepth 16384

noncomputable section

namespace Cert.Proof.First.Ref

open Cert.Reference3Ideal Cert.Reference3Ideal.Gen Idealize.ShloMosaic Idealize.ShloMosaic.TcCoe Idealize.SL.Sem
open Cert.Proof.First (Shared preRow ffnRow tokenRow tokOf sharedOf)
open Cert.Proof.Ffn (addRow modRow hidRow)
open Cert.Proof.Ffn.Ref (norm norm_apply shifts shifts_apply scales scales_apply gates gates_apply plusOne plusOne_apply all all_apply silu silu_apply)

/-- The first sublayer's row of each batch. -/
def first (a : FVec Ideal S8x3x1024 .f32) : FVec Ideal S8x1x1024 .f32 :=
  broadcastInDim S8x1x1024 ![0, 2] bcast_S8x1024_S8x1x1024_0_2
    (shapeCast _ (extractStridedSlice S8x1x1024 ![0, 0, 0] a slices_S8x3x1024_S8x1x1024_0_0_0) shapeCasts_S8x1x1024_S8x1024)

/-- The rows that go through the feed-forward network. -/
def pre (x : FVec Ideal S8x4096x1024 .f32) (a : FVec Ideal S8x3x3x1024 .f32) (g : FVec Ideal S1024 .f32) : FVec Ideal S8x4096x1024 .f32 :=
  addf (mulf (norm x g) (all (plusOne (first (scales a))))) (all (first (shifts a)))

/-- The first network's weights upwards. -/
def wUp (w : FVec Ideal S1x2x1024x2816 .f32) : FVec Ideal S1024x2816 .f32 :=
  shapeCast _ (extractStridedSlice S1x1x1024x2816 ![0, 0, 0, 0] w slices_S1x2x1024x2816_S1x1x1024x2816_0_0_0_0) shapeCasts_S1x1x1024x2816_S1024x2816
/-- The first network's weights downwards. -/
def wDown (w : FVec Ideal S1x2x2816x1024 .f32) : FVec Ideal S2816x1024 .f32 :=
  shapeCast _ (extractStridedSlice S1x1x2816x1024 ![0, 0, 0, 0] w slices_S1x2x2816x1024_S1x1x2816x1024_0_0_0_0) shapeCasts_S1x1x2816x1024_S2816x1024

/-- A projection to the hidden columns. -/
def up (h : FVec Ideal S8x4096x1024 .f32) (w : FVec Ideal S1x2x1024x2816 .f32) : FVec Ideal S8x4096x2816 .f32 :=
  Host.dotGeneral dot_S8x4096x1024_S1024x2816_S8x4096x2816_2_0_01_1_n_n none h (wUp w)

/-- The projection back. -/
def down (p : FVec Ideal S8x4096x2816 .f32) (w : FVec Ideal S1x2x2816x1024 .f32) : FVec Ideal S8x4096x1024 .f32 :=
  Host.dotGeneral dot_S8x4096x2816_S2816x1024_S8x4096x1024_2_0_01_1_n_n none p (wDown w)

/-- The result: the network's rows normed, gated and added. -/
def fin (x d : FVec Ideal S8x4096x1024 .f32) (a : FVec Ideal S8x3x3x1024 .f32) (g : FVec Ideal S1024 .f32) : FVec Ideal S8x4096x1024 .f32 :=
  addf x (mulf (all (mulf (broadcastInDim S8x1x1024 ![] bcast_S_S8x1x1024 (constant S_ .f32 0x3F000000#32)) (plusOne (first (gates a))))) (norm d g))

/-- The network. -/
def ffn (h : FVec Ideal S8x4096x1024 .f32) (wg wu : FVec Ideal S1x2x1024x2816 .f32) (wd : FVec Ideal S1x2x2816x1024 .f32) : FVec Ideal S8x4096x1024 .f32 :=
  down (mulf (silu (up h wg)) (up h wu)) wd

/-- The reference's result as a function of the arguments. -/
def result (x : FVec Ideal S8x4096x1024 .f32) (a : FVec Ideal S8x3x3x1024 .f32) (gpre gpost : FVec Ideal S1024 .f32)
    (wg wu : FVec Ideal S1x2x1024x2816 .f32) (wd : FVec Ideal S1x2x2816x1024 .f32) : FVec Ideal S8x4096x1024 .f32 :=
  fin x (ffn (pre x a gpre) wg wu wd) a gpost

/-! ## At an index -/

theorem first_apply (a : FVec Ideal S8x3x1024 .f32) (b : Fin 8) (n : Fin 1024) : first a (ix3 b 0 n) = a (ix3 b 0 n) := by
  pointwise [first]
theorem wUp_apply (w : FVec Ideal S1x2x1024x2816 .f32) (j : Fin 1024) (k : Fin 2816) : wUp w (ix2 j k) = w (ix4 0 0 j k) := by
  pointwise [wUp]
theorem wDown_apply (w : FVec Ideal S1x2x2816x1024 .f32) (k : Fin 2816) (n : Fin 1024) : wDown w (ix2 k n) = w (ix4 0 0 k n) := by
  pointwise [wDown]
theorem up_apply (h : FVec Ideal S8x4096x1024 .f32) (w : FVec Ideal S1x2x1024x2816 .f32) (b : Fin 8) (s : Fin 4096) (k : Fin 2816) :
    up h w (ix3 b s k) = ∑ j : Fin 1024, (h (ix3 b s j) * w (ix4 0 0 j k) : EReal) := by
  pointwise [up]
  simp only [wUp_apply]
theorem down_apply (p : FVec Ideal S8x4096x2816 .f32) (w : FVec Ideal S1x2x2816x1024 .f32) (b : Fin 8) (s : Fin 4096) (n : Fin 1024) :
    down p w (ix3 b s n) = ∑ k : Fin 2816, (p (ix3 b s k) * w (ix4 0 0 k n) : EReal) := by
  pointwise [down]
  simp only [wDown_apply]

theorem pre_apply (x : FVec Ideal S8x4096x1024 .f32) (a : FVec Ideal S8x3x3x1024 .f32) (g : FVec Ideal S1024 .f32) (b : Fin 8) (s : Fin 4096) (n : Fin 1024) :
    pre x a g (ix3 b s n) = modRow (fun n => x (ix3 b s n)) (fun n => g (ix1 n) * (1 + a (ix4 b 0 1 n))) (fun n => a (ix4 b 0 0 n)) n := by
  have e : pre x a g (ix3 b s n) = (norm x g (ix3 b s n) : EReal) * all (plusOne (first (scales a))) (ix3 b s n) + all (first (shifts a)) (ix3 b s n) := rfl
  rw [e, all_apply, all_apply, plusOne_apply, first_apply, first_apply, scales_apply, shifts_apply, norm_apply]
  unfold modRow
  rw [mul_assoc _ (g (ix1 n) : EReal)]

theorem fin_apply (x d : FVec Ideal S8x4096x1024 .f32) (a : FVec Ideal S8x3x3x1024 .f32) (g : FVec Ideal S1024 .f32) (b : Fin 8) (s : Fin 4096) (n : Fin 1024) :
    fin x d a g (ix3 b s n) = addRow (fun n => x (ix3 b s n)) (fun n => d (ix3 b s n)) (fun n => g (ix1 n) * (Ideal.ofBits FTy.f32 0x3F000000#32 * (1 + a (ix4 b 0 2 n)))) n := by
  have e : fin x d a g (ix3 b s n) = (x (ix3 b s n) : EReal)
      + all (mulf (broadcastInDim S8x1x1024 ![] bcast_S_S8x1x1024 (constant S_ .f32 0x3F000000#32)) (plusOne (first (gates a)))) (ix3 b s n) * norm d g (ix3 b s n) := rfl
  have e' : mulf (broadcastInDim S8x1x1024 ![] bcast_S_S8x1x1024 (constant S_ .f32 0x3F000000#32)) (plusOne (first (gates a))) (ix3 b 0 n)
      = (Ideal.ofBits FTy.f32 0x3F000000#32 * plusOne (first (gates a)) (ix3 b 0 n) : EReal) := rfl
  rw [e, all_apply, e', plusOne_apply, first_apply, gates_apply, norm_apply]
  unfold addRow
  rw [mul_comm, mul_assoc _ (g (ix1 n) : EReal)]

theorem ffn_apply (h : FVec Ideal S8x4096x1024 .f32) (wg wu : FVec Ideal S1x2x1024x2816 .f32) (wd : FVec Ideal S1x2x2816x1024 .f32) (b : Fin 8) (s : Fin 4096) (n : Fin 1024) :
    ffn h wg wu wd (ix3 b s n) = ∑ k : Fin 2816, (hidRow (fun j => h (ix3 b s j)) (fun j k => wg (ix4 0 0 j k)) (fun j k => wu (ix4 0 0 j k)) k * wd (ix4 0 0 k n) : EReal) := by
  unfold ffn
  rw [down_apply]
  refine Finset.sum_congr rfl fun k _ => ?_
  have e : mulf (silu (up h wg)) (up h wu) (ix3 b s k) = (silu (up h wg) (ix3 b s k) * up h wu (ix3 b s k) : EReal) := rfl
  rw [e, silu_apply, up_apply, up_apply]
  rfl

/-- A row of the result is a function of the token's row and of what its batch shares. -/
theorem result_apply (x : FVec Ideal S8x4096x1024 .f32) (a : FVec Ideal S8x3x3x1024 .f32) (gpre gpost : FVec Ideal S1024 .f32)
    (wg wu : FVec Ideal S1x2x1024x2816 .f32) (wd : FVec Ideal S1x2x2816x1024 .f32) (b : Fin 8) (s : Fin 4096) (n : Fin 1024) :
    result x a gpre gpost wg wu wd (ix3 b s n) = tokenRow (sharedOf a gpre gpost wg wu wd b) (tokOf x b s) n := by
  unfold result
  rw [fin_apply]
  simp only [ffn_apply, pre_apply]
  rfl

end Cert.Proof.First.Ref

end
-- ==== Proof.FirstValue.lean ====
/- The third kernel's result is its reference's: each block's rows are the tokens' rows. -/
module

public import proofs.«01_k».proof.Proof.FirstReference

@[expose] public section

set_option maxRecDepth 16384

noncomputable section

namespace Cert.Proof.First

open Cert.Kernel3Ideal Cert.Kernel3Ideal.Gen Idealize.ShloMosaic Idealize.ShloMosaic.TcCoe Idealize.SL.Sem
open Cert.Proof.Ffn (asRow)

variable (m : (ℓ : Loc nD τ sig) → Buf (Elt Ideal) ℓ) (c : Dev nD)
variable (x : FVec Ideal S8x4096x1024 .f32) (mod : FVec Ideal S8x3x3x1024 .f32) (gpre gpost : FVec Ideal S1024 .f32)
  (wg wu : FVec Ideal S1x2x1024x2816 .f32) (wd : FVec Ideal S1x2x2816x1024 .f32)

/-- The output array after the run. -/
theorem array_eq (h0 : V m c main_arg0 = x) (h1 : V m c main_arg1 = mod) (h4 : V m c main_v3 = asRow gpre) (h5 : V m c main_v4 = asRow gpost)
    (h6 : V m c main_v0 = (truncf .bf16 wg bitsLt_bf16_f32 : FVec Ideal S1x2x1024x2816 .bf16))
    (h7 : V m c main_v1 = (truncf .bf16 wu bitsLt_bf16_f32 : FVec Ideal S1x2x1024x2816 .bf16))
    (h8 : V m c main_v2 = (truncf .bf16 wd bitsLt_bf16_f32 : FVec Ideal S1x2x2816x1024 .bf16)) :
    (dats m 0 c).arrAt 9 cfg0.N = Ref.result x mod gpre gpost wg wu wd := by
  refine (dats m 0 c).arrAt_eq_of_covers 9 _ (by decide +kernel) fun t hf y => ?_
  have hy1 : (y 1).val < 1024 := (y 1).isLt
  have hy2 : (y 2).val < 1024 := (y 2).isLt
  have e := outBlk_apply (inpAt m c t) ⟨(y 1).val, hy1⟩ ⟨(y 2).val, hy2⟩
  rw [shared_inpAt m c mod gpre gpost wg wu wd h1 h4 h5 h6 h7 h8, tok_inpAt m c x h0,
    ← Ref.result_apply x mod gpre gpost wg wu wd] at e
  rw [after_9]
  have g : (win0_9.blk t).view.emb y = (ix3 (batch t) (row t ⟨(y 1).val, hy1⟩) (⟨(y 2).val, hy2⟩ : Fin 1024) : S8x4096x1024.Idx) := by
    have h0 : (y 0).val < 1 := (y 0).isLt
    funext a
    apply Fin.ext
    blk_simp [index_9, batch, row]
    fin_cases a
    · show (grid0.coords t 0).val * 1 + (y 0).val = (grid0.coords t 0).val
      omega
    · show (grid0.coords t 1).val * 1024 + (y 1).val = (grid0.coords t 1).val * 1024 + (y 1).val
      rfl
    · show 0 * 1024 + (y 2).val = (y 2).val
      omega
  have g' : y = (ix3 0 (⟨(y 1).val, hy1⟩ : Fin 1024) (⟨(y 2).val, hy2⟩ : Fin 1024) : S1x1024x1024.Idx) := by
    have h0 : (y 0).val < 1 := (y 0).isLt
    funext a
    apply Fin.ext
    fin_cases a
    · show (y 0).val = 0
      omega
    · rfl
    · rfl
  blk_simp
  rw [g]
  refine Eq.trans ?_ e
  exact congrArg (outBlk (inpAt m c t)) g'

end Cert.Proof.First

end
-- ==== Proof.AdalnValue.lean ====
/- The fourth kernel's result is its reference's: each block is a stretch of columns of the table. -/
module

public import proofs.«01_k».proof.Proof.Gen.Kernel4Ideal.Frame
public import proofs.«01_k».proof.Proof.Gen.Reference4Ideal.Run
public import Idealize.ShloMosaic.Lib.Pointwise
public import Idealize.ShloMosaic.Lib.IdealHost
public import Idealize.ShloMosaic.Lib.Pipeline.ValueKit
public import Idealize.ShloMosaic.Lib.Pipeline.ValueKit.Basic

@[expose] public section

set_option maxRecDepth 16384

noncomputable section

namespace Cert.Proof.Adaln

open Idealize.ShloMosaic Idealize.ShloMosaic.TcCoe Idealize.SL.Sem

/-- An entry of the table: the activated conditioning row against a column of the weights, and the column's bias. -/
def entry (c : Fin 1024 → EReal) (w : Fin 1024 → EReal) (b : EReal) : EReal := (∑ j, (c j * Ideal.logistic (c j)) * w j) + b

/-! ## The reference -/

namespace Ref

open Cert.Reference4Ideal Cert.Reference4Ideal.Gen

/-- `silu`. -/
def silu (g : FVec Ideal S8x1024 .f32) : FVec Ideal S8x1024 .f32 :=
  mulf g (Host.divf (broadcastInDim S8x1024 ![] bcast_S_S8x1024 (constant S_ .f32 0x3F800000#32))
    (addf (broadcastInDim S8x1024 ![] bcast_S_S8x1024 (constant S_ .f32 0x3F800000#32)) (Host.exp (Host.negf g))))

/-- The layer's weights. -/
def weights (w : FVec Ideal S1x1024x9216 .f32) : FVec Ideal S1024x9216 .f32 := shapeCast _ w shapeCasts_S1x1024x9216_S1024x9216
/-- The layer's bias, for each sequence. -/
def bias (b : FVec Ideal S1x9216 .f32) : FVec Ideal S8x9216 .f32 :=
  broadcastInDim S8x9216 ![0, 1] bcast_S1x9216_S8x9216_0_1 (broadcastInDim S1x9216 ![1] bcast_S9216_S1x9216_1 (shapeCast _ b shapeCasts_S1x9216_S9216))
/-- The product. -/
def times (c : FVec Ideal S8x1024 .f32) (w : FVec Ideal S1x1024x9216 .f32) : FVec Ideal S8x9216 .f32 :=
  Host.dotGeneral dot_S8x1024_S1024x9216_S8x9216_1_0_0_1_n_n none c (weights w)

/-- The reference's result as a function of the arguments. -/
def result (c : FVec Ideal S8x1024 .f32) (w : FVec Ideal S1x1024x9216 .f32) (b : FVec Ideal S1x9216 .f32) : FVec Ideal S8x9216 .f32 :=
  addf (times (silu c) w) (bias b)

theorem silu_apply (g : FVec Ideal S8x1024 .f32) (b : Fin 8) (j : Fin 1024) :
    silu g (ix2 b j) = g (ix2 b j) * Ideal.logistic (g (ix2 b j)) := by
  pointwise [silu, Ideal.logistic]
theorem weights_apply (w : FVec Ideal S1x1024x9216 .f32) (j : Fin 1024) (n : Fin 9216) : weights w (ix2 j n) = w (ix3 0 j n) := by
  pointwise [weights]
theorem bias_apply (b : FVec Ideal S1x9216 .f32) (s : Fin 8) (n : Fin 9216) : bias b (ix2 s n) = b (ix2 0 n) := by
  pointwise [bias]
theorem times_apply (c : FVec Ideal S8x1024 .f32) (w : FVec Ideal S1x1024x9216 .f32) (b : Fin 8) (n : Fin 9216) :
    times c w (ix2 b n) = ∑ j : Fin 1024, (c (ix2 b j) * w (ix3 0 j n) : EReal) := by
  pointwise [times]
  simp only [weights_apply]

theorem result_apply (c : FVec Ideal S8x1024 .f32) (w : FVec Ideal S1x1024x9216 .f32) (b : FVec Ideal S1x9216 .f32) (s : Fin 8) (n : Fin 9216) :
    result c w b (ix2 s n) = entry (fun j => c (ix2 s j)) (fun j => w (ix3 0 j n)) (b (ix2 0 n)) := by
  have e : result c w b (ix2 s n) = (times (silu c) w (ix2 s n) + bias b (ix2 s n) : EReal) := rfl
  rw [e, times_apply, bias_apply]
  simp only [silu_apply]
  rfl

end Ref

/-! ## The kernel -/

open Cert.Kernel4Ideal Cert.Kernel4Ideal.Gen

variable (m : (ℓ : Loc nD τ sig) → Buf (Elt Ideal) ℓ) (c : Dev nD)

/-- The body's value at an index. -/
theorem pay_apply (x : Vec Ideal S8x1024 .f32) (w : Vec Ideal S1024x1536 .f32) (b : Vec Ideal S1x1536 .f32) (s : Fin 8) (n : Fin 1536) :
    (k0_pay1 x w b : FVec Ideal S8x1536 .f32) (ix2 s n) = entry (fun j => x (ix2 s j)) (fun j => w (ix2 j n)) (b (ix2 0 n)) := by
  pointwise [k0_pay1, entry]

/-- What the body leaves in the output's block. -/
theorem out_eq (x : Vec Ideal S8x1024 .f32) (w : Vec Ideal S1024x1536 .f32) (b : Vec Ideal S1x1536 .f32) : out0_3 x w b = k0_pay1 x w b := by
  unfold out0_3
  rw [View.canon_cons_unit_lit _ _ _ (by decide), View.ld_unit_lit _ x (by decide), View.ld_unit_lit _ w (by decide), View.ld_unit_lit _ b (by decide)]

/-- The layer's bias as a row. -/
def biasRow (b : FVec Ideal S1x9216 .f32) : FVec Ideal S1x9216 .f32 :=
  shapeCast S1x9216 (shapeCast S9216 b shapeCasts_S1x9216_S9216 : FVec Ideal S9216 .f32) shapeCasts_S9216_S1x9216
theorem biasRow_apply (b : FVec Ideal S1x9216 .f32) (n : Fin 9216) : biasRow b (ix2 0 n) = b (ix2 0 n) := by
  pointwise [biasRow]

theorem V_v0 : V m c main_v0 = Ref.weights (m ((c : Thread nD τ).loc main_arg1)) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v2 : V m c main_v2 = biasRow (m ((c : Thread nD τ).loc main_arg2)) := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- A column of a grid point's 1536. -/
def col (t : Fin cfg0.N) (n : Fin 1536) : Fin 9216 :=
  ⟨(grid0.coords t 0).val * 1536 + n.val, by have : (grid0.coords t 0).val < 6 := (grid0.coords t 0).isLt; omega⟩

theorem index_0 : ∀ t, win0_0.index t = ![0, 0] := by decide +kernel
theorem index_1 : ∀ t, win0_1.index t = ![0, (grid0.coords t 0).val] := by decide +kernel
theorem index_2 : ∀ t, win0_2.index t = ![0, (grid0.coords t 0).val] := by decide +kernel
theorem index_3 : ∀ t, win0_3.index t = ![0, (grid0.coords t 0).val] := by decide +kernel

theorem read_0 (A : Vec Ideal S8x1024 .f32) (t : Fin cfg0.N) (s : Fin 8) (j : Fin 1024) :
    ((cfg0.win 0).blk t).view.read (Elt Ideal) A (ix2 s j) = A (ix2 s j) := by
  blk_ext [index_0, col]
theorem read_1 (A : Vec Ideal S1024x9216 .f32) (t : Fin cfg0.N) (j : Fin 1024) (n : Fin 1536) :
    ((cfg0.win 1).blk t).view.read (Elt Ideal) A (ix2 j n) = A (ix2 j (col t n)) := by
  blk_ext [index_1, col]
theorem read_2 (A : Vec Ideal S1x9216 .f32) (t : Fin cfg0.N) (n : Fin 1536) :
    ((cfg0.win 2).blk t).view.read (Elt Ideal) A (ix2 0 n) = A (ix2 0 (col t n)) := by
  blk_ext [index_2, col]

variable (x : FVec Ideal S8x1024 .f32) (w : FVec Ideal S1x1024x9216 .f32) (b : FVec Ideal S1x9216 .f32)

theorem x_apply (h : V m c main_arg0 = x) (t : Fin cfg0.N) (s : Fin 8) (j : Fin 1024) : iblk m c 0 t (ix2 s j) = x (ix2 s j) := by
  unfold iblk
  rw [show V m c (Pipeline.arrRef spec0 0) = x from h]
  exact read_0 x t s j
theorem w_apply (h : V m c main_v0 = Ref.weights w) (t : Fin cfg0.N) (j : Fin 1024) (n : Fin 1536) : iblk m c 1 t (ix2 j n) = w (ix3 0 j (col t n)) := by
  unfold iblk
  rw [show V m c (Pipeline.arrRef spec0 1) = Ref.weights w from h]
  exact (read_1 _ t j n).trans (Ref.weights_apply w j _)
theorem b_apply (h : V m c main_v2 = biasRow b) (t : Fin cfg0.N) (n : Fin 1536) : iblk m c 2 t (ix2 0 n) = b (ix2 0 (col t n)) := by
  unfold iblk
  rw [show V m c (Pipeline.arrRef spec0 2) = biasRow b from h]
  exact (read_2 _ t n).trans (biasRow_apply b _)

/-- The output array after the run. -/
theorem array_eq (h0 : V m c main_arg0 = x) (h1 : V m c main_v0 = Ref.weights w) (h2 : V m c main_v2 = biasRow b) :
    (dats m 0 c).arrAt 3 cfg0.N = Ref.result x w b := by
  refine (dats m 0 c).arrAt_eq_of_covers 3 _ (by decide +kernel) fun t hf y => ?_
  have hy0 : (y 0).val < 8 := (y 0).isLt
  have hy1 : (y 1).val < 1536 := (y 1).isLt
  have e := pay_apply (iblk m c 0 t) (iblk m c 1 t) (iblk m c 2 t) ⟨(y 0).val, hy0⟩ ⟨(y 1).val, hy1⟩
  rw [b_apply m c b h2, show (fun j : Fin 1024 => iblk m c 0 t (ix2 ⟨(y 0).val, hy0⟩ j)) = fun j => x (ix2 ⟨(y 0).val, hy0⟩ j) from funext fun j => x_apply m c x h0 t _ j,
    show (fun j : Fin 1024 => iblk m c 1 t (ix2 j ⟨(y 1).val, hy1⟩)) = fun j => w (ix3 0 j (col t ⟨(y 1).val, hy1⟩)) from funext fun j => w_apply m c w h1 t j _,
    ← Ref.result_apply x w b] at e
  rw [after0_3, out_eq]
  have g : (win0_3.blk t).view.emb y = (ix2 (⟨(y 0).val, hy0⟩ : Fin 8) (col t ⟨(y 1).val, hy1⟩) : S8x9216.Idx) := by
    funext a
    apply Fin.ext
    blk_simp [index_3, col]
    fin_cases a
    · show 0 * 8 + (y 0).val = (y 0).val
      omega
    · rfl
  have g' : y = (ix2 (⟨(y 0).val, hy0⟩ : Fin 8) (⟨(y 1).val, hy1⟩ : Fin 1536) : S8x1536.Idx) := by
    funext a
    fin_cases a <;> rfl
  blk_simp
  rw [g]
  refine Eq.trans ?_ e
  exact congrArg (k0_pay1 (iblk m c 0 t) (iblk m c 1 t) (iblk m c 2 t)) g'

end Cert.Proof.Adaln

end
-- ==== Proof.AdalnClaim.lean ====
/- The fourth call's claims: its kernel and its reference end with the same table. -/
module

public import proofs.«01_k».proof.Defs
public import proofs.«01_k».proof.Proof.AdalnValue
public import proofs.«01_k».proof.Proof.Gen.Kernel4Ideal.Value
public import proofs.«01_k».proof.Proof.Gen.Reference4Ideal.Run
public import Idealize.ShloMosaic.Lib.Claim
public import Idealize.ShloMosaic.Adequacy
public import Idealize.ShloMosaic.Init

@[expose] public section

noncomputable section

namespace Cert.Proof

open Idealize.ShloMosaic Idealize.SL.Sem
open Idealize.ShloMosaic.TcCoe

/-- The fourth kernel's run over the extended reals: it ends with the reference's result. -/
theorem kernel4_run (m : (ℓ : Loc Cert.Kernel4Ideal.nD Cert.Kernel4Ideal.τ Cert.Kernel4Ideal.sig) → Buf (Elt Ideal) ℓ)
    (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
      r.2.mem ((c.tc : Thread Cert.Kernel4Ideal.nD Cert.Kernel4Ideal.τ).loc Cert.Kernel4Ideal.main_v3)
        = Adaln.Ref.result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) := by
  refine θ_run_mono (Cert.Kernel4Ideal.Value.run_blocks m g) fun r h c => ?_
  exact (h c).1.trans (Adaln.array_eq m c _ _ _ (Cert.Kernel4Ideal.Gen.V_main_arg0 m c) (Adaln.V_v0 m c) (Adaln.V_v2 m c))

/-- The fourth kernel and its reference end with the same result. -/
theorem algebraic4 : Cert.algebraic_Kernel4Ideal_Reference4Ideal := by
  intro m g m' g' _ hagree
  refine ⟨_, θ_run_mono (θ_run_and (kernel4_run m g) (Cert.Kernel4Ideal.Gen.frame m g)) fun r h c => ⟨h.1 c, h.2.1 c⟩, ?_⟩
  refine θ_run_mono (Cert.Reference4Ideal.Value.run m' g') fun r h c => ?_
  obtain ⟨a0, a1, a2⟩ := hagree c
  refine ⟨(h c).1.trans ?_, (h c).2⟩
  rw [← a0, ← a1, ← a2]
  rfl

/-- The fourth reference's frame. -/
theorem frame_ri4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  θ_run_mono (Cert.Reference4Ideal.Value.run m g) fun r h => ⟨fun c => (h c).2, sem_eq_zero_of_no_sems (by decide) r.2⟩

end Cert.Proof

end
-- ==== Proof.MixinPieces.lean ====
/- What the body of the fifth kernel leaves in the gating group's block, as a function of the input blocks. -/
module

public import proofs.«01_k».proof.Proof.Gen.Kernel5Ideal.Value
public import Idealize.ShloMosaic.Lib.WholeRead
public import Idealize.ShloMosaic.Lib.Pipeline.ValueKit.Tiles
public import Idealize.ShloMosaic.Lib.Pipeline.ValueKit.Basic

@[expose] public section

set_option maxRecDepth 65536

noncomputable section

namespace Cert.Proof.Mixin

open Cert.Kernel5Ideal Cert.Kernel5Ideal.Gen Idealize.ShloMosaic Idealize.ShloMosaic.TcCoe

variable {F : FTy → Type} [FloatOps F]

/-- A load through a whole buffer holding `X`. -/
theorem load_unread {sig : RefSig} {κ : Kind} {sp : Space} {s : Shape} {e : EltTy} {Val : EltTy → Type} {M : Memref sig κ sp s e}
    (h : M.IsWhole) (X : s.Idx → Val e) (R : Rect s) : View.readAt Val M.view R.toLoadRect (h.unread X) = View.ld X R :=
  funext fun x => h.readAt_unread X R.toLoadRect x

/-- The whole scratch read back. -/
theorem load_all {sig : RefSig} {κ : Kind} {sp : Space} (v : View sig κ sp S512x512 .f32) (L : List (View.Piece (Elt F) S512x512 .f32))
    (inb : ∀ a, (![0, 0] : Fin 2 → Nat) a + S512x512.size a ≤ S512x512.size a) :
    v.readCov L (Rect.unit ![0, 0] S512x512.size inb).toLoadRect = View.canon L := by
  rw [View.readCov_eq_canon']
  exact View.ld_unit_lit inb (View.canon L) (by decide)

/-- The input blocks that the gating group's result depends on: tokens, adaLN rows, norm gain, weights of the in-projection,
gain and bias of the layer norm, spatial weights and biases, gain of the group's norm. -/
structure Inp (F : FTy → Type) where
  x : Vec F S1x512x1024 .f32
  md : Vec F S1x1x3x1024 .f32
  gp : Vec F S1x1024 .f32
  wz : Vec F S1024x1024 .bf16
  lg : Vec F S1x512 .f32
  lb : Vec F S1x512 .f32
  sw : Vec F S8x128x128 .f32
  sb : Vec F S128x512 .f32
  ga : Vec F S1x512 .f32

/-- Positions `j` whose chunk is not after position `i`'s. -/
def chunkMask : IVec S128x128 1 :=
  k0_pay115 (iota .tc S128x128 32 [0] iota_S128x128_d0_w32) k0_pay112 64#32 k0_pay113 k0_pay114 1#32

/-- Lanes of the first head of a pair. -/
def laneMask : IVec S128x128 1 := k0_pay116 (iota .tc S128x128 32 [1] iota_S128x128_d1_w32)

/-- The masked weights of a pair of heads, side by side. -/
def weights (w1 w2 : Vec F S1x128x128 .f32) : FVec F S128x256 .bf16 := k0_pay125 chunkMask w1 w2

/-- A block's rows twice: the first head's lanes, below them the second's, zero elsewhere. -/
def stack (a : FVec F S128x128 .bf16) : FVec F S256x128 .bf16 :=
  concatenate S256x128 0 [⟨S128x128, select laneMask a (broadcast S128x128 (Scalar.ofBits .bf16 0x0000#16))⟩,
    ⟨S128x128, select laneMask (broadcast S128x128 (Scalar.ofBits .bf16 0x0000#16)) a⟩] concatenates_S128x128_S128x128_S256x128_d0

/-- The product of a pair of heads over two blocks. -/
def product (W : FVec F S128x256 .bf16) (a b : FVec F S128x128 .bf16) : FVec F S128x256 .f32 :=
  matmul dot_S128x256_S256x256_S128x256_1_0_0_1_n_n none W
    (concatenate S256x256 1 [⟨S256x128, stack a⟩, ⟨S256x128, stack b⟩] concatenates_S256x128_S256x128_S256x256_d1)
    (constant S128x256 .f32 0x00000000#32)

/-- The first block's gate. -/
def left (W : FVec F S128x256 .bf16) (a b : FVec F S128x128 .bf16) (β : Vec F S128x128 .f32) : FVec F S128x128 .f32 :=
  shapeCast S128x128 (addf (extractStridedSlice S128x128 ![0, 0] (product W a b) slices_S128x256_o0_0_S128x128)
    (shapeCast S128x128 β shapeCasts_S128x128_S128x128)) shapeCasts_S128x128_S128x128

/-- The second block's gate. -/
def right (W : FVec F S128x256 .bf16) (a b : FVec F S128x128 .bf16) (β : Vec F S128x128 .f32) : FVec F S128x128 .f32 :=
  shapeCast S128x128 (addf (extractStridedSlice S128x128 ![0, 128] (product W a b) slices_S128x256_o0_128_S128x128)
    (shapeCast S128x128 β shapeCasts_S128x128_S128x128)) shapeCasts_S128x128_S128x128

variable (I : Inp F)

/-- The modulated rows. -/
def Inp.rows : FVec F S512x1024 .bf16 :=
  k0_pay3 (View.ld I.x (Rect.unit ![0, 0, 0] S1x512x1024.size inb_S1x512x1024_S1x512x1024_0_0_0))
    (View.ld I.md (Rect.unit ![0, 0, 0, 0] S1x1x1x1024.size inb_S1x1x3x1024_S1x1x1x1024_0_0_0_0))
    (View.ld I.md (Rect.unit ![0, 0, 1, 0] S1x1x1x1024.size inb_S1x1x3x1024_S1x1x1x1024_0_0_1_0))
    (View.ld I.gp (Rect.unit ![0, 0] S1x1024.size inb_S1x1024_S1x1024_0_0))

/-- A quarter of the in-projection's columns. -/
def Inp.cols0 : Vec F S1024x256 .bf16 := View.ld I.wz (Rect.unit ![0, 0] S1024x256.size inb_S1024x1024_S1024x256_0_0)
def Inp.cols1 : Vec F S1024x256 .bf16 := View.ld I.wz (Rect.unit ![0, 256] S1024x256.size inb_S1024x1024_S1024x256_0_256)
def Inp.cols2 : Vec F S1024x256 .bf16 := View.ld I.wz (Rect.unit ![0, 512] S1024x256.size inb_S1024x1024_S1024x256_0_512)
def Inp.cols3 : Vec F S1024x256 .bf16 := View.ld I.wz (Rect.unit ![0, 768] S1024x256.size inb_S1024x1024_S1024x256_0_768)

/-- The gated half. -/
def Inp.u : FVec F S512x512 .f32 := k0_pay23 (k0_pay19 I.rows I.cols0) (k0_pay21 I.rows I.cols1)

/-- The other half, less its mean. -/
def Inp.centred : FVec F S512x512 .f32 := k0_pay24 I.rows (k0_pay20 I.rows I.cols2) I.cols3

/-- The other half's variance. -/
def Inp.var : FVec F S512x1 .f32 := k0_pay25 I.rows (k0_pay20 I.rows I.cols2) I.cols3

/-- The other half, layer-normed. -/
def Inp.vn : FVec F S512x512 .bf16 :=
  k0_pay26 I.centred I.var (View.ld I.lg (Rect.unit ![0, 0] S1x512.size inb_S1x512_S1x512_0_0))
    (View.ld I.lb (Rect.unit ![0, 0] S1x512.size inb_S1x512_S1x512_0_0))

/-- The masked weights of heads 0 and 1. -/
def Inp.weights0 : FVec F S128x256 .bf16 := weights (View.ld I.sw (Rect.unit ![0, 0, 0] S1x128x128.size inb_S8x128x128_S1x128x128_0_0_0)) (View.ld I.sw (Rect.unit ![1, 0, 0] S1x128x128.size inb_S8x128x128_S1x128x128_1_0_0))
/-- The masked weights of heads 2 and 3. -/
def Inp.weights1 : FVec F S128x256 .bf16 := weights (View.ld I.sw (Rect.unit ![2, 0, 0] S1x128x128.size inb_S8x128x128_S1x128x128_2_0_0)) (View.ld I.sw (Rect.unit ![3, 0, 0] S1x128x128.size inb_S8x128x128_S1x128x128_3_0_0))
/-- The masked weights of heads 4 and 5. -/
def Inp.weights2 : FVec F S128x256 .bf16 := weights (View.ld I.sw (Rect.unit ![4, 0, 0] S1x128x128.size inb_S8x128x128_S1x128x128_4_0_0)) (View.ld I.sw (Rect.unit ![5, 0, 0] S1x128x128.size inb_S8x128x128_S1x128x128_5_0_0))
/-- The masked weights of heads 6 and 7. -/
def Inp.weights3 : FVec F S128x256 .bf16 := weights (View.ld I.sw (Rect.unit ![6, 0, 0] S1x128x128.size inb_S8x128x128_S1x128x128_6_0_0)) (View.ld I.sw (Rect.unit ![7, 0, 0] S1x128x128.size inb_S8x128x128_S1x128x128_7_0_0))
/-- The biases of heads 0 and 1. -/
def Inp.bias0 : Vec F S128x128 .f32 := View.ld I.sb (Rect.unit ![0, 0] S128x128.size inb_S128x512_S128x128_0_0)
/-- The biases of heads 2 and 3. -/
def Inp.bias1 : Vec F S128x128 .f32 := View.ld I.sb (Rect.unit ![0, 128] S128x128.size inb_S128x512_S128x128_0_128)
/-- The biases of heads 4 and 5. -/
def Inp.bias2 : Vec F S128x128 .f32 := View.ld I.sb (Rect.unit ![0, 256] S128x128.size inb_S128x512_S128x128_0_256)
/-- The biases of heads 6 and 7. -/
def Inp.bias3 : Vec F S128x128 .f32 := View.ld I.sb (Rect.unit ![0, 384] S128x128.size inb_S128x512_S128x128_0_384)

/-- The gates, block by block and pair by pair, the last stored first. -/
def Inp.pieces : List (View.Piece (Elt F) S512x512 .f32) :=
  [
   ⟨Rect.unit ![384, 384] S128x128.size inb_S512x512_S128x128_384_384,
      right (I.weights3) (extractStridedSlice S128x128 ![256, 384] I.vn slices_S512x512_o256_384_S128x128) (extractStridedSlice S128x128 ![384, 384] I.vn slices_S512x512_o384_384_S128x128) (I.bias3)⟩,
   ⟨Rect.unit ![256, 384] S128x128.size inb_S512x512_S128x128_256_384,
      left (I.weights3) (extractStridedSlice S128x128 ![256, 384] I.vn slices_S512x512_o256_384_S128x128) (extractStridedSlice S128x128 ![384, 384] I.vn slices_S512x512_o384_384_S128x128) (I.bias3)⟩,
   ⟨Rect.unit ![128, 384] S128x128.size inb_S512x512_S128x128_128_384,
      right (I.weights3) (extractStridedSlice S128x128 ![0, 384] I.vn slices_S512x512_o0_384_S128x128) (extractStridedSlice S128x128 ![128, 384] I.vn slices_S512x512_o128_384_S128x128) (I.bias3)⟩,
   ⟨Rect.unit ![0, 384] S128x128.size inb_S512x512_S128x128_0_384,
      left (I.weights3) (extractStridedSlice S128x128 ![0, 384] I.vn slices_S512x512_o0_384_S128x128) (extractStridedSlice S128x128 ![128, 384] I.vn slices_S512x512_o128_384_S128x128) (I.bias3)⟩,
   ⟨Rect.unit ![384, 256] S128x128.size inb_S512x512_S128x128_384_256,
      right (I.weights2) (extractStridedSlice S128x128 ![256, 256] I.vn slices_S512x512_o256_256_S128x128) (extractStridedSlice S128x128 ![384, 256] I.vn slices_S512x512_o384_256_S128x128) (I.bias2)⟩,
   ⟨Rect.unit ![256, 256] S128x128.size inb_S512x512_S128x128_256_256,
      left (I.weights2) (extractStridedSlice S128x128 ![256, 256] I.vn slices_S512x512_o256_256_S128x128) (extractStridedSlice S128x128 ![384, 256] I.vn slices_S512x512_o384_256_S128x128) (I.bias2)⟩,
   ⟨Rect.unit ![128, 256] S128x128.size inb_S512x512_S128x128_128_256,
      right (I.weights2) (extractStridedSlice S128x128 ![0, 256] I.vn slices_S512x512_o0_256_S128x128) (extractStridedSlice S128x128 ![128, 256] I.vn slices_S512x512_o128_256_S128x128) (I.bias2)⟩,
   ⟨Rect.unit ![0, 256] S128x128.size inb_S512x512_S128x128_0_256,
      left (I.weights2) (extractStridedSlice S128x128 ![0, 256] I.vn slices_S512x512_o0_256_S128x128) (extractStridedSlice S128x128 ![128, 256] I.vn slices_S512x512_o128_256_S128x128) (I.bias2)⟩,
   ⟨Rect.unit ![384, 128] S128x128.size inb_S512x512_S128x128_384_128,
      right (I.weights1) (extractStridedSlice S128x128 ![256, 128] I.vn slices_S512x512_o256_128_S128x128) (extractStridedSlice S128x128 ![384, 128] I.vn slices_S512x512_o384_128_S128x128) (I.bias1)⟩,
   ⟨Rect.unit ![256, 128] S128x128.size inb_S512x512_S128x128_256_128,
      left (I.weights1) (extractStridedSlice S128x128 ![256, 128] I.vn slices_S512x512_o256_128_S128x128) (extractStridedSlice S128x128 ![384, 128] I.vn slices_S512x512_o384_128_S128x128) (I.bias1)⟩,
   ⟨Rect.unit ![128, 128] S128x128.size inb_S512x512_S128x128_128_128,
      right (I.weights1) (extractStridedSlice S128x128 ![0, 128] I.vn slices_S512x512_o0_128_S128x128) (extractStridedSlice S128x128 ![128, 128] I.vn slices_S512x512_o128_128_S128x128) (I.bias1)⟩,
   ⟨Rect.unit ![0, 128] S128x128.size inb_S512x512_S128x128_0_128,
      left (I.weights1) (extractStridedSlice S128x128 ![0, 128] I.vn slices_S512x512_o0_128_S128x128) (extractStridedSlice S128x128 ![128, 128] I.vn slices_S512x512_o128_128_S128x128) (I.bias1)⟩,
   ⟨Rect.unit ![384, 0] S128x128.size inb_S512x512_S128x128_384_0,
      right (I.weights0) (extractStridedSlice S128x128 ![256, 0] I.vn slices_S512x512_o256_0_S128x128) (extractStridedSlice S128x128 ![384, 0] I.vn slices_S512x512_o384_0_S128x128) (I.bias0)⟩,
   ⟨Rect.unit ![256, 0] S128x128.size inb_S512x512_S128x128_256_0,
      left (I.weights0) (extractStridedSlice S128x128 ![256, 0] I.vn slices_S512x512_o256_0_S128x128) (extractStridedSlice S128x128 ![384, 0] I.vn slices_S512x512_o384_0_S128x128) (I.bias0)⟩,
   ⟨Rect.unit ![128, 0] S128x128.size inb_S512x512_S128x128_128_0,
      right (I.weights0) (extractStridedSlice S128x128 ![0, 0] I.vn slices_S512x512_o0_0_S128x128) (extractStridedSlice S128x128 ![128, 0] I.vn slices_S512x512_o128_0_S128x128) (I.bias0)⟩,
   ⟨Rect.unit ![0, 0] S128x128.size inb_S512x512_S128x128_0_0,
      left (I.weights0) (extractStridedSlice S128x128 ![0, 0] I.vn slices_S512x512_o0_0_S128x128) (extractStridedSlice S128x128 ![128, 0] I.vn slices_S512x512_o128_0_S128x128) (I.bias0)⟩]

/-- The gates. -/
def Inp.gate : Vec F S512x512 .f32 := View.canon I.pieces

/-- The gating group's block. -/
def Inp.out : FVec F S1x512x512 .bf16 :=
  k0_pay1 (k0_pay155 I.u I.gate) (View.ld I.ga (Rect.unit ![0, 0] S1x512.size inb_S1x512_S1x512_0_0))

/-! ## The body -/

variable (c : Dev nD) (i : grid0.Coords) (arg2 : Memref sig .tc .vmem S1x512x1024 .f32) (harg2 : arg2.IsWhole) (arg3 : Memref sig .tc .vmem S1x1x3x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1040x1024 .bf16) (harg6 : arg6.IsWhole) (arg7 : Memref sig .tc .vmem S1024x512 .bf16) (harg7 : arg7.IsWhole) (arg8 : Memref sig .tc .vmem S8x512 .f32) (harg8 : arg8.IsWhole) (arg9 : Memref sig .tc .vmem S128x1024 .bf16) (harg9 : arg9.IsWhole) (arg10 : Memref sig .tc .vmem S1x1024 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S8x128x128 .f32) (harg13 : arg13.IsWhole) (arg14 : Memref sig .tc .vmem S128x512 .f32) (harg14 : arg14.IsWhole) (arg15 : Memref sig .tc .vmem S1x512 .f32) (harg15 : arg15.IsWhole) (arg16 : Memref sig .tc .vmem S1x512x512 .bf16) (harg16 : arg16.IsWhole) (arg17 : Memref sig .tc .vmem S1x8x1x128x512 .bf16) (harg17 : arg17.IsWhole) (arg18 : Memref sig .tc .vmem S1x512x1024 .bf16) (harg18 : arg18.IsWhole) (arg19 : Memref sig .tc .vmem S1x8x1x80x512 .bf16) (harg19 : arg19.IsWhole) (arg20 : Memref sig .tc .vmem S512x512 .f32) (harg20 : arg20.IsWhole) (arg21 : Memref sig .tc .vmem S8x512 .f32) (harg21 : arg21.IsWhole)
  (x0 : Vec F S1x512x1024 .f32) (x1 : Vec F S1x1x3x1024 .f32) (x2 : Vec F S1x1024 .f32) (x3 : Vec F S1024x1024 .bf16) (x4 : Vec F S1040x1024 .bf16) (x5 : Vec F S1024x512 .bf16) (x6 : Vec F S8x512 .f32) (x7 : Vec F S128x1024 .bf16) (x8 : Vec F S1x1024 .f32) (x9 : Vec F S1x512 .f32) (x10 : Vec F S1x512 .f32) (x11 : Vec F S8x128x128 .f32) (x12 : Vec F S128x512 .f32) (x13 : Vec F S1x512 .f32)

theorem rows_A : kernelRun0_A.sl.r c arg2 harg2 arg3 harg3 arg4 harg4 x0 x1 x2 = (⟨x0, x1, x2, x3, x9, x10, x11, x12, x13⟩ : Inp F).rows := by
  unfold kernelRun0_A.sl.r
  simp only [load_unread]
  rfl

theorem u_A : kernelRun0_A.sl.r_15 c arg2 harg2 arg3 harg3 arg4 harg4 arg5 harg5 x0 x1 x2 x3 = (⟨x0, x1, x2, x3, x9, x10, x11, x12, x13⟩ : Inp F).u := by
  unfold kernelRun0_A.sl.r_15 kernelRun0_A.sl.r_10 kernelRun0_A.sl.r_12
  rw [rows_A c arg2 harg2 arg3 harg3 arg4 harg4 x0 x1 x2 x3 x9 x10 x11 x12 x13, load_unread, load_unread]
  rfl

theorem vn_A : kernelRun0_A.sl.r_18 c arg2 harg2 arg3 harg3 arg4 harg4 arg5 harg5 arg11 harg11 arg12 harg12 x0 x1 x2 x3 x9 x10 = (⟨x0, x1, x2, x3, x9, x10, x11, x12, x13⟩ : Inp F).vn := by
  unfold kernelRun0_A.sl.r_18 kernelRun0_A.sl.r_16 kernelRun0_A.sl.r_17 kernelRun0_A.sl.r_11 kernelRun0_A.sl.r_13
  rw [rows_A c arg2 harg2 arg3 harg3 arg4 harg4 x0 x1 x2 x3 x9 x10 x11 x12 x13, load_unread, load_unread, load_unread, load_unread]
  rfl

theorem pieces_A : kernelRun0_A.sl.HS0_16 c arg2 harg2 arg3 harg3 arg4 harg4 arg5 harg5 arg11 harg11 arg12 harg12 arg13 harg13 arg14 harg14 x0 x1 x2 x3 x9 x10 x11 x12 = (⟨x0, x1, x2, x3, x9, x10, x11, x12, x13⟩ : Inp F).pieces := by
  simp only [kernelRun0_A.sl.HS0_16, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.v642, kernelRun0_A.sl.v643, kernelRun0_A.sl.cst_492,
    vn_A c arg2 harg2 arg3 harg3 arg4 harg4 arg5 harg5 arg11 harg11 arg12 harg12 x0 x1 x2 x3 x9 x10 x11 x12 x13, load_unread]
  unfold Inp.pieces
  generalize (⟨x0, x1, x2, x3, x9, x10, x11, x12, x13⟩ : Inp F).vn = vn
  rfl

/-- The body's block in case A. -/
theorem out_A (hc0 : cond0_0 i) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 = (⟨x0, x1, x2, x3, x9, x10, x11, x12, x13⟩ : Inp F).out := by
  unfold out0_A_14
  rw [View.read_writes_junk_eq_canon]
  unfold kernelRun0_A
  dsimp only
  rw [View.canon_cons_unit_lit _ _ _ (by decide)]
  unfold kernelRun0_A.sl.r_54 kernelRun0_A.sl.v963
  rw [load_all, u_A c arg2 harg2 arg3 harg3 arg4 harg4 arg5 harg5 x0 x1 x2 x3 x9 x10 x11 x12 x13,
    pieces_A c arg2 harg2 arg3 harg3 arg4 harg4 arg5 harg5 arg11 harg11 arg12 harg12 arg13 harg13 arg14 harg14 x0 x1 x2 x3 x9 x10 x11 x12 x13, load_unread]
  rfl

theorem rows_B : kernelRun0_B.sl.r c arg2 harg2 arg3 harg3 arg4 harg4 x0 x1 x2 = (⟨x0, x1, x2, x3, x9, x10, x11, x12, x13⟩ : Inp F).rows := by
  unfold kernelRun0_B.sl.r
  simp only [load_unread]
  rfl

theorem u_B : kernelRun0_B.sl.r_15 c arg2 harg2 arg3 harg3 arg4 harg4 arg5 harg5 x0 x1 x2 x3 = (⟨x0, x1, x2, x3, x9, x10, x11, x12, x13⟩ : Inp F).u := by
  unfold kernelRun0_B.sl.r_15 kernelRun0_B.sl.r_10 kernelRun0_B.sl.r_12
  rw [rows_B c arg2 harg2 arg3 harg3 arg4 harg4 x0 x1 x2 x3 x9 x10 x11 x12 x13, load_unread, load_unread]
  rfl

theorem vn_B : kernelRun0_B.sl.r_18 c arg2 harg2 arg3 harg3 arg4 harg4 arg5 harg5 arg11 harg11 arg12 harg12 x0 x1 x2 x3 x9 x10 = (⟨x0, x1, x2, x3, x9, x10, x11, x12, x13⟩ : Inp F).vn := by
  unfold kernelRun0_B.sl.r_18 kernelRun0_B.sl.r_16 kernelRun0_B.sl.r_17 kernelRun0_B.sl.r_11 kernelRun0_B.sl.r_13
  rw [rows_B c arg2 harg2 arg3 harg3 arg4 harg4 x0 x1 x2 x3 x9 x10 x11 x12 x13, load_unread, load_unread, load_unread, load_unread]
  rfl

theorem pieces_B : kernelRun0_B.sl.HS0_16 c arg2 harg2 arg3 harg3 arg4 harg4 arg5 harg5 arg11 harg11 arg12 harg12 arg13 harg13 arg14 harg14 x0 x1 x2 x3 x9 x10 x11 x12 = (⟨x0, x1, x2, x3, x9, x10, x11, x12, x13⟩ : Inp F).pieces := by
  simp only [kernelRun0_B.sl.HS0_16, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.v642, kernelRun0_B.sl.v643, kernelRun0_B.sl.cst_492,
    vn_B c arg2 harg2 arg3 harg3 arg4 harg4 arg5 harg5 arg11 harg11 arg12 harg12 x0 x1 x2 x3 x9 x10 x11 x12 x13, load_unread]
  unfold Inp.pieces
  generalize (⟨x0, x1, x2, x3, x9, x10, x11, x12, x13⟩ : Inp F).vn = vn
  rfl

/-- The body's block in case B. -/
theorem out_B (hc0 : ¬cond0_0 i) (xs1 : Vec F S8x512 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs1 = (⟨x0, x1, x2, x3, x9, x10, x11, x12, x13⟩ : Inp F).out := by
  unfold out0_B_14
  rw [View.read_writes_junk_eq_canon]
  unfold kernelRun0_B
  dsimp only
  rw [View.canon_cons_unit_lit _ _ _ (by decide)]
  unfold kernelRun0_B.sl.r_54 kernelRun0_B.sl.v963
  rw [load_all, u_B c arg2 harg2 arg3 harg3 arg4 harg4 arg5 harg5 x0 x1 x2 x3 x9 x10 x11 x12 x13,
    pieces_B c arg2 harg2 arg3 harg3 arg4 harg4 arg5 harg5 arg11 harg11 arg12 harg12 arg13 harg13 arg14 harg14 x0 x1 x2 x3 x9 x10 x11 x12 x13, load_unread]
  rfl

end Cert.Proof.Mixin

end
-- ==== Proof.MixinGate.lean ====
/- The gates of the fifth kernel at an index: the masked spatial weights of a head times the layer-normed rows of a block of
   128 positions, plus the bias. -/
module

public import proofs.«01_k».proof.Proof.MixinPieces
public import proofs.«01_k».proof.Proof.FfnTiles
public import Idealize.ShloMosaic.Lib.Pointwise

@[expose] public section

set_option maxRecDepth 16384

noncomputable section

namespace Cert.Proof.Mixin

open Cert.Kernel5Ideal Cert.Kernel5Ideal.Gen Idealize.ShloMosaic Idealize.ShloMosaic.TcCoe Idealize.SL.Sem

theorem laneMask_apply (k n : Fin 128) : (laneMask (ix2 k n) = 1#1) ↔ n.val < 64 := by
  revert n
  pointwise [laneMask, k0_pay116]
  decide +kernel

theorem chunk_apply : ∀ j : Fin 128,
    Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32))) 1#32)
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) = BitVec.ofNat 32 (j.val / 64) := by decide +kernel

theorem sle_apply : ∀ a b : Fin 2, (IntOp.cmpi CmpIPredicate.sle (BitVec.ofNat 32 a.val) (BitVec.ofNat 32 b.val) = 1#1) ↔ a.val ≤ b.val := by
  decide +kernel

theorem chunkMask_apply (i j : Fin 128) : (chunkMask (ix2 i j) = 1#1) ↔ j.val / 64 ≤ i.val / 64 := by
  pointwise [chunkMask, k0_pay115, k0_pay112, k0_pay113, k0_pay114]
  have e : Scalar.subi (Scalar.extui (Scalar.cmpi CmpIPredicate.sgt 64#32 0#32)) (Scalar.extui (Scalar.cmpi CmpIPredicate.slt 64#32 0#32)) = 1#32 := by decide +kernel
  rw [e, chunk_apply, chunk_apply]
  exact sle_apply ⟨j.val / 64, by omega⟩ ⟨i.val / 64, by omega⟩

/-- A weight where the mask keeps it. -/
def kept (i j : Fin 128) (w : EReal) : EReal := if j.val / 64 ≤ i.val / 64 then w else 0

theorem select_eq (c : BitVec 1) (p : Prop) [Decidable p] (h : c = 1#1 ↔ p) (a b : EReal) : Scalar.select c a b = if p then a else b :=
  if_congr h rfl rfl

theorem weights_lo (w1 w2 : Vec Ideal S1x128x128 .f32) (i j : Fin 128) :
    weights w1 w2 (ix2 i (⟨j.val, by omega⟩ : Fin 256)) = kept i j (w1 (ix3 0 i j)) := by
  pointwise [weights, k0_pay125]
  exact select_eq _ _ (chunkMask_apply i j) _ _

theorem weights_hi (w1 w2 : Vec Ideal S1x128x128 .f32) (i j : Fin 128) :
    weights w1 w2 (ix2 i (⟨128 + j.val, by omega⟩ : Fin 256)) = kept i j (w2 (ix3 0 i j)) := by
  pointwise [weights, k0_pay125]
  exact select_eq _ _ (chunkMask_apply i j) _ _

theorem stack_lo (a : FVec Ideal S128x128 .bf16) (j l : Fin 128) :
    stack a (ix2 (⟨j.val, by omega⟩ : Fin 256) l) = (if l.val < 64 then a (ix2 j l) else 0 : EReal) := by
  pointwise [stack]
  exact select_eq _ _ (laneMask_apply j l) _ _

theorem stack_hi (a : FVec Ideal S128x128 .bf16) (j l : Fin 128) :
    stack a (ix2 (⟨128 + j.val, by omega⟩ : Fin 256) l) = (if l.val < 64 then 0 else a (ix2 j l) : EReal) := by
  pointwise [stack]
  exact select_eq _ _ (laneMask_apply j l) _ _

theorem left_sum (W : FVec Ideal S128x256 .bf16) (a b : FVec Ideal S128x128 .bf16) (β : Vec Ideal S128x128 .f32) (i l : Fin 128) :
    left W a b β (ix2 i l) = (∑ k : Fin 256, W (ix2 i k) * stack a (ix2 k l) : EReal) + β (ix2 i l) := by
  pointwise [left, product]

theorem right_sum (W : FVec Ideal S128x256 .bf16) (a b : FVec Ideal S128x128 .bf16) (β : Vec Ideal S128x128 .f32) (i l : Fin 128) :
    right W a b β (ix2 i l) = (∑ k : Fin 256, W (ix2 i k) * stack b (ix2 k l) : EReal) + β (ix2 i l) := by
  pointwise [right, product]

/-- Of the two heads' weights the lane meets its own only. -/
theorem sum_stack (w1 w2 : Vec Ideal S1x128x128 .f32) (a : FVec Ideal S128x128 .bf16) (i l : Fin 128) :
    (∑ k : Fin 256, weights w1 w2 (ix2 i k) * stack a (ix2 k l) : EReal)
      = ∑ j : Fin 128, kept i j (if l.val < 64 then w1 (ix3 0 i j) else w2 (ix3 0 i j)) * a (ix2 j l) := by
  rw [Fin.sum_univ_add (a := 128) (b := 128) (f := fun k : Fin (128 + 128) => (weights w1 w2 (ix2 i (k : Fin 256)) * stack a (ix2 (k : Fin 256) l) : EReal))]
  have e0 : ∀ j : Fin 128, (weights w1 w2 (ix2 i (Fin.castAdd 128 j : Fin 256)) * stack a (ix2 (Fin.castAdd 128 j : Fin 256) l) : EReal)
      = kept i j (w1 (ix3 0 i j)) * (if l.val < 64 then a (ix2 j l) else 0) := fun j => congrArg₂ (fun x y : EReal => x * y) (weights_lo w1 w2 i j) (stack_lo a j l)
  have e1 : ∀ j : Fin 128, (weights w1 w2 (ix2 i (Fin.natAdd 128 j : Fin 256)) * stack a (ix2 (Fin.natAdd 128 j : Fin 256) l) : EReal)
      = kept i j (w2 (ix3 0 i j)) * (if l.val < 64 then 0 else a (ix2 j l)) := fun j => congrArg₂ (fun x y : EReal => x * y) (weights_hi w1 w2 i j) (stack_hi a j l)
  simp only [e0, e1]
  by_cases h : l.val < 64 <;> simp [h]

/-! ## The gates -/

variable (I : Inp Ideal)

/-- The gate of row `r` at column `n`. -/
def gateAt (r n : Fin 512) : EReal :=
  (∑ j : Fin 128, kept ⟨r.val % 128, by omega⟩ j (I.sw (ix3 (⟨n.val / 64, by omega⟩ : Fin 8) (⟨r.val % 128, by omega⟩ : Fin 128) j))
    * I.vn (ix2 (⟨128 * (r.val / 128) + j.val, by omega⟩ : Fin 512) n)) + I.sb (ix2 (⟨r.val % 128, by omega⟩ : Fin 128) n)

theorem gateAt_eq (Q P : Fin 4) (w1 w2 : Vec Ideal S1x128x128 .f32) (a : FVec Ideal S128x128 .bf16) (β : Vec Ideal S128x128 .f32)
    (h1 : ∀ i j : Fin 128, w1 (ix3 0 i j) = I.sw (ix3 (⟨2 * P.val, by omega⟩ : Fin 8) i j))
    (h2 : ∀ i j : Fin 128, w2 (ix3 0 i j) = I.sw (ix3 (⟨2 * P.val + 1, by omega⟩ : Fin 8) i j))
    (ha : ∀ j l : Fin 128, a (ix2 j l) = I.vn (ix2 (⟨128 * Q.val + j.val, by omega⟩ : Fin 512) (⟨128 * P.val + l.val, by omega⟩ : Fin 512)))
    (hβ : ∀ i l : Fin 128, β (ix2 i l) = I.sb (ix2 i (⟨128 * P.val + l.val, by omega⟩ : Fin 512))) (i l : Fin 128) (r n : Fin 512)
    (hr : r.val = 128 * Q.val + i.val) (hn : n.val = 128 * P.val + l.val) :
    (∑ j : Fin 128, kept i j (if l.val < 64 then w1 (ix3 0 i j) else w2 (ix3 0 i j)) * a (ix2 j l) : EReal) + β (ix2 i l) = gateAt I r n := by
  obtain ⟨r, hr'⟩ := r
  obtain ⟨n, hn'⟩ := n
  have hr : r = 128 * Q.val + i.val := hr
  have hn : n = 128 * P.val + l.val := hn
  subst hr hn
  unfold gateAt
  have ei : (⟨(128 * Q.val + i.val) % 128, by omega⟩ : Fin 128) = i := Fin.ext (by show (128 * Q.val + i.val) % 128 = i.val; omega)
  have eq : ∀ j : Fin 128, (⟨128 * ((128 * Q.val + i.val) / 128) + j.val, by omega⟩ : Fin 512) = ⟨128 * Q.val + j.val, by omega⟩ :=
    fun j => Fin.ext (by show 128 * ((128 * Q.val + i.val) / 128) + j.val = 128 * Q.val + j.val; omega)
  simp only [ei, eq, h1, h2, ha, hβ]
  congr 1
  refine Finset.sum_congr rfl fun j _ => ?_
  congr 2
  by_cases h : l.val < 64
  · rw [if_pos h]
    congr 2
    exact Fin.ext (by show 2 * P.val = (128 * P.val + l.val) / 64; omega)
  · rw [if_neg h]
    congr 2
    exact Fin.ext (by show 2 * P.val + 1 = (128 * P.val + l.val) / 64; omega)

theorem tile_left (Q P : Fin 4) (o0 o1 : ℕ) (w1 w2 : Vec Ideal S1x128x128 .f32) (a b : FVec Ideal S128x128 .bf16) (β : Vec Ideal S128x128 .f32)
    (y : S512x512.Idx) (e0 : o0 = 128 * Q.val) (e1 : o1 = 128 * P.val)
    (h1 : ∀ i j : Fin 128, w1 (ix3 0 i j) = I.sw (ix3 (⟨2 * P.val, by omega⟩ : Fin 8) i j))
    (h2 : ∀ i j : Fin 128, w2 (ix3 0 i j) = I.sw (ix3 (⟨2 * P.val + 1, by omega⟩ : Fin 8) i j))
    (ha : ∀ j l : Fin 128, a (ix2 j l) = I.vn (ix2 (⟨128 * Q.val + j.val, by omega⟩ : Fin 512) (⟨128 * P.val + l.val, by omega⟩ : Fin 512)))
    (hβ : ∀ i l : Fin 128, β (ix2 i l) = I.sb (ix2 i (⟨128 * P.val + l.val, by omega⟩ : Fin 512))) :
    View.TileAt (Val := Elt Ideal) (e := .f32) y ![o0, o1] S128x128.size (left (weights w1 w2) a b β) (gateAt I (y 0) (y 1)) := by
  intro x hx
  have hx0 : (y 0).val = o0 + (x 0).val := hx 0
  have hx1 : (y 1).val = o1 + (x 1).val := hx 1
  have e : x = (ix2 (x 0 : Fin 128) (x 1 : Fin 128) : S128x128.Idx) := funext fun a => by fin_cases a <;> rfl
  have k := (left_sum (weights w1 w2) a b β (x 0) (x 1)).trans (congrArg (fun s : EReal => s + β (ix2 (x 0 : Fin 128) (x 1 : Fin 128))) (sum_stack w1 w2 a (x 0) (x 1)))
  exact (congrArg (left (weights w1 w2) a b β) e).trans
    (k.trans (gateAt_eq I Q P w1 w2 a β h1 h2 ha hβ (x 0) (x 1) (y 0) (y 1) (by omega) (by omega)))

theorem tile_right (Q P : Fin 4) (o0 o1 : ℕ) (w1 w2 : Vec Ideal S1x128x128 .f32) (a b : FVec Ideal S128x128 .bf16) (β : Vec Ideal S128x128 .f32)
    (y : S512x512.Idx) (e0 : o0 = 128 * Q.val) (e1 : o1 = 128 * P.val)
    (h1 : ∀ i j : Fin 128, w1 (ix3 0 i j) = I.sw (ix3 (⟨2 * P.val, by omega⟩ : Fin 8) i j))
    (h2 : ∀ i j : Fin 128, w2 (ix3 0 i j) = I.sw (ix3 (⟨2 * P.val + 1, by omega⟩ : Fin 8) i j))
    (hb : ∀ j l : Fin 128, b (ix2 j l) = I.vn (ix2 (⟨128 * Q.val + j.val, by omega⟩ : Fin 512) (⟨128 * P.val + l.val, by omega⟩ : Fin 512)))
    (hβ : ∀ i l : Fin 128, β (ix2 i l) = I.sb (ix2 i (⟨128 * P.val + l.val, by omega⟩ : Fin 512))) :
    View.TileAt (Val := Elt Ideal) (e := .f32) y ![o0, o1] S128x128.size (right (weights w1 w2) a b β) (gateAt I (y 0) (y 1)) := by
  intro x hx
  have hx0 : (y 0).val = o0 + (x 0).val := hx 0
  have hx1 : (y 1).val = o1 + (x 1).val := hx 1
  have e : x = (ix2 (x 0 : Fin 128) (x 1 : Fin 128) : S128x128.Idx) := funext fun a => by fin_cases a <;> rfl
  have k := (right_sum (weights w1 w2) a b β (x 0) (x 1)).trans (congrArg (fun s : EReal => s + β (ix2 (x 0 : Fin 128) (x 1 : Fin 128))) (sum_stack w1 w2 b (x 0) (x 1)))
  exact (congrArg (right (weights w1 w2) a b β) e).trans
    (k.trans (gateAt_eq I Q P w1 w2 b β h1 h2 hb hβ (x 0) (x 1) (y 0) (y 1) (by omega) (by omega)))

theorem ld_sw (k : Fin 8) (inb : ∀ a, (![k.val, 0, 0] : Fin 3 → ℕ) a + S1x128x128.size a ≤ S8x128x128.size a) (A : Vec Ideal S8x128x128 .f32) (i j : Fin 128) :
    (View.ld A (Rect.unit ![k.val, 0, 0] S1x128x128.size inb) : Vec Ideal S1x128x128 .f32) (ix3 0 i j) = A (ix3 k i j) := by
  unfold View.ld
  refine congrArg A (funext fun a => Fin.ext ?_)
  fin_cases a <;> simp [Rect.unit, Rect.emb]

theorem ld_sb (p : ℕ) (inb : ∀ a, (![0, p] : Fin 2 → ℕ) a + S128x128.size a ≤ S128x512.size a) (A : Vec Ideal S128x512 .f32) (i l : Fin 128) (hp : p + l.val < 512) :
    (View.ld A (Rect.unit ![0, p] S128x128.size inb) : Vec Ideal S128x128 .f32) (ix2 i l) = A (ix2 i (⟨p + l.val, hp⟩ : Fin 512)) := by
  unfold View.ld
  refine congrArg A (funext fun a => Fin.ext ?_)
  fin_cases a <;> simp [Rect.unit, Rect.emb]

theorem slice_apply (o0 o1 : ℕ) (h : S512x512.Slices ![o0, o1] S128x128) (v : FVec Ideal S512x512 .bf16) (j l : Fin 128) (h0 : o0 + j.val < 512) (h1 : o1 + l.val < 512) :
    extractStridedSlice S128x128 ![o0, o1] v h (ix2 j l) = v (ix2 (⟨o0 + j.val, h0⟩ : Fin 512) (⟨o1 + l.val, h1⟩ : Fin 512)) := by
  pointwise []

theorem left0 (Q : Fin 4) (o : ℕ) (h : S512x512.Slices ![o, 0] S128x128) (b : FVec Ideal S128x128 .bf16) (y : S512x512.Idx) (e : o = 128 * Q.val) :
    View.TileAt (Val := Elt Ideal) (e := .f32) y ![o, 0] S128x128.size (left I.weights0 (extractStridedSlice S128x128 ![o, 0] I.vn h) b I.bias0) (gateAt I (y 0) (y 1)) := by
  subst e
  exact tile_left I Q 0 _ _ _ _ _ _ _ y rfl rfl (ld_sw 0 _ I.sw) (ld_sw 1 _ I.sw) (fun j l => slice_apply _ _ h I.vn j l _ _)
    (fun i l => ld_sb 0 _ I.sb i l _)

theorem right0 (Q : Fin 4) (o : ℕ) (h : S512x512.Slices ![o, 0] S128x128) (a : FVec Ideal S128x128 .bf16) (y : S512x512.Idx) (e : o = 128 * Q.val) :
    View.TileAt (Val := Elt Ideal) (e := .f32) y ![o, 0] S128x128.size (right I.weights0 a (extractStridedSlice S128x128 ![o, 0] I.vn h) I.bias0) (gateAt I (y 0) (y 1)) := by
  subst e
  exact tile_right I Q 0 _ _ _ _ _ _ _ y rfl rfl (ld_sw 0 _ I.sw) (ld_sw 1 _ I.sw) (fun j l => slice_apply _ _ h I.vn j l _ _)
    (fun i l => ld_sb 0 _ I.sb i l _)

theorem left1 (Q : Fin 4) (o : ℕ) (h : S512x512.Slices ![o, 128] S128x128) (b : FVec Ideal S128x128 .bf16) (y : S512x512.Idx) (e : o = 128 * Q.val) :
    View.TileAt (Val := Elt Ideal) (e := .f32) y ![o, 128] S128x128.size (left I.weights1 (extractStridedSlice S128x128 ![o, 128] I.vn h) b I.bias1) (gateAt I (y 0) (y 1)) := by
  subst e
  exact tile_left I Q 1 _ _ _ _ _ _ _ y rfl rfl (ld_sw 2 _ I.sw) (ld_sw 3 _ I.sw) (fun j l => slice_apply _ _ h I.vn j l _ _)
    (fun i l => ld_sb 128 _ I.sb i l _)

theorem right1 (Q : Fin 4) (o : ℕ) (h : S512x512.Slices ![o, 128] S128x128) (a : FVec Ideal S128x128 .bf16) (y : S512x512.Idx) (e : o = 128 * Q.val) :
    View.TileAt (Val := Elt Ideal) (e := .f32) y ![o, 128] S128x128.size (right I.weights1 a (extractStridedSlice S128x128 ![o, 128] I.vn h) I.bias1) (gateAt I (y 0) (y 1)) := by
  subst e
  exact tile_right I Q 1 _ _ _ _ _ _ _ y rfl rfl (ld_sw 2 _ I.sw) (ld_sw 3 _ I.sw) (fun j l => slice_apply _ _ h I.vn j l _ _)
    (fun i l => ld_sb 128 _ I.sb i l _)

theorem left2 (Q : Fin 4) (o : ℕ) (h : S512x512.Slices ![o, 256] S128x128) (b : FVec Ideal S128x128 .bf16) (y : S512x512.Idx) (e : o = 128 * Q.val) :
    View.TileAt (Val := Elt Ideal) (e := .f32) y ![o, 256] S128x128.size (left I.weights2 (extractStridedSlice S128x128 ![o, 256] I.vn h) b I.bias2) (gateAt I (y 0) (y 1)) := by
  subst e
  exact tile_left I Q 2 _ _ _ _ _ _ _ y rfl rfl (ld_sw 4 _ I.sw) (ld_sw 5 _ I.sw) (fun j l => slice_apply _ _ h I.vn j l _ _)
    (fun i l => ld_sb 256 _ I.sb i l _)

theorem right2 (Q : Fin 4) (o : ℕ) (h : S512x512.Slices ![o, 256] S128x128) (a : FVec Ideal S128x128 .bf16) (y : S512x512.Idx) (e : o = 128 * Q.val) :
    View.TileAt (Val := Elt Ideal) (e := .f32) y ![o, 256] S128x128.size (right I.weights2 a (extractStridedSlice S128x128 ![o, 256] I.vn h) I.bias2) (gateAt I (y 0) (y 1)) := by
  subst e
  exact tile_right I Q 2 _ _ _ _ _ _ _ y rfl rfl (ld_sw 4 _ I.sw) (ld_sw 5 _ I.sw) (fun j l => slice_apply _ _ h I.vn j l _ _)
    (fun i l => ld_sb 256 _ I.sb i l _)

theorem left3 (Q : Fin 4) (o : ℕ) (h : S512x512.Slices ![o, 384] S128x128) (b : FVec Ideal S128x128 .bf16) (y : S512x512.Idx) (e : o = 128 * Q.val) :
    View.TileAt (Val := Elt Ideal) (e := .f32) y ![o, 384] S128x128.size (left I.weights3 (extractStridedSlice S128x128 ![o, 384] I.vn h) b I.bias3) (gateAt I (y 0) (y 1)) := by
  subst e
  exact tile_left I Q 3 _ _ _ _ _ _ _ y rfl rfl (ld_sw 6 _ I.sw) (ld_sw 7 _ I.sw) (fun j l => slice_apply _ _ h I.vn j l _ _)
    (fun i l => ld_sb 384 _ I.sb i l _)

theorem right3 (Q : Fin 4) (o : ℕ) (h : S512x512.Slices ![o, 384] S128x128) (a : FVec Ideal S128x128 .bf16) (y : S512x512.Idx) (e : o = 128 * Q.val) :
    View.TileAt (Val := Elt Ideal) (e := .f32) y ![o, 384] S128x128.size (right I.weights3 a (extractStridedSlice S128x128 ![o, 384] I.vn h) I.bias3) (gateAt I (y 0) (y 1)) := by
  subst e
  exact tile_right I Q 3 _ _ _ _ _ _ _ y rfl rfl (ld_sw 6 _ I.sw) (ld_sw 7 _ I.sw) (fun j l => slice_apply _ _ h I.vn j l _ _)
    (fun i l => ld_sb 384 _ I.sb i l _)

theorem gate_apply (y : S512x512.Idx) : I.gate y = gateAt I (y 0) (y 1) := by
  refine View.canon_eq_of_allAt (Val := Elt Ideal) (e := .f32) I.pieces y (gateAt I (y 0) (y 1)) (View.cover_of_tiledL I.pieces S128x128.size (by sl_kernel_rfl) y) ?_
  unfold Inp.pieces
  refine View.allAt_cons_unit _ _ _ _ _ (right3 I 3 _ _ _ y rfl) ?_
  refine View.allAt_cons_unit _ _ _ _ _ (left3 I 2 _ _ _ y rfl) ?_
  refine View.allAt_cons_unit _ _ _ _ _ (right3 I 1 _ _ _ y rfl) ?_
  refine View.allAt_cons_unit _ _ _ _ _ (left3 I 0 _ _ _ y rfl) ?_
  refine View.allAt_cons_unit _ _ _ _ _ (right2 I 3 _ _ _ y rfl) ?_
  refine View.allAt_cons_unit _ _ _ _ _ (left2 I 2 _ _ _ y rfl) ?_
  refine View.allAt_cons_unit _ _ _ _ _ (right2 I 1 _ _ _ y rfl) ?_
  refine View.allAt_cons_unit _ _ _ _ _ (left2 I 0 _ _ _ y rfl) ?_
  refine View.allAt_cons_unit _ _ _ _ _ (right1 I 3 _ _ _ y rfl) ?_
  refine View.allAt_cons_unit _ _ _ _ _ (left1 I 2 _ _ _ y rfl) ?_
  refine View.allAt_cons_unit _ _ _ _ _ (right1 I 1 _ _ _ y rfl) ?_
  refine View.allAt_cons_unit _ _ _ _ _ (left1 I 0 _ _ _ y rfl) ?_
  refine View.allAt_cons_unit _ _ _ _ _ (right0 I 3 _ _ _ y rfl) ?_
  refine View.allAt_cons_unit _ _ _ _ _ (left0 I 2 _ _ _ y rfl) ?_
  refine View.allAt_cons_unit _ _ _ _ _ (right0 I 1 _ _ _ y rfl) ?_
  refine View.allAt_cons_unit _ _ _ _ _ (left0 I 0 _ _ _ y rfl) ?_
  exact View.allAt_nil _ _

end Cert.Proof.Mixin

end
-- ==== Proof.MixinRows.lean ====
/- A row of the gating group's block as a function of the rows of the residual stream in its block of 128 positions. -/
module

public import proofs.«01_k».proof.Proof.MixinGate

@[expose] public section

set_option maxRecDepth 16384

noncomputable section

namespace Cert.Proof.Mixin

open Cert.Kernel5Ideal Cert.Kernel5Ideal.Gen Idealize.ShloMosaic Idealize.ShloMosaic.TcCoe Idealize.SL.Sem
open Cert.Proof.Ffn (rms rmsB modRow)

/-- What all tokens of a batch share: modulations, gains and weights. -/
structure Shared where
  shift : Fin 1024 → EReal
  scale : Fin 1024 → EReal
  gpre : Fin 1024 → EReal
  wz : Fin 1024 → Fin 1024 → EReal
  lg : Fin 512 → EReal
  lb : Fin 512 → EReal
  sw : Fin 8 → Fin 128 → Fin 128 → EReal
  sb : Fin 128 → Fin 512 → EReal
  ga : Fin 512 → EReal

/-- The approximate gelu, with the hyperbolic tangent. -/
def gelu (z : EReal) : EReal :=
  z * (Ideal.ofBits FTy.f32 0x3F000000#32 * (1 + Ideal.tanh (Ideal.ofBits FTy.f32 0x3F4C422A#32 * (z + Ideal.ofBits FTy.f32 0x3D372713#32 * (z * z * z)))))

/-- A row less its mean. -/
def centre (v : Fin 512 → EReal) (n : Fin 512) : EReal := v n - Ideal.div (∑ j, v j) (Ideal.ofBits FTy.f32 0x44000000#32)

/-- A row layer-normed. -/
def lnRow (v g b : Fin 512 → EReal) (n : Fin 512) : EReal := centre v n * rmsB (centre v) * g n + b n

/-- The token's modulated row. -/
def preRow (S : Shared) (x : Fin 1024 → EReal) : Fin 1024 → EReal := modRow x (fun n => S.gpre n * (1 + S.scale n)) S.shift

/-- The in-projection of a token. -/
def inRow (S : Shared) (x : Fin 1024 → EReal) (n : Fin 1024) : EReal := gelu (∑ j, preRow S x j * S.wz j n)

/-- The half that is gated. -/
def uRow (S : Shared) (x : Fin 1024 → EReal) (n : Fin 512) : EReal := inRow S x ⟨n.val, by omega⟩

/-- The half that makes the gate. -/
def vRow (S : Shared) (x : Fin 1024 → EReal) : Fin 512 → EReal := lnRow (fun n => inRow S x ⟨512 + n.val, by omega⟩) S.lg S.lb

/-- The gated row of position `i` of a block of 128 rows. -/
def gatedRow (S : Shared) (X : Fin 128 → Fin 1024 → EReal) (i : Fin 128) (n : Fin 512) : EReal :=
  uRow S (X i) n * ((∑ j : Fin 128, kept i j (S.sw ⟨n.val / 64, by omega⟩ i j) * vRow S (X j) n) + S.sb i n)

/-- The result's row. -/
def outRow (S : Shared) (X : Fin 128 → Fin 1024 → EReal) (i : Fin 128) (n : Fin 512) : EReal :=
  gatedRow S X i n * rmsB (gatedRow S X i) * S.ga n

/-! ## The payloads at an index -/

theorem rows_pay (x : Vec Ideal S1x512x1024 .f32) (a b : Vec Ideal S1x1x1x1024 .f32) (g : Vec Ideal S1x1024 .f32) (r : Fin 512) (n : Fin 1024) :
    k0_pay3 x a b g (ix2 r n)
      = modRow (fun n => x (ix3 0 r n)) (fun n => g (ix2 0 n) * (1 + b (ix4 0 0 0 n))) (fun n => a (ix4 0 0 0 n)) n := by
  pointwise [k0_pay3, modRow, rms]

theorem gelu_eq (z : EReal) :
    Ideal.ofBits FTy.f32 0x3F000000#32 * z * (1 + Ideal.tanh (Ideal.ofBits FTy.f32 0x3F4C422A#32 * (z + Ideal.ofBits FTy.f32 0x3D372713#32 * (z * z * z)))) = gelu z := by
  unfold gelu
  rw [← mul_assoc z, mul_comm (Ideal.ofBits FTy.f32 0x3F000000#32) z]

theorem pay19_apply (h : FVec Ideal S512x1024 .bf16) (w : Vec Ideal S1024x256 .bf16) (r : Fin 512) (n : Fin 256) :
    k0_pay19 h w (ix2 r n) = gelu (∑ j : Fin 1024, (h (ix2 r j) * w (ix2 j n) : EReal)) := by
  rw [← gelu_eq]
  pointwise [k0_pay19]

theorem pay21_apply (h : FVec Ideal S512x1024 .bf16) (w : Vec Ideal S1024x256 .bf16) (r : Fin 512) (n : Fin 256) :
    k0_pay21 h w (ix2 r n) = gelu (∑ j : Fin 1024, (h (ix2 r j) * w (ix2 j n) : EReal)) := by
  rw [← gelu_eq]
  pointwise [k0_pay21]

theorem pay20_apply (h : FVec Ideal S512x1024 .bf16) (w : Vec Ideal S1024x256 .bf16) (r : Fin 512) (n : Fin 256) :
    k0_pay20 h w (ix2 r n) = ∑ j : Fin 1024, (h (ix2 r j) * w (ix2 j n) : EReal) := by
  pointwise [k0_pay20]

theorem pay24_apply (h : FVec Ideal S512x1024 .bf16) (z : FVec Ideal S512x256 .f32) (w : Vec Ideal S1024x256 .bf16) (r : Fin 512) (v : Fin 512 → EReal)
    (h0 : ∀ k : Fin 256, gelu (z (ix2 r k)) = v ⟨k.val, by omega⟩)
    (h1 : ∀ k : Fin 256, gelu (∑ j : Fin 1024, (h (ix2 r j) * w (ix2 j k) : EReal)) = v ⟨256 + k.val, by omega⟩) (n : Fin 512) :
    k0_pay24 h z w (ix2 r n) = centre v n := by
  pointwise [k0_pay24]
  simp only [gelu_eq, h0, h1]
  unfold centre
  rw [Fin.sum_univ_add (a := 256) (b := 256) (f := fun k : Fin (256 + 256) => v (k : Fin 512))]
  congr 1
  by_cases hn : n.val < 256
  · rw [dif_pos hn]
  · rw [dif_neg hn]
    exact congrArg v (Fin.ext (by show 256 + (n.val - 256) = n.val; omega))

theorem pay25_apply (h : FVec Ideal S512x1024 .bf16) (z : FVec Ideal S512x256 .f32) (w : Vec Ideal S1024x256 .bf16) (r : Fin 512) (c : Fin 512 → EReal)
    (hc : ∀ n, k0_pay24 h z w (ix2 r n) = c n) :
    k0_pay25 h z w (ix2 r 0) = Ideal.div (∑ j, c j * c j) (Ideal.ofBits FTy.f32 0x44000000#32) := by
  pointwise [k0_pay25]
  simp only [hc]

theorem pay23_lo (a b : FVec Ideal S512x256 .f32) (r : Fin 512) (n : Fin 512) :
    k0_pay23 a b (ix2 r n) = if h : n.val < 256 then a (ix2 r ⟨n.val, h⟩) else b (ix2 r ⟨n.val - 256, by omega⟩) := by
  pointwise [k0_pay23]

theorem pay26_apply (c : FVec Ideal S512x512 .f32) (v : FVec Ideal S512x1 .f32) (g b : Vec Ideal S1x512 .f32) (r : Fin 512) (n : Fin 512) :
    k0_pay26 c v g b (ix2 r n) = c (ix2 r n) * Ideal.rsqrt (v (ix2 r 0) + Ideal.ofBits FTy.f32 0x358637BD#32) * g (ix2 0 n) + b (ix2 0 n) := by
  pointwise [k0_pay26]

theorem pay155_apply (u g : FVec Ideal S512x512 .f32) (r : Fin 512) (n : Fin 512) :
    k0_pay155 u g (ix2 r n) = (u (ix2 r n) * g (ix2 r n) : EReal) * rmsB (fun n => (u (ix2 r n) * g (ix2 r n) : EReal)) := by
  pointwise [k0_pay155, rmsB]

theorem pay1_apply (y : FVec Ideal S512x512 .f32) (g : Vec Ideal S1x512 .f32) (r : Fin 512) (n : Fin 512) :
    k0_pay1 y g (ix3 0 r n) = (y (ix2 r n) * g (ix2 0 n) : EReal) := by
  pointwise [k0_pay1]

/-! ## A grid point's rows -/

variable (I : Inp Ideal)

/-- The residual stream's row in row `r` of a grid point's block. -/
def rowOf (r : Fin 512) (n : Fin 1024) : EReal := I.x (ix3 0 r n)

/-- The rows of the block of 128 positions that row `r` lies in. -/
def blockOf (r : Fin 512) (j : Fin 128) : Fin 1024 → EReal := rowOf I ⟨128 * (r.val / 128) + j.val, by omega⟩

/-- What a grid point's tokens share. -/
def shared : Shared where
  shift n := I.md (ix4 0 0 0 n)
  scale n := I.md (ix4 0 0 1 n)
  gpre n := I.gp (ix2 0 n)
  wz j n := I.wz (ix2 j n)
  lg n := I.lg (ix2 0 n)
  lb n := I.lb (ix2 0 n)
  sw h i j := I.sw (ix3 h i j)
  sb i n := I.sb (ix2 i n)
  ga n := I.ga (ix2 0 n)

theorem ld_x (inb : ∀ a, (![0, 0, 0] : Fin 3 → ℕ) a + S1x512x1024.size a ≤ S1x512x1024.size a) (A : Vec Ideal S1x512x1024 .f32) (r : Fin 512) (n : Fin 1024) :
    (View.ld A (Rect.unit ![0, 0, 0] S1x512x1024.size inb) : Vec Ideal S1x512x1024 .f32) (ix3 0 r n) = A (ix3 0 r n) := by
  unfold View.ld
  refine congrArg A (funext fun a => Fin.ext ?_)
  fin_cases a <;> simp [Rect.unit, Rect.emb]
theorem ld_md (k : Fin 3) (inb : ∀ a, (![0, 0, k.val, 0] : Fin 4 → ℕ) a + S1x1x1x1024.size a ≤ S1x1x3x1024.size a) (A : Vec Ideal S1x1x3x1024 .f32) (n : Fin 1024) :
    (View.ld A (Rect.unit ![0, 0, k.val, 0] S1x1x1x1024.size inb) : Vec Ideal S1x1x1x1024 .f32) (ix4 0 0 0 n) = A (ix4 0 0 k n) := by
  unfold View.ld
  refine congrArg A (funext fun a => Fin.ext ?_)
  fin_cases a <;> simp [Rect.unit, Rect.emb]
theorem ld_gp (inb : ∀ a, (![0, 0] : Fin 2 → ℕ) a + S1x1024.size a ≤ S1x1024.size a) (A : Vec Ideal S1x1024 .f32) (n : Fin 1024) :
    (View.ld A (Rect.unit ![0, 0] S1x1024.size inb) : Vec Ideal S1x1024 .f32) (ix2 0 n) = A (ix2 0 n) := by
  unfold View.ld
  refine congrArg A (funext fun a => Fin.ext ?_)
  fin_cases a <;> simp [Rect.unit, Rect.emb]
theorem ld_row (inb : ∀ a, (![0, 0] : Fin 2 → ℕ) a + S1x512.size a ≤ S1x512.size a) (A : Vec Ideal S1x512 .f32) (n : Fin 512) :
    (View.ld A (Rect.unit ![0, 0] S1x512.size inb) : Vec Ideal S1x512 .f32) (ix2 0 n) = A (ix2 0 n) := by
  unfold View.ld
  refine congrArg A (funext fun a => Fin.ext ?_)
  fin_cases a <;> simp [Rect.unit, Rect.emb]
theorem ld_wz (o : ℕ) (inb : ∀ a, (![0, o] : Fin 2 → ℕ) a + S1024x256.size a ≤ S1024x1024.size a) (A : Vec Ideal S1024x1024 .bf16) (j : Fin 1024) (n : Fin 256)
    (ho : o + n.val < 1024) :
    (View.ld A (Rect.unit ![0, o] S1024x256.size inb) : Vec Ideal S1024x256 .bf16) (ix2 j n) = A (ix2 j (⟨o + n.val, ho⟩ : Fin 1024)) := by
  unfold View.ld
  refine congrArg A (funext fun a => Fin.ext ?_)
  fin_cases a <;> simp [Rect.unit, Rect.emb]

theorem rows_apply (r : Fin 512) (n : Fin 1024) : I.rows (ix2 r n) = preRow (shared I) (rowOf I r) n := by
  unfold Inp.rows preRow
  have e0 : ∀ n, (View.ld I.md (Rect.unit ![0, 0, 0, 0] S1x1x1x1024.size inb_S1x1x3x1024_S1x1x1x1024_0_0_0_0) : Vec Ideal S1x1x1x1024 .f32) (ix4 0 0 0 n) = I.md (ix4 0 0 0 n) := ld_md 0 _ I.md
  have e1 : ∀ n, (View.ld I.md (Rect.unit ![0, 0, 1, 0] S1x1x1x1024.size inb_S1x1x3x1024_S1x1x1x1024_0_0_1_0) : Vec Ideal S1x1x1x1024 .f32) (ix4 0 0 0 n) = I.md (ix4 0 0 1 n) := ld_md 1 _ I.md
  have e2 : ∀ n, (View.ld I.x (Rect.unit ![0, 0, 0] S1x512x1024.size inb_S1x512x1024_S1x512x1024_0_0_0) : Vec Ideal S1x512x1024 .f32) (ix3 0 r n) = I.x (ix3 0 r n) := ld_x _ I.x r
  have e3 : ∀ n, (View.ld I.gp (Rect.unit ![0, 0] S1x1024.size inb_S1x1024_S1x1024_0_0) : Vec Ideal S1x1024 .f32) (ix2 0 n) = I.gp (ix2 0 n) := ld_gp _ I.gp
  rw [rows_pay]
  simp only [e2, e3, e0, e1]
  rfl

theorem u_apply (r n : Fin 512) : I.u (ix2 r n) = uRow (shared I) (rowOf I r) n := by
  unfold Inp.u
  rw [pay23_lo]
  split_ifs with h
  · rw [pay19_apply]
    simp only [rows_apply]
    refine congrArg gelu (Finset.sum_congr rfl fun j _ => congrArg (preRow (shared I) (rowOf I r) j * ·) ?_)
    exact (ld_wz 0 _ I.wz j ⟨n.val, h⟩ (by show 0 + n.val < 1024; omega)).trans (congrArg (fun k => I.wz (ix2 j k)) (Fin.ext (by show 0 + n.val = n.val; omega)))
  · rw [pay21_apply]
    simp only [rows_apply]
    refine congrArg gelu (Finset.sum_congr rfl fun j _ => congrArg (preRow (shared I) (rowOf I r) j * ·) ?_)
    exact (ld_wz 256 _ I.wz j ⟨n.val - 256, by omega⟩ (by show 256 + (n.val - 256) < 1024; omega)).trans (congrArg (fun k => I.wz (ix2 j k)) (Fin.ext (by show 256 + (n.val - 256) = n.val; omega)))

theorem centred_apply (r n : Fin 512) : I.centred (ix2 r n) = centre (fun n => inRow (shared I) (rowOf I r) ⟨512 + n.val, by omega⟩) n := by
  unfold Inp.centred
  refine pay24_apply _ _ _ r (fun n => inRow (shared I) (rowOf I r) ⟨512 + n.val, by omega⟩) (fun k => ?_) (fun k => ?_) n
  · rw [pay20_apply]
    simp only [rows_apply]
    refine congrArg gelu (Finset.sum_congr rfl fun j _ => congrArg (preRow (shared I) (rowOf I r) j * ·) ?_)
    exact ld_wz 512 _ I.wz j k _
  · simp only [rows_apply]
    refine congrArg gelu (Finset.sum_congr rfl fun j _ => congrArg (preRow (shared I) (rowOf I r) j * ·) ?_)
    exact (ld_wz 768 _ I.wz j k (by omega)).trans (congrArg (fun k => I.wz (ix2 j k)) (Fin.ext (by show 768 + k.val = 512 + (256 + k.val); omega)))

theorem vn_apply (r n : Fin 512) : I.vn (ix2 r n) = vRow (shared I) (rowOf I r) n := by
  unfold Inp.vn Inp.var
  have e := pay25_apply I.rows (k0_pay20 I.rows I.cols2) I.cols3 r _ (fun n => centred_apply I r n)
  have e2 : (View.ld I.lg (Rect.unit ![0, 0] S1x512.size inb_S1x512_S1x512_0_0) : Vec Ideal S1x512 .f32) (ix2 0 n) = I.lg (ix2 0 n) := ld_row _ I.lg n
  have e3 : (View.ld I.lb (Rect.unit ![0, 0] S1x512.size inb_S1x512_S1x512_0_0) : Vec Ideal S1x512 .f32) (ix2 0 n) = I.lb (ix2 0 n) := ld_row _ I.lb n
  rw [pay26_apply, e, centred_apply, e2, e3]
  rfl

theorem gated_apply (r n : Fin 512) : (I.u (ix2 r n) * I.gate (ix2 r n) : EReal) = gatedRow (shared I) (blockOf I r) ⟨r.val % 128, by omega⟩ n := by
  rw [u_apply]
  have e : I.gate (ix2 r n) = gateAt I r n := gate_apply I (ix2 r n)
  have er : blockOf I r ⟨r.val % 128, by omega⟩ = rowOf I r := congrArg (rowOf I) (Fin.ext (by show 128 * (r.val / 128) + r.val % 128 = r.val; omega))
  rw [e]
  unfold gateAt gatedRow
  rw [er]
  simp only [vn_apply]
  rfl

/-- A row of the gating group's block. -/
theorem out_apply (r n : Fin 512) : I.out (ix3 0 r n) = outRow (shared I) (blockOf I r) ⟨r.val % 128, by omega⟩ n := by
  unfold Inp.out outRow
  have e2 : (View.ld I.ga (Rect.unit ![0, 0] S1x512.size inb_S1x512_S1x512_0_0) : Vec Ideal S1x512 .f32) (ix2 0 n) = I.ga (ix2 0 n) := ld_row _ I.ga n
  rw [pay1_apply, e2]
  refine congrArg (fun a : EReal => a * I.ga (ix2 0 n)) ?_
  exact (pay155_apply I.u I.gate r n).trans
    (congrArg₂ (fun (a : EReal) (f : Fin 512 → EReal) => a * rmsB f) (gated_apply I r n) (funext fun n => gated_apply I r n))

end Cert.Proof.Mixin

end
-- ==== Proof.MixinBlocks.lean ====
/- The fifth kernel's input blocks at a grid point as parts of the arguments. -/
module

public import proofs.«01_k».proof.Proof.MixinRows
public import proofs.«01_k».proof.Proof.FfnBlocks

@[expose] public section

set_option maxRecDepth 16384

noncomputable section

namespace Cert.Proof.Mixin

open Cert.Kernel5Ideal Cert.Kernel5Ideal.Gen Idealize.ShloMosaic Idealize.ShloMosaic.TcCoe Idealize.SL.Sem
open Cert.Proof.Ffn (asRow asRow_apply)

variable (m : (ℓ : Loc nD τ sig) → Buf (Elt Ideal) ℓ) (c : Dev nD)

/-- A grid point's input blocks. -/
def inpAt (t : Fin cfg0.N) : Inp Ideal :=
  ⟨iblk m c 0 t, iblk m c 1 t, iblk m c 2 t, iblk m c 3 t, iblk m c 9 t, iblk m c 10 t, iblk m c 11 t, iblk m c 12 t, iblk m c 13 t⟩

/-- What the body leaves in the gating group's block. -/
theorem after_14 (t : Fin cfg0.N) : (dats m 0 c).after 14 t = (inpAt m c t).out := by
  rw [after0_14]
  unfold inpAt
  by_cases h0 : t.val % 8 = 0
  · rw [outsAt0_A m c t h0]
    dsimp only
    rw [out_A]
  · rw [outsAt0_B m c t h0]
    dsimp only
    rw [out_B]

/-! ## The host code -/

/-- A vector of 512 as a row, out of the layer's stack of one. -/
def rowOfOne (g : FVec Ideal S1x512 .f32) : FVec Ideal S1x512 .f32 := shapeCast S1x512 (shapeCast S512 g shapeCasts_S1x512_S512 : FVec Ideal S512 .f32) shapeCasts_S512_S1x512
/-- The in-projection's columns of the gating group. -/
def gateCols (w : FVec Ideal S1x1024x2568 .f32) : FVec Ideal S1024x1024 .bf16 :=
  truncf .bf16 (extractStridedSlice S1024x1024 ![0, 0] (shapeCast S1024x2568 w shapeCasts_S1x1024x2568_S1024x2568 : FVec Ideal S1024x2568 .f32) slices_S1024x2568_S1024x1024_0_0) bitsLt_bf16_f32
/-- The spatial weights. -/
def spatial (w : FVec Ideal S1x8x128x128 .f32) : FVec Ideal S8x128x128 .f32 := shapeCast S8x128x128 w shapeCasts_S1x8x128x128_S8x128x128
/-- The spatial biases, each head's for its 64 columns. -/
def spatialBias (b : FVec Ideal S1x8x128 .f32) : FVec Ideal S128x512 .f32 :=
  shapeCast S128x512 (broadcastInDim S128x8x64 ![0, 1] bcast_S128x8_S128x8x64_0_1
    (transpose S128x8 [1, 0] (shapeCast S8x128 b shapeCasts_S1x8x128_S8x128 : FVec Ideal S8x128 .f32) transposes_S8x128_S128x8_1_0)) shapeCasts_S128x8x64_S128x512

theorem rowOfOne_apply (g : FVec Ideal S1x512 .f32) (n : Fin 512) : rowOfOne g (ix2 0 n) = g (ix2 0 n) := by
  pointwise [rowOfOne]
theorem gateCols_apply (w : FVec Ideal S1x1024x2568 .f32) (j n : Fin 1024) : gateCols w (ix2 j n) = w (ix3 0 j (⟨n.val, by omega⟩ : Fin 2568)) := by
  pointwise [gateCols]
theorem spatial_apply (w : FVec Ideal S1x8x128x128 .f32) (h : Fin 8) (i j : Fin 128) : spatial w (ix3 h i j) = w (ix4 0 h i j) := by
  pointwise [spatial]
theorem spatialBias_apply (b : FVec Ideal S1x8x128 .f32) (i : Fin 128) (n : Fin 512) : spatialBias b (ix2 i n) = b (ix3 0 (⟨n.val / 64, by omega⟩ : Fin 8) i) := by
  pointwise [spatialBias]

theorem V_v2 : V m c main_v2 = gateCols (m ((c : Thread nD τ).loc main_arg3)) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v20 : V m c main_v20 = spatialBias (m ((c : Thread nD τ).loc main_arg7)) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v23 : V m c main_v23 = spatial (m ((c : Thread nD τ).loc main_arg6)) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v25 : V m c main_v25 = asRow (m ((c : Thread nD τ).loc main_arg2)) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v26 : V m c main_v26 = rowOfOne (m ((c : Thread nD τ).loc main_arg4)) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v27 : V m c main_v27 = rowOfOne (m ((c : Thread nD τ).loc main_arg5)) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v28 : V m c main_v28 = rowOfOne (m ((c : Thread nD τ).loc main_arg9)) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-! ## The blocks -/

/-- A grid point's sequence. -/
def batch (t : Fin cfg0.N) : Fin 8 := ⟨(grid0.coords t 0).val, (grid0.coords t 0).isLt⟩
/-- A row of a grid point's 512. -/
def row (t : Fin cfg0.N) (r : Fin 512) : Fin 4096 :=
  ⟨(grid0.coords t 1).val * 512 + r.val, by have : (grid0.coords t 1).val < 8 := (grid0.coords t 1).isLt; omega⟩

theorem index_0 : ∀ t, win0_0.index t = ![(grid0.coords t 0).val, (grid0.coords t 1).val, 0] := by decide +kernel
theorem index_1 : ∀ t, win0_1.index t = ![(grid0.coords t 0).val, 1, 0, 0] := by decide +kernel
theorem index_14 : ∀ t, win0_14.index t = ![(grid0.coords t 0).val, (grid0.coords t 1).val, 0] := by decide +kernel
theorem index_2 : ∀ t, win0_2.index t = ![0, 0] := by decide +kernel
theorem index_3 : ∀ t, win0_3.index t = ![0, 0] := by decide +kernel
theorem index_9 : ∀ t, win0_9.index t = ![0, 0] := by decide +kernel
theorem index_10 : ∀ t, win0_10.index t = ![0, 0] := by decide +kernel
theorem index_12 : ∀ t, win0_12.index t = ![0, 0] := by decide +kernel
theorem index_13 : ∀ t, win0_13.index t = ![0, 0] := by decide +kernel
theorem index_11 : ∀ t, win0_11.index t = ![0, 0, 0] := by decide +kernel

theorem read_0 (A : Vec Ideal S8x4096x1024 .f32) (t : Fin cfg0.N) (r : Fin 512) (n : Fin 1024) :
    ((cfg0.win 0).blk t).view.read (Elt Ideal) A (ix3 0 r n) = A (ix3 (batch t) (row t r) n) := by
  blk_ext [index_0, batch, row]

theorem x_apply (A : Vec Ideal S8x4096x1024 .f32) (hA : V m c main_arg0 = A) (t : Fin cfg0.N) (r : Fin 512) (n : Fin 1024) :
    (inpAt m c t).x (ix3 0 r n) = A (ix3 (batch t) (row t r) n) := by
  rw [show (inpAt m c t).x = iblk m c 0 t from rfl]
  unfold iblk
  rw [show V m c (Pipeline.arrRef spec0 0) = A from hA]
  exact read_0 A t r n

theorem read_1 (A : Vec Ideal S8x3x3x1024 .f32) (t : Fin cfg0.N) (k : Fin 3) (n : Fin 1024) :
    ((cfg0.win 1).blk t).view.read (Elt Ideal) A (ix4 0 0 k n) = A (ix4 (batch t) 1 k n) := by
  blk_ext [index_1, batch, row]

theorem md_apply (A : Vec Ideal S8x3x3x1024 .f32) (hA : V m c main_arg1 = A) (t : Fin cfg0.N) (k : Fin 3) (n : Fin 1024) :
    (inpAt m c t).md (ix4 0 0 k n) = A (ix4 (batch t) 1 k n) := by
  rw [show (inpAt m c t).md = iblk m c 1 t from rfl]
  unfold iblk
  rw [show V m c (Pipeline.arrRef spec0 1) = A from hA]
  exact read_1 A t k n

theorem read_2 (A : Vec Ideal S1x1024 .f32) (t : Fin cfg0.N) (n : Fin 1024) :
    ((cfg0.win 2).blk t).view.read (Elt Ideal) A (ix2 0 n) = A (ix2 0 n) := by
  blk_ext [index_2, batch, row]

theorem gp_apply (A : Vec Ideal S1x1024 .f32) (hA : V m c main_v25 = A) (t : Fin cfg0.N) (n : Fin 1024) :
    (inpAt m c t).gp (ix2 0 n) = A (ix2 0 n) := by
  rw [show (inpAt m c t).gp = iblk m c 2 t from rfl]
  unfold iblk
  rw [show V m c (Pipeline.arrRef spec0 2) = A from hA]
  exact read_2 A t n

theorem read_3 (A : Vec Ideal S1024x1024 .bf16) (t : Fin cfg0.N) (j n : Fin 1024) :
    ((cfg0.win 3).blk t).view.read (Elt Ideal) A (ix2 j n) = A (ix2 j n) := by
  blk_ext [index_3, batch, row]

theorem wz_apply (A : Vec Ideal S1024x1024 .bf16) (hA : V m c main_v2 = A) (t : Fin cfg0.N) (j n : Fin 1024) :
    (inpAt m c t).wz (ix2 j n) = A (ix2 j n) := by
  rw [show (inpAt m c t).wz = iblk m c 3 t from rfl]
  unfold iblk
  rw [show V m c (Pipeline.arrRef spec0 3) = A from hA]
  exact read_3 A t j n

theorem read_9 (A : Vec Ideal S1x512 .f32) (t : Fin cfg0.N) (n : Fin 512) :
    ((cfg0.win 9).blk t).view.read (Elt Ideal) A (ix2 0 n) = A (ix2 0 n) := by
  blk_ext [index_9, batch, row]

theorem lg_apply (A : Vec Ideal S1x512 .f32) (hA : V m c main_v26 = A) (t : Fin cfg0.N) (n : Fin 512) :
    (inpAt m c t).lg (ix2 0 n) = A (ix2 0 n) := by
  rw [show (inpAt m c t).lg = iblk m c 9 t from rfl]
  unfold iblk
  rw [show V m c (Pipeline.arrRef spec0 9) = A from hA]
  exact read_9 A t n

theorem read_10 (A : Vec Ideal S1x512 .f32) (t : Fin cfg0.N) (n : Fin 512) :
    ((cfg0.win 10).blk t).view.read (Elt Ideal) A (ix2 0 n) = A (ix2 0 n) := by
  blk_ext [index_10, batch, row]

theorem lb_apply (A : Vec Ideal S1x512 .f32) (hA : V m c main_v27 = A) (t : Fin cfg0.N) (n : Fin 512) :
    (inpAt m c t).lb (ix2 0 n) = A (ix2 0 n) := by
  rw [show (inpAt m c t).lb = iblk m c 10 t from rfl]
  unfold iblk
  rw [show V m c (Pipeline.arrRef spec0 10) = A from hA]
  exact read_10 A t n

theorem read_11 (A : Vec Ideal S8x128x128 .f32) (t : Fin cfg0.N) (h : Fin 8) (i j : Fin 128) :
    ((cfg0.win 11).blk t).view.read (Elt Ideal) A (ix3 h i j) = A (ix3 h i j) := by
  blk_ext [index_11, batch, row]

theorem sw_apply (A : Vec Ideal S8x128x128 .f32) (hA : V m c main_v23 = A) (t : Fin cfg0.N) (h : Fin 8) (i j : Fin 128) :
    (inpAt m c t).sw (ix3 h i j) = A (ix3 h i j) := by
  rw [show (inpAt m c t).sw = iblk m c 11 t from rfl]
  unfold iblk
  rw [show V m c (Pipeline.arrRef spec0 11) = A from hA]
  exact read_11 A t h i j

theorem read_12 (A : Vec Ideal S128x512 .f32) (t : Fin cfg0.N) (i : Fin 128) (n : Fin 512) :
    ((cfg0.win 12).blk t).view.read (Elt Ideal) A (ix2 i n) = A (ix2 i n) := by
  blk_ext [index_12, batch, row]

theorem sb_apply (A : Vec Ideal S128x512 .f32) (hA : V m c main_v20 = A) (t : Fin cfg0.N) (i : Fin 128) (n : Fin 512) :
    (inpAt m c t).sb (ix2 i n) = A (ix2 i n) := by
  rw [show (inpAt m c t).sb = iblk m c 12 t from rfl]
  unfold iblk
  rw [show V m c (Pipeline.arrRef spec0 12) = A from hA]
  exact read_12 A t i n

theorem read_13 (A : Vec Ideal S1x512 .f32) (t : Fin cfg0.N) (n : Fin 512) :
    ((cfg0.win 13).blk t).view.read (Elt Ideal) A (ix2 0 n) = A (ix2 0 n) := by
  blk_ext [index_13, batch, row]

theorem ga_apply (A : Vec Ideal S1x512 .f32) (hA : V m c main_v28 = A) (t : Fin cfg0.N) (n : Fin 512) :
    (inpAt m c t).ga (ix2 0 n) = A (ix2 0 n) := by
  rw [show (inpAt m c t).ga = iblk m c 13 t from rfl]
  unfold iblk
  rw [show V m c (Pipeline.arrRef spec0 13) = A from hA]
  exact read_13 A t n

/-! ## A grid point's tokens -/

/-- A token's row in the argument. -/
def tokOf (x : FVec Ideal S8x4096x1024 .f32) (b : Fin 8) (s : Fin 4096) (n : Fin 1024) : EReal := x (ix3 b s n)

/-- The rows of the block of 128 positions that position `s` lies in. -/
def blockRows (x : FVec Ideal S8x4096x1024 .f32) (b : Fin 8) (s : Fin 4096) (j : Fin 128) : Fin 1024 → EReal :=
  tokOf x b ⟨128 * (s.val / 128) + j.val, by omega⟩

/-- What a batch's tokens share. -/
def sharedOf (mod : FVec Ideal S8x3x3x1024 .f32) (gpre : FVec Ideal S1024 .f32) (w : FVec Ideal S1x1024x2568 .f32) (lg lb : FVec Ideal S1x512 .f32)
    (sw : FVec Ideal S1x8x128x128 .f32) (sb : FVec Ideal S1x8x128 .f32) (ga : FVec Ideal S1x512 .f32) (b : Fin 8) : Shared where
  shift n := mod (ix4 b 1 0 n)
  scale n := mod (ix4 b 1 1 n)
  gpre n := gpre (ix1 n)
  wz j n := w (ix3 0 j (⟨n.val, by omega⟩ : Fin 2568))
  lg n := lg (ix2 0 n)
  lb n := lb (ix2 0 n)
  sw h i j := sw (ix4 0 h i j)
  sb i n := sb (ix3 0 (⟨n.val / 64, by omega⟩ : Fin 8) i)
  ga n := ga (ix2 0 n)

variable (x : FVec Ideal S8x4096x1024 .f32) (mod : FVec Ideal S8x3x3x1024 .f32) (gpre : FVec Ideal S1024 .f32) (w : FVec Ideal S1x1024x2568 .f32)
  (lg lb : FVec Ideal S1x512 .f32) (sw : FVec Ideal S1x8x128x128 .f32) (sb : FVec Ideal S1x8x128 .f32) (ga : FVec Ideal S1x512 .f32)

theorem blockOf_inpAt (h0 : V m c main_arg0 = x) (t : Fin cfg0.N) (r : Fin 512) : blockOf (inpAt m c t) r = blockRows x (batch t) (row t r) := by
  funext j n
  refine (x_apply m c x h0 t _ n).trans (congrArg (fun s => x (ix3 (batch t) s n)) (Fin.ext ?_))
  show (grid0.coords t 1).val * 512 + (128 * (r.val / 128) + j.val) = 128 * (((grid0.coords t 1).val * 512 + r.val) / 128) + j.val
  omega

theorem shared_inpAt (h1 : V m c main_arg1 = mod) (h2 : V m c main_v25 = asRow gpre) (h3 : V m c main_v2 = gateCols w)
    (h4 : V m c main_v26 = rowOfOne lg) (h5 : V m c main_v27 = rowOfOne lb) (h6 : V m c main_v23 = spatial sw)
    (h7 : V m c main_v20 = spatialBias sb) (h9 : V m c main_v28 = rowOfOne ga) (t : Fin cfg0.N) :
    shared (inpAt m c t) = sharedOf mod gpre w lg lb sw sb ga (batch t) := by
  unfold shared sharedOf
  rw [Shared.mk.injEq]
  exact ⟨funext fun n => md_apply m c _ h1 t 0 n,
    funext fun n => md_apply m c _ h1 t 1 n,
    funext fun n => (gp_apply m c _ h2 t n).trans (asRow_apply gpre n),
    funext fun j => funext fun n => (wz_apply m c _ h3 t j n).trans (gateCols_apply w j n),
    funext fun n => (lg_apply m c _ h4 t n).trans (rowOfOne_apply lg n),
    funext fun n => (lb_apply m c _ h5 t n).trans (rowOfOne_apply lb n),
    funext fun h => funext fun i => funext fun j => (sw_apply m c _ h6 t h i j).trans (spatial_apply sw h i j),
    funext fun i => funext fun n => (sb_apply m c _ h7 t i n).trans (spatialBias_apply sb i n),
    funext fun n => (ga_apply m c _ h9 t n).trans (rowOfOne_apply ga n)⟩

end Cert.Proof.Mixin

end
-- ==== Proof.MixinReference.lean ====
/- The fifth reference's result at an index, as a function of the rows of the residual stream in a block of 128 positions. -/
module

public import proofs.«01_k».proof.Proof.MixinBlocks
public import proofs.«01_k».proof.Proof.FfnReference
public import proofs.«01_k».proof.Proof.Gen.Reference5Ideal.Run
import Idealize.ShloMosaic.Lib.Pointwise
public import Idealize.ShloMosaic.Lib.IdealHost

@[expose] public section

set_option maxRecDepth 16384

noncomputable section

namespace Cert.Proof.Mixin.Ref

open Cert.Reference5Ideal Cert.Reference5Ideal.Gen Idealize.ShloMosaic Idealize.ShloMosaic.TcCoe Idealize.SL.Sem
open Cert.Proof.Mixin (Shared gelu centre lnRow preRow inRow uRow vRow gatedRow outRow kept sharedOf tokOf blockRows)
open Cert.Proof.Ffn (modRow rmsB)
open Cert.Proof.Ffn.Ref (norm norm_apply shifts shifts_apply scales scales_apply second second_apply plusOne plusOne_apply all all_apply
  scaleOfB scaleOfB_apply)

/-- The modulated rows. -/
def pre (x : FVec Ideal S8x4096x1024 .f32) (a : FVec Ideal S8x3x3x1024 .f32) (g : FVec Ideal S1024 .f32) : FVec Ideal S8x4096x1024 .f32 :=
  addf (mulf (norm x g) (all (plusOne (second (scales a))))) (all (second (shifts a)))

/-- The gating group's columns of the in-projection. -/
def proj (h : FVec Ideal S8x4096x1024 .f32) (w : FVec Ideal S1x1024x2568 .f32) : FVec Ideal S8x4096x1024 .f32 :=
  extractStridedSlice S8x4096x1024 ![0, 0, 0]
    (Host.dotGeneral dot_S8x4096x1024_S1024x2568_S8x4096x2568_2_0_01_1_n_n none h (shapeCast _ w shapeCasts_S1x1024x2568_S1024x2568))
    slices_S8x4096x2568_S8x4096x1024_0_0_0

/-- The approximate gelu. -/
def act (z : FVec Ideal S8x4096x1024 .f32) : FVec Ideal S8x4096x1024 .f32 :=
  mulf z (mulf (broadcastInDim S8x4096x1024 ![] bcast_S_S8x4096x1024 (constant S_ .f32 0x3F000000#32))
    (addf (broadcastInDim S8x4096x1024 ![] bcast_S_S8x4096x1024 (constant S_ .f32 0x3F800000#32))
      (Host.tanh (mulf (broadcastInDim S8x4096x1024 ![] bcast_S_S8x4096x1024 (constant S_ .f32 0x3F4C422A#32))
        (addf z (mulf (broadcastInDim S8x4096x1024 ![] bcast_S_S8x4096x1024 (constant S_ .f32 0x3D372713#32)) (mulf (mulf z z) z)))))))

/-- The half that is gated. -/
def uHalf (z : FVec Ideal S8x4096x1024 .f32) : FVec Ideal S8x4096x512 .f32 :=
  extractStridedSlice S8x4096x512 ![0, 0, 0] z slices_S8x4096x1024_S8x4096x512_0_0_0
/-- The half that makes the gate. -/
def vHalf (z : FVec Ideal S8x4096x1024 .f32) : FVec Ideal S8x4096x512 .f32 :=
  extractStridedSlice S8x4096x512 ![0, 0, 512] z slices_S8x4096x1024_S8x4096x512_0_0_512

/-- Each row less its mean. -/
def centred (v : FVec Ideal S8x4096x512 .f32) : FVec Ideal S8x4096x512 .f32 :=
  subf v (broadcastInDim S8x4096x512 ![0, 1, 2] bcast_S8x4096x1_S8x4096x512_0_1_2 (Host.divf (broadcastInDim S8x4096x1 ![0, 1] bcast_S8x4096_S8x4096x1_0_1
    (Host.reduceAdd v (constant S_ .f32 0x00000000#32) reducesTo_S8x4096x512_S8x4096_d2 h_S_)) (broadcastInDim S8x4096x1 ![] bcast_S_S8x4096x1 (constant S_ .f32 0x44000000#32))))

/-- A vector of 512, out of the layer's stack of one, for each token. -/
def each (g : FVec Ideal S1x512 .f32) : FVec Ideal S8x4096x512 .f32 :=
  broadcastInDim S8x4096x512 ![0, 1, 2] bcast_S1x1x512_S8x4096x512_0_1_2 (broadcastInDim S1x1x512 ![2] bcast_S512_S1x1x512_2 (shapeCast _ g shapeCasts_S1x512_S512))

/-- Each row scaled to root mean square one, times a gain. -/
def normed (y : FVec Ideal S8x4096x512 .f32) (g : FVec Ideal S1x512 .f32) : FVec Ideal S8x4096x512 .f32 :=
  mulf (mulf y (broadcastInDim S8x4096x512 ![0, 1, 2] bcast_S8x4096x1_S8x4096x512_0_1_2 (scaleOfB y))) (each g)

/-- Positions' chunks, along a row. -/
def chunksAcross : IVec S1x128 32 :=
  let v : IVec S1x128 32 := broadcastInDim S1x128 ![1] bcast_S128_S1x128_1 (iotaInDim S128 32 0)
  let k : IVec S_ 32 := id (constantI S_ 32 64#32)
  let d : IVec S1x128 32 := Host.divsi v (broadcastInDim S1x128 ![] bcast_S_S1x128 k)
  select (andi (cmpi .ne (signi v) (broadcastInDim S1x128 ![] bcast_S_S1x128 (signi k)))
    (cmpi .ne (Host.remsi v (broadcastInDim S1x128 ![] bcast_S_S1x128 k)) (broadcastInDim S1x128 ![] bcast_S_S1x128 (constantI S_ 32 0#32))))
    (subi d (broadcastInDim S1x128 ![] bcast_S_S1x128 (constantI S_ 32 1#32))) d

/-- Positions' chunks, down a column. -/
def chunksDown : IVec S128x1 32 :=
  let v : IVec S128x1 32 := broadcastInDim S128x1 ![0] bcast_S128_S128x1_0 (iotaInDim S128 32 0)
  let k : IVec S_ 32 := id (constantI S_ 32 64#32)
  let d : IVec S128x1 32 := Host.divsi v (broadcastInDim S128x1 ![] bcast_S_S128x1 k)
  select (andi (cmpi .ne (signi v) (broadcastInDim S128x1 ![] bcast_S_S128x1 (signi k)))
    (cmpi .ne (Host.remsi v (broadcastInDim S128x1 ![] bcast_S_S128x1 k)) (broadcastInDim S128x1 ![] bcast_S_S128x1 (constantI S_ 32 0#32))))
    (subi d (broadcastInDim S128x1 ![] bcast_S_S128x1 (constantI S_ 32 1#32))) d

/-- The masked spatial weights. -/
def masked (w : FVec Ideal S1x8x128x128 .f32) : FVec Ideal S8x128x128 .f32 :=
  select (broadcastInDim S8x128x128 ![0, 1, 2] bcast_S1x128x128_S8x128x128_0_1_2 (broadcastInDim S1x128x128 ![1, 2] bcast_S128x128_S1x128x128_1_2
      (cmpi .sle (broadcastInDim S128x128 ![0, 1] bcast_S1x128_S128x128_0_1 chunksAcross) (broadcastInDim S128x128 ![0, 1] bcast_S128x1_S128x128_0_1 chunksDown))))
    (shapeCast _ w shapeCasts_S1x8x128x128_S8x128x128) (broadcastInDim S8x128x128 ![] bcast_S_S8x128x128 (id (constant S_ .f32 0x00000000#32)))

/-- The products over the positions of a block. -/
def prod (v : FVec Ideal S8x4096x512 .f32) (w : FVec Ideal S8x128x128 .f32) : FVec Ideal S8x8x32x64x128 .f32 :=
  Host.dotGeneral dot_S8x32x128x8x64_S8x128x128_S8x8x32x64x128_2_2_014_1_3_0 none (shapeCast _ v shapeCasts_S8x4096x512_S8x32x128x8x64) w

/-- The gates. -/
def gates (p : FVec Ideal S8x8x32x64x128 .f32) (b : FVec Ideal S1x8x128 .f32) : FVec Ideal S8x4096x512 .f32 :=
  shapeCast _ (addf (transpose S8x32x128x8x64 [1, 2, 4, 0, 3] p transposes_S8x8x32x64x128_S8x32x128x8x64_1_2_4_0_3)
    (broadcastInDim S8x32x128x8x64 ![0, 1, 2, 3, 4] bcast_S1x1x128x8x1_S8x32x128x8x64_0_1_2_3_4
      (broadcastInDim S1x1x128x8x1 ![2, 3] bcast_S128x8_S1x1x128x8x1_2_3 (transpose S128x8 [1, 0] (shapeCast _ b shapeCasts_S1x8x128_S8x128) transposes_S8x128_S128x8_1_0))))
    shapeCasts_S8x32x128x8x64_S8x4096x512

/-- The gated half. -/
def gated (z : FVec Ideal S8x4096x1024 .f32) (lg lb : FVec Ideal S1x512 .f32) (sw : FVec Ideal S1x8x128x128 .f32) (sb : FVec Ideal S1x8x128 .f32) : FVec Ideal S8x4096x512 .f32 :=
  mulf (uHalf z) (gates (prod (addf (normed (centred (vHalf z)) lg) (each lb)) (masked sw)) sb)

/-- The reference's result as a function of the arguments. -/
def result (x : FVec Ideal S8x4096x1024 .f32) (a : FVec Ideal S8x3x3x1024 .f32) (g : FVec Ideal S1024 .f32) (w : FVec Ideal S1x1024x2568 .f32)
    (lg lb : FVec Ideal S1x512 .f32) (sw : FVec Ideal S1x8x128x128 .f32) (sb : FVec Ideal S1x8x128 .f32) (ga : FVec Ideal S1x512 .f32) : FVec Ideal S8x4096x512 .bf16 :=
  truncf .bf16 (normed (gated (act (proj (pre x a g) w)) lg lb sw sb) ga) bitsLt_bf16_f32

/-! ## At an index -/

theorem pre_apply (x : FVec Ideal S8x4096x1024 .f32) (a : FVec Ideal S8x3x3x1024 .f32) (g : FVec Ideal S1024 .f32) (b : Fin 8) (s : Fin 4096) (n : Fin 1024) :
    pre x a g (ix3 b s n) = modRow (fun n => x (ix3 b s n)) (fun n => g (ix1 n) * (1 + a (ix4 b 1 1 n))) (fun n => a (ix4 b 1 0 n)) n := by
  have e : pre x a g (ix3 b s n) = (norm x g (ix3 b s n) : EReal) * all (plusOne (second (scales a))) (ix3 b s n) + all (second (shifts a)) (ix3 b s n) := rfl
  rw [e, all_apply, all_apply, plusOne_apply, second_apply, second_apply, scales_apply, shifts_apply, norm_apply]
  unfold modRow
  rw [mul_assoc _ (g (ix1 n) : EReal)]

theorem proj_apply (h : FVec Ideal S8x4096x1024 .f32) (w : FVec Ideal S1x1024x2568 .f32) (b : Fin 8) (s : Fin 4096) (n : Fin 1024) :
    proj h w (ix3 b s n) = ∑ j : Fin 1024, (h (ix3 b s j) * w (ix3 0 j (⟨n.val, by omega⟩ : Fin 2568)) : EReal) := by
  pointwise [proj]

theorem act_apply (z : FVec Ideal S8x4096x1024 .f32) (b : Fin 8) (s : Fin 4096) (n : Fin 1024) : act z (ix3 b s n) = gelu (z (ix3 b s n)) := by
  pointwise [act, gelu]

theorem uHalf_apply (z : FVec Ideal S8x4096x1024 .f32) (b : Fin 8) (s : Fin 4096) (n : Fin 512) : uHalf z (ix3 b s n) = z (ix3 b s (⟨n.val, by omega⟩ : Fin 1024)) := by
  pointwise [uHalf]
theorem vHalf_apply (z : FVec Ideal S8x4096x1024 .f32) (b : Fin 8) (s : Fin 4096) (n : Fin 512) : vHalf z (ix3 b s n) = z (ix3 b s (⟨512 + n.val, by omega⟩ : Fin 1024)) := by
  pointwise [vHalf]

theorem centred_apply (v : FVec Ideal S8x4096x512 .f32) (b : Fin 8) (s : Fin 4096) (n : Fin 512) : centred v (ix3 b s n) = centre (fun n => v (ix3 b s n)) n := by
  pointwise [centred, centre]

theorem each_apply (g : FVec Ideal S1x512 .f32) (b : Fin 8) (s : Fin 4096) (n : Fin 512) : each g (ix3 b s n) = g (ix2 0 n) := by
  pointwise [each]

theorem normed_apply (y : FVec Ideal S8x4096x512 .f32) (g : FVec Ideal S1x512 .f32) (b : Fin 8) (s : Fin 4096) (n : Fin 512) :
    normed y g (ix3 b s n) = (y (ix3 b s n) * rmsB (fun n => y (ix3 b s n)) * g (ix2 0 n) : EReal) := by
  pointwise [normed]
  rw [scaleOfB_apply, each_apply]

theorem chunksAcross_apply (j : Fin 128) : chunksAcross (ix2 0 j) = BitVec.ofNat 32 (j.val / 64) := by
  revert j
  pointwise [chunksAcross]
  decide +kernel

theorem chunksDown_apply (j : Fin 128) : chunksDown (ix2 j 0) = BitVec.ofNat 32 (j.val / 64) := by
  revert j
  pointwise [chunksDown]
  decide +kernel

theorem masked_apply (w : FVec Ideal S1x8x128x128 .f32) (h : Fin 8) (i j : Fin 128) : masked w (ix3 h i j) = kept i j (w (ix4 0 h i j)) := by
  pointwise [masked]
  rw [chunksAcross_apply, chunksDown_apply]
  have e0 : (id (constant S_ .f32 0x00000000#32 : FVec Ideal S_ .f32)) ix0 = (0 : EReal) := by
    show (constant S_ .f32 0x00000000#32 : FVec Ideal S_ .f32) ix0 = (0 : EReal)
    pointwise []
  have e1 : (IntOp.cmpi CmpIPredicate.sle (BitVec.ofNat 32 (j.val / 64)) (BitVec.ofNat 32 (i.val / 64)) = 1#1) ↔ j.val / 64 ≤ i.val / 64 :=
    sle_apply ⟨j.val / 64, by omega⟩ ⟨i.val / 64, by omega⟩
  rw [e0]
  exact select_eq _ _ e1 _ _

theorem prod_apply (v : FVec Ideal S8x4096x512 .f32) (w : FVec Ideal S8x128x128 .f32) (h b : Fin 8) (k : Fin 32) (c : Fin 64) (i : Fin 128) :
    prod v w (ix5 h b k c i) = ∑ j : Fin 128, (v (ix3 b (⟨k.val * 128 + j.val, by omega⟩ : Fin 4096) (⟨h.val * 64 + c.val, by omega⟩ : Fin 512)) * w (ix3 h i j) : EReal) := by
  pointwise [prod]

theorem gates_apply (p : FVec Ideal S8x8x32x64x128 .f32) (sb : FVec Ideal S1x8x128 .f32) (b : Fin 8) (s : Fin 4096) (n : Fin 512) :
    gates p sb (ix3 b s n) = (p (ix5 (⟨n.val / 64, by omega⟩ : Fin 8) b (⟨s.val / 128, by omega⟩ : Fin 32) (⟨n.val % 64, by omega⟩ : Fin 64) (⟨s.val % 128, by omega⟩ : Fin 128))
      + sb (ix3 0 (⟨n.val / 64, by omega⟩ : Fin 8) (⟨s.val % 128, by omega⟩ : Fin 128)) : EReal) := by
  pointwise [gates]

variable (x : FVec Ideal S8x4096x1024 .f32) (a : FVec Ideal S8x3x3x1024 .f32) (g : FVec Ideal S1024 .f32) (w : FVec Ideal S1x1024x2568 .f32)
  (lg lb : FVec Ideal S1x512 .f32) (sw : FVec Ideal S1x8x128x128 .f32) (sb : FVec Ideal S1x8x128 .f32) (ga : FVec Ideal S1x512 .f32)

theorem act_proj_apply (b : Fin 8) (s : Fin 4096) (n : Fin 1024) :
    act (proj (pre x a g) w) (ix3 b s n) = inRow (sharedOf a g w lg lb sw sb ga b) (tokOf x b s) n := by
  rw [act_apply, proj_apply]
  simp only [pre_apply]
  rfl

theorem ln_apply (z : FVec Ideal S8x4096x1024 .f32) (b : Fin 8) (s : Fin 4096) (n : Fin 512) :
    addf (normed (centred (vHalf z)) lg) (each lb) (ix3 b s n)
      = lnRow (fun n => z (ix3 b s (⟨512 + n.val, by omega⟩ : Fin 1024))) (fun n => lg (ix2 0 n)) (fun n => lb (ix2 0 n)) n := by
  have e : addf (normed (centred (vHalf z)) lg) (each lb) (ix3 b s n) = (normed (centred (vHalf z)) lg (ix3 b s n) + each lb (ix3 b s n) : EReal) := rfl
  rw [e, normed_apply, each_apply]
  simp only [centred_apply, vHalf_apply]
  rfl

theorem gated_apply (b : Fin 8) (s : Fin 4096) (n : Fin 512) :
    gated (act (proj (pre x a g) w)) lg lb sw sb (ix3 b s n)
      = gatedRow (sharedOf a g w lg lb sw sb ga b) (blockRows x b s) ⟨s.val % 128, by omega⟩ n := by
  have e : gated (act (proj (pre x a g) w)) lg lb sw sb (ix3 b s n)
      = (uHalf (act (proj (pre x a g) w)) (ix3 b s n)
        * gates (prod (addf (normed (centred (vHalf (act (proj (pre x a g) w)))) lg) (each lb)) (masked sw)) sb (ix3 b s n) : EReal) := rfl
  rw [e, uHalf_apply, gates_apply, prod_apply]
  simp only [ln_apply, masked_apply, act_proj_apply x a g w lg lb sw sb ga]
  have en : (⟨n.val / 64 * 64 + n.val % 64, by omega⟩ : Fin 512) = n := Fin.ext (by show n.val / 64 * 64 + n.val % 64 = n.val; omega)
  have es : tokOf x b s = blockRows x b s ⟨s.val % 128, by omega⟩ :=
    congrArg (tokOf x b) (Fin.ext (by show s.val = 128 * (s.val / 128) + s.val % 128; omega))
  have ej : ∀ j : Fin 128, tokOf x b (⟨s.val / 128 * 128 + j.val, by omega⟩ : Fin 4096) = blockRows x b s j :=
    fun j => congrArg (tokOf x b) (Fin.ext (by show s.val / 128 * 128 + j.val = 128 * (s.val / 128) + j.val; omega))
  simp only [en, ej]
  rw [es]
  unfold gatedRow
  congr 2
  exact Finset.sum_congr rfl fun j _ => mul_comm _ _

/-- A row of the result is a function of the rows of its block of positions and of what its batch shares. -/
theorem result_apply (b : Fin 8) (s : Fin 4096) (n : Fin 512) :
    result x a g w lg lb sw sb ga (ix3 b s n) = outRow (sharedOf a g w lg lb sw sb ga b) (blockRows x b s) ⟨s.val % 128, by omega⟩ n := by
  have e : result x a g w lg lb sw sb ga (ix3 b s n) = normed (gated (act (proj (pre x a g) w)) lg lb sw sb) ga (ix3 b s n) := rfl
  rw [e, normed_apply]
  simp only [gated_apply x a g w lg lb sw sb ga]
  rfl

end Cert.Proof.Mixin.Ref

end
-- ==== Proof.MixinValue.lean ====
/- The fifth kernel's result is its reference's: each block's rows are the tokens' rows. -/
module

public import proofs.«01_k».proof.Proof.MixinReference

@[expose] public section

set_option maxRecDepth 16384

noncomputable section

namespace Cert.Proof.Mixin

open Cert.Kernel5Ideal Cert.Kernel5Ideal.Gen Idealize.ShloMosaic Idealize.ShloMosaic.TcCoe Idealize.SL.Sem
open Cert.Proof.Ffn (asRow)

variable (m : (ℓ : Loc nD τ sig) → Buf (Elt Ideal) ℓ) (c : Dev nD)
variable (x : FVec Ideal S8x4096x1024 .f32) (mod : FVec Ideal S8x3x3x1024 .f32) (gpre : FVec Ideal S1024 .f32) (w : FVec Ideal S1x1024x2568 .f32)
  (lg lb : FVec Ideal S1x512 .f32) (sw : FVec Ideal S1x8x128x128 .f32) (sb : FVec Ideal S1x8x128 .f32) (ga : FVec Ideal S1x512 .f32)

/-- The output array after the run. -/
theorem array_eq (h0 : V m c main_arg0 = x) (h1 : V m c main_arg1 = mod) (h2 : V m c main_v25 = asRow gpre) (h3 : V m c main_v2 = gateCols w)
    (h4 : V m c main_v26 = rowOfOne lg) (h5 : V m c main_v27 = rowOfOne lb) (h6 : V m c main_v23 = spatial sw)
    (h7 : V m c main_v20 = spatialBias sb) (h9 : V m c main_v28 = rowOfOne ga) :
    (dats m 0 c).arrAt 14 cfg0.N = Ref.result x mod gpre w lg lb sw sb ga := by
  refine (dats m 0 c).arrAt_eq_of_covers 14 _ (by decide +kernel) fun t hf y => ?_
  have hy1 : (y 1).val < 512 := (y 1).isLt
  have hy2 : (y 2).val < 512 := (y 2).isLt
  have e := out_apply (inpAt m c t) ⟨(y 1).val, hy1⟩ ⟨(y 2).val, hy2⟩
  have es : (⟨(y 1).val % 128, by omega⟩ : Fin 128) = ⟨(row t ⟨(y 1).val, hy1⟩).val % 128, by omega⟩ :=
    Fin.ext (by show (y 1).val % 128 = ((grid0.coords t 1).val * 512 + (y 1).val) % 128; omega)
  rw [shared_inpAt m c mod gpre w lg lb sw sb ga h1 h2 h3 h4 h5 h6 h7 h9, blockOf_inpAt m c x h0, es,
    ← Ref.result_apply x mod gpre w lg lb sw sb ga] at e
  rw [after_14]
  have g : (win0_14.blk t).view.emb y = (ix3 (batch t) (row t ⟨(y 1).val, hy1⟩) (⟨(y 2).val, hy2⟩ : Fin 512) : S8x4096x512.Idx) := by
    have h0 : (y 0).val < 1 := (y 0).isLt
    funext a
    apply Fin.ext
    blk_simp [index_14, batch, row]
    fin_cases a
    · show (grid0.coords t 0).val * 1 + (y 0).val = (grid0.coords t 0).val
      omega
    · show (grid0.coords t 1).val * 512 + (y 1).val = (grid0.coords t 1).val * 512 + (y 1).val
      rfl
    · show 0 * 512 + (y 2).val = (y 2).val
      omega
  have g' : y = (ix3 0 (⟨(y 1).val, hy1⟩ : Fin 512) (⟨(y 2).val, hy2⟩ : Fin 512) : S1x512x512.Idx) := by
    have h0 : (y 0).val < 1 := (y 0).isLt
    funext a
    apply Fin.ext
    fin_cases a
    · show (y 0).val = 0
      omega
    · rfl
    · rfl
  blk_simp
  rw [g]
  refine Eq.trans ?_ e
  exact congrArg (inpAt m c t).out g'

end Cert.Proof.Mixin

end
-- ==== Proof.MixinClaim.lean ====
/- The fifth call's claims: its kernel and its reference end with the same gating output. -/
module

public import proofs.«01_k».proof.Defs
public import proofs.«01_k».proof.Proof.MixinValue
public import proofs.«01_k».proof.Proof.Gen.Kernel5Ideal.Value
public import proofs.«01_k».proof.Proof.Gen.Reference5Ideal.Run
public import Idealize.ShloMosaic.Lib.Claim
public import Idealize.ShloMosaic.Adequacy
public import Idealize.ShloMosaic.Init

@[expose] public section

noncomputable section

namespace Cert.Proof

open Idealize.ShloMosaic Idealize.SL.Sem
open Idealize.ShloMosaic.TcCoe

/-- The fifth kernel's run over the extended reals: it ends with the reference's result. -/
theorem kernel5_run (m : (ℓ : Loc Cert.Kernel5Ideal.nD Cert.Kernel5Ideal.τ Cert.Kernel5Ideal.sig) → Buf (Elt Ideal) ℓ)
    (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
      r.2.mem ((c.tc : Thread Cert.Kernel5Ideal.nD Cert.Kernel5Ideal.τ).loc Cert.Kernel5Ideal.main_v29_0)
        = Mixin.Ref.result (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg9))) := by
  refine θ_run_mono (Cert.Kernel5Ideal.Value.run_blocks m g) fun r h c => ?_
  exact (h c).1.trans (Mixin.array_eq m c _ _ _ _ _ _ _ _ _ (Cert.Kernel5Ideal.Gen.V_main_arg0 m c) (Cert.Kernel5Ideal.Gen.V_main_arg1 m c) (Mixin.V_v25 m c) (Mixin.V_v2 m c)
    (Mixin.V_v26 m c) (Mixin.V_v27 m c) (Mixin.V_v23 m c) (Mixin.V_v20 m c) (Mixin.V_v28 m c))

/-- The fifth kernel and its reference end with the same result. -/
theorem algebraic5 : Cert.algebraic_Kernel5Ideal_Reference5Ideal := by
  intro m g m' g' _ hagree
  refine ⟨_, θ_run_mono (θ_run_and (kernel5_run m g) (Cert.Kernel5Ideal.Gen.frame m g)) fun r h c => ⟨h.1 c, h.2.1 c⟩, ?_⟩
  refine θ_run_mono (Cert.Reference5Ideal.Value.run m' g') fun r h c => ?_
  obtain ⟨a0, a1, a2, a3, a4, a5, a6, a7, a8, a9⟩ := hagree c
  refine ⟨(h c).1.trans ?_, (h c).2⟩
  rw [← a0, ← a1, ← a2, ← a3, ← a4, ← a5, ← a6, ← a7, ← a9]
  rfl

/-- The fifth reference's frame. -/
theorem frame_ri5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0) :=
  θ_run_mono (Cert.Reference5Ideal.Value.run m g) fun r h => ⟨fun c => (h c).2, sem_eq_zero_of_no_sems (by decide) r.2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Value
public import proofs.«01_k».proof.Proof.Finite
public import proofs.«01_k».proof.Proof.FfnValue
public import proofs.«01_k».proof.Proof.FirstValue
public import proofs.«01_k».proof.Proof.AdalnClaim
public import proofs.«01_k».proof.Proof.MixinClaim
public import Idealize.ShloMosaic.Lib.Claim
public import Idealize.ShloMosaic.Adequacy
public import Idealize.ShloMosaic.Init

@[expose] public section

noncomputable section

namespace Cert.Proof

open Idealize.ShloMosaic Idealize.SL.Sem
open Idealize.ShloMosaic.TcCoe

/-- The reference's running sums are the kernel's. -/
theorem cumul_eq (f : FVec Ideal Cert.KernelIdeal.S8x8x4096 .f32) : Ref.cumul f = cumul f := rfl

/-- The kernel's run over the extended reals: where queries, keys and gates are real it ends with the reference's result. -/
theorem kernel_run (m : (ℓ : Loc Cert.KernelIdeal.nD Cert.KernelIdeal.τ Cert.KernelIdeal.sig) → Buf (Elt Ideal) ℓ)
    (g : Dev Cert.KernelIdeal.nD → PrngReg) (hpre : Cert.Pre_KernelIdeal_finite m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v36)
        = answer (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))) := by
  refine θ_run_mono (run m g) fun r h c => ?_
  obtain ⟨hq, hk, hf⟩ := real_of_pre _ _ _ _ (hpre c)
  choose qr hq using hq
  choose kr hk using hk
  choose cr hc using fun i => cumul_real _ hf i
  exact ((h.1 c).1 6).trans (array_eq _ _ _ _ qr kr cr m c (V_qt m c) (V_ka m c) (V_vt m c) hq hk hc)

/-- Kernel and reference end with the same result. -/
theorem algebraic : Cert.algebraic_KernelIdeal_ReferenceIdeal_pre_finite := by
  intro m g m' g' hpre hagree
  refine ⟨_, θ_run_mono (θ_run_and (kernel_run m g hpre) (Cert.KernelIdeal.Gen.frame m g)) fun r h c => ⟨h.1 c, h.2.1 c⟩, ?_⟩
  refine θ_run_mono (Cert.ReferenceIdeal.Value.run m' g') fun r h c => ?_
  obtain ⟨a0, a1, a2, a3⟩ := hagree c
  refine ⟨(h c).1.trans ?_, (h c).2⟩
  rw [Ref.result_eq, a0, a1, a2, a3, cumul_eq]
  rfl

/-- The reference's frame: it runs, changes no argument and touches no semaphore. -/
theorem frame_ri (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  θ_run_mono (Cert.ReferenceIdeal.Value.run m g) fun r h => ⟨fun c => (h c).2, sem_eq_zero_of_no_sems (by decide) r.2⟩

theorem preserves : Cert.preserves_Kernel_KernelIdeal :=
  IdealRules.named_const.statement Cert.KernelIdeal.κ "mask" .f32 0xF149F2CA#32 ⊥ rfl

/-- The second kernel's run over the extended reals: it ends with the reference's result. -/
theorem kernel2_run (m : (ℓ : Loc Cert.Kernel2Ideal.nD Cert.Kernel2Ideal.τ Cert.Kernel2Ideal.sig) → Buf (Elt Ideal) ℓ)
    (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v13)
        = Ffn.Ref.result (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) := by
  refine θ_run_mono (Ffn.run m g) fun r h c => ?_
  exact ((h.1 c).1 13).trans (Ffn.array_eq m c _ _ _ _ _ _ _ _ _ _ _ _ (Cert.Kernel2Ideal.Gen.V_main_arg0 m c) (Ffn.V_v8 m c) (Ffn.V_v5 m c)
    (Cert.Kernel2Ideal.Gen.V_main_arg3 m c) (Ffn.V_v7 m c) (Ffn.V_v10 m c) (Ffn.V_v9 m c) (Ffn.V_v11 m c) (Ffn.V_v12 m c) (Ffn.V_v0 m c) (Ffn.V_v1 m c) (Ffn.V_v2 m c))

/-- The second kernel and its reference end with the same result. -/
theorem algebraic2 : Cert.algebraic_Kernel2Ideal_Reference2Ideal := by
  intro m g m' g' _ hagree
  refine ⟨_, θ_run_mono (θ_run_and (kernel2_run m g) (Cert.Kernel2Ideal.Gen.frame m g)) fun r h c => ⟨h.1 c, h.2.1 c⟩, ?_⟩
  refine θ_run_mono (Cert.Reference2Ideal.Value.run m' g') fun r h c => ?_
  obtain ⟨a0, a1, a2, a3, a4, a5, a6, a7, a8, a9, a10, a11⟩ := hagree c
  refine ⟨(h c).1.trans ?_, (h c).2⟩
  rw [← a0, ← a1, ← a2, ← a3, ← a4, ← a5, ← a6, ← a7, ← a8, ← a9, ← a10, ← a11]
  rfl

/-- The second reference's frame. -/
theorem frame_ri2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0) :=
  θ_run_mono (Cert.Reference2Ideal.Value.run m g) fun r h => ⟨fun c => (h c).2, sem_eq_zero_of_no_sems (by decide) r.2⟩

/-- The third kernel's run over the extended reals: it ends with the reference's result. -/
theorem kernel3_run (m : (ℓ : Loc Cert.Kernel3Ideal.nD Cert.Kernel3Ideal.τ Cert.Kernel3Ideal.sig) → Buf (Elt Ideal) ℓ)
    (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
      r.2.mem ((c.tc : Thread Cert.Kernel3Ideal.nD Cert.Kernel3Ideal.τ).loc Cert.Kernel3Ideal.main_v5)
        = First.Ref.result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) := by
  refine θ_run_mono (First.run m g) fun r h c => ?_
  exact ((h.1 c).1 9).trans (First.array_eq m c _ _ _ _ _ _ _ (Cert.Kernel3Ideal.Gen.V_main_arg0 m c) (Cert.Kernel3Ideal.Gen.V_main_arg1 m c)
    (First.V_v3 m c) (First.V_v4 m c) (First.V_v0 m c) (First.V_v1 m c) (First.V_v2 m c))

/-- The third kernel and its reference end with the same result. -/
theorem algebraic3 : Cert.algebraic_Kernel3Ideal_Reference3Ideal := by
  intro m g m' g' _ hagree
  refine ⟨_, θ_run_mono (θ_run_and (kernel3_run m g) (Cert.Kernel3Ideal.Gen.frame m g)) fun r h c => ⟨h.1 c, h.2.1 c⟩, ?_⟩
  refine θ_run_mono (Cert.Reference3Ideal.Value.run m' g') fun r h c => ?_
  obtain ⟨a0, a1, a2, a3, a4, a5, a6⟩ := hagree c
  refine ⟨(h c).1.trans ?_, (h c).2⟩
  rw [← a0, ← a1, ← a2, ← a3, ← a4, ← a5, ← a6]
  rfl

/-- The third reference's frame. -/
theorem frame_ri3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0) :=
  θ_run_mono (Cert.Reference3Ideal.Value.run m g) fun r h => ⟨fun c => (h c).2, sem_eq_zero_of_no_sems (by decide) r.2⟩

/-- All claims: the frames, the idealisation's one rule, and the equality of each kernel's result and its reference's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, preFacts,
  fun m g _ => Cert.Kernel.Gen.frame m g, fun m g _ => Cert.KernelIdeal.Gen.frame m g, fun m g _ => Cert.KernelIdeal.Gen.frame m g,
  fun m g _ => frame_ri m g, fun m g _ => frame_ri m g,
  fun m g _ => Cert.Kernel2.Gen.frame m g, fun m g _ => Cert.Kernel2Ideal.Gen.frame m g, fun m g _ => frame_ri2 m g,
  fun m g _ => Cert.Kernel3.Gen.frame m g, fun m g _ => Cert.Kernel3Ideal.Gen.frame m g, fun m g _ => frame_ri3 m g,
  fun m g _ => Cert.Kernel4.Gen.frame m g, fun m g _ => Cert.Kernel4Ideal.Gen.frame m g, fun m g _ => frame_ri4 m g,
  fun m g _ => Cert.Kernel5.Gen.frame m g, fun m g _ => Cert.Kernel5Ideal.Gen.frame m g, fun m g _ => frame_ri5 m g,
  preserves, algebraic, trivial, algebraic2, trivial, algebraic3, trivial, algebraic4, trivial, algebraic5⟩

end Cert.Proof

end
